-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_context_queries_and_keys [hPre_finite_context_queries_and_keys : Cert.Pre_finite_context_queries_and_keys.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_context_queries_and_keys.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_context_queries_and_keys [hPre_finite_context_queries_and_keys : Cert.Pre_finite_context_queries_and_keys.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_context_queries_and_keys.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_context_queries_and_keys [hKernel7Ideal : Cert.Kernel7Ideal.Facts] [hPre_finite_context_queries_and_keys : Cert.Pre_finite_context_queries_and_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_context_queries_and_keys m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_context_queries_and_keys [hReference7Ideal : Cert.Reference7Ideal.Facts] [hPre_finite_context_queries_and_keys : Cert.Pre_finite_context_queries_and_keys.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_context_queries_and_keys m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v105) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v99_0)) (v1 : (c : Dev Cert.Kernel6Ideal.nD) → Buf (Elt Ideal) ((c.tc : Thread Cert.Kernel6Ideal.nD Cert.Kernel6Ideal.τ).loc Cert.Kernel6Ideal.main_v99_1)) (v2 : (c : Dev Cert.Kernel6Ideal.nD) → Buf (Elt Ideal) ((c.tc : Thread Cert.Kernel6Ideal.nD Cert.Kernel6Ideal.τ).loc Cert.Kernel6Ideal.main_v99_2)) (v3 : (c : Dev Cert.Kernel6Ideal.nD) → Buf (Elt Ideal) ((c.tc : Thread Cert.Kernel6Ideal.nD Cert.Kernel6Ideal.τ).loc Cert.Kernel6Ideal.main_v99_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v99_0) = v0 c
          ∧ r.2.mem ((c.tc : Thread Cert.Kernel6Ideal.nD Cert.Kernel6Ideal.τ).loc Cert.Kernel6Ideal.main_v99_1) = v1 c
          ∧ r.2.mem ((c.tc : Thread Cert.Kernel6Ideal.nD Cert.Kernel6Ideal.τ).loc Cert.Kernel6Ideal.main_v99_2) = v2 c
          ∧ r.2.mem ((c.tc : Thread Cert.Kernel6Ideal.nD Cert.Kernel6Ideal.τ).loc Cert.Kernel6Ideal.main_v99_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v193) = v0 c
          ∧ r.2.mem ((c.tc : Thread Cert.Reference6Ideal.nD Cert.Reference6Ideal.τ).loc Cert.Reference6Ideal.main_v195) = v1 c
          ∧ r.2.mem ((c.tc : Thread Cert.Reference6Ideal.nD Cert.Reference6Ideal.τ).loc Cert.Reference6Ideal.main_v197) = v2 c
          ∧ r.2.mem ((c.tc : Thread Cert.Reference6Ideal.nD Cert.Reference6Ideal.τ).loc Cert.Reference6Ideal.main_v200) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite_context_queries_and_keys [hKernel7Ideal : Cert.Kernel7Ideal.Facts] [hReference7Ideal : Cert.Reference7Ideal.Facts] [hPre_finite_context_queries_and_keys : Cert.Pre_finite_context_queries_and_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_context_queries_and_keys m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v12) = v1 c
          ∧ r.2.mem ((c.tc : Thread Cert.Reference11Ideal.nD Cert.Reference11Ideal.τ).loc Cert.Reference11Ideal.main_v42) = v2 c
          ∧ r.2.mem ((c.tc : Thread Cert.Reference11Ideal.nD Cert.Reference11Ideal.τ).loc Cert.Reference11Ideal.main_v43) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v56) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_2) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v68) = v0 c
          ∧ r.2.mem ((c.tc : Thread Cert.Reference13Ideal.nD Cert.Reference13Ideal.τ).loc Cert.Reference13Ideal.main_v69) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_queries_and_keys : Cert.Pre_finite_queries_and_keys.Facts) (hPre_finite_context_queries_and_keys : Cert.Pre_finite_context_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_context_queries_and_keys (hKernel7Ideal := hKernel7Ideal) (hPre_finite_context_queries_and_keys := hPre_finite_context_queries_and_keys)
    ∧ quiescent_Reference7Ideal (hReference7Ideal := hReference7Ideal)
    ∧ quiescent_Reference7Ideal_pre_finite_context_queries_and_keys (hReference7Ideal := hReference7Ideal) (hPre_finite_context_queries_and_keys := hPre_finite_context_queries_and_keys)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_context_queries_and_keys (hKernel7Ideal := hKernel7Ideal) (hReference7Ideal := hReference7Ideal) (hPre_finite_context_queries_and_keys := hPre_finite_context_queries_and_keys)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_context_queries_and_keys.lean ====
abbrev S16x256x2048 : Shape := ⟨3, ![16, 256, 2048]⟩
abbrev S16x2304x2048 : Shape := ⟨3, ![16, 2304, 2048]⟩
abbrev S16x2304x1024 : Shape := ⟨3, ![16, 2304, 1024]⟩
abbrev S_ : Shape := ⟨0, ![]⟩

class Facts : Prop where
  slices_S16x2304x2048_S16x256x2048_0_0_0 : S16x2304x2048.Slices ![0, 0, 0] S16x256x2048
  bitsLt_bf16_f32 : FTy.bits .bf16 < FTy.bits .f32
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel

variable [Facts]

def fn {F : FTy → Type} [FloatOps F] (main_arg0 : FVec F S16x256x2048 .bf16) (main_arg1 : FVec F S16x2304x2048 .bf16) (main_arg2 : FVec F S16x2304x1024 .bf16) : IVec S_ 1 :=
  let main_v0 : FVec F S16x256x2048 .bf16 := (extractStridedSlice S16x256x2048 ![0, 0, 0] · slices_S16x2304x2048_S16x256x2048_0_0_0) main_arg1
  let main_v1 : FVec F S16x256x2048 .f32 := (extf .f32 · bitsLt_bf16_f32) main_arg0
  let main_v2 : FVec F S16x256x2048 .f32 := Host.absf main_v1
  let main_cst : FVec F S_ .f32 := constant S_ .f32 0x7F800000#32
  let main_v3 : FVec F S16x256x2048 .f32 := broadcastInDim S16x256x2048 ![] bcast_S_S16x256x2048 main_cst
  let main_v4 : IVec S16x256x2048 1 := cmpf .olt main_v2 main_v3
  let main_c : IVec S_ 1 := constantI S_ 1 1#1
  let main_v5 : IVec S_ 1 := (fun x v => Host.reduce IntOp.andi x v reducesTo_S16x256x2048_S_d0_1_2 h_S_) main_v4 main_c
  let main_v6 : FVec F S16x256x2048 .f32 := (extf .f32 · bitsLt_bf16_f32) main_v0
  let main_v7 : FVec F S16x256x2048 .f32 := Host.absf main_v6
  let main_cst_0 : FVec F S_ .f32 := constant S_ .f32 0x7F800000#32
  let main_v8 : FVec F S16x256x2048 .f32 := broadcastInDim S16x256x2048 ![] bcast_S_S16x256x2048 main_cst_0
  let main_v9 : IVec S16x256x2048 1 := cmpf .olt main_v7 main_v8
  let main_c_1 : IVec S_ 1 := constantI S_ 1 1#1
  let main_v10 : IVec S_ 1 := (fun x v => Host.reduce IntOp.andi x v reducesTo_S16x256x2048_S_d0_1_2 h_S_) main_v9 main_c_1
  let main_v11 : IVec S_ 1 := andi main_v5 main_v10
  main_v11
-- ==== Pre_finite_queries_and_keys.lean ====
abbrev S16x2048x2048 : Shape := ⟨3, ![16, 2048, 2048]⟩
abbrev S16x2304x2048 : Shape := ⟨3, ![16, 2304, 2048]⟩
abbrev S16x2304x1024 : Shape := ⟨3, ![16, 2304, 1024]⟩
abbrev S_ : Shape := ⟨0, ![]⟩

class Facts : Prop where
  bitsLt_bf16_f32 : FTy.bits .bf16 < FTy.bits .f32
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S16x2304x2048 : S_.BroadcastsInDim S16x2304x2048 (![] : Fin 0 → Fin S16x2304x2048.rank)
  reducesTo_S16x2304x2048_S_d0_1_2 : S16x2304x2048.ReducesTo [0, 1, 2] S_

variable [Facts]

def fn {F : FTy → Type} [FloatOps F] (main_arg0 : FVec F S16x2048x2048 .bf16) (main_arg1 : FVec F S16x2304x2048 .bf16) (main_arg2 : FVec F S16x2304x1024 .bf16) : IVec S_ 1 :=
  let main_v0 : FVec F S16x2048x2048 .f32 := (extf .f32 · bitsLt_bf16_f32) main_arg0
  let main_v1 : FVec F S16x2048x2048 .f32 := Host.absf main_v0
  let main_cst : FVec F S_ .f32 := constant S_ .f32 0x7F800000#32
  let main_v2 : FVec F S16x2048x2048 .f32 := broadcastInDim S16x2048x2048 ![] bcast_S_S16x2048x2048 main_cst
  let main_v3 : IVec S16x2048x2048 1 := cmpf .olt main_v1 main_v2
  let main_c : IVec S_ 1 := constantI S_ 1 1#1
  let main_v4 : IVec S_ 1 := (fun x v => Host.reduce IntOp.andi x v reducesTo_S16x2048x2048_S_d0_1_2 h_S_) main_v3 main_c
  let main_v5 : FVec F S16x2304x2048 .f32 := (extf .f32 · bitsLt_bf16_f32) main_arg1
  let main_v6 : FVec F S16x2304x2048 .f32 := Host.absf main_v5
  let main_cst_0 : FVec F S_ .f32 := constant S_ .f32 0x7F800000#32
  let main_v7 : FVec F S16x2304x2048 .f32 := broadcastInDim S16x2304x2048 ![] bcast_S_S16x2304x2048 main_cst_0
  let main_v8 : IVec S16x2304x2048 1 := cmpf .olt main_v6 main_v7
  let main_c_1 : IVec S_ 1 := constantI S_ 1 1#1
  let main_v9 : IVec S_ 1 := (fun x v => Host.reduce IntOp.andi x v reducesTo_S16x2304x2048_S_d0_1_2 h_S_) main_v8 main_c_1
  let main_v10 : IVec S_ 1 := andi main_v4 main_v9
  main_v10
-- ==== Kernel.lean ====
abbrev S16x2048x2048 : Shape := ⟨3, ![16, 2048, 2048]⟩
abbrev S16x2304x2048 : Shape := ⟨3, ![16, 2304, 2048]⟩
abbrev S16x2304x1024 : Shape := ⟨3, ![16, 2304, 1024]⟩
abbrev S16x2048x1024 : Shape := ⟨3, ![16, 2048, 1024]⟩
abbrev S1x1024x256 : Shape := ⟨3, ![1, 1024, 256]⟩
abbrev S1x2304x256 : Shape := ⟨3, ![1, 2304, 256]⟩
abbrev S1x2304x128 : Shape := ⟨3, ![1, 2304, 128]⟩
abbrev S1x1024x128 : Shape := ⟨3, ![1, 1024, 128]⟩
abbrev S1024x128 : Shape := ⟨2, ![1024, 128]⟩
abbrev S2304x128 : Shape := ⟨2, ![2304, 128]⟩
abbrev S1024x2304 : Shape := ⟨2, ![1024, 2304]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x2048, .bf16⟩
  | .hbm, ⟨1, _⟩ => ⟨S16x2304x2048, .bf16⟩
  | .hbm, ⟨2, _⟩ => ⟨S16x2304x1024, .bf16⟩
  | .hbm, ⟨3, _⟩ => ⟨S16x2048x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1024x128, .bf16⟩
  | .local _ .vmem, ⟨7, _⟩ => ⟨S1x1024x128, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2048x2048 : Shape := ⟨3, ![16, 2048, 2048]⟩
abbrev S16x2304x2048 : Shape := ⟨3, ![16, 2304, 2048]⟩
abbrev S16x2304x1024 : Shape := ⟨3, ![16, 2304, 1024]⟩
abbrev S16x2048x16x128 : Shape := ⟨4, ![16, 2048, 16, 128]⟩
abbrev S16x2304x16x128 : Shape := ⟨4, ![16, 2304, 16, 128]⟩
abbrev S16x2304x16x64 : Shape := ⟨4, ![16, 2304, 16, 64]⟩
abbrev S16x16x2048x2304 : Shape := ⟨4, ![16, 16, 2048, 2304]⟩
abbrev S_ : Shape := ⟨0, ![]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x16x64 : Shape := ⟨4, ![16, 2048, 16, 64]⟩
abbrev S16x2048x1024 : Shape := ⟨3, ![16, 2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2304x2048, .bf16⟩
  | .hbm, ⟨2, _⟩ => ⟨S16x2304x1024, .bf16⟩
  | .hbm, ⟨3, _⟩ => ⟨S16x2048x2048, .f32⟩
  | .hbm, ⟨4, _⟩ => ⟨S16x2048x16x128, .f32⟩
  | .hbm, ⟨5, _⟩ => ⟨S16x2304x2048, .f32⟩
  | .hbm, ⟨6, _⟩ => ⟨S16x2304x16x128, .f32⟩
  | .hbm, ⟨7, _⟩ => ⟨S16x2304x1024, .f32⟩
  | .hbm, ⟨8, _⟩ => ⟨S16x2304x16x64, .f32⟩
  | .hbm, ⟨9, _⟩ => ⟨S16x16x2048x2304, .f32⟩
  | .hbm, ⟨10, _⟩ => ⟨S_, .f32⟩
  | .hbm, ⟨11, _⟩ => ⟨S16x16x2048, .f32⟩
  | .hbm, ⟨12, _⟩ => ⟨S_, .f32⟩
  | .hbm, ⟨13, _⟩ => ⟨S16x16x2048, .f32⟩
  | .hbm, ⟨14, _⟩ => ⟨S16x16x2048, .f32⟩
  | .hbm, ⟨15, _⟩ => ⟨S16x16x2048x1, .f32⟩
  | .hbm, ⟨16, _⟩ => ⟨S16x16x2048x2304, .f32⟩
  | .hbm, ⟨17, _⟩ => ⟨S16x16x2048x2304, .f32⟩
  | .hbm, ⟨18, _⟩ => ⟨S16x16x2048x2304, .f32⟩
  | .hbm, ⟨19, _⟩ => ⟨S_, .f32⟩
  | .hbm, ⟨20, _⟩ => ⟨S16x16x2048, .f32⟩
  | .hbm, ⟨21, _⟩ => ⟨S16x16x2048x1, .f32⟩
  | .hbm, ⟨22, _⟩ => ⟨S16x16x2048x2304, .f32⟩
  | .hbm, ⟨23, _⟩ => ⟨S16x16x2048x2304, .f32⟩
  | .hbm, ⟨24, _⟩ => ⟨S16x16x64x2048, .f32⟩
  | .hbm, ⟨25, _⟩ => ⟨S16x2048x16x64, .f32⟩
  | .hbm, ⟨26, _⟩ => ⟨S16x2048x1024, .f32⟩
  | .hbm, ⟨27, _⟩ => ⟨S16x2048x1024, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel2.lean ====
abbrev S16x2304x1024 : Shape := ⟨3, ![16, 2304, 1024]⟩
abbrev S32x8x1024 : Shape := ⟨3, ![32, 8, 1024]⟩
abbrev S1024 : Shape := ⟨1, ![1024]⟩
abbrev S1024x3072 : Shape := ⟨2, ![1024, 3072]⟩
abbrev S2x1024x16 : Shape := ⟨3, ![2, 1024, 16]⟩
abbrev S_ : Shape := ⟨0, ![]⟩
abbrev S1024x128 : Shape := ⟨2, ![1024, 128]⟩
abbrev S1x1024x16 : Shape := ⟨3, ![1, 1024, 16]⟩
abbrev S1024x16 : Shape := ⟨2, ![1024, 16]⟩
abbrev S1 : Shape := ⟨1, ![1]⟩
abbrev S1x1024 : Shape := ⟨2, ![1, 1024]⟩
abbrev S16x2304x3072 : Shape := ⟨3, ![16, 2304, 3072]⟩
abbrev S16x2304x128 : Shape := ⟨3, ![16, 2304, 128]⟩
abbrev S1x256x1024 : Shape := ⟨3, ![1, 256, 1024]⟩
abbrev S2x8x1024 : Shape := ⟨3, ![2, 8, 1024]⟩
abbrev S1x256x3072 : Shape := ⟨3, ![1, 256, 3072]⟩
abbrev S1x256x128 : Shape := ⟨3, ![1, 256, 128]⟩
abbrev S256x1 : Shape := ⟨2, ![256, 1]⟩
abbrev S256x1024 : Shape := ⟨2, ![256, 1024]⟩
abbrev S256 : Shape := ⟨1, ![256]⟩
abbrev S1x1x1024 : Shape := ⟨3, ![1, 1, 1024]⟩
abbrev S256x3072 : Shape := ⟨2, ![256, 3072]⟩
abbrev S256x128 : Shape := ⟨2, ![256, 128]⟩

abbrev nBuf : Space → Nat
  | .hbm => 22
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S1024x3072, .f32⟩
  | .hbm, ⟨4, _⟩ => ⟨S2x1024x16, .f32⟩
  | .hbm, ⟨5, _⟩ => ⟨S_, .f32⟩
  | .hbm, ⟨6, _⟩ => ⟨S1024x128, .f32⟩
  | .hbm, ⟨7, _⟩ => ⟨S1x1024x16, .f32⟩
  | .hbm, ⟨8, _⟩ => ⟨S1024x16, .f32⟩
  | .hbm, ⟨9, _⟩ => ⟨S_, .i32⟩
  | .hbm, ⟨10, _⟩ => ⟨S1, .i32⟩
  | .hbm, ⟨11, _⟩ => ⟨S1024x128, .f32⟩
  | .hbm, ⟨12, _⟩ => ⟨S1x1024x16, .f32⟩
  | .hbm, ⟨13, _⟩ => ⟨S1024x16, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x128, .bf16⟩
  | .hbm, ⟨18, _⟩ => ⟨S1x1024, .f32⟩
  | .hbm, ⟨19, _⟩ => ⟨S1024x3072, .bf16⟩
  | .hbm, ⟨20, _⟩ => ⟨S16x2304x3072, .bf16⟩
  | .hbm, ⟨21, _⟩ => ⟨S16x2304x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2x8x1024, .f32⟩
  | .local _ .vmem, ⟨4, _⟩ => ⟨S2x8x1024, .f32⟩
  | .local _ .vmem, ⟨5, _⟩ => ⟨S1024x3072, .bf16⟩
  | .local _ .vmem, ⟨6, _⟩ => ⟨S1024x128, .bf16⟩
  | .local _ .vmem, ⟨7, _⟩ => ⟨S1x256x3072, .bf16⟩
  | .local _ .vmem, ⟨8, _⟩ => ⟨S1x256x3072, .bf16⟩
  | .local _ .vmem, ⟨9, _⟩ => ⟨S1x256x128, .f32⟩
  | .local _ .vmem, ⟨10, _⟩ => ⟨S1x256x128, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S16x2304x1024 : Shape := ⟨3, ![16, 2304, 1024]⟩
abbrev S32x8x1024 : Shape := ⟨3, ![32, 8, 1024]⟩
abbrev S1024 : Shape := ⟨1, ![1024]⟩
abbrev S1024x3072 : Shape := ⟨2, ![1024, 3072]⟩
abbrev S2x1024x16 : Shape := ⟨3, ![2, 1024, 16]⟩
abbrev S16x2x8x1024 : Shape := ⟨4, ![16, 2, 8, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S1x1024x16 : Shape := ⟨3, ![1, 1024, 16]⟩
abbrev S1024x16 : Shape := ⟨2, ![1024, 16]⟩
abbrev S16x2304x16 : Shape := ⟨3, ![16, 2304, 16]⟩
abbrev S16x2304x96 : Shape := ⟨3, ![16, 2304, 96]⟩
abbrev S16x2304x3072 : Shape := ⟨3, ![16, 2304, 3072]⟩
abbrev S16x2304x128 : Shape := ⟨3, ![16, 2304, 128]⟩

abbrev nBuf : Space → Nat
  | .hbm => 78
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S1024x3072, .f32⟩
  | .hbm, ⟨4, _⟩ => ⟨S2x1024x16, .f32⟩
  | .hbm, ⟨5, _⟩ => ⟨S16x2x8x1024, .f32⟩
  | .hbm, ⟨6, _⟩ => ⟨S16x256x1024, .f32⟩
  | .hbm, ⟨7, _⟩ => ⟨S16x256x1024, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S1x1x1024, .f32⟩
  | .hbm, ⟨21, _⟩ => ⟨S16x256x1024, .f32⟩
  | .hbm, ⟨22, _⟩ => ⟨S16x256x1024, .f32⟩
  | .hbm, ⟨23, _⟩ => ⟨S16x1x1x1024, .f32⟩
  | .hbm, ⟨24, _⟩ => ⟨S16x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x256x1024, .f32⟩
  | .hbm, ⟨30, _⟩ => ⟨S16x256x1024, .f32⟩
  | .hbm, ⟨31, _⟩ => ⟨S16x1x1x1024, .f32⟩
  | .hbm, ⟨32, _⟩ => ⟨S16x1024, .f32⟩
  | .hbm, ⟨33, _⟩ => ⟨S16x1x1024, .f32⟩
  | .hbm, ⟨34, _⟩ => ⟨S16x256x1024, .f32⟩
  | .hbm, ⟨35, _⟩ => ⟨S16x256x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x1x1x1024, .f32⟩
  | .hbm, ⟨54, _⟩ => ⟨S16x1024, .f32⟩
  | .hbm, ⟨55, _⟩ => ⟨S16x1x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x1x1x1024, .f32⟩
  | .hbm, ⟨62, _⟩ => ⟨S16x1024, .f32⟩
  | .hbm, ⟨63, _⟩ => ⟨S16x1x1024, .f32⟩
  | .hbm, ⟨64, _⟩ => ⟨S16x2048x1024, .f32⟩
  | .hbm, ⟨65, _⟩ => ⟨S16x2048x1024, .f32⟩
  | .hbm, ⟨66, _⟩ => ⟨S16x2304x1024, .f32⟩
  | .hbm, ⟨67, _⟩ => ⟨S1x1024x16, .f32⟩
  | .hbm, ⟨68, _⟩ => ⟨S1024x16, .f32⟩
  | .hbm, ⟨69, _⟩ => ⟨S16x2304x16, .f32⟩
  | .hbm, ⟨70, _⟩ => ⟨S1x1024x16, .f32⟩
  | .hbm, ⟨71, _⟩ => ⟨S1024x16, .f32⟩
  | .hbm, ⟨72, _⟩ => ⟨S16x2304x16, .f32⟩
  | .hbm, ⟨73, _⟩ => ⟨S_, .f32⟩
  | .hbm, ⟨74, _⟩ => ⟨S16x2304x96, .f32⟩
  | .hbm, ⟨75, _⟩ => ⟨S16x2304x3072, .f32⟩
  | .hbm, ⟨76, _⟩ => ⟨S16x2304x3072, .bf16⟩
  | .hbm, ⟨77, _⟩ => ⟨S16x2304x128, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel3.lean ====
abbrev S16x2304x1024 : Shape := ⟨3, ![16, 2304, 1024]⟩
abbrev S16x2304x3072 : Shape := ⟨3, ![16, 2304, 3072]⟩
abbrev S256 : Shape := ⟨1, ![256]⟩
abbrev S1024x1024 : Shape := ⟨2, ![1024, 1024]⟩
abbrev S32x8x1024 : Shape := ⟨3, ![32, 8, 1024]⟩
abbrev S1x256 : Shape := ⟨2, ![1, 256]⟩
abbrev S1x256x1024 : Shape := ⟨3, ![1, 256, 1024]⟩
abbrev S2x8x1024 : Shape := ⟨3, ![2, 8, 1024]⟩
abbrev S256x1 : Shape := ⟨2, ![256, 1]⟩
abbrev S256x1024 : Shape := ⟨2, ![256, 1024]⟩
abbrev S256x256 : Shape := ⟨2, ![256, 256]⟩
abbrev S1x1x1024 : Shape := ⟨3, ![1, 1, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .f32⟩
  | .hbm, ⟨2, _⟩ => ⟨S16x2304x1024, .f32⟩
  | .hbm, ⟨3, _⟩ => ⟨S16x2304x3072, .bf16⟩
  | .hbm, ⟨4, _⟩ => ⟨S256, .f32⟩
  | .hbm, ⟨5, _⟩ => ⟨S1024x1024, .f32⟩
  | .hbm, ⟨6, _⟩ => ⟨S32x8x1024, .f32⟩
  | .hbm, ⟨7, _⟩ => ⟨S1x256, .f32⟩
  | .hbm, ⟨8, _⟩ => ⟨S1024x1024, .bf16⟩
  | .hbm, ⟨9, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256, .f32⟩
  | .local _ .vmem, ⟨9, _⟩ => ⟨S1024x1024, .bf16⟩
  | .local _ .vmem, ⟨10, _⟩ => ⟨S2x8x1024, .f32⟩
  | .local _ .vmem, ⟨11, _⟩ => ⟨S2x8x1024, .f32⟩
  | .local _ .vmem, ⟨12, _⟩ => ⟨S1x256x1024, .f32⟩
  | .local _ .vmem, ⟨13, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16x2304x1024 : Shape := ⟨3, ![16, 2304, 1024]⟩
abbrev S16x2304x3072 : Shape := ⟨3, ![16, 2304, 3072]⟩
abbrev S256 : Shape := ⟨1, ![256]⟩
abbrev S1024x1024 : Shape := ⟨2, ![1024, 1024]⟩
abbrev S32x8x1024 : Shape := ⟨3, ![32, 8, 1024]⟩
abbrev S16x2304x4x256 : Shape := ⟨4, ![16, 2304, 4, 256]⟩
abbrev S_ : Shape := ⟨0, ![]⟩
abbrev S16x2304x4 : Shape := ⟨3, ![16, 2304, 4]⟩
abbrev S16x2304x4x1 : Shape := ⟨4, ![16, 2304, 4, 1]⟩
abbrev S1x1x1x256 : Shape := ⟨4, ![1, 1, 1, 256]⟩
abbrev S16x2x8x1024 : Shape := ⟨4, ![16, 2, 8, 1024]⟩
abbrev S16x256x1024 : Shape := ⟨3, ![16, 256, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .f32⟩
  | .hbm, ⟨2, _⟩ => ⟨S16x2304x1024, .f32⟩
  | .hbm, ⟨3, _⟩ => ⟨S16x2304x3072, .bf16⟩
  | .hbm, ⟨4, _⟩ => ⟨S256, .f32⟩
  | .hbm, ⟨5, _⟩ => ⟨S1024x1024, .f32⟩
  | .hbm, ⟨6, _⟩ => ⟨S32x8x1024, .f32⟩
  | .hbm, ⟨7, _⟩ => ⟨S16x2304x1024, .f32⟩
  | .hbm, ⟨8, _⟩ => ⟨S16x2304x4x256, .f32⟩
  | .hbm, ⟨9, _⟩ => ⟨S16x2304x4x256, .f32⟩
  | .hbm, ⟨10, _⟩ => ⟨S_, .f32⟩
  | .hbm, ⟨11, _⟩ => ⟨S16x2304x4, .f32⟩
  | .hbm, ⟨12, _⟩ => ⟨S16x2304x4x1, .f32⟩
  | .hbm, ⟨13, _⟩ => ⟨S_, .f32⟩
  | .hbm, ⟨14, _⟩ => ⟨S16x2304x4x1, .f32⟩
  | .hbm, ⟨15, _⟩ => ⟨S16x2304x4x1, .f32⟩
  | .hbm, ⟨16, _⟩ => ⟨S_, .f32⟩
  | .hbm, ⟨17, _⟩ => ⟨S16x2304x4x1, .f32⟩
  | .hbm, ⟨18, _⟩ => ⟨S16x2304x4x1, .f32⟩
  | .hbm, ⟨19, _⟩ => ⟨S16x2304x4x1, .f32⟩
  | .hbm, ⟨20, _⟩ => ⟨S16x2304x4x256, .f32⟩
  | .hbm, ⟨21, _⟩ => ⟨S16x2304x4x256, .f32⟩
  | .hbm, ⟨22, _⟩ => ⟨S1x1x1x256, .f32⟩
  | .hbm, ⟨23, _⟩ => ⟨S16x2304x4x256, .f32⟩
  | .hbm, ⟨24, _⟩ => ⟨S16x2304x4x256, .f32⟩
  | .hbm, ⟨25, _⟩ => ⟨S16x2304x1024, .bf16⟩
  | .hbm, ⟨26, _⟩ => ⟨S16x2304x1024, .f32⟩
  | .hbm, ⟨27, _⟩ => ⟨S16x2304x4x256, .f32⟩
  | .hbm, ⟨28, _⟩ => ⟨S16x2304x4x256, .f32⟩
  | .hbm, ⟨29, _⟩ => ⟨S16x2304x4x256, .f32⟩
  | .hbm, ⟨30, _⟩ => ⟨S_, .f32⟩
  | .hbm, ⟨31, _⟩ => ⟨S16x2304x4x256, .f32⟩
  | .hbm, ⟨32, _⟩ => ⟨S16x2304x4x256, .f32⟩
  | .hbm, ⟨33, _⟩ => ⟨S_, .f32⟩
  | .hbm, ⟨34, _⟩ => ⟨S16x2304x4x256, .f32⟩
  | .hbm, ⟨35, _⟩ => ⟨S16x2304x4x256, .f32⟩
  | .hbm, ⟨36, _⟩ => ⟨S16x2304x4x256, .f32⟩
  | .hbm, ⟨37, _⟩ => ⟨S16x2304x4x256, .f32⟩
  | .hbm, ⟨38, _⟩ => ⟨S16x2304x1024, .f32⟩
  | .hbm, ⟨39, _⟩ => ⟨S16x2304x1024, .f32⟩
  | .hbm, ⟨40, _⟩ => ⟨S16x2x8x1024, .f32⟩
  | .hbm, ⟨41, _⟩ => ⟨S16x256x1024, .f32⟩
  | .hbm, ⟨42, _⟩ => ⟨S16x1x1x1024, .f32⟩
  | .hbm, ⟨43, _⟩ => ⟨S16x1024, .f32⟩
  | .hbm, ⟨44, _⟩ => ⟨S16x1x1024, .f32⟩
  | .hbm, ⟨45, _⟩ => ⟨S16x256x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x2048x1024, .f32⟩
  | .hbm, ⟨50, _⟩ => ⟨S16x1x1x1024, .f32⟩
  | .hbm, ⟨51, _⟩ => ⟨S16x1024, .f32⟩
  | .hbm, ⟨52, _⟩ => ⟨S16x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel4.lean ====
abbrev S16x2304x1024 : Shape := ⟨3, ![16, 2304, 1024]⟩
abbrev S32x8x1024 : Shape := ⟨3, ![32, 8, 1024]⟩
abbrev S1024 : Shape := ⟨1, ![1024]⟩
abbrev S2x36864x1024 : Shape := ⟨3, ![2, 36864, 1024]⟩
abbrev S1024x2048 : Shape := ⟨2, ![1024, 2048]⟩
abbrev S1x1024 : Shape := ⟨2, ![1, 1024]⟩
abbrev S2x2304x16384 : Shape := ⟨3, ![2, 2304, 16384]⟩
abbrev S1x256x1024 : Shape := ⟨3, ![1, 256, 1024]⟩
abbrev S2x8x1024 : Shape := ⟨3, ![2, 8, 1024]⟩
abbrev S2x256x1024 : Shape := ⟨3, ![2, 256, 1024]⟩
abbrev S256x1 : Shape := ⟨2, ![256, 1]⟩
abbrev S256x1024 : Shape := ⟨2, ![256, 1024]⟩
abbrev S256 : Shape := ⟨1, ![256]⟩
abbrev S1x1x1024 : Shape := ⟨3, ![1, 1, 1024]⟩
abbrev S256x2048 : Shape := ⟨2, ![256, 2048]⟩

abbrev nBuf : Space → Nat
  | .hbm => 11
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S2x36864x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S2x2304x16384, .f32⟩
  | .hbm, ⟨8, _⟩ => ⟨S1x1024, .f32⟩
  | .hbm, ⟨9, _⟩ => ⟨S1024x2048, .bf16⟩
  | .hbm, ⟨10, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2x8x1024, .f32⟩
  | .local _ .vmem, ⟨4, _⟩ => ⟨S2x8x1024, .f32⟩
  | .local _ .vmem, ⟨5, _⟩ => ⟨S2x256x1024, .f32⟩
  | .local _ .vmem, ⟨6, _⟩ => ⟨S2x256x1024, .f32⟩
  | .local _ .vmem, ⟨7, _⟩ => ⟨S1x1024, .f32⟩
  | .local _ .vmem, ⟨8, _⟩ => ⟨S1024x2048, .bf16⟩
  | .local _ .vmem, ⟨9, _⟩ => ⟨S1x256x1024, .f32⟩
  | .local _ .vmem, ⟨10, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16x2304x1024 : Shape := ⟨3, ![16, 2304, 1024]⟩
abbrev S32x8x1024 : Shape := ⟨3, ![32, 8, 1024]⟩
abbrev S1024 : Shape := ⟨1, ![1024]⟩
abbrev S2x36864x1024 : Shape := ⟨3, ![2, 36864, 1024]⟩
abbrev S1024x2048 : Shape := ⟨2, ![1024, 2048]⟩
abbrev S2x2304x16x1024 : Shape := ⟨4, ![2, 2304, 16, 1024]⟩
abbrev S2x16x2304x1024 : Shape := ⟨4, ![2, 16, 2304, 1024]⟩
abbrev S16x2x8x1024 : Shape := ⟨4, ![16, 2, 8, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S1x16x2304x1024 : Shape := ⟨4, ![1, 16, 2304, 1024]⟩
abbrev S16x2304x2048 : Shape := ⟨3, ![16, 2304, 2048]⟩

abbrev nBuf : Space → Nat
  | .hbm => 126
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S2x36864x1024, .f32⟩
  | .hbm, ⟨4, _⟩ => ⟨S1024, .f32⟩
  | .hbm, ⟨5, _⟩ => ⟨S1024x2048, .f32⟩
  | .hbm, ⟨6, _⟩ => ⟨S2x2304x16x1024, .f32⟩
  | .hbm, ⟨7, _⟩ => ⟨S2x16x2304x1024, .f32⟩
  | .hbm, ⟨8, _⟩ => ⟨S16x2x8x1024, .f32⟩
  | .hbm, ⟨9, _⟩ => ⟨S16x256x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S16x1x1x1024, .f32⟩
  | .hbm, ⟨27, _⟩ => ⟨S16x1024, .f32⟩
  | .hbm, ⟨28, _⟩ => ⟨S16x1x1024, .f32⟩
  | .hbm, ⟨29, _⟩ => ⟨S_, .f32⟩
  | .hbm, ⟨30, _⟩ => ⟨S16x1x1024, .f32⟩
  | .hbm, ⟨31, _⟩ => ⟨S16x1x1024, .f32⟩
  | .hbm, ⟨32, _⟩ => ⟨S16x256x1024, .f32⟩
  | .hbm, ⟨33, _⟩ => ⟨S16x256x1024, .f32⟩
  | .hbm, ⟨34, _⟩ => ⟨S16x1x1x1024, .f32⟩
  | .hbm, ⟨35, _⟩ => ⟨S16x1024, .f32⟩
  | .hbm, ⟨36, _⟩ => ⟨S16x1x1024, .f32⟩
  | .hbm, ⟨37, _⟩ => ⟨S16x256x1024, .f32⟩
  | .hbm, ⟨38, _⟩ => ⟨S16x256x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S16x1x1x1024, .f32⟩
  | .hbm, ⟨57, _⟩ => ⟨S16x1024, .f32⟩
  | .hbm, ⟨58, _⟩ => ⟨S16x1x1024, .f32⟩
  | .hbm, ⟨59, _⟩ => ⟨S_, .f32⟩
  | .hbm, ⟨60, _⟩ => ⟨S16x1x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x1x1x1024, .f32⟩
  | .hbm, ⟨65, _⟩ => ⟨S16x1024, .f32⟩
  | .hbm, ⟨66, _⟩ => ⟨S16x1x1024, .f32⟩
  | .hbm, ⟨67, _⟩ => ⟨S16x2048x1024, .f32⟩
  | .hbm, ⟨68, _⟩ => ⟨S16x2048x1024, .f32⟩
  | .hbm, ⟨69, _⟩ => ⟨S16x2304x1024, .f32⟩
  | .hbm, ⟨70, _⟩ => ⟨S1x16x2304x1024, .f32⟩
  | .hbm, ⟨71, _⟩ => ⟨S16x2304x1024, .f32⟩
  | .hbm, ⟨72, _⟩ => ⟨S1x16x2304x1024, .f32⟩
  | .hbm, ⟨73, _⟩ => ⟨S16x2304x1024, .f32⟩
  | .hbm, ⟨74, _⟩ => ⟨S16x2304x1024, .f32⟩
  | .hbm, ⟨75, _⟩ => ⟨S1x1x1024, .f32⟩
  | .hbm, ⟨76, _⟩ => ⟨S16x2304x1024, .f32⟩
  | .hbm, ⟨77, _⟩ => ⟨S16x2304x1024, .f32⟩
  | .hbm, ⟨78, _⟩ => ⟨S16x2304x1024, .f32⟩
  | .hbm, ⟨79, _⟩ => ⟨S16x2304x1024, .f32⟩
  | .hbm, ⟨80, _⟩ => ⟨S16x2304x1024, .f32⟩
  | .hbm, ⟨81, _⟩ => ⟨S_, .f32⟩
  | .hbm, ⟨82, _⟩ => ⟨S16x2304x1024, .f32⟩
  | .hbm, ⟨83, _⟩ => ⟨S16x2304x1024, .f32⟩
  | .hbm, ⟨84, _⟩ => ⟨S16x2304x1024, .f32⟩
  | .hbm, ⟨85, _⟩ => ⟨S_, .f32⟩
  | .hbm, ⟨86, _⟩ => ⟨S16x2304x1024, .f32⟩
  | .hbm, ⟨87, _⟩ => ⟨S16x2304x1024, .f32⟩
  | .hbm, ⟨88, _⟩ => ⟨S16x2304x1024, .f32⟩
  | .hbm, ⟨89, _⟩ => ⟨S_, .f32⟩
  | .hbm, ⟨90, _⟩ => ⟨S16x2304x1024, .f32⟩
  | .hbm, ⟨91, _⟩ => ⟨S16x2304x1024, .f32⟩
  | .hbm, ⟨92, _⟩ => ⟨S_, .f32⟩
  | .hbm, ⟨93, _⟩ => ⟨S16x2304x1024, .f32⟩
  | .hbm, ⟨94, _⟩ => ⟨S16x2304x1024, .f32⟩
  | .hbm, ⟨95, _⟩ => ⟨S16x2304x1024, .f32⟩
  | .hbm, ⟨96, _⟩ => ⟨S16x2304x2048, .f32⟩
  | .hbm, ⟨97, _⟩ => ⟨S16x2304x1024, .f32⟩
  | .hbm, ⟨98, _⟩ => ⟨S16x2304x1024, .f32⟩
  | .hbm, ⟨99, _⟩ => ⟨S16x2304x1024, .f32⟩
  | .hbm, ⟨100, _⟩ => ⟨S16x2304x1024, .f32⟩
  | .hbm, ⟨101, _⟩ => ⟨S_, .f32⟩
  | .hbm, ⟨102, _⟩ => ⟨S16x2304x1024, .f32⟩
  | .hbm, ⟨103, _⟩ => ⟨S16x2304x1024, .f32⟩
  | .hbm, ⟨104, _⟩ => ⟨S_, .f32⟩
  | .hbm, ⟨105, _⟩ => ⟨S16x2304x1024, .f32⟩
  | .hbm, ⟨106, _⟩ => ⟨S16x2304x1024, .f32⟩
  | .hbm, ⟨107, _⟩ => ⟨S16x2304x1024, .f32⟩
  | .hbm, ⟨108, _⟩ => ⟨S16x2x8x1024, .f32⟩
  | .hbm, ⟨109, _⟩ => ⟨S16x256x1024, .f32⟩
  | .hbm, ⟨110, _⟩ => ⟨S16x1x1x1024, .f32⟩
  | .hbm, ⟨111, _⟩ => ⟨S16x1024, .f32⟩
  | .hbm, ⟨112, _⟩ => ⟨S16x1x1024, .f32⟩
  | .hbm, ⟨113, _⟩ => ⟨S16x256x1024, .f32⟩
  | .hbm, ⟨114, _⟩ => ⟨S16x256x1024, .f32⟩
  | .hbm, ⟨115, _⟩ => ⟨S16x256x1024, .f32⟩
  | .hbm, ⟨116, _⟩ => ⟨S16x256x1024, .f32⟩
  | .hbm, ⟨117, _⟩ => ⟨S16x2048x1024, .f32⟩
  | .hbm, ⟨118, _⟩ => ⟨S16x1x1x1024, .f32⟩
  | .hbm, ⟨119, _⟩ => ⟨S16x1024, .f32⟩
  | .hbm, ⟨120, _⟩ => ⟨S16x1x1024, .f32⟩
  | .hbm, ⟨121, _⟩ => ⟨S16x2048x1024, .f32⟩
  | .hbm, ⟨122, _⟩ => ⟨S16x2048x1024, .f32⟩
  | .hbm, ⟨123, _⟩ => ⟨S16x2048x1024, .f32⟩
  | .hbm, ⟨124, _⟩ => ⟨S16x2048x1024, .f32⟩
  | .hbm, ⟨125, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_9 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Kernel5.lean ====
abbrev S16x2304x1024 : Shape := ⟨3, ![16, 2304, 1024]⟩
abbrev S16x2048x1024 : Shape := ⟨3, ![16, 2048, 1024]⟩
abbrev S1024x1024 : Shape := ⟨2, ![1024, 1024]⟩
abbrev S32x8x1024 : Shape := ⟨3, ![32, 8, 1024]⟩
abbrev S1x256x1024 : Shape := ⟨3, ![1, 256, 1024]⟩
abbrev S2x8x1024 : Shape := ⟨3, ![2, 8, 1024]⟩
abbrev S256x1 : Shape := ⟨2, ![256, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2304x1024, .f32⟩
  | .hbm, ⟨1, _⟩ => ⟨S16x2048x1024, .bf16⟩
  | .hbm, ⟨2, _⟩ => ⟨S1024x1024, .f32⟩
  | .hbm, ⟨3, _⟩ => ⟨S32x8x1024, .f32⟩
  | .hbm, ⟨4, _⟩ => ⟨S1024x1024, .bf16⟩
  | .hbm, ⟨5, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S2x8x1024, .f32⟩
  | .local _ .vmem, ⟨6, _⟩ => ⟨S2x8x1024, .f32⟩
  | .local _ .vmem, ⟨7, _⟩ => ⟨S1x256x1024, .f32⟩
  | .local _ .vmem, ⟨8, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x2304x1024 : Shape := ⟨3, ![16, 2304, 1024]⟩
abbrev S16x2048x1024 : Shape := ⟨3, ![16, 2048, 1024]⟩
abbrev S1024x1024 : Shape := ⟨2, ![1024, 1024]⟩
abbrev S32x8x1024 : Shape := ⟨3, ![32, 8, 1024]⟩
abbrev S16x2x8x1024 : Shape := ⟨4, ![16, 2, 8, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x256x1024 : Shape := ⟨3, ![16, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2048x1024, .bf16⟩
  | .hbm, ⟨2, _⟩ => ⟨S1024x1024, .f32⟩
  | .hbm, ⟨3, _⟩ => ⟨S32x8x1024, .f32⟩
  | .hbm, ⟨4, _⟩ => ⟨S16x2x8x1024, .f32⟩
  | .hbm, ⟨5, _⟩ => ⟨S16x2048x1024, .f32⟩
  | .hbm, ⟨6, _⟩ => ⟨S16x1x1x1024, .f32⟩
  | .hbm, ⟨7, _⟩ => ⟨S16x1024, .f32⟩
  | .hbm, ⟨8, _⟩ => ⟨S16x1x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x256x1024, .f32⟩
  | .hbm, ⟨15, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S16x2304x1024 : Shape := ⟨3, ![16, 2304, 1024]⟩
abbrev S32x8x1024 : Shape := ⟨3, ![32, 8, 1024]⟩
abbrev S1024 : Shape := ⟨1, ![1024]⟩
abbrev S1024x672 : Shape := ⟨2, ![1024, 672]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S2048x16 : Shape := ⟨2, ![2048, 16]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1 : Shape := ⟨1, ![1]⟩
abbrev S1024x8 : Shape := ⟨2, ![1024, 8]⟩
abbrev S384x16x96 : Shape := ⟨3, ![384, 16, 96]⟩
abbrev S384x16x32 : Shape := ⟨3, ![384, 16, 32]⟩
abbrev S384x16x128 : Shape := ⟨3, ![384, 16, 128]⟩
abbrev S384x2048 : Shape := ⟨2, ![384, 2048]⟩
abbrev S384x16x64 : Shape := ⟨3, ![384, 16, 64]⟩
abbrev S384x16x8 : Shape := ⟨3, ![384, 16, 8]⟩
abbrev S256x16x128 : Shape := ⟨3, ![256, 16, 128]⟩
abbrev S256x16x64 : Shape := ⟨3, ![256, 16, 64]⟩
abbrev S256x1024 : Shape := ⟨2, ![256, 1024]⟩
abbrev S2048x8 : Shape := ⟨2, ![2048, 8]⟩
abbrev S2048x32 : Shape := ⟨2, ![2048, 32]⟩
abbrev S256x96 : Shape := ⟨2, ![256, 96]⟩
abbrev S256x32 : Shape := ⟨2, ![256, 32]⟩
abbrev S256x128 : Shape := ⟨2, ![256, 128]⟩
abbrev S2048x64 : Shape := ⟨2, ![2048, 64]⟩
abbrev S2048x128 : Shape := ⟨2, ![2048, 128]⟩
abbrev S2304x128 : Shape := ⟨2, ![2304, 128]⟩
abbrev S1x1024 : Shape := ⟨2, ![1, 1024]⟩
abbrev S1x384 : Shape := ⟨2, ![1, 384]⟩
abbrev S1x256 : Shape := ⟨2, ![1, 256]⟩
abbrev S16x256x2048 : Shape := ⟨3, ![16, 256, 2048]⟩
abbrev S16x2048x2048 : Shape := ⟨3, ![16, 2048, 2048]⟩
abbrev S16x2304x2048 : Shape := ⟨3, ![16, 2304, 2048]⟩
abbrev S1x256x1024 : Shape := ⟨3, ![1, 256, 1024]⟩
abbrev S2x8x1024 : Shape := ⟨3, ![2, 8, 1024]⟩
abbrev S1x256x2048 : Shape := ⟨3, ![1, 256, 2048]⟩
abbrev S256x1 : Shape := ⟨2, ![256, 1]⟩
abbrev S1x1x1024 : Shape := ⟨3, ![1, 1, 1024]⟩
abbrev S256x384 : Shape := ⟨2, ![256, 384]⟩
abbrev S256x256 : Shape := ⟨2, ![256, 256]⟩
abbrev S1x256x128 : Shape := ⟨3, ![1, 256, 128]⟩

abbrev nBuf : Space → Nat
  | .hbm => 137
  | .vmem => 30
  | .smem => 0
  | _ => 0

abbrev hbmTy0_0 (i : Nat) : BufTy := match i % 128 with
  | 0 => ⟨S16x2304x1024, .f32⟩
  | 1 => ⟨S32x8x1024, .f32⟩
  | 2 => ⟨S1024, .f32⟩
  | 3 => ⟨S1024x672, .f32⟩
  | 4 => ⟨S384, .f32⟩
  | 5 => ⟨S384x1536, .f32⟩
  | 6 => ⟨S256, .f32⟩
  | 7 => ⟨S256x2048, .f32⟩
  | 8 => ⟨S2048x16, .f32⟩
  | 9 => ⟨S2048x16, .f32⟩
  | 10 => ⟨S1024x384, .f32⟩
  | 11 => ⟨S1024x384, .bf16⟩
  | 12 => ⟨S1024x256, .f32⟩
  | 13 => ⟨S1024x256, .bf16⟩
  | 14 => ⟨S1024x32, .f32⟩
  | 15 => ⟨S_, .f32⟩
  | 16 => ⟨S1024x256, .f32⟩
  | 17 => ⟨S_, .i32⟩
  | 18 => ⟨S1, .i32⟩
  | 19 => ⟨S1024x256, .f32⟩
  | 20 => ⟨S1024x8, .f32⟩
  | 21 => ⟨S1024x8, .f32⟩
  | 22 => ⟨S1024x8, .f32⟩
  | 23 => ⟨S1024x8, .f32⟩
  | 24 => ⟨S1024x32, .f32⟩
  | 25 => ⟨S_, .i32⟩
  | 26 => ⟨S1, .i32⟩
  | 27 => ⟨S1024x256, .f32⟩
  | 28 => ⟨S1024x256, .bf16⟩
  | 29 => ⟨S384x16x96, .f32⟩
  | 30 => ⟨S_, .f32⟩
  | 31 => ⟨S384x16x32, .f32⟩
  | 32 => ⟨S384x16x128, .f32⟩
  | 33 => ⟨S384x2048, .f32⟩
  | 34 => ⟨S384x2048, .bf16⟩
  | 35 => ⟨S_, .f32⟩
  | 36 => ⟨S384x16x64, .f32⟩
  | 37 => ⟨S384x16x32, .f32⟩
  | 38 => ⟨S384x16x8, .f32⟩
  | 39 => ⟨S384x16x8, .f32⟩
  | 40 => ⟨S384x16x8, .f32⟩
  | 41 => ⟨S384x16x8, .f32⟩
  | 42 => ⟨S384x16x32, .f32⟩
  | 43 => ⟨S384x16x128, .f32⟩
  | 44 => ⟨S384x2048, .f32⟩
  | 45 => ⟨S384x2048, .bf16⟩
  | 46 => ⟨S256x16x128, .f32⟩
  | 47 => ⟨S_, .f32⟩
  | 48 => ⟨S256x16x64, .f32⟩
  | 49 => ⟨S256x16x64, .f32⟩
  | 50 => ⟨S256x16x128, .f32⟩
  | 51 => ⟨S256x2048, .f32⟩
  | 52 => ⟨S256x2048, .bf16⟩
  | 53 => ⟨S256x16x64, .f32⟩
  | 54 => ⟨S256x1024, .f32⟩
  | 55 => ⟨S256x1024, .bf16⟩
  | 56 => ⟨S2048x8, .f32⟩
  | 57 => ⟨S2048x8, .f32⟩
  | 58 => ⟨S2048x8, .f32⟩
  | 59 => ⟨S2048x8, .f32⟩
  | 60 => ⟨S2048x32, .f32⟩
  | 61 => ⟨S2048x8, .f32⟩
  | 62 => ⟨S2048x8, .f32⟩
  | 63 => ⟨S2048x8, .f32⟩
  | 64 => ⟨S2048x8, .f32⟩
  | 65 => ⟨S2048x8, .f32⟩
  | 66 => ⟨S2048x8, .f32⟩
  | 67 => ⟨S2048x32, .f32⟩
  | 68 => ⟨S_, .f32⟩
  | 69 => ⟨S256x96, .f32⟩
  | 70 => ⟨S_, .f32⟩
  | 71 => ⟨S256x32, .f32⟩
  | 72 => ⟨S256x128, .f32⟩
  | 73 => ⟨S_, .f32⟩
  | 74 => ⟨S2048x64, .f32⟩
  | 75 => ⟨S_, .f32⟩
  | 76 => ⟨S2048x32, .f32⟩
  | 77 => ⟨S2048x128, .f32⟩
  | 78 => ⟨S2304x128, .f32⟩
  | 79 => ⟨S_, .f32⟩
  | 80 => ⟨S256x128, .f32⟩
  | 81 => ⟨S_, .f32⟩
  | 82 => ⟨S2048x64, .f32⟩
  | 83 => ⟨S_, .f32⟩
  | 84 => ⟨S2048x32, .f32⟩
  | 85 => ⟨S2048x128, .f32⟩
  | 86 => ⟨S2304x128, .f32⟩
  | 87 => ⟨S_, .f32⟩
  | 88 => ⟨S2304x128, .f32⟩
  | 89 => ⟨S2304x128, .f32⟩
  | 90 => ⟨S_, .f32⟩
  | 91 => ⟨S2304x128, .f32⟩
  | 92 => ⟨S2304x128, .f32⟩
  | 93 => ⟨S2048x8, .f32⟩
  | 94 => ⟨S2048x8, .f32⟩
  | 95 => ⟨S2048x8, .f32⟩
  | 96 => ⟨S2048x8, .f32⟩
  | 97 => ⟨S2048x32, .f32⟩
  | 98 => ⟨S2048x8, .f32⟩
  | 99 => ⟨S2048x8, .f32⟩
  | 100 => ⟨S2048x8, .f32⟩
  | 101 => ⟨S2048x8, .f32⟩
  | 102 => ⟨S2048x8, .f32⟩
  | 103 => ⟨S2048x8, .f32⟩
  | 104 => ⟨S2048x32, .f32⟩
  | 105 => ⟨S_, .f32⟩
  | 106 => ⟨S256x96, .f32⟩
  | 107 => ⟨S_, .f32⟩
  | 108 => ⟨S256x32, .f32⟩
  | 109 => ⟨S256x128, .f32⟩
  | 110 => ⟨S_, .f32⟩
  | 111 => ⟨S2048x64, .f32⟩
  | 112 => ⟨S_, .f32⟩
  | 113 => ⟨S2048x32, .f32⟩
  | 114 => ⟨S2048x128, .f32⟩
  | 115 => ⟨S2304x128, .f32⟩
  | 116 => ⟨S_, .f32⟩
  | 117 => ⟨S256x128, .f32⟩
  | 118 => ⟨S_, .f32⟩
  | 119 => ⟨S2048x64, .f32⟩
  | 120 => ⟨S_, .f32⟩
  | 121 => ⟨S2048x32, .f32⟩
  | 122 => ⟨S2048x128, .f32⟩
  | 123 => ⟨S2304x128, .f32⟩
  | 124 => ⟨S_, .f32⟩
  | 125 => ⟨S2304x128, .f32⟩
  | 126 => ⟨S2304x128, .f32⟩
  | 127 => ⟨S_, .f32⟩
  | _ => ⟨S16x2304x1024, .f32⟩

abbrev hbmTy0_1 (i : Nat) : BufTy := match i % 128 with
  | 0 => ⟨S2304x128, .f32⟩
  | 1 => ⟨S2304x128, .f32⟩
  | 2 => ⟨S1x1024, .f32⟩
  | 3 => ⟨S1x384, .f32⟩
  | 4 => ⟨S1x256, .f32⟩
  | 5 => ⟨S16x256x2048, .bf16⟩
  | 6 => ⟨S16x2048x2048, .bf16⟩
  | 7 => ⟨S16x2304x2048, .bf16⟩
  | 8 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2x8x1024, .f32⟩
  | .local _ .vmem, ⟨4, _⟩ => ⟨S2x8x1024, .f32⟩
  | .local _ .vmem, ⟨5, _⟩ => ⟨S1024x384, .bf16⟩
  | .local _ .vmem, ⟨6, _⟩ => ⟨S1024x256, .bf16⟩
  | .local _ .vmem, ⟨7, _⟩ => ⟨S1024x256, .bf16⟩
  | .local _ .vmem, ⟨8, _⟩ => ⟨S1x384, .f32⟩
  | .local _ .vmem, ⟨9, _⟩ => ⟨S1x256, .f32⟩
  | .local _ .vmem, ⟨10, _⟩ => ⟨S384x2048, .bf16⟩
  | .local _ .vmem, ⟨11, _⟩ => ⟨S384x2048, .bf16⟩
  | .local _ .vmem, ⟨12, _⟩ => ⟨S256x2048, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S1x256x2048, .bf16⟩
  | .local _ .vmem, ⟨23, _⟩ => ⟨S1x256x2048, .bf16⟩
  | .local _ .vmem, ⟨24, _⟩ => ⟨S1x256x2048, .bf16⟩
  | .local _ .vmem, ⟨25, _⟩ => ⟨S1x256x2048, .bf16⟩
  | .local _ .vmem, ⟨26, _⟩ => ⟨S1x256x2048, .bf16⟩
  | .local _ .vmem, ⟨27, _⟩ => ⟨S1x256x2048, .bf16⟩
  | .local _ .vmem, ⟨28, _⟩ => ⟨S1x256x1024, .bf16⟩
  | .local _ .vmem, ⟨29, _⟩ => ⟨S1x256x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99_0 : Ref sig .tc := ⟨.hbm, 133, rfl⟩
abbrev main_v99_1 : Ref sig .tc := ⟨.hbm, 134, rfl⟩
abbrev main_v99_2 : Ref sig .tc := ⟨.hbm, 135, rfl⟩
abbrev main_v99_3 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c256_i32_94 : BitVec 32 := 256#32
  let v309 : BitVec 32 := Scalar.muli arg1 c256_i32_94
  let c256_i32_95 : BitVec 32 := 256#32
  let v310 : BitVec 1 := Scalar.cmpi .slt v309 c256_i32_95
  let v311 : BitVec 32 := Scalar.extui v310
  let c0_i32 : BitVec 32 := 0#32
  let v312 : BitVec 1 := Scalar.cmpi .ne v311 c0_i32
  v312

def k0_cond2 (i : grid0.Coords) : BitVec 1 :=
  let arg1 : BitVec 32 := BitVec.ofNat 32 (i 1).val
  let c256_i32_94 : BitVec 32 := 256#32
  let v309 : BitVec 32 := Scalar.muli arg1 c256_i32_94
  let c256_i32_95 : BitVec 32 := 256#32
  let v310 : BitVec 1 := Scalar.cmpi .slt v309 c256_i32_95
  let v_true : BitVec 1 := 1#1
  let v313 : BitVec 1 := Scalar.xori v310 v_true
  let v314 : BitVec 32 := Scalar.extui v313
  let c0_i32_96 : BitVec 32 := 0#32
  let v315 : BitVec 1 := Scalar.cmpi .ne v314 c0_i32_96
  v315

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference6Ideal.lean ====
abbrev S16x2304x1024 : Shape := ⟨3, ![16, 2304, 1024]⟩
abbrev S32x8x1024 : Shape := ⟨3, ![32, 8, 1024]⟩
abbrev S1024 : Shape := ⟨1, ![1024]⟩
abbrev S1024x672 : Shape := ⟨2, ![1024, 672]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S2048x16 : Shape := ⟨2, ![2048, 16]⟩
abbrev S16x2x8x1024 : Shape := ⟨4, ![16, 2, 8, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S16x2304x672 : Shape := ⟨3, ![16, 2304, 672]⟩
abbrev S16x2304x384 : Shape := ⟨3, ![16, 2304, 384]⟩
abbrev S16x2304x256 : Shape := ⟨3, ![16, 2304, 256]⟩
abbrev S16x2304x32 : Shape := ⟨3, ![16, 2304, 32]⟩
abbrev S16x2304 : Shape := ⟨2, ![16, 2304]⟩
abbrev S16x2304x1 : Shape := ⟨3, ![16, 2304, 1]⟩
abbrev S1x1x384 : Shape := ⟨3, ![1, 1, 384]⟩
abbrev S16x2304x1536 : Shape := ⟨3, ![16, 2304, 1536]⟩
abbrev S16x2304x16x96 : Shape := ⟨4, ![16, 2304, 16, 96]⟩
abbrev S1x1x256 : Shape := ⟨3, ![1, 1, 256]⟩
abbrev S16x2304x2048 : Shape := ⟨3, ![16, 2304, 2048]⟩
abbrev S16x2304x16x128 : Shape := ⟨4, ![16, 2304, 16, 128]⟩
abbrev S16x2048x16x96 : Shape := ⟨4, ![16, 2048, 16, 96]⟩
abbrev S16x2048x16x32 : Shape := ⟨4, ![16, 2048, 16, 32]⟩
abbrev S2048x1x16 : Shape := ⟨3, ![2048, 1, 16]⟩
abbrev S16x2048x16x16 : Shape := ⟨4, ![16, 2048, 16, 16]⟩
abbrev S2048x1x8 : Shape := ⟨3, ![2048, 1, 8]⟩
abbrev S16x2048x16x8 : Shape := ⟨4, ![16, 2048, 16, 8]⟩
abbrev S1x2048x1x8 : Shape := ⟨4, ![1, 2048, 1, 8]⟩
abbrev S16x2048x16x64 : Shape := ⟨4, ![16, 2048, 16, 64]⟩
abbrev S16x2048x16x128 : Shape := ⟨4, ![16, 2048, 16, 128]⟩
abbrev S16x256x16x96 : Shape := ⟨4, ![16, 256, 16, 96]⟩
abbrev S16x256x16x32 : Shape := ⟨4, ![16, 256, 16, 32]⟩
abbrev S16x256x16x128 : Shape := ⟨4, ![16, 256, 16, 128]⟩
abbrev S16x256x32 : Shape := ⟨3, ![16, 256, 32]⟩
abbrev S16x2048x32 : Shape := ⟨3, ![16, 2048, 32]⟩
abbrev S16x2048x16 : Shape := ⟨3, ![16, 2048, 16]⟩
abbrev S2048x8 : Shape := ⟨2, ![2048, 8]⟩
abbrev S16x2048x8 : Shape := ⟨3, ![16, 2048, 8]⟩
abbrev S1x2048x8 : Shape := ⟨3, ![1, 2048, 8]⟩
abbrev S16x2304x1x32 : Shape := ⟨4, ![16, 2304, 1, 32]⟩
abbrev S16x2304x16x32 : Shape := ⟨4, ![16, 2304, 16, 32]⟩
abbrev S16x2304x16x64 : Shape := ⟨4, ![16, 2304, 16, 64]⟩
abbrev S16x256x2048 : Shape := ⟨3, ![16, 256, 2048]⟩
abbrev S16x2048x2048 : Shape := ⟨3, ![16, 2048, 2048]⟩

abbrev nBuf : Space → Nat
  | .hbm => 230
  | .vmem => 0
  | .smem => 0
  | _ => 0

abbrev hbmTy0_0 (i : Nat) : BufTy := match i % 128 with
  | 0 => ⟨S16x2304x1024, .f32⟩
  | 1 => ⟨S32x8x1024, .f32⟩
  | 2 => ⟨S1024, .f32⟩
  | 3 => ⟨S1024x672, .f32⟩
  | 4 => ⟨S384, .f32⟩
  | 5 => ⟨S384x1536, .f32⟩
  | 6 => ⟨S256, .f32⟩
  | 7 => ⟨S256x2048, .f32⟩
  | 8 => ⟨S2048x16, .f32⟩
  | 9 => ⟨S2048x16, .f32⟩
  | 10 => ⟨S16x2x8x1024, .f32⟩
  | 11 => ⟨S16x256x1024, .f32⟩
  | 12 => ⟨S16x256x1024, .f32⟩
  | 13 => ⟨S_, .f32⟩
  | 14 => ⟨S16x256, .f32⟩
  | 15 => ⟨S16x256x1, .f32⟩
  | 16 => ⟨S_, .f32⟩
  | 17 => ⟨S16x256x1, .f32⟩
  | 18 => ⟨S16x256x1, .f32⟩
  | 19 => ⟨S_, .f32⟩
  | 20 => ⟨S16x256x1, .f32⟩
  | 21 => ⟨S16x256x1, .f32⟩
  | 22 => ⟨S16x256x1, .f32⟩
  | 23 => ⟨S16x256x1024, .f32⟩
  | 24 => ⟨S16x256x1024, .f32⟩
  | 25 => ⟨S1x1x1024, .f32⟩
  | 26 => ⟨S16x256x1024, .f32⟩
  | 27 => ⟨S16x256x1024, .f32⟩
  | 28 => ⟨S16x1x1x1024, .f32⟩
  | 29 => ⟨S16x1024, .f32⟩
  | 30 => ⟨S16x1x1024, .f32⟩
  | 31 => ⟨S_, .f32⟩
  | 32 => ⟨S16x1x1024, .f32⟩
  | 33 => ⟨S16x1x1024, .f32⟩
  | 34 => ⟨S16x256x1024, .f32⟩
  | 35 => ⟨S16x256x1024, .f32⟩
  | 36 => ⟨S16x1x1x1024, .f32⟩
  | 37 => ⟨S16x1024, .f32⟩
  | 38 => ⟨S16x1x1024, .f32⟩
  | 39 => ⟨S16x256x1024, .f32⟩
  | 40 => ⟨S16x256x1024, .f32⟩
  | 41 => ⟨S16x2048x1024, .f32⟩
  | 42 => ⟨S16x2048x1024, .f32⟩
  | 43 => ⟨S_, .f32⟩
  | 44 => ⟨S16x2048, .f32⟩
  | 45 => ⟨S16x2048x1, .f32⟩
  | 46 => ⟨S_, .f32⟩
  | 47 => ⟨S16x2048x1, .f32⟩
  | 48 => ⟨S16x2048x1, .f32⟩
  | 49 => ⟨S_, .f32⟩
  | 50 => ⟨S16x2048x1, .f32⟩
  | 51 => ⟨S16x2048x1, .f32⟩
  | 52 => ⟨S16x2048x1, .f32⟩
  | 53 => ⟨S16x2048x1024, .f32⟩
  | 54 => ⟨S16x2048x1024, .f32⟩
  | 55 => ⟨S1x1x1024, .f32⟩
  | 56 => ⟨S16x2048x1024, .f32⟩
  | 57 => ⟨S16x2048x1024, .f32⟩
  | 58 => ⟨S16x1x1x1024, .f32⟩
  | 59 => ⟨S16x1024, .f32⟩
  | 60 => ⟨S16x1x1024, .f32⟩
  | 61 => ⟨S_, .f32⟩
  | 62 => ⟨S16x1x1024, .f32⟩
  | 63 => ⟨S16x1x1024, .f32⟩
  | 64 => ⟨S16x2048x1024, .f32⟩
  | 65 => ⟨S16x2048x1024, .f32⟩
  | 66 => ⟨S16x1x1x1024, .f32⟩
  | 67 => ⟨S16x1024, .f32⟩
  | 68 => ⟨S16x1x1024, .f32⟩
  | 69 => ⟨S16x2048x1024, .f32⟩
  | 70 => ⟨S16x2048x1024, .f32⟩
  | 71 => ⟨S16x2304x1024, .f32⟩
  | 72 => ⟨S16x2304x672, .f32⟩
  | 73 => ⟨S16x2304x384, .f32⟩
  | 74 => ⟨S16x2304x256, .f32⟩
  | 75 => ⟨S16x2304x32, .f32⟩
  | 76 => ⟨S16x2304x384, .f32⟩
  | 77 => ⟨S_, .f32⟩
  | 78 => ⟨S16x2304, .f32⟩
  | 79 => ⟨S16x2304x1, .f32⟩
  | 80 => ⟨S_, .f32⟩
  | 81 => ⟨S16x2304x1, .f32⟩
  | 82 => ⟨S16x2304x1, .f32⟩
  | 83 => ⟨S_, .f32⟩
  | 84 => ⟨S16x2304x1, .f32⟩
  | 85 => ⟨S16x2304x1, .f32⟩
  | 86 => ⟨S16x2304x1, .f32⟩
  | 87 => ⟨S16x2304x384, .f32⟩
  | 88 => ⟨S16x2304x384, .f32⟩
  | 89 => ⟨S1x1x384, .f32⟩
  | 90 => ⟨S16x2304x384, .f32⟩
  | 91 => ⟨S16x2304x384, .f32⟩
  | 92 => ⟨S16x2304x1536, .f32⟩
  | 93 => ⟨S16x2304x16x96, .f32⟩
  | 94 => ⟨S16x2304x256, .f32⟩
  | 95 => ⟨S_, .f32⟩
  | 96 => ⟨S16x2304, .f32⟩
  | 97 => ⟨S16x2304x1, .f32⟩
  | 98 => ⟨S_, .f32⟩
  | 99 => ⟨S16x2304x1, .f32⟩
  | 100 => ⟨S16x2304x1, .f32⟩
  | 101 => ⟨S_, .f32⟩
  | 102 => ⟨S16x2304x1, .f32⟩
  | 103 => ⟨S16x2304x1, .f32⟩
  | 104 => ⟨S16x2304x1, .f32⟩
  | 105 => ⟨S16x2304x256, .f32⟩
  | 106 => ⟨S16x2304x256, .f32⟩
  | 107 => ⟨S1x1x256, .f32⟩
  | 108 => ⟨S16x2304x256, .f32⟩
  | 109 => ⟨S16x2304x256, .f32⟩
  | 110 => ⟨S16x2304x2048, .f32⟩
  | 111 => ⟨S16x2304x16x128, .f32⟩
  | 112 => ⟨S16x2048x16x96, .f32⟩
  | 113 => ⟨S16x2048x16x32, .f32⟩
  | 114 => ⟨S2048x1x16, .f32⟩
  | 115 => ⟨S2048x1x16, .f32⟩
  | 116 => ⟨S16x2048x16x16, .f32⟩
  | 117 => ⟨S2048x1x8, .f32⟩
  | 118 => ⟨S2048x1x8, .f32⟩
  | 119 => ⟨S16x2048x16x8, .f32⟩
  | 120 => ⟨S16x2048x16x8, .f32⟩
  | 121 => ⟨S1x2048x1x8, .f32⟩
  | 122 => ⟨S16x2048x16x8, .f32⟩
  | 123 => ⟨S16x2048x16x8, .f32⟩
  | 124 => ⟨S1x2048x1x8, .f32⟩
  | 125 => ⟨S16x2048x16x8, .f32⟩
  | 126 => ⟨S16x2048x16x8, .f32⟩
  | 127 => ⟨S16x2048x16x8, .f32⟩
  | _ => ⟨S16x2304x1024, .f32⟩

abbrev hbmTy0_1 (i : Nat) : BufTy := match i % 128 with
  | 0 => ⟨S1x2048x1x8, .f32⟩
  | 1 => ⟨S16x2048x16x8, .f32⟩
  | 2 => ⟨S16x2048x16x8, .f32⟩
  | 3 => ⟨S1x2048x1x8, .f32⟩
  | 4 => ⟨S16x2048x16x8, .f32⟩
  | 5 => ⟨S16x2048x16x8, .f32⟩
  | 6 => ⟨S16x2048x16x8, .f32⟩
  | 7 => ⟨S16x2048x16x16, .f32⟩
  | 8 => ⟨S16x2048x16x16, .f32⟩
  | 9 => ⟨S2048x1x8, .f32⟩
  | 10 => ⟨S2048x1x8, .f32⟩
  | 11 => ⟨S16x2048x16x8, .f32⟩
  | 12 => ⟨S16x2048x16x8, .f32⟩
  | 13 => ⟨S1x2048x1x8, .f32⟩
  | 14 => ⟨S16x2048x16x8, .f32⟩
  | 15 => ⟨S16x2048x16x8, .f32⟩
  | 16 => ⟨S1x2048x1x8, .f32⟩
  | 17 => ⟨S16x2048x16x8, .f32⟩
  | 18 => ⟨S16x2048x16x8, .f32⟩
  | 19 => ⟨S16x2048x16x8, .f32⟩
  | 20 => ⟨S1x2048x1x8, .f32⟩
  | 21 => ⟨S16x2048x16x8, .f32⟩
  | 22 => ⟨S16x2048x16x8, .f32⟩
  | 23 => ⟨S1x2048x1x8, .f32⟩
  | 24 => ⟨S16x2048x16x8, .f32⟩
  | 25 => ⟨S16x2048x16x8, .f32⟩
  | 26 => ⟨S16x2048x16x8, .f32⟩
  | 27 => ⟨S16x2048x16x16, .f32⟩
  | 28 => ⟨S16x2048x16x32, .f32⟩
  | 29 => ⟨S16x2048x16x64, .f32⟩
  | 30 => ⟨S_, .f32⟩
  | 31 => ⟨S16x2048x16x32, .f32⟩
  | 32 => ⟨S16x2048x16x128, .f32⟩
  | 33 => ⟨S_, .f32⟩
  | 34 => ⟨S16x2048x16x128, .f32⟩
  | 35 => ⟨S16x2048x16x128, .f32⟩
  | 36 => ⟨S16x256x16x96, .f32⟩
  | 37 => ⟨S_, .f32⟩
  | 38 => ⟨S16x256x16x32, .f32⟩
  | 39 => ⟨S16x256x16x128, .f32⟩
  | 40 => ⟨S_, .f32⟩
  | 41 => ⟨S16x256x16x128, .f32⟩
  | 42 => ⟨S16x256x16x128, .f32⟩
  | 43 => ⟨S16x256x32, .f32⟩
  | 44 => ⟨S16x2048x32, .f32⟩
  | 45 => ⟨S16x2048x16, .f32⟩
  | 46 => ⟨S2048x8, .f32⟩
  | 47 => ⟨S2048x8, .f32⟩
  | 48 => ⟨S16x2048x8, .f32⟩
  | 49 => ⟨S16x2048x8, .f32⟩
  | 50 => ⟨S1x2048x8, .f32⟩
  | 51 => ⟨S16x2048x8, .f32⟩
  | 52 => ⟨S16x2048x8, .f32⟩
  | 53 => ⟨S1x2048x8, .f32⟩
  | 54 => ⟨S16x2048x8, .f32⟩
  | 55 => ⟨S16x2048x8, .f32⟩
  | 56 => ⟨S16x2048x8, .f32⟩
  | 57 => ⟨S1x2048x8, .f32⟩
  | 58 => ⟨S16x2048x8, .f32⟩
  | 59 => ⟨S16x2048x8, .f32⟩
  | 60 => ⟨S1x2048x8, .f32⟩
  | 61 => ⟨S16x2048x8, .f32⟩
  | 62 => ⟨S16x2048x8, .f32⟩
  | 63 => ⟨S16x2048x8, .f32⟩
  | 64 => ⟨S16x2048x16, .f32⟩
  | 65 => ⟨S16x2048x16, .f32⟩
  | 66 => ⟨S2048x8, .f32⟩
  | 67 => ⟨S2048x8, .f32⟩
  | 68 => ⟨S16x2048x8, .f32⟩
  | 69 => ⟨S16x2048x8, .f32⟩
  | 70 => ⟨S1x2048x8, .f32⟩
  | 71 => ⟨S16x2048x8, .f32⟩
  | 72 => ⟨S16x2048x8, .f32⟩
  | 73 => ⟨S1x2048x8, .f32⟩
  | 74 => ⟨S16x2048x8, .f32⟩
  | 75 => ⟨S16x2048x8, .f32⟩
  | 76 => ⟨S16x2048x8, .f32⟩
  | 77 => ⟨S1x2048x8, .f32⟩
  | 78 => ⟨S16x2048x8, .f32⟩
  | 79 => ⟨S16x2048x8, .f32⟩
  | 80 => ⟨S1x2048x8, .f32⟩
  | 81 => ⟨S16x2048x8, .f32⟩
  | 82 => ⟨S16x2048x8, .f32⟩
  | 83 => ⟨S16x2048x8, .f32⟩
  | 84 => ⟨S16x2048x16, .f32⟩
  | 85 => ⟨S16x2048x32, .f32⟩
  | 86 => ⟨S16x2304x32, .f32⟩
  | 87 => ⟨S16x2304x1x32, .f32⟩
  | 88 => ⟨S16x2304x16x32, .f32⟩
  | 89 => ⟨S16x2304x16x64, .f32⟩
  | 90 => ⟨S_, .f32⟩
  | 91 => ⟨S16x2304x16x32, .f32⟩
  | 92 => ⟨S16x2304x16x128, .f32⟩
  | 93 => ⟨S16x256x2048, .f32⟩
  | 94 => ⟨S16x256x2048, .bf16⟩
  | 95 => ⟨S16x2048x2048, .f32⟩
  | 96 => ⟨S16x2048x2048, .bf16⟩
  | 97 => ⟨S16x2304x2048, .f32⟩
  | 98 => ⟨S16x2304x2048, .bf16⟩
  | 99 => ⟨S16x2304x16x64, .f32⟩
  | 100 => ⟨S16x2304x1024, .f32⟩
  | 101 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_13 : Ref sig .tc := ⟨.hbm, 158, rfl⟩
abbrev main_v134 : Ref sig .tc := ⟨.hbm, 159, rfl⟩
abbrev main_v135 : Ref sig .tc := ⟨.hbm, 160, rfl⟩
abbrev main_cst_14 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_15 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_cst_17 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩

abbrev nD : Nat := 1
abbrev τ : Topo := Topo.v7x

variable {F : FTy → Type} [FloatOps F]
-- ==== Kernel7.lean ====
abbrev S16x256x2048 : Shape := ⟨3, ![16, 256, 2048]⟩
abbrev S16x2304x2048 : Shape := ⟨3, ![16, 2304, 2048]⟩
abbrev S16x2304x1024 : Shape := ⟨3, ![16, 2304, 1024]⟩
abbrev S16x256x1024 : Shape := ⟨3, ![16, 256, 1024]⟩
abbrev S1x256x256 : Shape := ⟨3, ![1, 256, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x256x2048, .bf16⟩
  | .hbm, ⟨1, _⟩ => ⟨S16x2304x2048, .bf16⟩
  | .hbm, ⟨2, _⟩ => ⟨S16x2304x1024, .bf16⟩
  | .hbm, ⟨3, _⟩ => ⟨S16x256x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S16x256x2048 : Shape := ⟨3, ![16, 256, 2048]⟩
abbrev S16x2304x2048 : Shape := ⟨3, ![16, 2304, 2048]⟩
abbrev S16x2304x1024 : Shape := ⟨3, ![16, 2304, 1024]⟩
abbrev S16x256x1024 : Shape := ⟨3, ![16, 256, 1024]⟩
abbrev S16x256x16x128 : Shape := ⟨4, ![16, 256, 16, 128]⟩
abbrev S16x256x16x64 : Shape := ⟨4, ![16, 256, 16, 64]⟩
abbrev S16x16x256x256 : Shape := ⟨4, ![16, 16, 256, 256]⟩
abbrev S_ : Shape := ⟨0, ![]⟩
abbrev S16x16x256 : Shape := ⟨3, ![16, 16, 256]⟩
abbrev S16x16x256x1 : Shape := ⟨4, ![16, 16, 256, 1]⟩
abbrev S16x16x64x256 : Shape := ⟨4, ![16, 16, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S16x256x2048, .bf16⟩
  | .hbm, ⟨1, _⟩ => ⟨S16x2304x2048, .bf16⟩
  | .hbm, ⟨2, _⟩ => ⟨S16x2304x1024, .bf16⟩
  | .hbm, ⟨3, _⟩ => ⟨S16x256x2048, .bf16⟩
  | .hbm, ⟨4, _⟩ => ⟨S16x256x1024, .bf16⟩
  | .hbm, ⟨5, _⟩ => ⟨S16x256x2048, .f32⟩
  | .hbm, ⟨6, _⟩ => ⟨S16x256x16x128, .f32⟩
  | .hbm, ⟨7, _⟩ => ⟨S16x256x2048, .f32⟩
  | .hbm, ⟨8, _⟩ => ⟨S16x256x16x128, .f32⟩
  | .hbm, ⟨9, _⟩ => ⟨S16x256x1024, .f32⟩
  | .hbm, ⟨10, _⟩ => ⟨S16x256x16x64, .f32⟩
  | .hbm, ⟨11, _⟩ => ⟨S16x16x256x256, .f32⟩
  | .hbm, ⟨12, _⟩ => ⟨S_, .f32⟩
  | .hbm, ⟨13, _⟩ => ⟨S16x16x256, .f32⟩
  | .hbm, ⟨14, _⟩ => ⟨S_, .f32⟩
  | .hbm, ⟨15, _⟩ => ⟨S16x16x256, .f32⟩
  | .hbm, ⟨16, _⟩ => ⟨S16x16x256, .f32⟩
  | .hbm, ⟨17, _⟩ => ⟨S16x16x256x1, .f32⟩
  | .hbm, ⟨18, _⟩ => ⟨S16x16x256x256, .f32⟩
  | .hbm, ⟨19, _⟩ => ⟨S16x16x256x256, .f32⟩
  | .hbm, ⟨20, _⟩ => ⟨S16x16x256x256, .f32⟩
  | .hbm, ⟨21, _⟩ => ⟨S_, .f32⟩
  | .hbm, ⟨22, _⟩ => ⟨S16x16x256, .f32⟩
  | .hbm, ⟨23, _⟩ => ⟨S16x16x256x1, .f32⟩
  | .hbm, ⟨24, _⟩ => ⟨S16x16x256x256, .f32⟩
  | .hbm, ⟨25, _⟩ => ⟨S16x16x256x256, .f32⟩
  | .hbm, ⟨26, _⟩ => ⟨S16x16x64x256, .f32⟩
  | .hbm, ⟨27, _⟩ => ⟨S16x256x16x64, .f32⟩
  | .hbm, ⟨28, _⟩ => ⟨S16x256x1024, .f32⟩
  | .hbm, ⟨29, _⟩ => ⟨S16x256x1024, .bf16⟩
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel8.lean ====
abbrev S16x2304x1024 : Shape := ⟨3, ![16, 2304, 1024]⟩
abbrev S16x256x1024 : Shape := ⟨3, ![16, 256, 1024]⟩
abbrev S1024x1024 : Shape := ⟨2, ![1024, 1024]⟩
abbrev S32x8x1024 : Shape := ⟨3, ![32, 8, 1024]⟩
abbrev S1x256x1024 : Shape := ⟨3, ![1, 256, 1024]⟩
abbrev S2x8x1024 : Shape := ⟨3, ![2, 8, 1024]⟩
abbrev S256x1 : Shape := ⟨2, ![256, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2304x1024, .f32⟩
  | .hbm, ⟨1, _⟩ => ⟨S16x256x1024, .bf16⟩
  | .hbm, ⟨2, _⟩ => ⟨S1024x1024, .f32⟩
  | .hbm, ⟨3, _⟩ => ⟨S32x8x1024, .f32⟩
  | .hbm, ⟨4, _⟩ => ⟨S1024x1024, .bf16⟩
  | .hbm, ⟨5, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S2x8x1024, .f32⟩
  | .local _ .vmem, ⟨6, _⟩ => ⟨S2x8x1024, .f32⟩
  | .local _ .vmem, ⟨7, _⟩ => ⟨S1x256x1024, .f32⟩
  | .local _ .vmem, ⟨8, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S16x2304x1024 : Shape := ⟨3, ![16, 2304, 1024]⟩
abbrev S16x256x1024 : Shape := ⟨3, ![16, 256, 1024]⟩
abbrev S1024x1024 : Shape := ⟨2, ![1024, 1024]⟩
abbrev S32x8x1024 : Shape := ⟨3, ![32, 8, 1024]⟩
abbrev S16x2x8x1024 : Shape := ⟨4, ![16, 2, 8, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x256x1024, .bf16⟩
  | .hbm, ⟨2, _⟩ => ⟨S1024x1024, .f32⟩
  | .hbm, ⟨3, _⟩ => ⟨S32x8x1024, .f32⟩
  | .hbm, ⟨4, _⟩ => ⟨S16x2x8x1024, .f32⟩
  | .hbm, ⟨5, _⟩ => ⟨S16x256x1024, .f32⟩
  | .hbm, ⟨6, _⟩ => ⟨S16x1x1x1024, .f32⟩
  | .hbm, ⟨7, _⟩ => ⟨S16x1024, .f32⟩
  | .hbm, ⟨8, _⟩ => ⟨S16x1x1024, .f32⟩
  | .hbm, ⟨9, _⟩ => ⟨S16x256x1024, .f32⟩
  | .hbm, ⟨10, _⟩ => ⟨S16x256x1024, .f32⟩
  | .hbm, ⟨11, _⟩ => ⟨S16x256x1024, .f32⟩
  | .hbm, ⟨12, _⟩ => ⟨S16x256x1024, .f32⟩
  | .hbm, ⟨13, _⟩ => ⟨S16x256x1024, .f32⟩
  | .hbm, ⟨14, _⟩ => ⟨S16x2048x1024, .f32⟩
  | .hbm, ⟨15, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel9.lean ====
abbrev S16x2304x1024 : Shape := ⟨3, ![16, 2304, 1024]⟩
abbrev S1024 : Shape := ⟨1, ![1024]⟩
abbrev S1x1024 : Shape := ⟨2, ![1, 1024]⟩
abbrev S16x2048x1024 : Shape := ⟨3, ![16, 2048, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S1x1024, .f32⟩
  | .hbm, ⟨3, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x256x1024, .f32⟩
  | .local _ .vmem, ⟨4, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16x2304x1024 : Shape := ⟨3, ![16, 2304, 1024]⟩
abbrev S1024 : Shape := ⟨1, ![1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S1024, .f32⟩
  | .hbm, ⟨2, _⟩ => ⟨S16x2048x1024, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S24x1024 : Shape := ⟨2, ![24, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x24x6144 : Shape := ⟨3, ![4, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S24x1024 : Shape := ⟨2, ![24, 1024]⟩
abbrev S4x1024x6144 : Shape := ⟨3, ![4, 1024, 6144]⟩
abbrev S4x6144 : Shape := ⟨2, ![4, 6144]⟩
abbrev S_ : Shape := ⟨0, ![]⟩
abbrev S24x4x6144 : Shape := ⟨3, ![24, 4, 6144]⟩
abbrev S4x24x6144 : Shape := ⟨3, ![4, 24, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S4x1024x6144, .f32⟩
  | .hbm, ⟨2, _⟩ => ⟨S4x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S24x4x6144, .f32⟩
  | .hbm, ⟨13, _⟩ => ⟨S4x24x6144, .f32⟩
  | .hbm, ⟨14, _⟩ => ⟨S4x1x6144, .f32⟩
  | .hbm, ⟨15, _⟩ => ⟨S4x24x6144, .f32⟩
  | .hbm, ⟨16, _⟩ => ⟨S4x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S2x64x64 : Shape := ⟨3, ![2, 64, 64]⟩
abbrev S2x64x64x16 : Shape := ⟨4, ![2, 64, 64, 16]⟩
abbrev S2x64 : Shape := ⟨2, ![2, 64]⟩
abbrev S2x64x1 : Shape := ⟨3, ![2, 64, 1]⟩
abbrev S2x16x64x64 : Shape := ⟨4, ![2, 16, 64, 64]⟩
abbrev S1x64x64 : Shape := ⟨3, ![1, 64, 64]⟩
abbrev S1x64x1 : Shape := ⟨3, ![1, 64, 1]⟩
abbrev S1x16x64x64 : Shape := ⟨4, ![1, 16, 64, 64]⟩
abbrev S64x64 : Shape := ⟨2, ![64, 64]⟩
abbrev S64x1 : Shape := ⟨2, ![64, 1]⟩
abbrev S1x1x64x64 : Shape := ⟨4, ![1, 1, 64, 64]⟩

abbrev nBuf : Space → Nat
  | .hbm => 12
  | .vmem => 18
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64x16, .f32⟩
  | .hbm, ⟨3, _⟩ => ⟨S2x64x64x16, .f32⟩
  | .hbm, ⟨4, _⟩ => ⟨S2x64, .f32⟩
  | .hbm, ⟨5, _⟩ => ⟨S2x64x1, .f32⟩
  | .hbm, ⟨6, _⟩ => ⟨S2x16x64x64, .f32⟩
  | .hbm, ⟨7, _⟩ => ⟨S2x16x64x64, .f32⟩
  | .hbm, ⟨8, _⟩ => ⟨S2x64x64, .f32⟩
  | .hbm, ⟨9, _⟩ => ⟨S2x64x64, .f32⟩
  | .hbm, ⟨10, _⟩ => ⟨S2x16x64x64, .f32⟩
  | .hbm, ⟨11, _⟩ => ⟨S2x16x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x1, .f32⟩
  | .local _ .vmem, ⟨5, _⟩ => ⟨S1x64x1, .f32⟩
  | .local _ .vmem, ⟨6, _⟩ => ⟨S1x16x64x64, .f32⟩
  | .local _ .vmem, ⟨7, _⟩ => ⟨S1x16x64x64, .f32⟩
  | .local _ .vmem, ⟨8, _⟩ => ⟨S1x16x64x64, .f32⟩
  | .local _ .vmem, ⟨9, _⟩ => ⟨S1x16x64x64, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x16x64x64, .f32⟩
  | .local _ .vmem, ⟨15, _⟩ => ⟨S1x16x64x64, .f32⟩
  | .local _ .vmem, ⟨16, _⟩ => ⟨S1x16x64x64, .f32⟩
  | .local _ .vmem, ⟨17, _⟩ => ⟨S1x16x64x64, .f32⟩
  | _, _ => ⟨S2x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2x64x64 : Shape := ⟨3, ![2, 64, 64]⟩
abbrev S2x64x64x16 : Shape := ⟨4, ![2, 64, 64, 16]⟩
abbrev S2x64 : Shape := ⟨2, ![2, 64]⟩
abbrev S2x64x1 : Shape := ⟨3, ![2, 64, 1]⟩
abbrev S_ : Shape := ⟨0, ![]⟩
abbrev S2x64x64x1 : Shape := ⟨4, ![2, 64, 64, 1]⟩
abbrev S2x16x64x64 : Shape := ⟨4, ![2, 16, 64, 64]⟩

abbrev nBuf : Space → Nat
  | .hbm => 51
  | .vmem => 0
  | .smem => 0
  | _ => 0

abbrev bufTy : (tb : Table) → Fin (tcTables nBuf tb) → BufTy
  | .hbm, ⟨0, _⟩ => ⟨S2x64x64, .f32⟩
  | .hbm, ⟨1, _⟩ => ⟨S2x64x64, .f32⟩
  | .hbm, ⟨2, _⟩ => ⟨S2x64x64x16, .f32⟩
  | .hbm, ⟨3, _⟩ => ⟨S2x64x64x16, .f32⟩
  | .hbm, ⟨4, _⟩ => ⟨S2x64, .f32⟩
  | .hbm, ⟨5, _⟩ => ⟨S2x64, .f32⟩
  | .hbm, ⟨6, _⟩ => ⟨S2x64x1, .f32⟩
  | .hbm, ⟨7, _⟩ => ⟨S2x64x64, .f32⟩
  | .hbm, ⟨8, _⟩ => ⟨S2x64x64, .f32⟩
  | .hbm, ⟨9, _⟩ => ⟨S2x64x64, .f32⟩
  | .hbm, ⟨10, _⟩ => ⟨S2x64x64, .f32⟩
  | .hbm, ⟨11, _⟩ => ⟨S2x64x64, .f32⟩
  | .hbm, ⟨12, _⟩ => ⟨S2x64x64, .f32⟩
  | .hbm, ⟨13, _⟩ => ⟨S2x64x64, .f32⟩
  | .hbm, ⟨14, _⟩ => ⟨S2x64x64, .f32⟩
  | .hbm, ⟨15, _⟩ => ⟨S2x64x64, .f32⟩
  | .hbm, ⟨16, _⟩ => ⟨S2x64x64, .f32⟩
  | .hbm, ⟨17, _⟩ => ⟨S2x64x64, .f32⟩
  | .hbm, ⟨18, _⟩ => ⟨S2x64x64, .f32⟩
  | .hbm, ⟨19, _⟩ => ⟨S2x64x64, .f32⟩
  | .hbm, ⟨20, _⟩ => ⟨S2x64x64, .f32⟩
  | .hbm, ⟨21, _⟩ => ⟨S_, .f32⟩
  | .hbm, ⟨22, _⟩ => ⟨S2x64x64, .f32⟩
  | .hbm, ⟨23, _⟩ => ⟨S2x64x64, .f32⟩
  | .hbm, ⟨24, _⟩ => ⟨S2x64x64, .f32⟩
  | .hbm, ⟨25, _⟩ => ⟨S2x64x64, .f32⟩
  | .hbm, ⟨26, _⟩ => ⟨S2x64x64, .f32⟩
  | .hbm, ⟨27, _⟩ => ⟨S2x64x64, .f32⟩
  | .hbm, ⟨28, _⟩ => ⟨S2x64x64, .f32⟩
  | .hbm, ⟨29, _⟩ => ⟨S_, .f32⟩
  | .hbm, ⟨30, _⟩ => ⟨S2x64x64, .f32⟩
  | .hbm, ⟨31, _⟩ => ⟨S2x64x64, .f32⟩
  | .hbm, ⟨32, _⟩ => ⟨S2x64x64, .f32⟩
  | .hbm, ⟨33, _⟩ => ⟨S2x64x64, .f32⟩
  | .hbm, ⟨34, _⟩ => ⟨S2x64x64, .f32⟩
  | .hbm, ⟨35, _⟩ => ⟨S2x64x64x1, .f32⟩
  | .hbm, ⟨36, _⟩ => ⟨S2x64x64x16, .f32⟩
  | .hbm, ⟨37, _⟩ => ⟨S2x64x64x16, .f32⟩
  | .hbm, ⟨38, _⟩ => ⟨S2x64x64x1, .f32⟩
  | .hbm, ⟨39, _⟩ => ⟨S2x64x64x16, .f32⟩
  | .hbm, ⟨40, _⟩ => ⟨S2x64x64x16, .f32⟩
  | .hbm, ⟨41, _⟩ => ⟨S2x64x64x16, .f32⟩
  | .hbm, ⟨42, _⟩ => ⟨S2x64x64x1, .f32⟩
  | .hbm, ⟨43, _⟩ => ⟨S2x64x64x16, .f32⟩
  | .hbm, ⟨44, _⟩ => ⟨S2x64x64x16, .f32⟩
  | .hbm, ⟨45, _⟩ => ⟨S2x64x64x1, .f32⟩
  | .hbm, ⟨46, _⟩ => ⟨S2x64x64x16, .f32⟩
  | .hbm, ⟨47, _⟩ => ⟨S2x64x64x16, .f32⟩
  | .hbm, ⟨48, _⟩ => ⟨S2x64x64x16, .f32⟩
  | .hbm, ⟨49, _⟩ => ⟨S2x16x64x64, .f32⟩
  | .hbm, ⟨50, _⟩ => ⟨S2x16x64x64, .f32⟩
  | _, _ => ⟨S2x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Kernel12.lean ====
abbrev S16x2304x1024 : Shape := ⟨3, ![16, 2304, 1024]⟩
abbrev S32x8x1024 : Shape := ⟨3, ![32, 8, 1024]⟩
abbrev S1024 : Shape := ⟨1, ![1024]⟩
abbrev S1x1024 : Shape := ⟨2, ![1, 1024]⟩
abbrev S2304x16384 : Shape := ⟨2, ![2304, 16384]⟩
abbrev S1x256x1024 : Shape := ⟨3, ![1, 256, 1024]⟩
abbrev S2x8x1024 : Shape := ⟨3, ![2, 8, 1024]⟩
abbrev S256x1024 : Shape := ⟨2, ![256, 1024]⟩
abbrev S256x1 : Shape := ⟨2, ![256, 1]⟩
abbrev S256 : Shape := ⟨1, ![256]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S1x1024, .f32⟩
  | .hbm, ⟨4, _⟩ => ⟨S2304x16384, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2x8x1024, .f32⟩
  | .local _ .vmem, ⟨4, _⟩ => ⟨S2x8x1024, .f32⟩
  | .local _ .vmem, ⟨5, _⟩ => ⟨S256x1024, .bf16⟩
  | .local _ .vmem, ⟨6, _⟩ => ⟨S256x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16x2304x1024 : Shape := ⟨3, ![16, 2304, 1024]⟩
abbrev S32x8x1024 : Shape := ⟨3, ![32, 8, 1024]⟩
abbrev S1024 : Shape := ⟨1, ![1024]⟩
abbrev S16x2x8x1024 : Shape := ⟨4, ![16, 2, 8, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S2304x16x1024 : Shape := ⟨3, ![2304, 16, 1024]⟩
abbrev S2304x16384 : Shape := ⟨2, ![2304, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S16x2x8x1024, .f32⟩
  | .hbm, ⟨4, _⟩ => ⟨S16x256x1024, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S16x1x1x1024, .f32⟩
  | .hbm, ⟨22, _⟩ => ⟨S16x1024, .f32⟩
  | .hbm, ⟨23, _⟩ => ⟨S16x1x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x256x1024, .f32⟩
  | .hbm, ⟨28, _⟩ => ⟨S16x256x1024, .f32⟩
  | .hbm, ⟨29, _⟩ => ⟨S16x1x1x1024, .f32⟩
  | .hbm, ⟨30, _⟩ => ⟨S16x1024, .f32⟩
  | .hbm, ⟨31, _⟩ => ⟨S16x1x1024, .f32⟩
  | .hbm, ⟨32, _⟩ => ⟨S16x256x1024, .f32⟩
  | .hbm, ⟨33, _⟩ => ⟨S16x256x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S16x1x1x1024, .f32⟩
  | .hbm, ⟨52, _⟩ => ⟨S16x1024, .f32⟩
  | .hbm, ⟨53, _⟩ => ⟨S16x1x1024, .f32⟩
  | .hbm, ⟨54, _⟩ => ⟨S_, .f32⟩
  | .hbm, ⟨55, _⟩ => ⟨S16x1x1024, .f32⟩
  | .hbm, ⟨56, _⟩ => ⟨S16x1x1024, .f32⟩
  | .hbm, ⟨57, _⟩ => ⟨S16x2048x1024, .f32⟩
  | .hbm, ⟨58, _⟩ => ⟨S16x2048x1024, .f32⟩
  | .hbm, ⟨59, _⟩ => ⟨S16x1x1x1024, .f32⟩
  | .hbm, ⟨60, _⟩ => ⟨S16x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x2304x1024, .f32⟩
  | .hbm, ⟨65, _⟩ => ⟨S2304x16x1024, .f32⟩
  | .hbm, ⟨66, _⟩ => ⟨S2304x16384, .f32⟩
  | .hbm, ⟨67, _⟩ => ⟨S2304x16384, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Kernel13.lean ====
abbrev S16x2304x1024 : Shape := ⟨3, ![16, 2304, 1024]⟩
abbrev S32x8x1024 : Shape := ⟨3, ![32, 8, 1024]⟩
abbrev S1024 : Shape := ⟨1, ![1024]⟩
abbrev S1024x1024 : Shape := ⟨2, ![1024, 1024]⟩
abbrev S8x2x128x64 : Shape := ⟨4, ![8, 2, 128, 64]⟩
abbrev S16x128x64 : Shape := ⟨3, ![16, 128, 64]⟩
abbrev S1x1024 : Shape := ⟨2, ![1, 1024]⟩
abbrev S1024x36864 : Shape := ⟨2, ![1024, 36864]⟩
abbrev S8x128x36864 : Shape := ⟨3, ![8, 128, 36864]⟩
abbrev S8x36864 : Shape := ⟨2, ![8, 36864]⟩
abbrev S1x768x1024 : Shape := ⟨3, ![1, 768, 1024]⟩
abbrev S2x8x1024 : Shape := ⟨3, ![2, 8, 1024]⟩
abbrev S1024x768 : Shape := ⟨2, ![1024, 768]⟩
abbrev S8x128x768 : Shape := ⟨3, ![8, 128, 768]⟩
abbrev S8x768 : Shape := ⟨2, ![8, 768]⟩
abbrev S16x128x768 : Shape := ⟨3, ![16, 128, 768]⟩
abbrev S768x1 : Shape := ⟨2, ![768, 1]⟩
abbrev S768x1024 : Shape := ⟨2, ![768, 1024]⟩
abbrev S768 : Shape := ⟨1, ![768]⟩
abbrev S1x1x1024 : Shape := ⟨3, ![1, 1, 1024]⟩
abbrev S1x128x64 : Shape := ⟨3, ![1, 128, 64]⟩
abbrev S128x64 : Shape := ⟨2, ![128, 64]⟩
abbrev S64x768 : Shape := ⟨2, ![64, 768]⟩
abbrev S128x768 : Shape := ⟨2, ![128, 768]⟩
abbrev S1x128x768 : Shape := ⟨3, ![1, 128, 768]⟩
abbrev S1x128x128 : Shape := ⟨3, ![1, 128, 128]⟩
abbrev S128x128 : Shape := ⟨2, ![128, 128]⟩
abbrev S8x128 : Shape := ⟨2, ![8, 128]⟩
abbrev S1x128 : Shape := ⟨2, ![1, 128]⟩
abbrev S1x768 : Shape := ⟨2, ![1, 768]⟩

abbrev nBuf : Space → Nat
  | .hbm => 14
  | .vmem => 16
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S1024x1024, .f32⟩
  | .hbm, ⟨4, _⟩ => ⟨S8x2x128x64, .f32⟩
  | .hbm, ⟨5, _⟩ => ⟨S1024x1024, .f32⟩
  | .hbm, ⟨6, _⟩ => ⟨S1024x1024, .bf16⟩
  | .hbm, ⟨7, _⟩ => ⟨S16x128x64, .f32⟩
  | .hbm, ⟨8, _⟩ => ⟨S16x128x64, .bf16⟩
  | .hbm, ⟨9, _⟩ => ⟨S1x1024, .f32⟩
  | .hbm, ⟨10, _⟩ => ⟨S1024x36864, .bf16⟩
  | .hbm, ⟨11, _⟩ => ⟨S8x128x36864, .f32⟩
  | .hbm, ⟨12, _⟩ => ⟨S8x128x36864, .f32⟩
  | .hbm, ⟨13, _⟩ => ⟨S8x36864, .f32⟩
  | .local _ .vmem, ⟨0, _⟩ => ⟨S1x768x1024, .f32⟩
  | .local _ .vmem, ⟨1, _⟩ => ⟨S1x768x1024, .f32⟩
  | .local _ .vmem, ⟨2, _⟩ => ⟨S1x1024, .f32⟩
  | .local _ .vmem, ⟨3, _⟩ => ⟨S2x8x1024, .f32⟩
  | .local _ .vmem, ⟨4, _⟩ => ⟨S2x8x1024, .f32⟩
  | .local _ .vmem, ⟨5, _⟩ => ⟨S1024x1024, .bf16⟩
  | .local _ .vmem, ⟨6, _⟩ => ⟨S16x128x64, .bf16⟩
  | .local _ .vmem, ⟨7, _⟩ => ⟨S1024x768, .bf16⟩
  | .local _ .vmem, ⟨8, _⟩ => ⟨S1024x768, .bf16⟩
  | .local _ .vmem, ⟨9, _⟩ => ⟨S8x128x768, .f32⟩
  | .local _ .vmem, ⟨10, _⟩ => ⟨S8x128x768, .f32⟩
  | .local _ .vmem, ⟨11, _⟩ => ⟨S8x128x768, .f32⟩
  | .local _ .vmem, ⟨12, _⟩ => ⟨S8x128x768, .f32⟩
  | .local _ .vmem, ⟨13, _⟩ => ⟨S8x768, .f32⟩
  | .local _ .vmem, ⟨14, _⟩ => ⟨S8x768, .f32⟩
  | .local _ .vmem, ⟨15, _⟩ => ⟨S16x128x768, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 3], ![false, false]⟩

@[reducible] def k0_t1_loop : Scf.Loop 32 :=
  let c0_i32 : BitVec 32 := 0#32
  let c8_i32 : BitVec 32 := 8#32
  let v169 : BitVec 32 := Scalar.addi c0_i32 c8_i32
  let c1_i32 : BitVec 32 := 1#32
  ⟨c0_i32, v169, c1_i32⟩
def k0_off1 (k0_t1 : Fin k0_t1_loop.trips) : Fin 3 → Nat :=
  let c2_i32 : BitVec 32 := 2#32
  let c0_i32 : BitVec 32 := 0#32
  let c1_i32 : BitVec 32 := 1#32
  let arg12 : BitVec 32 := Scf.iv c0_i32 c1_i32 k0_t1
  let v172 : BitVec 32 := Scalar.muli c2_i32 arg12
  let v173 : Index := Scalar.indexCast v172
  let c0_125 : Index := 0#32
  let c0_126 : Index := 0#32
  ![v173.toNat, 0, 0]
def k0_off2 (k0_t1 : Fin k0_t1_loop.trips) : Fin 3 → Nat :=
  let c2_i32_127 : BitVec 32 := 2#32
  let c0_i32 : BitVec 32 := 0#32
  let c1_i32 : BitVec 32 := 1#32
  let arg12 : BitVec 32 := Scf.iv c0_i32 c1_i32 k0_t1
  let v176 : BitVec 32 := Scalar.muli c2_i32_127 arg12
  let c1_i32_128 : BitVec 32 := 1#32
  let v177 : BitVec 32 := Scalar.addi v176 c1_i32_128
  let v178 : Index := Scalar.indexCast v177
  let c0_129 : Index := 0#32
  let c0_130 : Index := 0#32
  ![v178.toNat, 0, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v1574 : Index := Scalar.indexCast arg12
  let c0_382 : Index := 0#32
  let c0_383 : Index := 0#32
  ![v1574.toNat, 0, 0]
def k0_off4 (k0_t1 : Fin k0_t1_loop.trips) : Fin 3 → Nat :=
  let c2_i32_386 : BitVec 32 := 2#32
  let c0_i32 : BitVec 32 := 0#32
  let c1_i32 : BitVec 32 := 1#32
  let arg12 : BitVec 32 := Scf.iv c0_i32 c1_i32 k0_t1
  let v1590 : BitVec 32 := Scalar.muli c2_i32_386 arg12
  let v1591 : Index := Scalar.indexCast v1590
  let c0_387 : Index := 0#32
  let c128 : Index := 128#32
  ![v1591.toNat, 0, 128]
def k0_off5 (k0_t1 : Fin k0_t1_loop.trips) : Fin 3 → Nat :=
  let c2_i32_388 : BitVec 32 := 2#32
  let c0_i32 : BitVec 32 := 0#32
  let c1_i32 : BitVec 32 := 1#32
  let arg12 : BitVec 32 := Scf.iv c0_i32 c1_i32 k0_t1
  let v1594 : BitVec 32 := Scalar.muli c2_i32_388 arg12
  let c1_i32_389 : BitVec 32 := 1#32
  let v1595 : BitVec 32 := Scalar.addi v1594 c1_i32_389
  let v1596 : Index := Scalar.indexCast v1595
  let c0_390 : Index := 0#32
  let c128_391 : Index := 128#32
  ![v1596.toNat, 0, 128]
def k0_off6 (k0_t1 : Fin k0_t1_loop.trips) : Fin 3 → Nat :=
  let c0_i32 : BitVec 32 := 0#32
  let c1_i32 : BitVec 32 := 1#32
  let arg12 : BitVec 32 := Scf.iv c0_i32 c1_i32 k0_t1
  let v2992 : Index := Scalar.indexCast arg12
  let c0_657 : Index := 0#32
  let c128_658 : Index := 128#32
  ![v2992.toNat, 0, 128]
def k0_off7 (k0_t1 : Fin k0_t1_loop.trips) : Fin 3 → Nat :=
  let c2_i32_661 : BitVec 32 := 2#32
  let c0_i32 : BitVec 32 := 0#32
  let c1_i32 : BitVec 32 := 1#32
  let arg12 : BitVec 32 := Scf.iv c0_i32 c1_i32 k0_t1
  let v3008 : BitVec 32 := Scalar.muli c2_i32_661 arg12
  let v3009 : Index := Scalar.indexCast v3008
  let c0_662 : Index := 0#32
  let c256 : Index := 256#32
  ![v3009.toNat, 0, 256]
def k0_off8 (k0_t1 : Fin k0_t1_loop.trips) : Fin 3 → Nat :=
  let c2_i32_663 : BitVec 32 := 2#32
  let c0_i32 : BitVec 32 := 0#32
  let c1_i32 : BitVec 32 := 1#32
  let arg12 : BitVec 32 := Scf.iv c0_i32 c1_i32 k0_t1
  let v3012 : BitVec 32 := Scalar.muli c2_i32_663 arg12
  let c1_i32_664 : BitVec 32 := 1#32
  let v3013 : BitVec 32 := Scalar.addi v3012 c1_i32_664
  let v3014 : Index := Scalar.indexCast v3013
  let c0_665 : Index := 0#32
  let c256_666 : Index := 256#32
  ![v3014.toNat, 0, 256]
def k0_off9 (k0_t1 : Fin k0_t1_loop.trips) : Fin 3 → Nat :=
  let c0_i32 : BitVec 32 := 0#32
  let c1_i32 : BitVec 32 := 1#32
  let arg12 : BitVec 32 := Scf.iv c0_i32 c1_i32 k0_t1
  let v4410 : Index := Scalar.indexCast arg12
  let c0_932 : Index := 0#32
  let c256_933 : Index := 256#32
  ![v4410.toNat, 0, 256]
def k0_off10 (k0_t1 : Fin k0_t1_loop.trips) : Fin 3 → Nat :=
  let c2_i32_936 : BitVec 32 := 2#32
  let c0_i32 : BitVec 32 := 0#32
  let c1_i32 : BitVec 32 := 1#32
  let arg12 : BitVec 32 := Scf.iv c0_i32 c1_i32 k0_t1
  let v4426 : BitVec 32 := Scalar.muli c2_i32_936 arg12
  let v4427 : Index := Scalar.indexCast v4426
  let c0_937 : Index := 0#32
  let c384 : Index := 384#32
  ![v4427.toNat, 0, 384]
def k0_off11 (k0_t1 : Fin k0_t1_loop.trips) : Fin 3 → Nat :=
  let c2_i32_938 : BitVec 32 := 2#32
  let c0_i32 : BitVec 32 := 0#32
  let c1_i32 : BitVec 32 := 1#32
  let arg12 : BitVec 32 := Scf.iv c0_i32 c1_i32 k0_t1
  let v4430 : BitVec 32 := Scalar.muli c2_i32_938 arg12
  let c1_i32_939 : BitVec 32 := 1#32
  let v4431 : BitVec 32 := Scalar.addi v4430 c1_i32_939
  let v4432 : Index := Scalar.indexCast v4431
  let c0_940 : Index := 0#32
  let c384_941 : Index := 384#32
  ![v4432.toNat, 0, 384]
def k0_off12 (k0_t1 : Fin k0_t1_loop.trips) : Fin 3 → Nat :=
  let c0_i32 : BitVec 32 := 0#32
  let c1_i32 : BitVec 32 := 1#32
  let arg12 : BitVec 32 := Scf.iv c0_i32 c1_i32 k0_t1
  let v5828 : Index := Scalar.indexCast arg12
  let c0_1207 : Index := 0#32
  let c384_1208 : Index := 384#32
  ![v5828.toNat, 0, 384]
def k0_off13 (k0_t1 : Fin k0_t1_loop.trips) : Fin 3 → Nat :=
  let c2_i32_1211 : BitVec 32 := 2#32
  let c0_i32 : BitVec 32 := 0#32
  let c1_i32 : BitVec 32 := 1#32
  let arg12 : BitVec 32 := Scf.iv c0_i32 c1_i32 k0_t1
  let v5844 : BitVec 32 := Scalar.muli c2_i32_1211 arg12
  let v5845 : Index := Scalar.indexCast v5844
  let c0_1212 : Index := 0#32
  let c512 : Index := 512#32
  ![v5845.toNat, 0, 512]
def k0_off14 (k0_t1 : Fin k0_t1_loop.trips) : Fin 3 → Nat :=
  let c2_i32_1213 : BitVec 32 := 2#32
  let c0_i32 : BitVec 32 := 0#32
  let c1_i32 : BitVec 32 := 1#32
  let arg12 : BitVec 32 := Scf.iv c0_i32 c1_i32 k0_t1
  let v5848 : BitVec 32 := Scalar.muli c2_i32_1213 arg12
  let c1_i32_1214 : BitVec 32 := 1#32
  let v5849 : BitVec 32 := Scalar.addi v5848 c1_i32_1214
  let v5850 : Index := Scalar.indexCast v5849
  let c0_1215 : Index := 0#32
  let c512_1216 : Index := 512#32
  ![v5850.toNat, 0, 512]
def k0_off15 (k0_t1 : Fin k0_t1_loop.trips) : Fin 3 → Nat :=
  let c0_i32 : BitVec 32 := 0#32
  let c1_i32 : BitVec 32 := 1#32
  let arg12 : BitVec 32 := Scf.iv c0_i32 c1_i32 k0_t1
  let v7246 : Index := Scalar.indexCast arg12
  let c0_1482 : Index := 0#32
  let c512_1483 : Index := 512#32
  ![v7246.toNat, 0, 512]
def k0_off16 (k0_t1 : Fin k0_t1_loop.trips) : Fin 3 → Nat :=
  let c2_i32_1486 : BitVec 32 := 2#32
  let c0_i32 : BitVec 32 := 0#32
  let c1_i32 : BitVec 32 := 1#32
  let arg12 : BitVec 32 := Scf.iv c0_i32 c1_i32 k0_t1
  let v7262 : BitVec 32 := Scalar.muli c2_i32_1486 arg12
  let v7263 : Index := Scalar.indexCast v7262
  let c0_1487 : Index := 0#32
  let c640 : Index := 640#32
  ![v7263.toNat, 0, 640]
def k0_off17 (k0_t1 : Fin k0_t1_loop.trips) : Fin 3 → Nat :=
  let c2_i32_1488 : BitVec 32 := 2#32
  let c0_i32 : BitVec 32 := 0#32
  let c1_i32 : BitVec 32 := 1#32
  let arg12 : BitVec 32 := Scf.iv c0_i32 c1_i32 k0_t1
  let v7266 : BitVec 32 := Scalar.muli c2_i32_1488 arg12
  let c1_i32_1489 : BitVec 32 := 1#32
  let v7267 : BitVec 32 := Scalar.addi v7266 c1_i32_1489
  let v7268 : Index := Scalar.indexCast v7267
  let c0_1490 : Index := 0#32
  let c640_1491 : Index := 640#32
  ![v7268.toNat, 0, 640]
def k0_off18 (k0_t1 : Fin k0_t1_loop.trips) : Fin 3 → Nat :=
  let c0_i32 : BitVec 32 := 0#32
  let c1_i32 : BitVec 32 := 1#32
  let arg12 : BitVec 32 := Scf.iv c0_i32 c1_i32 k0_t1
  let v8664 : Index := Scalar.indexCast arg12
  let c0_1757 : Index := 0#32
  let c640_1758 : Index := 640#32
  ![v8664.toNat, 0, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S16x2304x1024 : Shape := ⟨3, ![16, 2304, 1024]⟩
abbrev S32x8x1024 : Shape := ⟨3, ![32, 8, 1024]⟩
abbrev S1024 : Shape := ⟨1, ![1024]⟩
abbrev S1024x1024 : Shape := ⟨2, ![1024, 1024]⟩
abbrev S8x2x128x64 : Shape := ⟨4, ![8, 2, 128, 64]⟩
abbrev S16x2x8x1024 : Shape := ⟨4, ![16, 2, 8, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x2048x1024 : Shape := ⟨3, ![16, 2048, 1024]⟩
abbrev S16x2048 : Shape := ⟨2, ![16, 2048]⟩
abbrev S16x2048x1 : Shape := ⟨3, ![16, 2048, 1]⟩
abbrev S36864x1024 : Shape := ⟨2, ![36864, 1024]⟩
abbrev S36864x8x2x64 : Shape := ⟨4, ![36864, 8, 2, 64]⟩
abbrev S36864x8x1x64 : Shape := ⟨4, ![36864, 8, 1, 64]⟩
abbrev S36864x8x64 : Shape := ⟨3, ![36864, 8, 64]⟩
abbrev S8x1x128x64 : Shape := ⟨4, ![8, 1, 128, 64]⟩
abbrev S8x128x64 : Shape := ⟨3, ![8, 128, 64]⟩
abbrev S8x36864x128 : Shape := ⟨3, ![8, 36864, 128]⟩
abbrev S8x36864 : Shape := ⟨2, ![8, 36864]⟩
abbrev S8x36864x1 : Shape := ⟨3, ![8, 36864, 1]⟩
abbrev S1024x36864 : Shape := ⟨2, ![1024, 36864]⟩
abbrev S8x128x36864 : Shape := ⟨3, ![8, 128, 36864]⟩

abbrev nBuf : Space → Nat
  | .hbm => 84
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S32x8x1024, .f32⟩
  | .hbm, ⟨2, _⟩ => ⟨S1024, .f32⟩
  | .hbm, ⟨3, _⟩ => ⟨S1024x1024, .f32⟩
  | .hbm, ⟨4, _⟩ => ⟨S8x2x128x64, .f32⟩
  | .hbm, ⟨5, _⟩ => ⟨S16x2x8x1024, .f32⟩
  | .hbm, ⟨6, _⟩ => ⟨S16x256x1024, .f32⟩
  | .hbm, ⟨7, _⟩ => ⟨S16x256x1024, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S1x1x1024, .f32⟩
  | .hbm, ⟨21, _⟩ => ⟨S16x256x1024, .f32⟩
  | .hbm, ⟨22, _⟩ => ⟨S16x256x1024, .f32⟩
  | .hbm, ⟨23, _⟩ => ⟨S16x1x1x1024, .f32⟩
  | .hbm, ⟨24, _⟩ => ⟨S16x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x256x1024, .f32⟩
  | .hbm, ⟨30, _⟩ => ⟨S16x256x1024, .f32⟩
  | .hbm, ⟨31, _⟩ => ⟨S16x1x1x1024, .f32⟩
  | .hbm, ⟨32, _⟩ => ⟨S16x1024, .f32⟩
  | .hbm, ⟨33, _⟩ => ⟨S16x1x1024, .f32⟩
  | .hbm, ⟨34, _⟩ => ⟨S16x256x1024, .f32⟩
  | .hbm, ⟨35, _⟩ => ⟨S16x256x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x1x1x1024, .f32⟩
  | .hbm, ⟨54, _⟩ => ⟨S16x1024, .f32⟩
  | .hbm, ⟨55, _⟩ => ⟨S16x1x1024, .f32⟩
  | .hbm, ⟨56, _⟩ => ⟨S_, .f32⟩
  | .hbm, ⟨57, _⟩ => ⟨S16x1x1024, .f32⟩
  | .hbm, ⟨58, _⟩ => ⟨S16x1x1024, .f32⟩
  | .hbm, ⟨59, _⟩ => ⟨S16x2048x1024, .f32⟩
  | .hbm, ⟨60, _⟩ => ⟨S16x2048x1024, .f32⟩
  | .hbm, ⟨61, _⟩ => ⟨S16x1x1x1024, .f32⟩
  | .hbm, ⟨62, _⟩ => ⟨S16x1024, .f32⟩
  | .hbm, ⟨63, _⟩ => ⟨S16x1x1024, .f32⟩
  | .hbm, ⟨64, _⟩ => ⟨S16x2048x1024, .f32⟩
  | .hbm, ⟨65, _⟩ => ⟨S16x2048x1024, .f32⟩
  | .hbm, ⟨66, _⟩ => ⟨S16x2304x1024, .f32⟩
  | .hbm, ⟨67, _⟩ => ⟨S36864x1024, .f32⟩
  | .hbm, ⟨68, _⟩ => ⟨S36864x1024, .f32⟩
  | .hbm, ⟨69, _⟩ => ⟨S36864x8x2x64, .f32⟩
  | .hbm, ⟨70, _⟩ => ⟨S36864x8x1x64, .f32⟩
  | .hbm, ⟨71, _⟩ => ⟨S36864x8x64, .f32⟩
  | .hbm, ⟨72, _⟩ => ⟨S8x1x128x64, .f32⟩
  | .hbm, ⟨73, _⟩ => ⟨S8x128x64, .f32⟩
  | .hbm, ⟨74, _⟩ => ⟨S8x36864x128, .f32⟩
  | .hbm, ⟨75, _⟩ => ⟨S_, .f32⟩
  | .hbm, ⟨76, _⟩ => ⟨S8x36864, .f32⟩
  | .hbm, ⟨77, _⟩ => ⟨S8x36864x1, .f32⟩
  | .hbm, ⟨78, _⟩ => ⟨S8x36864x128, .f32⟩
  | .hbm, ⟨79, _⟩ => ⟨S8x36864x128, .f32⟩
  | .hbm, ⟨80, _⟩ => ⟨S8x36864x128, .f32⟩
  | .hbm, ⟨81, _⟩ => ⟨S1024x36864, .f32⟩
  | .hbm, ⟨82, _⟩ => ⟨S1024x36864, .bf16⟩
  | .hbm, ⟨83, _⟩ => ⟨S8x128x36864, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]
-- ==== Proof.Softmax.lean ====
/- The mathematics of one softmax-weighted row over the extended reals. -/
module

public import Idealize.ShloMosaic.PureOps.Ideal
public import Idealize.ShloMosaic.Lib.Pointwise

@[expose] public section

noncomputable section

namespace Cert.Softmax

open Idealize.ShloMosaic

/-- An array whose every element is a real number. -/
def Finite {s : Shape} {φ : FTy} (x : FVec Ideal s φ) : Prop := ∀ i, ∃ r : ℝ, (x i : EReal) = (r : EReal)

/-- The literal that starts a maximum, minus infinity, is the least extended real. -/
theorem neg_inf : Ideal.ofBits FTy.f32 4286578688#32 = (⊥ : EReal) := by
  simp [Ideal.ofBits, Ideal.ieee]

/-- A sum of reals taken among the extended reals is the reals' sum. -/
theorem sum_coe {ι : Type} (A : Finset ι) (f : ι → ℝ) : (∑ k ∈ A, (f k : EReal)) = ((∑ k ∈ A, f k : ℝ) : EReal) := by
  classical
  induction A using Finset.induction_on with
  | empty => simp
  | insert a A ha ih => rw [Finset.sum_insert ha, Finset.sum_insert ha, ih, EReal.coe_add]

/-- A sum of products of finite numbers is finite. -/
theorem finite_dot {n : ℕ} (a b : Fin n → EReal) (ha : ∀ i, ∃ x : ℝ, a i = x) (hb : ∀ i, ∃ x : ℝ, b i = x) :
    ∃ x : ℝ, (∑ i, a i * b i) = (x : EReal) := by
  choose f hf using ha
  choose g hg using hb
  refine ⟨∑ i, f i * g i, ?_⟩
  rw [← sum_coe]
  exact Finset.sum_congr rfl fun i _ => by rw [hf, hg, EReal.coe_mul]

/-- The maximum of finitely many finite numbers, of which there is at least one, is finite. -/
theorem finite_max {n : ℕ} (hn : 0 < n) (s : Fin n → EReal) (hs : ∀ k, ∃ x : ℝ, s k = x) :
    ∃ x : ℝ, Finset.fold max ⊥ s Finset.univ = (x : EReal) := by
  have h : Finset.fold max ⊥ s Finset.univ = Finset.univ.sup s := rfl
  rw [h]
  obtain ⟨k, -, hk⟩ := Finset.exists_mem_eq_sup (Finset.univ : Finset (Fin n)) ⟨⟨0, hn⟩, Finset.mem_univ _⟩ s
  rw [hk]
  exact hs k

/-- A finite nonnegative factor goes into a sum of extended reals. -/
theorem sum_mul_coe {ι : Type} (A : Finset ι) (f : ι → EReal) (c : ℝ) (hc : 0 ≤ c) :
    (∑ k ∈ A, f k) * (c : EReal) = ∑ k ∈ A, f k * c := by
  classical
  induction A using Finset.induction_on with
  | empty => simp
  | insert a A ha ih =>
    rw [Finset.sum_insert ha, Finset.sum_insert ha, ← ih]
    exact EReal.right_distrib_of_nonneg_of_ne_top (by exact_mod_cast hc) (EReal.coe_ne_top c) _ _

/-- Weighing the values by the unnormalised exponentials and dividing the sum by the exponentials' sum is
    weighing them by the softmax: for finite scores and any values. -/
theorem normalise_last {n : ℕ} (hn : 0 < n) (s v : Fin n → EReal) (hs : ∀ k, ∃ x : ℝ, s k = x) :
    Ideal.div (∑ k, Ideal.exp (s k - Finset.fold max ⊥ s Finset.univ) * v k)
        (∑ k, Ideal.exp (s k - Finset.fold max ⊥ s Finset.univ))
      = ∑ k, v k * Ideal.div (Ideal.exp (s k - Finset.fold max ⊥ s Finset.univ))
          (∑ k, Ideal.exp (s k - Finset.fold max ⊥ s Finset.univ)) := by
  obtain ⟨M, hM⟩ := finite_max hn s hs
  choose f hf using hs
  have he : ∀ k, Ideal.exp (s k - Finset.fold max ⊥ s Finset.univ) = ((Real.exp (f k - M) : ℝ) : EReal) := by
    intro k
    rw [hM, hf, ← EReal.coe_sub]
    rfl
  have hL : (∑ k, Ideal.exp (s k - Finset.fold max ⊥ s Finset.univ)) = ((∑ k, Real.exp (f k - M) : ℝ) : EReal) := by
    rw [← sum_coe]
    exact Finset.sum_congr rfl fun k _ => he k
  have hpos : 0 < ∑ k, Real.exp (f k - M) :=
    Finset.sum_pos (fun k _ => Real.exp_pos _) ⟨⟨0, hn⟩, Finset.mem_univ _⟩
  have hdiv : ∀ x : EReal, Ideal.div x ((∑ k, Real.exp (f k - M) : ℝ) : EReal)
      = x * (((∑ k, Real.exp (f k - M))⁻¹ : ℝ) : EReal) := by
    intro x
    rw [Ideal.div, if_neg (by exact_mod_cast hpos.ne'), EReal.coe_inv]
  rw [hL, hdiv, sum_mul_coe _ _ _ (inv_nonneg.mpr hpos.le)]
  refine Finset.sum_congr rfl fun k _ => ?_
  rw [hdiv, mul_comm (Ideal.exp _) (v k), mul_assoc]

end Cert.Softmax
-- ==== Proof.AttnValue.lean ====
/- What the latent attention's call computes: every element of its result is the reference's. -/
module

public import proofs.«01_k».proof.Proof.Softmax
public import proofs.«01_k».proof.Proof.Gen.KernelIdeal.Value
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The reference's scores, one per batch, head, query and key. -/
def scores (Q : FVec Ideal S16x2048x2048 .bf16) (K : FVec Ideal S16x2304x2048 .bf16) :
    FVec Ideal Cert.ReferenceIdeal.S16x16x2048x2304 .f32 :=
  Host.dotGeneral (φ₁ := .f32) (φ₂ := .f32)
    Cert.ReferenceIdeal.dot_S16x2048x16x128_S16x2304x16x128_S16x16x2048x2304_3_3_1_1_02_02 none
    (shapeCast _ (extf .f32 Q Cert.ReferenceIdeal.Gen.bitsLt_bf16_f32)
      Cert.ReferenceIdeal.Gen.shapeCasts_S16x2048x2048_S16x2048x16x128)
    (shapeCast _ (extf .f32 K Cert.ReferenceIdeal.Gen.bitsLt_bf16_f32)
      Cert.ReferenceIdeal.Gen.shapeCasts_S16x2304x2048_S16x2304x16x128)

/-- The greatest score of each row. -/
def rowMax (S : FVec Ideal Cert.ReferenceIdeal.S16x16x2048x2304 .f32) : FVec Ideal Cert.ReferenceIdeal.S16x16x2048 .f32 :=
  Host.reduce FloatOps.maximumf S (constant Cert.ReferenceIdeal.S_ .f32 0xFF800000#32)
    Cert.ReferenceIdeal.Gen.reducesTo_S16x16x2048x2304_S16x16x2048_d3 Cert.ReferenceIdeal.Gen.h_S_

/-- The exponentials of the scores less a number for each row. -/
def expoOf (S : FVec Ideal Cert.ReferenceIdeal.S16x16x2048x2304 .f32)
    (M : FVec Ideal Cert.ReferenceIdeal.S16x16x2048 .f32) : FVec Ideal Cert.ReferenceIdeal.S16x16x2048x2304 .f32 :=
  Host.exp (subf S (broadcastInDim Cert.ReferenceIdeal.S16x16x2048x2304 ![0, 1, 2, 3]
    Cert.ReferenceIdeal.Gen.bcast_S16x16x2048x1_S16x16x2048x2304_0_1_2_3
    (broadcastInDim Cert.ReferenceIdeal.S16x16x2048x1 ![0, 1, 2]
      Cert.ReferenceIdeal.Gen.bcast_S16x16x2048_S16x16x2048x1_0_1_2
      (maximumf (broadcastInDim Cert.ReferenceIdeal.S16x16x2048 ![] Cert.ReferenceIdeal.Gen.bcast_S_S16x16x2048
          (constant Cert.ReferenceIdeal.S_ .f32 0xFF800000#32)) M))))

/-- The exponentials of the scores less their row's maximum. -/
def expo (S : FVec Ideal Cert.ReferenceIdeal.S16x16x2048x2304 .f32) :
    FVec Ideal Cert.ReferenceIdeal.S16x16x2048x2304 .f32 := expoOf S (rowMax S)

/-- The exponentials divided by their row's sum: the softmax. -/
def weights (E : FVec Ideal Cert.ReferenceIdeal.S16x16x2048x2304 .f32) :
    FVec Ideal Cert.ReferenceIdeal.S16x16x2048x2304 .f32 :=
  Host.divf E (broadcastInDim Cert.ReferenceIdeal.S16x16x2048x2304 ![0, 1, 2, 3]
    Cert.ReferenceIdeal.Gen.bcast_S16x16x2048x1_S16x16x2048x2304_0_1_2_3
    (broadcastInDim Cert.ReferenceIdeal.S16x16x2048x1 ![0, 1, 2]
      Cert.ReferenceIdeal.Gen.bcast_S16x16x2048_S16x16x2048x1_0_1_2
      (Host.reduceAdd E (constant Cert.ReferenceIdeal.S_ .f32 0x00000000#32)
        Cert.ReferenceIdeal.Gen.reducesTo_S16x16x2048x2304_S16x16x2048_d3 Cert.ReferenceIdeal.Gen.h_S_)))

/-- The reference's result. -/
def ref (Q : FVec Ideal S16x2048x2048 .bf16) (K : FVec Ideal S16x2304x2048 .bf16)
    (V : FVec Ideal S16x2304x1024 .bf16) : FVec Ideal S16x2048x1024 .bf16 :=
  truncf .bf16 (shapeCast _ (transpose Cert.ReferenceIdeal.S16x2048x16x64 [0, 3, 1, 2]
    (Host.dotGeneral (φ₁ := .f32) (φ₂ := .f32)
      Cert.ReferenceIdeal.dot_S16x2304x16x64_S16x16x2048x2304_S16x16x64x2048_1_3_3_2_02_01 none
      (shapeCast _ (extf .f32 V Cert.ReferenceIdeal.Gen.bitsLt_bf16_f32)
        Cert.ReferenceIdeal.Gen.shapeCasts_S16x2304x1024_S16x2304x16x64)
      (weights (expo (scores Q K))))
    Cert.ReferenceIdeal.Gen.transposes_S16x16x64x2048_S16x2048x16x64_0_3_1_2)
    Cert.ReferenceIdeal.Gen.shapeCasts_S16x2048x16x64_S16x2048x1024) Cert.ReferenceIdeal.Gen.bitsLt_bf16_f32

/-- The score of query `r` and key `k` of head `h` in batch `b`: the product of their 128 lanes. -/
def score (Q : FVec Ideal S16x2048x2048 .bf16) (K : FVec Ideal S16x2304x2048 .bf16)
    (b : Fin 16) (h : Fin 16) (r : Fin 2048) (k : Fin 2304) : EReal :=
  ∑ d : Fin 128, Q (ix3 b r ⟨h.val * 128 + d.val, by omega⟩) * K (ix3 b k ⟨h.val * 128 + d.val, by omega⟩)

/-- Finite queries and keys have finite scores. -/
theorem score_finite (Q : FVec Ideal S16x2048x2048 .bf16) (K : FVec Ideal S16x2304x2048 .bf16)
    (hQ : Softmax.Finite Q) (hK : Softmax.Finite K) (b : Fin 16) (h : Fin 16) (r : Fin 2048) (k : Fin 2304) :
    ∃ x : ℝ, score Q K b h r k = x :=
  Softmax.finite_dot _ _ (fun _ => hQ _) (fun _ => hK _)

/-- The reference's scores at an index. -/
theorem scores_at (Q : FVec Ideal S16x2048x2048 .bf16) (K : FVec Ideal S16x2304x2048 .bf16)
    (b : Fin 16) (h : Fin 16) (r : Fin 2048) (k : Fin 2304) :
    scores Q K (ix4 b h r k) = score Q K b h r k := by
  pointwise [scores, score]

/-- A row's greatest score at an index. -/
theorem rowMax_at (S : FVec Ideal Cert.ReferenceIdeal.S16x16x2048x2304 .f32) (b : Fin 16) (h : Fin 16) (r : Fin 2048) :
    rowMax S (ix3 b h r) = Finset.fold max (Ideal.ofBits .f32 0xFF800000#32)
      (fun j : Fin 2304 => S (ix4 b h r j)) Finset.univ := by
  pointwise [rowMax]

/-- The exponentials less a number for each row, at an index. -/
theorem expoOf_at (S : FVec Ideal Cert.ReferenceIdeal.S16x16x2048x2304 .f32)
    (M : FVec Ideal Cert.ReferenceIdeal.S16x16x2048 .f32) (b : Fin 16) (h : Fin 16) (r : Fin 2048) (k : Fin 2304) :
    expoOf S M (ix4 b h r k)
      = Ideal.exp (S (ix4 b h r k) - max (Ideal.ofBits .f32 0xFF800000#32) (M (ix3 b h r))) := by
  pointwise [expoOf]

/-- The exponentials at an index. -/
theorem expo_at (S : FVec Ideal Cert.ReferenceIdeal.S16x16x2048x2304 .f32)
    (b : Fin 16) (h : Fin 16) (r : Fin 2048) (k : Fin 2304) :
    expo S (ix4 b h r k)
      = Ideal.exp (S (ix4 b h r k) - Finset.fold max ⊥ (fun j : Fin 2304 => S (ix4 b h r j)) Finset.univ) := by
  rw [expo, expoOf_at, rowMax_at, Softmax.neg_inf, max_bot_left]

/-- The softmax at an index. -/
theorem weights_at (E : FVec Ideal Cert.ReferenceIdeal.S16x16x2048x2304 .f32)
    (b : Fin 16) (h : Fin 16) (r : Fin 2048) (k : Fin 2304) :
    weights E (ix4 b h r k) = Ideal.div (E (ix4 b h r k)) (∑ j : Fin 2304, E (ix4 b h r j)) := by
  pointwise [weights]

/-- The reference's result at an index: the values of its head weighted by the softmax of the scores. -/
theorem ref_at (Q : FVec Ideal S16x2048x2048 .bf16) (K : FVec Ideal S16x2304x2048 .bf16)
    (V : FVec Ideal S16x2304x1024 .bf16) (b : Fin 16) (r : Fin 2048) (e : Fin 1024) :
    ref Q K V (ix3 b r e) = ∑ k : Fin 2304, V (ix3 b k e)
      * weights (expo (scores Q K)) (ix4 b ⟨e.val / 64, by omega⟩ r k) := by
  pointwise [ref]

/-- The same with the softmax written out. -/
theorem ref_soft (Q : FVec Ideal S16x2048x2048 .bf16) (K : FVec Ideal S16x2304x2048 .bf16)
    (V : FVec Ideal S16x2304x1024 .bf16) (b : Fin 16) (r : Fin 2048) (e : Fin 1024)
    (s : Fin 2304 → EReal) (hs : ∀ k, score Q K b ⟨e.val / 64, by omega⟩ r k = s k) :
    ref Q K V (ix3 b r e) = ∑ k : Fin 2304, V (ix3 b k e)
      * Ideal.div (Ideal.exp (s k - Finset.fold max ⊥ s Finset.univ))
          (∑ k, Ideal.exp (s k - Finset.fold max ⊥ s Finset.univ)) := by
  rw [ref_at]
  simp only [weights_at, expo_at, scores_at, hs]

/-- One row and lane of what a grid point stores, from the loaded blocks. -/
theorem stored_at (v0 v5 : Vec Ideal S1x1024x128 .bf16) (v2 v7 : Vec Ideal S1x2304x128 .bf16)
    (v25 v31 : Vec Ideal S1x2304x128 .bf16) (r : Fin 1024) (l : Fin 128)
    (s : Fin 2304 → EReal)
    (h0 : l.val < 64 → ∀ k, ∑ d : Fin 128, v0 (ix3 0 r d) * v2 (ix3 0 k d) = s k)
    (h1 : ¬ l.val < 64 → ∀ k, ∑ d : Fin 128, v5 (ix3 0 r d) * v7 (ix3 0 k d) = s k)
    (hv : v31 = v25) (hs : ∀ k, ∃ x : ℝ, s k = x) :
    k0_pay1 (k0_pay3 v5 v7) (k0_pay4 v0 v2 v25) (k0_pay5 v5 v7) v31 (ix3 0 r l)
      = ∑ k, v25 (ix3 0 k l) * Ideal.div (Ideal.exp (s k - Finset.fold max ⊥ s Finset.univ))
          (∑ k, Ideal.exp (s k - Finset.fold max ⊥ s Finset.univ)) := by
  have hn : 0 < 2304 := by omega
  pointwise [k0_pay1, k0_pay2, k0_pay3, k0_pay4, k0_pay5, Softmax.neg_inf]
  by_cases hl : l.val < 64
  · have hc : IntOp.cmpi CmpIPredicate.slt (BitVec.ofNat 32 l.val) 64#32 = 1#1 := by
      clear h0 h1; revert hl; revert l; decide +kernel
    simp only [h0 hl, hc]
    exact Softmax.normalise_last hn s (fun k => v25 (ix3 0 k l)) hs
  · have hc : IntOp.cmpi CmpIPredicate.slt (BitVec.ofNat 32 l.val) 64#32 = 0#1 := by
      clear h0 h1; revert hl; revert l; decide +kernel
    simp only [h1 hl, hc, hv]
    exact Softmax.normalise_last hn s (fun k => v25 (ix3 0 k l)) hs

/-- The windows' blocks at each grid point: batch, head pair and half of the queries. -/
theorem idx : ∀ t : Fin cfg0.N,
    win0_0.index t = ![t.val / 16, t.val % 2, t.val / 2 % 8] ∧ win0_1.index t = ![t.val / 16, 0, t.val / 2 % 8]
    ∧ win0_2.index t = ![t.val / 16, 0, t.val / 2 % 8] ∧ win0_3.index t = ![t.val / 16, t.val % 2, t.val / 2 % 8] :=
  (by decide +kernel : ∀ t : Fin grid0.N, _)

variable (m : (ℓ : Loc nD τ sig) → Buf (Elt Ideal) ℓ)

/-- Each grid point stores the reference's elements, for finite queries and keys. -/
theorem point (c : Dev nD) (t : Fin cfg0.N) (y : S1x1024x128.Idx)
    (hQ : Softmax.Finite (s := S16x2048x2048) (φ := .bf16) (m ((c : Thread nD τ).loc main_arg0)))
    (hK : Softmax.Finite (s := S16x2304x2048) (φ := .bf16) (m ((c : Thread nD τ).loc main_arg1))) :
    k0_pay1 (k0_pay3 (View.ld (iblk m c 0 t) r0_2) (View.ld (iblk m c 1 t) r0_3))
      (k0_pay4 (View.ld (iblk m c 0 t) r0_0) (View.ld (iblk m c 1 t) r0_1) (iblk m c 2 t))
      (k0_pay5 (View.ld (iblk m c 0 t) r0_2) (View.ld (iblk m c 1 t) r0_3)) (iblk m c 2 t) y
    = ref (m ((c : Thread nD τ).loc main_arg0)) (m ((c : Thread nD τ).loc main_arg1))
        (m ((c : Thread nD τ).loc main_arg2)) (((cfg0.win 3).blk t).view.emb y) := by
  have ht : t.val < 256 := t.isLt
  idx_vars y
  obtain rfl : y0 = 0 := Subsingleton.elim _ _
  have hy : ((cfg0.win 3).blk t).view.emb (ix3 0 y1 y2)
      = ix3 (⟨t.val / 16, by omega⟩ : Fin 16) (⟨t.val % 2 * 1024 + y1.val, by omega⟩ : Fin 2048)
          (⟨t.val / 2 % 8 * 128 + y2.val, by omega⟩ : Fin 1024) := by
    blk_ext [idx t]
  rw [hy, ref_soft _ _ _ _ _ _ _ (fun k => rfl)]
  refine (stored_at _ _ _ _ _ _ y1 y2 (fun k => score (m ((c : Thread nD τ).loc main_arg0))
    (m ((c : Thread nD τ).loc main_arg1)) ⟨t.val / 16, by omega⟩ ⟨(t.val / 2 % 8 * 128 + y2.val) / 64, by omega⟩
    ⟨t.val % 2 * 1024 + y1.val, by omega⟩ k) (fun hl k => ?_) (fun hl k => ?_) rfl
    (fun k => score_finite _ _ hQ hK _ _ _ k)).trans ?_
  · rw [score]
    refine Finset.sum_congr rfl fun d _ => ?_
    pointwise
    refine Ideal.mul_congr ?_ ?_ <;> blk_ext [iblk, V, idx t]
  · rw [score]
    refine Finset.sum_congr rfl fun d _ => ?_
    pointwise
    refine Ideal.mul_congr ?_ ?_ <;> blk_ext [iblk, V, idx t]
  · refine Finset.sum_congr rfl fun k _ => ?_
    refine Ideal.mul_congr ?_ rfl
    blk_ext [iblk, V, idx t]

/-- The call's whole result is the reference's, for finite queries and keys. -/
theorem final (c : Dev nD)
    (hQ : Softmax.Finite (s := S16x2048x2048) (φ := .bf16) (m ((c : Thread nD τ).loc main_arg0)))
    (hK : Softmax.Finite (s := S16x2304x2048) (φ := .bf16) (m ((c : Thread nD τ).loc main_arg1))) :
    (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y hQ hK

end Cert.KernelIdeal.Attn
-- ==== Proof.Finite.lean ====
/- What the precondition says: every query and every key is a real number. -/
module

public import proofs.«01_k».proof.Proof.Softmax
public import proofs.«01_k».proof.Proof.Gen.Pre_finite_queries_and_keys
public import Idealize.ShloMosaic.Lib.ReduceAll

@[expose] public section

noncomputable section

namespace Cert.Softmax

open Idealize.ShloMosaic

/-- The literal of plus infinity is the greatest extended real. -/
theorem pos_inf : Ideal.ofBits FTy.f32 0x7F800000#32 = (⊤ : EReal) := by
  simp [Ideal.ofBits, Ideal.ieee]

/-- A number whose absolute value compares below plus infinity is real. -/
theorem real_of_abs_lt (x : EReal)
    (h : FloatOps.cmpf (F := Ideal) (φ := .f32) .olt (FloatOps.absf (F := Ideal) (φ := .f32) x)
      (Ideal.ofBits .f32 0x7F800000#32) = 1#1) : ∃ r : ℝ, x = r := by
  rw [pos_inf] at h
  induction x using EReal.rec with
  | coe r => exact ⟨r, rfl⟩
  | top => exact absurd h (by simp [FloatOps.cmpf, FloatOps.absf, Ideal.cmp])
  | bot => exact absurd h (by simp [FloatOps.cmpf, FloatOps.absf, Ideal.cmp])

open Cert.Pre_finite_queries_and_keys Cert.Pre_finite_queries_and_keys.Facts in
/-- The precondition makes the queries and the keys real numbers. -/
theorem finite_of_pre [Cert.Pre_finite_queries_and_keys.Facts] (Q : FVec Ideal S16x2048x2048 .bf16)
    (K : FVec Ideal S16x2304x2048 .bf16) (V : FVec Ideal S16x2304x1024 .bf16)
    (h : Cert.Pre_finite_queries_and_keys.fn (F := Ideal) Q K V = fun _ => 1#1) : Finite Q ∧ Finite K := by
  haveI : Subsingleton S_.Idx := ⟨fun a b => funext fun i => i.elim0⟩
  have h0 := congrFun h (fun i => i.elim0)
  obtain ⟨hq, hk⟩ := IntOp.andi_eq_one.1 h0
  exact ⟨fun i => real_of_abs_lt _ (Host.reduce_andi_all _ _ _ _ _ hq i),
    fun i => real_of_abs_lt _ (Host.reduce_andi_all _ _ _ _ _ hk i)⟩

end Cert.Softmax
-- ==== Proof.Stream.lean ====
module

public import proofs.«01_k».proof.Proof.Gen.Reference4Ideal.Run
public import Idealize.ShloMosaic.Lib.Pipeline.ValueKit
public import Idealize.ShloMosaic.Lib.Pointwise

/-!
# The token stream, its normalisation and its gated residual

A stream of 256 context and 2048 latent tokens for each of 16 batches, and a table of modulation rows: for batch `b` row `2b`
holds the context's eight vectors (shift, scale, gate, …) and row `2b + 1` those of the latent tokens. The layers normalise a
token, scale and shift it by the rows of its kind, and add a gated update to it. This file says what those are at one element
and shows that the host's spelling (each kind sliced off, worked on, and the two laid end to end) is that.
-/

@[expose] public section

set_option maxRecDepth 16384

noncomputable section

namespace Cert.Stream

open Cert.Reference4Ideal Cert.Reference4Ideal.Gen Idealize.ShloMosaic Idealize.ShloMosaic.TcCoe Idealize.SL.Sem

/-- The modulation row of token `n` of batch `b`: the context's for the first 256 tokens, the latent tokens' after them. -/
def row (b : Fin 16) (n : Fin 2304) : Fin 32 := ⟨b.val * 2 + if n.val < 256 then 0 else 1, by have := b.isLt; split <;> omega⟩

/-- One token divided by its root mean square and multiplied by the learnt gain. -/
def normed (x g : Fin 1024 → EReal) (e : Fin 1024) : EReal :=
  x e * Ideal.rsqrt (Ideal.div (∑ k, x k * x k) (Ideal.ofBits FTy.f32 1149239296#32) + Ideal.ofBits FTy.f32 897988541#32) * g e

/-- The normalised and modulated stream at one element. -/
def modulated (X : FVec Ideal S16x2304x1024 .f32) (G : FVec Ideal S1024 .f32) (M : FVec Ideal S32x8x1024 .f32) (b : Fin 16) (n : Fin 2304)
    (e : Fin 1024) : EReal :=
  normed (fun k => X (ix3 b n k)) (fun k => G (ix1 k)) e * (1 + M (ix3 (row b n) 1 e)) + M (ix3 (row b n) 0 e)

/-- The stream with a gated update added, at one element. -/
def gated (X : FVec Ideal S16x2304x1024 .f32) (M : FVec Ideal S32x8x1024 .f32) (y : EReal) (b : Fin 16) (n : Fin 2304) (e : Fin 1024) : EReal :=
  X (ix3 b n e) + M (ix3 (row b n) 2 e) * y

/-- The normalised and modulated context tokens as the host prints them. -/
def ctxPart (X : FVec Ideal S16x2304x1024 .f32) (G : FVec Ideal S1024 .f32) (M : FVec Ideal S32x8x1024 .f32) : FVec Ideal S16x256x1024 .f32 :=
  addf (mulf (mulf (mulf (extractStridedSlice S16x256x1024 ![0, 0, 0] X slices_S16x2304x1024_S16x256x1024_0_0_0) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (extractStridedSlice S16x256x1024 ![0, 0, 0] X slices_S16x2304x1024_S16x256x1024_0_0_0) (extractStridedSlice S16x256x1024 ![0, 0, 0] X slices_S16x2304x1024_S16x256x1024_0_0_0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 G))) (broadcastInDim S16x256x1024 ![0, 1, 2] bcast_S16x1x1024_S16x256x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 0, 1, 0] (shapeCast _ M shapeCasts_S32x8x1024_S16x2x8x1024) slices_S16x2x8x1024_S16x1x1x1024_0_0_1_0) shapeCasts_S16x1x1x1024_S16x1024))))) (broadcastInDim S16x256x1024 ![0, 1, 2] bcast_S16x1x1024_S16x256x1024_0_1_2 (broadcastInDim S16x1x1024 ![0, 2] bcast_S16x1024_S16x1x1024_0_2 (shapeCast _ (extractStridedSlice S16x1x1x1024 ![0, 0, 0, 0] (shapeCast _ M shapeCasts_S32x8x1024_S16x2x8x1024) slices_S16x2x8x1024_S16x1x1x1024_0_0_0_0) shapeCasts_S16x1x1x1024_S16x1024)))

/-- The normalised and modulated latent tokens as the host prints them. -/
def latPart (X : FVec Ideal S16x2304x1024 .f32) (G : FVec Ideal S1024 .f32) (M : FVec Ideal S32x8x1024 .f32) : FVec Ideal S16x2048x1024 .f32 :=
  addf (mulf (mulf (mulf (extractStridedSlice S16x2048x1024 ![0, 256, 0] X slices_S16x2304x1024_S16x2048x1024_0_256_0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (extractStridedSlice S16x2048x1024 ![0, 256, 0] X slices_S16x2304x1024_S16x2048x1024_0_256_0) (extractStridedSlice S16x2048x1024 ![0, 256, 0] X slices_S16x2304x1024_S16x2048x1024_0_256_0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 1, 1, 0] (shapeCast _ M shapeCasts_S32x8x1024_S16x2x8x1024) slices_S16x2x8x1024_S16x1x1x1024_0_1_1_0) shapeCasts_S16x1x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 1, 0, 0] (shapeCast _ M shapeCasts_S32x8x1024_S16x2x8x1024) slices_S16x2x8x1024_S16x1x1x1024_0_1_0_0) shapeCasts_S16x1x1x1024_S16x1024)))

/-- The gated update of the context tokens as the host prints it. -/
def ctxGate (X : FVec Ideal S16x2304x1024 .f32) (M : FVec Ideal S32x8x1024 .f32) (Y : FVec Ideal S16x2304x1024 .f32) : FVec Ideal S16x256x1024 .f32 :=
  addf (extractStridedSlice S16x256x1024 ![0, 0, 0] X slices_S16x2304x1024_S16x256x1024_0_0_0) (mulf (broadcastInDim S16x256x1024 ![0, 1, 2] bcast_S16x1x1024_S16x256x1024_0_1_2 (broadcastInDim S16x1x1024 ![0, 2] bcast_S16x1024_S16x1x1024_0_2 (shapeCast _ (extractStridedSlice S16x1x1x1024 ![0, 0, 2, 0] (shapeCast _ M shapeCasts_S32x8x1024_S16x2x8x1024) slices_S16x2x8x1024_S16x1x1x1024_0_0_2_0) shapeCasts_S16x1x1x1024_S16x1024))) (extractStridedSlice S16x256x1024 ![0, 0, 0] Y slices_S16x2304x1024_S16x256x1024_0_0_0))

/-- The gated update of the latent tokens as the host prints it. -/
def latGate (X : FVec Ideal S16x2304x1024 .f32) (M : FVec Ideal S32x8x1024 .f32) (Y : FVec Ideal S16x2304x1024 .f32) : FVec Ideal S16x2048x1024 .f32 :=
  addf (extractStridedSlice S16x2048x1024 ![0, 256, 0] X slices_S16x2304x1024_S16x2048x1024_0_256_0) (mulf (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 1, 2, 0] (shapeCast _ M shapeCasts_S32x8x1024_S16x2x8x1024) slices_S16x2x8x1024_S16x1x1x1024_0_1_2_0) shapeCasts_S16x1x1x1024_S16x1024))) (extractStridedSlice S16x2048x1024 ![0, 256, 0] Y slices_S16x2304x1024_S16x2048x1024_0_256_0))

/-- The two kinds laid end to end. -/
def both (C : FVec Ideal S16x256x1024 .f32) (L : FVec Ideal S16x2048x1024 .f32) : FVec Ideal S16x2304x1024 .f32 :=
  concatenate S16x2304x1024 1 [⟨S16x256x1024, C⟩, ⟨S16x2048x1024, L⟩] concatenates_S16x256x1024_S16x2048x1024_S16x2304x1024_d1

variable (X : FVec Ideal S16x2304x1024 .f32) (G : FVec Ideal S1024 .f32) (M : FVec Ideal S32x8x1024 .f32)

/-- A context token's modulation row is the even one. -/
theorem row_ctx (b : Fin 16) (n : Fin 256) : row b ⟨n.val, by have := n.isLt; omega⟩ = ⟨b.val * 2, by have := b.isLt; omega⟩ := by
  apply Fin.ext; simp [row, n.isLt]

/-- A latent token's modulation row is the odd one. -/
theorem row_lat (b : Fin 16) (n : Fin 2048) : row b ⟨256 + n.val, by have := n.isLt; omega⟩ = ⟨b.val * 2 + 1, by have := b.isLt; omega⟩ := by
  apply Fin.ext; simp [row]

/-- The context part at an element is the modulated stream there. -/
theorem ctxPart_at (b : Fin 16) (n : Fin 256) (e : Fin 1024) :
    ctxPart X G M (ix3 b n e) = modulated X G M b ⟨n.val, by have := n.isLt; omega⟩ e := by
  unfold modulated normed
  rw [row_ctx]
  pointwise [ctxPart]

/-- The latent part at an element is the modulated stream there. -/
theorem latPart_at (b : Fin 16) (n : Fin 2048) (e : Fin 1024) :
    latPart X G M (ix3 b n e) = modulated X G M b ⟨256 + n.val, by have := n.isLt; omega⟩ e := by
  unfold modulated normed
  rw [row_lat]
  pointwise [latPart]

/-- The context part of the gated update at an element. -/
theorem ctxGate_at (Y : FVec Ideal S16x2304x1024 .f32) (b : Fin 16) (n : Fin 256) (e : Fin 1024) :
    ctxGate X M Y (ix3 b n e) = gated X M (Y (ix3 b ⟨n.val, by have := n.isLt; omega⟩ e)) b ⟨n.val, by have := n.isLt; omega⟩ e := by
  unfold gated
  rw [row_ctx]
  pointwise [ctxGate]

/-- The latent part of the gated update at an element. -/
theorem latGate_at (Y : FVec Ideal S16x2304x1024 .f32) (b : Fin 16) (n : Fin 2048) (e : Fin 1024) :
    latGate X M Y (ix3 b n e)
      = gated X M (Y (ix3 b ⟨256 + n.val, by have := n.isLt; omega⟩ e)) b ⟨256 + n.val, by have := n.isLt; omega⟩ e := by
  unfold gated
  rw [row_lat]
  pointwise [latGate]

/-- What lies end to end, read at a token: the first array's for the first 256 tokens, the second's after them. -/
theorem both_at (C : FVec Ideal S16x256x1024 .f32) (L : FVec Ideal S16x2048x1024 .f32) (b : Fin 16) (n : Fin 2304) (e : Fin 1024) :
    both C L (ix3 b n e) = if h : n.val < 256 then C (ix3 b ⟨n.val, h⟩ e) else L (ix3 b ⟨n.val - 256, by have := n.isLt; omega⟩ e) := by
  pointwise [both]

/-- Two functions of a token laid end to end, when each is a given function of the token's place, are that function. -/
theorem both_eq (C : FVec Ideal S16x256x1024 .f32) (L : FVec Ideal S16x2048x1024 .f32) (f : Fin 16 → Fin 2304 → Fin 1024 → EReal)
    (hC : ∀ b (n : Fin 256) e, C (ix3 b n e) = f b ⟨n.val, by have := n.isLt; omega⟩ e)
    (hL : ∀ b (n : Fin 2048) e, L (ix3 b n e) = f b ⟨256 + n.val, by have := n.isLt; omega⟩ e) (b : Fin 16) (n : Fin 2304) (e : Fin 1024) :
    both C L (ix3 b n e) = f b n e := by
  rw [both_at]
  split
  · rw [hC]
  · rw [hL]
    congr 1
    apply Fin.ext
    show 256 + (n.val - 256) = n.val
    omega

/-- The host's normalised and modulated stream at an element. -/
theorem stream_at (b : Fin 16) (n : Fin 2304) (e : Fin 1024) : both (ctxPart X G M) (latPart X G M) (ix3 b n e) = modulated X G M b n e :=
  both_eq _ _ _ (ctxPart_at X G M) (latPart_at X G M) b n e

/-- The host's gated update of the stream at an element. -/
theorem update_at (Y : FVec Ideal S16x2304x1024 .f32) (b : Fin 16) (n : Fin 2304) (e : Fin 1024) :
    both (ctxGate X M Y) (latGate X M Y) (ix3 b n e) = gated X M (Y (ix3 b n e)) b n e :=
  both_eq _ _ (fun b n e => gated X M (Y (ix3 b n e)) b n e) (ctxGate_at X M Y) (latGate_at X M Y) b n e

/-- The kernel's test on a token of tile `t`, whether it is one of the context's: exactly those of tile 0 are. -/
theorem is_ctx (t : Fin 9) (r : Fin 256) :
    IntOp.cmpi CmpIPredicate.slt (IntOp.addi (Scalar.muli (BitVec.ofNat 32 t.val) 256#32) (BitVec.ofNat 32 r.val)) 256#32
      = if t.val = 0 then 1#1 else 0#1 := by
  revert t r
  decide +kernel

/-- The batch of point `t` of a grid of 16 batches by 9 tiles. -/
def bat (t : Fin 144) : Fin 16 := ⟨t.val / 9, by omega⟩

/-- The token of a row of that point's tile. -/
def tok (t : Fin 144) (r : Fin 256) : Fin 2304 := ⟨t.val % 9 * 256 + r.val, by omega⟩

/-- The modulation row of that point's tokens. -/
theorem row_tok (t : Fin 144) (r : Fin 256) : (row (bat t) (tok t r)).val = t.val / 9 * 2 + if t.val % 9 = 0 then 0 else 1 := by
  have := r.isLt
  show t.val / 9 * 2 + (if t.val % 9 * 256 + r.val < 256 then 0 else 1) = _
  congr 1
  by_cases h : t.val % 9 = 0
  · rw [if_pos h, if_pos (by omega)]
  · rw [if_neg h, if_neg (by omega)]

end Cert.Stream
-- ==== Proof.GlaInValue.lean ====
module

public import proofs.«01_k».proof.Proof.Stream
public import proofs.«01_k».proof.Proof.Gen.Kernel2Ideal.Value
public import proofs.«01_k».proof.Proof.Gen.Reference2Ideal.Run
public import Idealize.ShloMosaic.Lib.Routing.OpsOne

/-!
# The down-projection of gated linear attention

The kernel's two results against the reference's: the normalised and modulated stream times the layer's input weight, and
times the two gates' low-rank weights, laid side by side in 128 columns of which the last 96 are zero.
-/

@[expose] public section

set_option maxRecDepth 16384

noncomputable section

namespace Cert.Kernel2Ideal.GlaIn

open Cert.Kernel2Ideal Cert.Kernel2Ideal.Gen Idealize.ShloMosaic Idealize.ShloMosaic.TcCoe Idealize.SL.Sem
open Idealize.ShloMosaic.Pipeline (Dat)

/-- The first result as the reference computes it. -/
def wide (X : FVec Ideal S16x2304x1024 .f32) (M : FVec Ideal S32x8x1024 .f32) (G : FVec Ideal Cert.Reference2Ideal.S1024 .f32)
    (W : FVec Ideal S1024x3072 .f32) : FVec Ideal S16x2304x3072 .bf16 :=
  truncf .bf16 (Host.dotGeneral Cert.Reference2Ideal.dot_S16x2304x1024_S1024x3072_S16x2304x3072_2_0_01_1_n_n none
    (Stream.both (Stream.ctxPart X G M) (Stream.latPart X G M)) W) Cert.Reference2Ideal.Gen.bitsLt_bf16_f32

/-- One gate's low-rank product as the reference computes it. -/
def low (H : FVec Ideal S16x2304x1024 .f32) (w : FVec Ideal S1024x16 .f32) : FVec Ideal Cert.Reference2Ideal.S16x2304x16 .f32 :=
  Host.dotGeneral Cert.Reference2Ideal.dot_S16x2304x1024_S1024x16_S16x2304x16_2_0_01_1_n_n none H w

/-- The second result as the reference computes it. -/
def lows (X : FVec Ideal S16x2304x1024 .f32) (M : FVec Ideal S32x8x1024 .f32) (G : FVec Ideal Cert.Reference2Ideal.S1024 .f32)
    (W : FVec Ideal S2x1024x16 .f32) : FVec Ideal S16x2304x128 .f32 :=
  concatenate S16x2304x128 2
    [⟨Cert.Reference2Ideal.S16x2304x16, low (Stream.both (Stream.ctxPart X G M) (Stream.latPart X G M))
        (shapeCast _ (extractStridedSlice S1x1024x16 ![0, 0, 0] W Cert.Reference2Ideal.Gen.slices_S2x1024x16_S1x1024x16_0_0_0)
          Cert.Reference2Ideal.Gen.shapeCasts_S1x1024x16_S1024x16)⟩,
      ⟨Cert.Reference2Ideal.S16x2304x16, low (Stream.both (Stream.ctxPart X G M) (Stream.latPart X G M))
        (shapeCast _ (extractStridedSlice S1x1024x16 ![1, 0, 0] W Cert.Reference2Ideal.Gen.slices_S2x1024x16_S1x1024x16_1_0_0)
          Cert.Reference2Ideal.Gen.shapeCasts_S1x1024x16_S1024x16)⟩,
      ⟨Cert.Reference2Ideal.S16x2304x96, broadcastInDim Cert.Reference2Ideal.S16x2304x96 ![] Cert.Reference2Ideal.Gen.bcast_S_S16x2304x96
        (constant Cert.Reference2Ideal.S_ .f32 0x00000000#32)⟩]
    Cert.Reference2Ideal.Gen.concatenates_S16x2304x16_S16x2304x16_S16x2304x96_S16x2304x128_d2

/-- The reference's first result at an element. -/
theorem wide_at (X : FVec Ideal S16x2304x1024 .f32) (M : FVec Ideal S32x8x1024 .f32) (G : FVec Ideal Cert.Reference2Ideal.S1024 .f32)
    (W : FVec Ideal S1024x3072 .f32) (b : Fin 16) (n : Fin 2304) (l : Fin 3072) :
    wide X M G W (ix3 b n l) = ∑ k : Fin 1024, Stream.modulated X G M b n k * W (ix2 k l) := by
  pointwise [wide, Stream.stream_at]

/-- One gate's product at an element. -/
theorem low_at (X : FVec Ideal S16x2304x1024 .f32) (M : FVec Ideal S32x8x1024 .f32) (G : FVec Ideal Cert.Reference2Ideal.S1024 .f32)
    (w : FVec Ideal S1024x16 .f32) (b : Fin 16) (n : Fin 2304) (l : Fin 16) :
    low (Stream.both (Stream.ctxPart X G M) (Stream.latPart X G M)) w (ix3 b n l)
      = ∑ k : Fin 1024, Stream.modulated X G M b n k * w (ix2 k l) := by
  pointwise [low, Stream.stream_at]

/-- The two gates' weights side by side, at an element: 16 columns each, then zeros. -/
def pair (W : FVec Ideal S2x1024x16 .f32) (k : Fin 1024) (l : Fin 128) : EReal :=
  if h : l.val < 16 then W (ix3 0 k ⟨l.val, h⟩) else if h' : l.val < 32 then W (ix3 1 k ⟨l.val - 16, by omega⟩) else 0

/-- The reference's second result at an element: the stream times the weights side by side. -/
theorem lows_at (X : FVec Ideal S16x2304x1024 .f32) (M : FVec Ideal S32x8x1024 .f32) (G : FVec Ideal Cert.Reference2Ideal.S1024 .f32)
    (W : FVec Ideal S2x1024x16 .f32) (b : Fin 16) (n : Fin 2304) (l : Fin 128) :
    lows X M G W (ix3 b n l) = ∑ k : Fin 1024, Stream.modulated X G M b n k * pair W k l := by
  pointwise [lows, low_at]
  unfold pair
  by_cases h : l.val < 16
  · simp only [dif_pos h]
  · by_cases h' : l.val < 32
    · have h'' : l.val - 16 < 16 := by omega
      simp only [dif_neg h, dif_pos h', dif_pos h'']
    · have h'' : ¬ l.val - 16 < 16 := by omega
      simp only [dif_neg h, dif_neg h', dif_neg h'', mul_zero, Finset.sum_const_zero]

/-- An update of 16 columns from column `c` on lands row by row, its column `u` in column `c + u`. -/
theorem lands (c : Nat) (hc : c < 2 ^ 31) (idx : IVec S1 32) (hidx : ∀ i, idx i = BitVec.ofNat 32 c) (k' k : Fin 1024) (u : Fin 16) (l : Fin 128) :
    scatter_S1024x128_S1_S1024x16_01_n_1_0.resultIdx? (ix2 k' u) idx = some (ix2 k l) ↔ k' = k ∧ l.val = c + u.val := by
  have w0 : scatter_S1024x128_S1_S1024x16_01_n_1_0.window (ix2 k' u) 0 = k'.val := rfl
  have w1 : scatter_S1024x128_S1_S1024x16_01_n_1_0.window (ix2 k' u) 1 = u.val := rfl
  have s0 : scatter_S1024x128_S1_S1024x16_01_n_1_0.start (ix2 k' u) idx 0 = 0 := rfl
  have s1 : scatter_S1024x128_S1_S1024x16_01_n_1_0.start (ix2 k' u) idx 1 = (c : Int) := by
    unfold ScatterDims.start
    rw [dif_pos (show (1 : Fin 2) ∈ scatter_S1024x128_S1_S1024x16_01_n_1_0.scatterDimsToOperandDims from List.mem_singleton.2 rfl), hidx,
      StableHlo.Predicate.toInt_ofNat_small _ hc]
  refine (Routing.resultIdx?_ix2 (R := 1024) (C := 128) scatter_S1024x128_S1_S1024x16_01_n_1_0 (ix2 k' u) idx k l).trans ?_
  rw [Fin.ext_iff, w0, w1, s0, s1]
  omega

/-- An array with 16 columns set, from column `c` on, read at an element. -/
theorem set_cols (c : Nat) (hc : c < 2 ^ 31) (x : FVec Ideal S1024x128 .f32) (idx : IVec S1 32) (hidx : ∀ i, idx i = BitVec.ofNat 32 c)
    (upd : FVec Ideal S1024x16 .f32) (k : Fin 1024) (l : Fin 128) :
    Host.scatter scatter_S1024x128_S1_S1024x16_01_n_1_0 (fun _ b => b) x idx upd (ix2 k l)
      = if h : c ≤ l.val ∧ l.val < c + 16 then upd (ix2 k ⟨l.val - c, by omega⟩) else x (ix2 k l) := by
  split
  · next h =>
    refine Routing.scatter_set_hit _ x idx upd _ _ (fun j hj => ?_) (ix2 k ⟨l.val - c, by omega⟩) ((lands c hc idx hidx _ _ _ _).2 ⟨rfl, ?_⟩)
    · idx_vars j
      obtain ⟨h1, h2⟩ := (lands c hc idx hidx _ _ _ _).1 hj
      subst h1
      congr 2
      apply Fin.ext
      show j1.val = l.val - c
      omega
    · show l.val = c + (l.val - c)
      omega
  · next h =>
    refine Routing.scatter_set_miss _ x idx upd _ fun j hj => ?_
    idx_vars j
    obtain ⟨h1, h2⟩ := (lands c hc idx hidx _ _ _ _).1 hj
    have := j1.isLt
    exact h ⟨by omega, by omega⟩

/-- The host's low-rank weight, two sets of 16 columns put into zeros, is the two gates' weights side by side. -/
theorem built_at (W : FVec Ideal S2x1024x16 .f32) (u0 u1 : FVec Ideal S1024x16 .f32) (h0 : ∀ k u, u0 (ix2 k u) = W (ix3 0 k u))
    (h1 : ∀ k u, u1 (ix2 k u) = W (ix3 1 k u)) (k : Fin 1024) (l : Fin 128) :
    Host.scatter scatter_S1024x128_S1_S1024x16_01_n_1_0 (fun _ b => b)
      (Host.scatter scatter_S1024x128_S1_S1024x16_01_n_1_0 (fun _ b => b)
        (broadcastInDim S1024x128 ![] bcast_S_S1024x128 (constant (F := Ideal) S_ FTy.f32 0#32))
        (broadcastInDim S1 ![] bcast_S_S1 (constantI S_ 32 0#32)) u0)
      (broadcastInDim S1 ![] bcast_S_S1 (constantI S_ 32 16#32)) u1 (ix2 k l) = pair W k l := by
  have hl := l.isLt
  unfold pair
  refine (set_cols 16 (by omega) _ _ (by intro i; rfl) _ k l).trans ?_
  by_cases h : l.val < 16
  · rw [dif_neg (by omega), dif_pos h]
    refine (set_cols 0 (by omega) _ _ (by intro i; rfl) _ k l).trans ?_
    rw [dif_pos (by omega), h0]
    rfl
  · rw [dif_neg h]
    by_cases h' : l.val < 32
    · rw [dif_pos (by omega), dif_pos h', h1]
    · rw [dif_neg (by omega), dif_neg h']
      refine (set_cols 0 (by omega) _ _ (by intro i; rfl) _ k l).trans ?_
      rw [dif_neg (by omega)]
      pointwise

/-- A row of a tile, normalised and modulated, from the loaded blocks. -/
theorem hb_at (i : grid0.Coords) (v6 : Vec Ideal S1x256x1024 .f32) (v8 : Vec Ideal S1x1024 .f32) (v22 v24 v36 v38 : Vec Ideal S1x1x1024 .f32)
    (r : Fin 256) (e : Fin 1024) :
    k0_pay1 (F := Ideal) (k0_pay4 i) (k0_pay5 i v6 v8 v22 v24) (k0_pay6 v36) v38 (ix2 r e)
      = Stream.normed (fun k => v6 (ix3 0 r k)) (fun k => v8 (ix2 0 k)) e
          * (1 + if (i 1).val = 0 then v22 (ix3 0 0 e) else v24 (ix3 0 0 e)) + if (i 1).val = 0 then v36 (ix3 0 0 e) else v38 (ix3 0 0 e) := by
  have hc := Stream.is_ctx (i 1) r
  unfold Stream.normed
  pointwise [k0_pay1, k0_pay4, k0_pay5, k0_pay6, hc]
  split <;> rfl

/-- What a grid point stores of the first result, from its rows. -/
theorem wide_stored (v5 : IVec S256x1 1) (v35 : FVec Ideal S256x1024 .f32) (v37 : FVec Ideal S1x1024 .f32) (v38 : Vec Ideal S1x1x1024 .f32)
    (v49 : Vec Ideal S1024x3072 .bf16) (z : Fin 1) (r : Fin 256) (l : Fin 3072) :
    k0_pay2 v5 v35 v37 v38 v49 (ix3 z r l) = ∑ k : Fin 1024, k0_pay1 v5 v35 v37 v38 (ix2 r k) * v49 (ix2 k l) := by
  pointwise [k0_pay2]

/-- What a grid point stores of the second result, from its rows. -/
theorem lows_stored (v5 : IVec S256x1 1) (v35 : FVec Ideal S256x1024 .f32) (v37 : FVec Ideal S1x1024 .f32) (v38 : Vec Ideal S1x1x1024 .f32)
    (v56 : Vec Ideal S1024x128 .bf16) (z : Fin 1) (r : Fin 256) (l : Fin 128) :
    k0_pay3 v5 v35 v37 v38 v56 (ix3 z r l) = ∑ k : Fin 1024, k0_pay1 v5 v35 v37 v38 (ix2 r k) * v56 (ix2 k l) := by
  pointwise [k0_pay3]

/-- The windows' blocks at each grid point: batch and tile. -/
theorem idx : ∀ t : Fin cfg0.N,
    win0_0.index t = ![t.val / 9, t.val % 9, 0] ∧ win0_1.index t = ![0, 0] ∧ win0_2.index t = ![t.val / 9, 0, 0]
    ∧ win0_3.index t = ![0, 0] ∧ win0_4.index t = ![0, 0] ∧ win0_5.index t = ![t.val / 9, t.val % 9, 0]
    ∧ win0_6.index t = ![t.val / 9, t.val % 9, 0] ∧ (grid0.coords t 1).val = t.val % 9 :=
  (by decide +kernel : ∀ t : Fin grid0.N, _)

variable (m : (ℓ : Loc nD τ sig) → Buf (Elt Ideal) ℓ)

/-- The tile's rows are the stream's. -/
theorem x_at (c : Dev nD) (t : Fin cfg0.N) (r : Fin 256) (k : Fin 1024) :
    (iblk m c 0 t : Vec Ideal S1x256x1024 .f32) (ix3 0 r k) = m ((c : Thread nD τ).loc main_arg0) (ix3 (Stream.bat t) (Stream.tok t r) k) := by
  have ht : t.val < 144 := t.isLt
  unfold Stream.bat Stream.tok
  blk_ext [iblk, V, idx t]

/-- The gain's block is the gain. -/
theorem g_at (c : Dev nD) (t : Fin cfg0.N) (k : Fin 1024) :
    (iblk m c 1 t : Vec Ideal S1x1024 .f32) (ix2 0 k) = m ((c : Thread nD τ).loc main_arg2) (ix1 k) := by
  blk_point [iblk, V, idx t]

/-- The input weight's block is the weight. -/
theorem w_at (c : Dev nD) (t : Fin cfg0.N) (k : Fin 1024) (l : Fin 3072) :
    (iblk m c 3 t : Vec Ideal S1024x3072 .bf16) (ix2 k l) = m ((c : Thread nD τ).loc main_arg3) (ix2 k l) := by
  blk_point [iblk, V, idx t]

/-- The low-rank weight's block is the two gates' weights side by side. -/
theorem w1_at (c : Dev nD) (t : Fin cfg0.N) (k : Fin 1024) (l : Fin 128) :
    (iblk m c 4 t : Vec Ideal S1024x128 .bf16) (ix2 k l) = pair (m ((c : Thread nD τ).loc main_arg4)) k l := by
  have he : ((cfg0.win 4).blk t).view.emb (ix2 k l) = (ix2 k l : S1024x128.Idx) := by blk_ext [idx t]
  have hl := l.isLt
  refine (congrArg (V m c main_v9 : FVec Ideal S1024x128 .bf16) he).trans ?_
  entry_read
  pointwise
  refine built_at (m ((c : Thread nD τ).loc main_arg4)) _ _ (fun k u => ?_) (fun k u => ?_) k l
  · rfl
  · rfl

/-- A tile's rows, normalised and modulated, are the reference's. -/
theorem tile_at (c : Dev nD) (t : Fin cfg0.N) (r : Fin 256) (e : Fin 1024) :
    k0_pay1 (k0_pay4 (grid0.coords t))
      (k0_pay5 (grid0.coords t) (iblk m c 0 t) (iblk m c 1 t) (View.ld (iblk m c 2 t) r0_2) (View.ld (iblk m c 2 t) r0_3))
      (k0_pay6 (View.ld (iblk m c 2 t) r0_4)) (View.ld (iblk m c 2 t) r0_5) (ix2 r e)
    = Stream.modulated (m ((c : Thread nD τ).loc main_arg0)) (m ((c : Thread nD τ).loc main_arg2)) (m ((c : Thread nD τ).loc main_arg1))
        (Stream.bat t) (Stream.tok t r) e := by
  have ht : t.val < 144 := t.isLt
  refine (hb_at _ _ _ _ _ _ _ _ _).trans ?_
  have hi : (grid0.coords t 1).val = t.val % 9 := (idx t).2.2.2.2.2.2.2
  unfold Stream.modulated
  simp only [hi, x_at, g_at]
  have hr := Stream.row_tok t r
  by_cases h9 : t.val % 9 = 0
  · rw [if_pos h9] at hr
    rw [if_pos h9, if_pos h9]
    congr 1
    · congr 2
      pointwise
      blk_ext [iblk, V, idx t]
    · pointwise
      blk_ext [iblk, V, idx t]
  · rw [if_neg h9] at hr
    rw [if_neg h9, if_neg h9]
    congr 1
    · congr 2
      pointwise
      blk_ext [iblk, V, idx t]
    · pointwise
      blk_ext [iblk, V, idx t]

/-- The call's first result is the reference's. -/
theorem final5 (c : Dev nD) :
    (dats m 0 c).arrAt 5 (cfgs 0).N
    = wide (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; unfold_out out0_5; frame_out
  have ht : t.val < 144 := t.isLt
  idx_vars y
  obtain rfl : y0 = 0 := Subsingleton.elim _ _
  have hy : ((cfg0.win 5).blk t).view.emb (ix3 0 y1 y2) = (ix3 (Stream.bat t) (Stream.tok t y1) y2 : S16x2304x3072.Idx) := by
    unfold Stream.bat Stream.tok
    blk_ext [idx t]
  refine Eq.trans ?_ ((congrArg _ hy).trans (wide_at _ _ _ _ _ _ _)).symm
  refine (wide_stored _ _ _ _ _ _ _ _ ).trans ?_
  refine Finset.sum_congr rfl fun k _ => ?_
  exact Ideal.mul_congr (tile_at m c t y1 k) (w_at m c t k y2)

/-- The call's second result is the reference's. -/
theorem final6 (c : Dev nD) :
    (dats m 0 c).arrAt 6 (cfgs 0).N
    = lows (m ((c : Thread nD τ).loc main_arg0)) (m ((c : Thread nD τ).loc main_arg1)) (m ((c : Thread nD τ).loc main_arg2))
        (m ((c : Thread nD τ).loc main_arg4)) := by
  refine (dats m 0 c).arrAt_eq_of_covers 6 _ (by decide +kernel) fun t _ y => ?_
  blk_simp
  rw [after0_6]; unfold_out out0_6; frame_out
  have ht : t.val < 144 := t.isLt
  idx_vars y
  obtain rfl : y0 = 0 := Subsingleton.elim _ _
  have hy : ((cfg0.win 6).blk t).view.emb (ix3 0 y1 y2) = (ix3 (Stream.bat t) (Stream.tok t y1) y2 : S16x2304x128.Idx) := by
    unfold Stream.bat Stream.tok
    blk_ext [idx t]
  refine Eq.trans ?_ ((congrArg _ hy).trans (lows_at _ _ _ _ _ _ _)).symm
  refine (lows_stored _ _ _ _ _ _ _ _ ).trans ?_
  refine Finset.sum_congr rfl fun k _ => ?_
  exact Ideal.mul_congr (tile_at m c t y1 k) (w1_at m c t k y2)

end Cert.Kernel2Ideal.GlaIn
-- ==== Proof.GlaOutValue.lean ====
module

public import proofs.«01_k».proof.Proof.Stream
public import proofs.«01_k».proof.Proof.Gen.Kernel3Ideal.Value
public import proofs.«01_k».proof.Proof.Gen.Reference3Ideal.Run

/-!
# The output projection of gated linear attention

The two directions' results are added, normalised head by head, gated by a silu of the layer's gates, pass one weight and are
added to the stream behind the modulation's gate.
-/

@[expose] public section

set_option maxRecDepth 16384

noncomputable section

namespace Cert.Kernel3Ideal.GlaOut

open Cert.Kernel3Ideal Cert.Kernel3Ideal.Gen Idealize.ShloMosaic Idealize.ShloMosaic.TcCoe Idealize.SL.Sem
open Idealize.ShloMosaic.Pipeline (Dat)

/-- The gated heads laid side by side, as the reference computes them. -/
def heads (A B : FVec Ideal S16x2304x1024 .f32) (Q : FVec Ideal S16x2304x3072 .bf16) (g : FVec Ideal Cert.Reference3Ideal.S256 .f32) :
    FVec Ideal S16x2304x1024 .f32 :=
  open Cert.Reference3Ideal Cert.Reference3Ideal.Gen in
  (shapeCast _ (mulf (mulf (mulf (shapeCast _ (addf A B) shapeCasts_S16x2304x1024_S16x2304x4x256) (broadcastInDim S16x2304x4x256 ![0, 1, 2, 3] bcast_S16x2304x4x1_S16x2304x4x256_0_1_2_3 (Host.rsqrt (addf (Host.divf (broadcastInDim S16x2304x4x1 ![0, 1, 2] bcast_S16x2304x4_S16x2304x4x1_0_1_2 (Host.reduceAdd (mulf (shapeCast _ (addf A B) shapeCasts_S16x2304x1024_S16x2304x4x256) (shapeCast _ (addf A B) shapeCasts_S16x2304x1024_S16x2304x4x256)) (constant S_ .f32 0x00000000#32) reducesTo_S16x2304x4x256_S16x2304x4_d3 h_S_)) (broadcastInDim S16x2304x4x1 ![] bcast_S_S16x2304x4x1 (constant S_ .f32 0x43800000#32))) (broadcastInDim S16x2304x4x1 ![] bcast_S_S16x2304x4x1 (constant S_ .f32 0x358637BD#32)))))) (broadcastInDim S16x2304x4x256 ![0, 1, 2, 3] bcast_S1x1x1x256_S16x2304x4x256_0_1_2_3 (broadcastInDim S1x1x1x256 ![3] bcast_S256_S1x1x1x256_3 g))) (mulf (shapeCast _ (extf .f32 (extractStridedSlice S16x2304x1024 ![0, 0, 2048] Q slices_S16x2304x3072_S16x2304x1024_0_0_2048) Cert.Reference3Ideal.Gen.bitsLt_bf16_f32) shapeCasts_S16x2304x1024_S16x2304x4x256) (Host.divf (broadcastInDim S16x2304x4x256 ![] bcast_S_S16x2304x4x256 (constant S_ .f32 0x3F800000#32)) (addf (broadcastInDim S16x2304x4x256 ![] bcast_S_S16x2304x4x256 (constant S_ .f32 0x3F800000#32)) (Host.exp (Host.negf (shapeCast _ (extf .f32 (extractStridedSlice S16x2304x1024 ![0, 0, 2048] Q slices_S16x2304x3072_S16x2304x1024_0_0_2048) Cert.Reference3Ideal.Gen.bitsLt_bf16_f32) shapeCasts_S16x2304x1024_S16x2304x4x256))))))) shapeCasts_S16x2304x4x256_S16x2304x1024)

/-- The reference's product with the weight. -/
def proj (Y : FVec Ideal S16x2304x1024 .f32) (W : FVec Ideal S1024x1024 .f32) : FVec Ideal S16x2304x1024 .f32 :=
  open Cert.Reference3Ideal Cert.Reference3Ideal.Gen in
  Host.dotGeneral dot_S16x2304x1024_S1024x1024_S16x2304x1024_2_0_01_1_n_n none Y W

/-- The reference's whole result. -/
def ref (X A B : FVec Ideal S16x2304x1024 .f32) (Q : FVec Ideal S16x2304x3072 .bf16) (g : FVec Ideal Cert.Reference3Ideal.S256 .f32)
    (W : FVec Ideal S1024x1024 .f32) (M : FVec Ideal S32x8x1024 .f32) : FVec Ideal S16x2304x1024 .f32 :=
  Stream.both (Stream.ctxGate X M (proj (heads A B Q g) W)) (Stream.latGate X M (proj (heads A B Q g) W))

/-- One lane of one head: divided by the head's root mean square, scaled by the gain, gated by a silu. -/
def head (o gt g : Fin 256 → EReal) (l : Fin 256) : EReal :=
  o l * Ideal.rsqrt (Ideal.div (∑ k, o k * o k) (Ideal.ofBits FTy.f32 0x43800000#32) + Ideal.ofBits FTy.f32 0x358637BD#32) * g l
    * (gt l * Ideal.div 1 (1 + Ideal.exp (-gt l)))

/-- One of a token's 1024 features: lane `k % 256` of head `k / 256`. -/
def feat (o gt : Fin 1024 → EReal) (g : Fin 256 → EReal) (k : Fin 1024) : EReal :=
  head (fun l => o ⟨k.val / 256 * 256 + l.val, by omega⟩) (fun l => gt ⟨k.val / 256 * 256 + l.val, by omega⟩) g ⟨k.val % 256, by omega⟩

/-- A feature named by the place `c` its head begins at and its lane. -/
theorem feat_head (o gt : Fin 1024 → EReal) (g : Fin 256 → EReal) (k : Fin 1024) (c : Nat) (l : Fin 256) (hc : k.val / 256 * 256 = c)
    (hl : c + l.val = k.val) :
    feat o gt g k = head (fun j => o ⟨c + j.val, by omega⟩) (fun j => gt ⟨c + j.val, by omega⟩) g l := by
  subst hc
  unfold feat
  congr 1
  apply Fin.ext
  show k.val % 256 = l.val
  omega

/-- The gated heads at one element. -/
theorem heads_at (A B : FVec Ideal S16x2304x1024 .f32) (Q : FVec Ideal S16x2304x3072 .bf16) (g : FVec Ideal Cert.Reference3Ideal.S256 .f32)
    (b : Fin 16) (n : Fin 2304) (k : Fin 1024) :
    heads A B Q g (ix3 b n k) = feat (fun k => A (ix3 b n k) + B (ix3 b n k)) (fun k => Q (ix3 b n ⟨2048 + k.val, by omega⟩)) (fun l => g (ix1 l)) k := by
  unfold feat head
  have hk : k.val / 256 * 256 + k.val % 256 = k.val := by omega
  pointwise [heads]
  simp only [hk]

/-- The product at one element. -/
theorem proj_at (Y : FVec Ideal S16x2304x1024 .f32) (W : FVec Ideal S1024x1024 .f32) (b : Fin 16) (n : Fin 2304) (e : Fin 1024) :
    proj Y W (ix3 b n e) = ∑ k : Fin 1024, Y (ix3 b n k) * W (ix2 k e) := by
  pointwise [proj]

/-- The first head as a grid point computes it. -/
theorem head0_at (v6 v8 : Vec Ideal S1x256x1024 .f32) (v11 : Vec Ideal S1x256x1024 .bf16) (v15 : Vec Ideal S1x256 .f32) (r l : Fin 256) :
    k0_pay5 v6 v8 v11 v15 (ix2 r l)
      = head (fun l => v6 (ix3 0 r ⟨0 * 256 + l.val, by omega⟩) + v8 (ix3 0 r ⟨0 * 256 + l.val, by omega⟩))
          (fun l => v11 (ix3 0 r ⟨0 * 256 + l.val, by omega⟩)) (fun l => v15 (ix2 0 l)) l := by
  unfold head
  pointwise [k0_pay5, k0_pay3, k0_pay4]
  rfl

/-- The second head as a grid point computes it. -/
theorem head1_at (v6 v8 : Vec Ideal S1x256x1024 .f32) (v11 : Vec Ideal S1x256x1024 .bf16) (v15 : Vec Ideal S1x256 .f32) (r l : Fin 256) :
    k0_pay9 (k0_pay4 v11) (k0_pay6 v6 v8) (k0_pay7 v15) (k0_pay8 v6 v8) (ix2 r l)
      = head (fun l => v6 (ix3 0 r ⟨1 * 256 + l.val, by omega⟩) + v8 (ix3 0 r ⟨1 * 256 + l.val, by omega⟩))
          (fun l => v11 (ix3 0 r ⟨1 * 256 + l.val, by omega⟩)) (fun l => v15 (ix2 0 l)) l := by
  unfold head
  pointwise [k0_pay9, k0_pay8, k0_pay7, k0_pay6, k0_pay3, k0_pay4]
  rfl

/-- The third head as a grid point computes it. -/
theorem head2_at (v6 v8 : Vec Ideal S1x256x1024 .f32) (v11 : Vec Ideal S1x256x1024 .bf16) (v15 : Vec Ideal S1x256 .f32) (r l : Fin 256) :
    k0_pay10 (k0_pay3 v6 v8) (k0_pay4 v11) v15 (ix2 r l)
      = head (fun l => v6 (ix3 0 r ⟨2 * 256 + l.val, by omega⟩) + v8 (ix3 0 r ⟨2 * 256 + l.val, by omega⟩))
          (fun l => v11 (ix3 0 r ⟨2 * 256 + l.val, by omega⟩)) (fun l => v15 (ix2 0 l)) l := by
  unfold head
  pointwise [k0_pay10, k0_pay3, k0_pay4]
  rfl

/-- The last head as a grid point computes it. -/
theorem head3_at (v6 v8 : Vec Ideal S1x256x1024 .f32) (v11 : Vec Ideal S1x256x1024 .bf16) (v15 : Vec Ideal S1x256 .f32) (r l : Fin 256) :
    k0_pay12 (k0_pay3 v6 v8) (ix2 r l) * k0_pay11 v15 (ix2 0 l)
        * (k0_pay4 v11 (ix2 r ⟨768 + l.val, by omega⟩) * Ideal.logistic (k0_pay4 v11 (ix2 r ⟨768 + l.val, by omega⟩)))
      = head (fun l => v6 (ix3 0 r ⟨3 * 256 + l.val, by omega⟩) + v8 (ix3 0 r ⟨3 * 256 + l.val, by omega⟩))
          (fun l => v11 (ix3 0 r ⟨3 * 256 + l.val, by omega⟩)) (fun l => v15 (ix2 0 l)) l := by
  unfold head
  pointwise [k0_pay12, k0_pay11, k0_pay3, k0_pay4]
  rfl

/-- What a grid point stores, from its rows, the heads' gain, the gate and the weight. -/
theorem stored (i : grid0.Coords) (v6 v8 v96 : Vec Ideal S1x256x1024 .f32) (v11 : Vec Ideal S1x256x1024 .bf16) (v15 : Vec Ideal S1x256 .f32)
    (v98 v100 : Vec Ideal S1x1x1024 .f32) (v109 : Vec Ideal S1024x1024 .bf16)
    (z : Fin 1) (r : Fin 256) (e : Fin 1024) :
    k0_pay1 (k0_pay2 i) (k0_pay4 v11) (k0_pay5 v6 v8 v11 v15) (k0_pay9 (k0_pay4 v11) (k0_pay6 v6 v8) (k0_pay7 v15) (k0_pay8 v6 v8))
        (k0_pay10 (k0_pay3 v6 v8) (k0_pay4 v11) v15) (k0_pay11 v15) (k0_pay12 (k0_pay3 v6 v8)) v96 v98 v100 v109 (ix3 z r e)
      = v96 (ix3 0 r e) + (if (i 1).val = 0 then v98 (ix3 0 0 e) else v100 (ix3 0 0 e))
          * ∑ k : Fin 1024, feat (fun k => v6 (ix3 0 r k) + v8 (ix3 0 r k)) (fun k => v11 (ix3 0 r k)) (fun l => v15 (ix2 0 l)) k * v109 (ix2 k e) := by
  have hs : ∀ x y : EReal, Scalar.select (if (i 1).val = 0 then 1#1 else 0#1) x y = if (i 1).val = 0 then x else y := by
    intro x y; split <;> rfl
  have hc := Stream.is_ctx (i 1) r
  pointwise [k0_pay1, k0_pay2, hc, hs, head0_at, head1_at, head2_at]
  refine congrArg₂ _ rfl (Ideal.mul_congr rfl (Finset.sum_congr rfl fun k _ => Ideal.mul_congr ?_ rfl))
  have hk := k.isLt
  split
  · refine ((feat_head _ _ _ k 0 ⟨k.val, by omega⟩ (by omega) (by simp)).trans ?_).symm
    simp only [Nat.zero_add]
  · split
    · refine ((feat_head _ _ _ k 256 ⟨k.val - 256, by omega⟩ (by omega) (by show 256 + (k.val - 256) = k.val; omega)).trans ?_).symm; rfl
    · split
      · refine ((feat_head _ _ _ k 512 ⟨k.val - 256 - 256, by omega⟩ (by omega) (by show 512 + (k.val - 256 - 256) = k.val; omega)).trans ?_).symm; rfl
      · exact ((feat_head _ _ _ k 768 ⟨k.val - 256 - 256 - 256, by omega⟩ (by omega) (by show 768 + (k.val - 256 - 256 - 256) = k.val; omega)).trans (head3_at v6 v8 v11 v15 r _).symm).symm

/-- The windows' blocks at each grid point: batch and tile. -/
theorem idx : ∀ t : Fin cfg0.N,
    win0_0.index t = ![t.val / 9, t.val % 9, 0] ∧ win0_1.index t = ![t.val / 9, t.val % 9, 0] ∧ win0_2.index t = ![t.val / 9, t.val % 9, 0]
    ∧ win0_3.index t = ![t.val / 9, t.val % 9, 2] ∧ win0_4.index t = ![0, 0] ∧ win0_5.index t = ![0, 0]
    ∧ win0_6.index t = ![t.val / 9, 0, 0] ∧ win0_7.index t = ![t.val / 9, t.val % 9, 0] ∧ (grid0.coords t 1).val = t.val % 9 :=
  (by decide +kernel : ∀ t : Fin grid0.N, _)

variable (m : (ℓ : Loc nD τ sig) → Buf (Elt Ideal) ℓ)

/-- The tile's rows are the stream's. -/
theorem x_at (c : Dev nD) (t : Fin cfg0.N) (r : Fin 256) (k : Fin 1024) :
    (iblk m c 0 t : Vec Ideal S1x256x1024 .f32) (ix3 0 r k) = m ((c : Thread nD τ).loc main_arg0) (ix3 (Stream.bat t) (Stream.tok t r) k) := by
  have ht : t.val < 144 := t.isLt
  unfold Stream.bat Stream.tok
  blk_ext [iblk, V, idx t]

/-- The first direction's rows. -/
theorem a_at (c : Dev nD) (t : Fin cfg0.N) (r : Fin 256) (k : Fin 1024) :
    (iblk m c 1 t : Vec Ideal S1x256x1024 .f32) (ix3 0 r k) = m ((c : Thread nD τ).loc main_arg1) (ix3 (Stream.bat t) (Stream.tok t r) k) := by
  have ht : t.val < 144 := t.isLt
  unfold Stream.bat Stream.tok
  blk_ext [iblk, V, idx t]

/-- The other direction's rows. -/
theorem b_at (c : Dev nD) (t : Fin cfg0.N) (r : Fin 256) (k : Fin 1024) :
    (iblk m c 2 t : Vec Ideal S1x256x1024 .f32) (ix3 0 r k) = m ((c : Thread nD τ).loc main_arg2) (ix3 (Stream.bat t) (Stream.tok t r) k) := by
  have ht : t.val < 144 := t.isLt
  unfold Stream.bat Stream.tok
  blk_ext [iblk, V, idx t]

/-- The gates' rows: the last third of the projected features. -/
theorem q_at (c : Dev nD) (t : Fin cfg0.N) (r : Fin 256) (k : Fin 1024) :
    (iblk m c 3 t : Vec Ideal S1x256x1024 .bf16) (ix3 0 r k)
      = m ((c : Thread nD τ).loc main_arg3) (ix3 (Stream.bat t) (Stream.tok t r) ⟨2048 + k.val, by omega⟩) := by
  have ht : t.val < 144 := t.isLt
  unfold Stream.bat Stream.tok
  blk_ext [iblk, V, idx t]

/-- The gain's block is the gain. -/
theorem g_at (c : Dev nD) (t : Fin cfg0.N) (k : Fin 256) :
    (iblk m c 4 t : Vec Ideal S1x256 .f32) (ix2 0 k) = m ((c : Thread nD τ).loc main_arg4) (ix1 k) := by
  blk_point [iblk, V, idx t]

/-- The weight's block is the weight. -/
theorem w_at (c : Dev nD) (t : Fin cfg0.N) (k l : Fin 1024) :
    (iblk m c 5 t : Vec Ideal S1024x1024 .bf16) (ix2 k l) = m ((c : Thread nD τ).loc main_arg5) (ix2 k l) := by
  blk_point [iblk, V, idx t]

/-- The gate's row a tile's tokens use, picked between the context's block row and the latent tokens'. -/
theorem mods_at (c : Dev nD) (t : Fin cfg0.N) (j : Fin 8) (r : Fin 256) (e : Fin 1024) (u v : EReal)
    (hu : u = (iblk m c 6 t : Vec Ideal S2x8x1024 .f32) (ix3 0 j e)) (hv : v = (iblk m c 6 t : Vec Ideal S2x8x1024 .f32) (ix3 1 j e)) :
    (if (grid0.coords t 1).val = 0 then u else v)
      = m ((c : Thread nD τ).loc main_arg6) (ix3 (Stream.row (Stream.bat t) (Stream.tok t r)) j e) := by
  have ht : t.val < 144 := t.isLt
  have hi : (grid0.coords t 1).val = t.val % 9 := (idx t).2.2.2.2.2.2.2.2
  have hr := Stream.row_tok t r
  rw [hu, hv]
  simp only [hi]
  by_cases h9 : t.val % 9 = 0
  · rw [if_pos h9] at hr ⊢
    blk_ext [iblk, V, idx t]
  · rw [if_neg h9] at hr ⊢
    blk_ext [iblk, V, idx t]

/-- The result buffer holds the reference's result. -/
theorem final (c : Dev nD) :
    (dats m 0 c).arrAt 7 (cfgs 0).N
      = ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t _ y => ?_
  blk_simp
  rw [after0_7]; unfold_out out0_7; frame_out
  have ht : t.val < 144 := t.isLt
  idx_vars y
  obtain rfl : y0 = 0 := Subsingleton.elim _ _
  have hy : ((cfg0.win 7).blk t).view.emb (ix3 0 y1 y2) = (ix3 (Stream.bat t) (Stream.tok t y1) y2 : S16x2304x1024.Idx) := by
    unfold Stream.bat Stream.tok; blk_ext [idx t]
  refine Eq.trans ?_ ((congrArg _ hy).trans (Stream.update_at _ _ _ _ _ _)).symm
  refine (stored _ _ _ _ _ _ _ _ _ _ _ _).trans ?_
  unfold Stream.gated
  rw [proj_at]
  refine congrArg₂ _ (x_at m c t y1 y2) (Ideal.mul_congr (mods_at m c t 2 y1 y2 _ _ (by pointwise; blk_ext [iblk, V, idx t]) (by pointwise; blk_ext [iblk, V, idx t]))
    (Finset.sum_congr rfl fun k _ => Ideal.mul_congr ?_ (w_at m c t k y2)))
  rw [heads_at]
  congr 1
  · funext k; exact congrArg₂ _ (a_at m c t y1 k) (b_at m c t y1 k)
  · funext k; exact q_at m c t y1 k
  · funext l; exact g_at m c t l

end Cert.Kernel3Ideal.GlaOut
-- ==== Proof.S5Value.lean ====
module

public import proofs.«01_k».proof.Proof.Stream
public import proofs.«01_k».proof.Proof.Gen.Kernel4Ideal.Value
public import proofs.«01_k».proof.Proof.Gen.Reference4Ideal.Run

/-!
# The gated linear unit after the state space

The two directions' state-space outputs and a skip of the normalised stream are added, pass a gelu, one weight with two halves,
a sigmoid gate between the halves, and are added to the stream behind the modulation's gate.
-/

@[expose] public section

set_option maxRecDepth 16384

noncomputable section

namespace Cert.Kernel4Ideal.S5

open Cert.Kernel4Ideal Cert.Kernel4Ideal.Gen Idealize.ShloMosaic Idealize.ShloMosaic.TcCoe Idealize.SL.Sem
open Idealize.ShloMosaic.Pipeline (Dat)

/-- What the gelu is applied to, as the reference computes it. -/
def pre (Y : FVec Ideal S2x36864x1024 .f32) (D : FVec Ideal Cert.Reference4Ideal.S1024 .f32) (H : FVec Ideal S16x2304x1024 .f32) :
    FVec Ideal S16x2304x1024 .f32 :=
  open Cert.Reference4Ideal Cert.Reference4Ideal.Gen in
  addf (addf (shapeCast _ (extractStridedSlice S1x16x2304x1024 ![0, 0, 0, 0] (transpose S2x16x2304x1024 [0, 2, 1, 3] (shapeCast _ Y shapeCasts_S2x36864x1024_S2x2304x16x1024) transposes_S2x2304x16x1024_S2x16x2304x1024_0_2_1_3) slices_S2x16x2304x1024_S1x16x2304x1024_0_0_0_0) shapeCasts_S1x16x2304x1024_S16x2304x1024) (shapeCast _ (extractStridedSlice S1x16x2304x1024 ![1, 0, 0, 0] (transpose S2x16x2304x1024 [0, 2, 1, 3] (shapeCast _ Y shapeCasts_S2x36864x1024_S2x2304x16x1024) transposes_S2x2304x16x1024_S2x16x2304x1024_0_2_1_3) slices_S2x16x2304x1024_S1x16x2304x1024_1_0_0_0) shapeCasts_S1x16x2304x1024_S16x2304x1024)) (mulf (broadcastInDim S16x2304x1024 ![0, 1, 2] bcast_S1x1x1024_S16x2304x1024_0_1_2 (broadcastInDim S1x1x1024 ![2] bcast_S1024_S1x1x1024_2 D)) H)

/-- The gelu and the weight's product, as the reference computes them. -/
def both (P : FVec Ideal S16x2304x1024 .f32) (W : FVec Ideal S1024x2048 .f32) : FVec Ideal Cert.Reference4Ideal.S16x2304x2048 .f32 :=
  open Cert.Reference4Ideal Cert.Reference4Ideal.Gen in
  Host.dotGeneral dot_S16x2304x1024_S1024x2048_S16x2304x2048_2_0_01_1_n_n none (mulf P (mulf (broadcastInDim S16x2304x1024 ![] bcast_S_S16x2304x1024 (constant S_ .f32 0x3F000000#32)) (addf (broadcastInDim S16x2304x1024 ![] bcast_S_S16x2304x1024 (constant S_ .f32 0x3F800000#32)) (Host.tanh (mulf (broadcastInDim S16x2304x1024 ![] bcast_S_S16x2304x1024 (constant S_ .f32 0x3F4C422A#32)) (addf P (mulf (broadcastInDim S16x2304x1024 ![] bcast_S_S16x2304x1024 (constant S_ .f32 0x3D372713#32)) (mulf (mulf P P) P)))))))) W

/-- The gate between the two halves, as the reference computes it. -/
def glu (Z : FVec Ideal Cert.Reference4Ideal.S16x2304x2048 .f32) : FVec Ideal S16x2304x1024 .f32 :=
  open Cert.Reference4Ideal Cert.Reference4Ideal.Gen in
  mulf (extractStridedSlice S16x2304x1024 ![0, 0, 0] Z slices_S16x2304x2048_S16x2304x1024_0_0_0) (Host.divf (broadcastInDim S16x2304x1024 ![] bcast_S_S16x2304x1024 (constant S_ .f32 0x3F800000#32)) (addf (broadcastInDim S16x2304x1024 ![] bcast_S_S16x2304x1024 (constant S_ .f32 0x3F800000#32)) (Host.exp (Host.negf (extractStridedSlice S16x2304x1024 ![0, 0, 1024] Z slices_S16x2304x2048_S16x2304x1024_0_0_1024)))))

/-- The reference's whole result. -/
def ref (X : FVec Ideal S16x2304x1024 .f32) (M : FVec Ideal S32x8x1024 .f32) (G : FVec Ideal Cert.Reference4Ideal.S1024 .f32)
    (Y : FVec Ideal S2x36864x1024 .f32) (D : FVec Ideal Cert.Reference4Ideal.S1024 .f32) (W : FVec Ideal S1024x2048 .f32) :
    FVec Ideal S16x2304x1024 .f32 :=
  Stream.both (Stream.ctxGate X M (glu (both (pre Y D (Stream.both (Stream.ctxPart X G M) (Stream.latPart X G M))) W)))
    (Stream.latGate X M (glu (both (pre Y D (Stream.both (Stream.ctxPart X G M) (Stream.latPart X G M))) W)))

/-- The gelu by a hyperbolic tangent of one number. -/
def gelu (p : EReal) : EReal :=
  p * (Ideal.ofBits FTy.f32 0x3F000000#32
    * (1 + Ideal.tanh (Ideal.ofBits FTy.f32 0x3F4C422A#32 * (p + Ideal.ofBits FTy.f32 0x3D372713#32 * (p * p * p)))))

/-- What the gelu is applied to, at one element: both directions' outputs at the token and the skip of the stream. -/
theorem pre_at (Y : FVec Ideal S2x36864x1024 .f32) (D : FVec Ideal Cert.Reference4Ideal.S1024 .f32) (H : FVec Ideal S16x2304x1024 .f32)
    (b : Fin 16) (n : Fin 2304) (e : Fin 1024) :
    pre Y D H (ix3 b n e) = Y (ix3 0 ⟨n.val * 16 + b.val, by omega⟩ e) + Y (ix3 1 ⟨n.val * 16 + b.val, by omega⟩ e) + D (ix1 e) * H (ix3 b n e) := by
  pointwise [pre]

/-- The weight's product at one element. -/
theorem both_at (P : FVec Ideal S16x2304x1024 .f32) (W : FVec Ideal S1024x2048 .f32) (b : Fin 16) (n : Fin 2304) (l : Fin 2048) :
    both P W (ix3 b n l) = ∑ k : Fin 1024, gelu (P (ix3 b n k)) * W (ix2 k l) := by
  unfold gelu
  pointwise [both]

/-- The gated unit at one element, from the two halves' products. -/
def glu1 (a g : EReal) : EReal := a * Ideal.div 1 (1 + Ideal.exp (-g))

/-- The gated unit at one element is that of its two halves' elements. -/
theorem glu_at (Z : FVec Ideal Cert.Reference4Ideal.S16x2304x2048 .f32) (b : Fin 16) (n : Fin 2304) (e : Fin 1024) :
    glu Z (ix3 b n e) = glu1 (Z (ix3 b n ⟨e.val, by omega⟩)) (Z (ix3 b n ⟨1024 + e.val, by omega⟩)) := by
  unfold glu1
  pointwise [glu]

/-- The kernel's order of the gelu's factors. -/
theorem gelu_kernel (p : EReal) :
    Ideal.ofBits FTy.f32 0x3F000000#32 * p
      * (1 + Ideal.tanh (Ideal.ofBits FTy.f32 0x3F4C422A#32 * (p + Ideal.ofBits FTy.f32 0x3D372713#32 * p * p * p))) = gelu p := by
  unfold gelu
  ac_nf

/-- What a grid point computes between the weight's two halves, from the rows the gelu is applied to. -/
theorem glu_stored (i : grid0.Coords) (v35 : FVec Ideal S256x1024 .f32) (v36 v38 : Vec Ideal S1x1x1024 .f32)
    (v48 v50 : Vec Ideal S1x256x1024 .f32) (v53 : Vec Ideal S1x1024 .f32) (v72 : Vec Ideal S1024x2048 .bf16) (P : Fin 256 → Fin 1024 → EReal)
    (hP : ∀ r e, v48 (ix3 0 r e) + v50 (ix3 0 r e)
      + v53 (ix2 0 e) * (v35 (ix2 r e) + if (i 1).val = 0 then v36 (ix3 0 0 e) else v38 (ix3 0 0 e)) = P r e) (r : Fin 256) (e : Fin 1024) :
    k0_pay6 (k0_pay2 i) v35 (k0_pay5 v36) v38 v48 v50 v53 v72 (ix2 r e)
      = glu1 (∑ k, gelu (P r k) * v72 (ix2 k ⟨e.val, by omega⟩)) (∑ k, gelu (P r k) * v72 (ix2 k ⟨1024 + e.val, by omega⟩)) := by
  have hs : ∀ x y : EReal, Scalar.select (if (i 1).val = 0 then 1#1 else 0#1) x y = if (i 1).val = 0 then x else y := by
    intro x y; split <;> rfl
  have hc := Stream.is_ctx (i 1) r
  unfold glu1
  pointwise [k0_pay6, k0_pay2, k0_pay5, hc, hs, hP, gelu_kernel]
  rfl

/-- What a grid point stores, from its rows, its modulation and the update. -/
theorem stored (i : grid0.Coords) (v7 : Vec Ideal S1x256x1024 .f32) (v78 : FVec Ideal S256x1024 .f32) (v79 v81 : Vec Ideal S1x1x1024 .f32)
    (z : Fin 1) (r : Fin 256) (e : Fin 1024) :
    k0_pay1 (k0_pay2 i) (k0_pay3 v7) v78 v79 v81 (ix3 z r e)
      = v7 (ix3 0 r e) + (if (i 1).val = 0 then v79 (ix3 0 0 e) else v81 (ix3 0 0 e)) * v78 (ix2 r e) := by
  have hs : ∀ x y : EReal, Scalar.select (if (i 1).val = 0 then 1#1 else 0#1) x y = if (i 1).val = 0 then x else y := by
    intro x y; split <;> rfl
  have hc := Stream.is_ctx (i 1) r
  pointwise [k0_pay1, k0_pay2, k0_pay3, hc, hs]

/-- A row of a tile, normalised and scaled, from the loaded blocks. -/
theorem scaled_at (i : grid0.Coords) (v6 : Vec Ideal S1x256x1024 .f32) (v8 : Vec Ideal S1x1024 .f32) (v22 v24 : Vec Ideal S1x1x1024 .f32)
    (r : Fin 256) (e : Fin 1024) :
    k0_pay4 i v6 v8 v22 v24 (ix2 r e)
      = Stream.normed (fun k => v6 (ix3 0 r k)) (fun k => v8 (ix2 0 k)) e
          * (1 + if (i 1).val = 0 then v22 (ix3 0 0 e) else v24 (ix3 0 0 e)) := by
  have hs : ∀ x y : EReal, Scalar.select (if (i 1).val = 0 then 1#1 else 0#1) x y = if (i 1).val = 0 then x else y := by
    intro x y; split <;> rfl
  have hc := Stream.is_ctx (i 1) r
  unfold Stream.normed
  pointwise [k0_pay4, k0_pay2, k0_pay3, hc, hs]

/-- The windows' blocks at each grid point: batch and tile. -/
theorem idx : ∀ t : Fin cfg0.N,
    win0_0.index t = ![t.val / 9, t.val % 9, 0] ∧ win0_1.index t = ![0, 0] ∧ win0_2.index t = ![t.val / 9, 0, 0]
    ∧ win0_3.index t = ![0, t.val % 9, t.val / 9] ∧ win0_4.index t = ![0, 0] ∧ win0_5.index t = ![0, 0]
    ∧ win0_6.index t = ![t.val / 9, t.val % 9, 0] ∧ (grid0.coords t 1).val = t.val % 9 :=
  (by decide +kernel : ∀ t : Fin grid0.N, _)

variable (m : (ℓ : Loc nD τ sig) → Buf (Elt Ideal) ℓ)

/-- The tile's rows are the stream's. -/
theorem x_at (c : Dev nD) (t : Fin cfg0.N) (r : Fin 256) (k : Fin 1024) :
    (iblk m c 0 t : Vec Ideal S1x256x1024 .f32) (ix3 0 r k) = m ((c : Thread nD τ).loc main_arg0) (ix3 (Stream.bat t) (Stream.tok t r) k) := by
  have ht : t.val < 144 := t.isLt
  unfold Stream.bat Stream.tok
  blk_ext [iblk, V, idx t]

/-- The gain's block is the gain. -/
theorem g_at (c : Dev nD) (t : Fin cfg0.N) (k : Fin 1024) :
    (iblk m c 1 t : Vec Ideal S1x1024 .f32) (ix2 0 k) = m ((c : Thread nD τ).loc main_arg2) (ix1 k) := by
  blk_point [iblk, V, idx t]

/-- The skip's block is the skip. -/
theorem d_at (c : Dev nD) (t : Fin cfg0.N) (k : Fin 1024) :
    (iblk m c 4 t : Vec Ideal S1x1024 .f32) (ix2 0 k) = m ((c : Thread nD τ).loc main_arg4) (ix1 k) := by
  blk_point [iblk, V, idx t]

/-- The weight's block is the weight. -/
theorem w_at (c : Dev nD) (t : Fin cfg0.N) (k : Fin 1024) (l : Fin 2048) :
    (iblk m c 5 t : Vec Ideal S1024x2048 .bf16) (ix2 k l) = m ((c : Thread nD τ).loc main_arg5) (ix2 k l) := by
  blk_point [iblk, V, idx t]

/-- The state space's block, one direction after the other. -/
theorem y_at (c : Dev nD) (t : Fin cfg0.N) (j : Fin 2) (r : Fin 256) (k : Fin 1024) :
    (iblk m c 3 t : Vec Ideal S2x256x1024 .f32) (ix3 j r k)
      = m ((c : Thread nD τ).loc main_arg3) (ix3 j ⟨(Stream.tok t r).val * 16 + (Stream.bat t).val, by omega⟩ k) := by
  have ht : t.val < 144 := t.isLt
  unfold Stream.bat Stream.tok
  blk_point [iblk, V, idx t]

/-- The modulation rows a tile's tokens use, picked between the context's block row and the latent tokens'. -/
theorem mods_at (c : Dev nD) (t : Fin cfg0.N) (j : Fin 8) (r : Fin 256) (e : Fin 1024) (u v : EReal)
    (hu : u = (iblk m c 2 t : Vec Ideal S2x8x1024 .f32) (ix3 0 j e)) (hv : v = (iblk m c 2 t : Vec Ideal S2x8x1024 .f32) (ix3 1 j e)) :
    (if (grid0.coords t 1).val = 0 then u else v)
      = m ((c : Thread nD τ).loc main_arg1) (ix3 (Stream.row (Stream.bat t) (Stream.tok t r)) j e) := by
  have ht : t.val < 144 := t.isLt
  have hi : (grid0.coords t 1).val = t.val % 9 := (idx t).2.2.2.2.2.2.2
  have hr := Stream.row_tok t r
  rw [hu, hv]
  simp only [hi]
  by_cases h9 : t.val % 9 = 0
  · rw [if_pos h9] at hr ⊢
    blk_ext [iblk, V, idx t]
  · rw [if_neg h9] at hr ⊢
    blk_ext [iblk, V, idx t]

/-- The result buffer holds the reference's result. -/
theorem final (c : Dev nD) :
    (dats m 0 c).arrAt 6 (cfgs 0).N
      = ref (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; unfold_out out0_6; frame_out
  have ht : t.val < 144 := t.isLt
  idx_vars y
  obtain rfl : y0 = 0 := Subsingleton.elim _ _
  have hy : ((cfg0.win 6).blk t).view.emb (ix3 0 y1 y2) = (ix3 (Stream.bat t) (Stream.tok t y1) y2 : S16x2304x1024.Idx) := by
    unfold Stream.bat Stream.tok; blk_ext [idx t]
  refine Eq.trans ?_ ((congrArg _ hy).trans (Stream.update_at _ _ _ _ _ _)).symm
  refine (stored _ _ _ _ _ _ _ _).trans ?_
  unfold Stream.gated
  rw [glu_at, both_at, both_at]
  refine congrArg₂ _ (x_at m c t y1 y2) (Ideal.mul_congr (mods_at m c t 2 y1 y2 _ _ (by pointwise; blk_ext [iblk, V, idx t]) (by pointwise; blk_ext [iblk, V, idx t])) ?_)
  refine (glu_stored _ _ _ _ _ _ _ _ (fun r e => pre (m ((c : Thread nD τ).loc main_arg3)) (m ((c : Thread nD τ).loc main_arg4))
    (Stream.both (Stream.ctxPart (m ((c : Thread nD τ).loc main_arg0)) (m ((c : Thread nD τ).loc main_arg2)) (m ((c : Thread nD τ).loc main_arg1))) (Stream.latPart (m ((c : Thread nD τ).loc main_arg0)) (m ((c : Thread nD τ).loc main_arg2)) (m ((c : Thread nD τ).loc main_arg1))))
    (ix3 (Stream.bat t) (Stream.tok t r) e)) ?_ _ _).trans ?_
  · intro r e
    rw [pre_at, Stream.stream_at, scaled_at]
    unfold Stream.modulated
    refine congrArg₂ _ (congrArg₂ _ ?_ ?_) ?_
    · refine Eq.trans ?_ (y_at m c t 0 r e); pointwise; blk_ext [iblk, V, idx t]
    · refine Eq.trans ?_ (y_at m c t 1 r e); pointwise; blk_ext [iblk, V, idx t]
    · refine Ideal.mul_congr (d_at m c t e) (congrArg₂ _ (Ideal.mul_congr ?_ (congrArg _ (mods_at m c t 1 r e _ _ ?_ ?_))) (mods_at m c t 0 r e _ _ ?_ ?_))
      · congr 1
        · funext k; exact x_at m c t r k
        · funext k; exact g_at m c t k
      all_goals (pointwise; blk_ext [iblk, V, idx t])
  · refine congrArg₂ _ ?_ ?_ <;>
      exact Finset.sum_congr rfl fun k _ => Ideal.mul_congr rfl (w_at m c t k _)

end Cert.Kernel4Ideal.S5
-- ==== Proof.MlaOutValue.lean ====
module

public import proofs.«01_k».proof.Proof.Stream
public import proofs.«01_k».proof.Proof.Gen.Kernel5Ideal.Value
public import proofs.«01_k».proof.Proof.Gen.Reference5Ideal.Run

/-!
# The output projection of the latent attention

The attention's result passes one weight and is added, behind the modulation's gate, to the stream's latent tokens. The
context's tokens stay as they are: the call's blocks never touch them.
-/

@[expose] public section

set_option maxRecDepth 16384

noncomputable section

namespace Cert.Kernel5Ideal.MlaOut

open Cert.Kernel5Ideal Cert.Kernel5Ideal.Gen Idealize.ShloMosaic Idealize.ShloMosaic.TcCoe Idealize.SL.Sem
open Idealize.ShloMosaic.Pipeline (Dat)

/-- The latent tokens with the projected attention added, as the reference computes them. -/
def lat (X : FVec Ideal S16x2304x1024 .f32) (O : FVec Ideal S16x2048x1024 .bf16) (W : FVec Ideal S1024x1024 .f32)
    (M : FVec Ideal S32x8x1024 .f32) : FVec Ideal S16x2048x1024 .f32 :=
  open Cert.Reference5Ideal Cert.Reference5Ideal.Gen in
  addf (extractStridedSlice S16x2048x1024 ![0, 256, 0] X slices_S16x2304x1024_S16x2048x1024_0_256_0) (mulf (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 1, 2, 0] (shapeCast _ M shapeCasts_S32x8x1024_S16x2x8x1024) slices_S16x2x8x1024_S16x1x1x1024_0_1_2_0) shapeCasts_S16x1x1x1024_S16x1024))) (Host.dotGeneral dot_S16x2048x1024_S1024x1024_S16x2048x1024_2_0_01_1_n_n none (extf .f32 O Cert.Reference5Ideal.Gen.bitsLt_bf16_f32) W))

/-- The reference's whole result. -/
def ref (X : FVec Ideal S16x2304x1024 .f32) (O : FVec Ideal S16x2048x1024 .bf16) (W : FVec Ideal S1024x1024 .f32)
    (M : FVec Ideal S32x8x1024 .f32) : FVec Ideal S16x2304x1024 .f32 :=
  open Cert.Reference5Ideal Cert.Reference5Ideal.Gen in
  Stream.both (extractStridedSlice S16x256x1024 ![0, 0, 0] X slices_S16x2304x1024_S16x256x1024_0_0_0) (lat X O W M)

/-- A latent token's element in the reference. -/
theorem lat_at (X : FVec Ideal S16x2304x1024 .f32) (O : FVec Ideal S16x2048x1024 .bf16) (W : FVec Ideal S1024x1024 .f32)
    (M : FVec Ideal S32x8x1024 .f32) (b : Fin 16) (n : Fin 2048) (e : Fin 1024) :
    lat X O W M (ix3 b n e)
      = X (ix3 b ⟨256 + n.val, by omega⟩ e) + M (ix3 ⟨b.val * 2 + 1, by omega⟩ 2 e) * ∑ k : Fin 1024, O (ix3 b n k) * W (ix2 k e) := by
  pointwise [lat]

/-- The context's tokens in the reference are the stream's. -/
theorem ref_ctx (X : FVec Ideal S16x2304x1024 .f32) (O : FVec Ideal S16x2048x1024 .bf16) (W : FVec Ideal S1024x1024 .f32)
    (M : FVec Ideal S32x8x1024 .f32) (b : Fin 16) (n : Fin 2304) (e : Fin 1024) (h : n.val < 256) :
    ref X O W M (ix3 b n e) = X (ix3 b n e) := by
  unfold ref
  rw [Stream.both_at, dif_pos h]
  pointwise

/-- The latent tokens in the reference are the part computed for them. -/
theorem ref_lat (X : FVec Ideal S16x2304x1024 .f32) (O : FVec Ideal S16x2048x1024 .bf16) (W : FVec Ideal S1024x1024 .f32)
    (M : FVec Ideal S32x8x1024 .f32) (b : Fin 16) (n : Fin 2048) (e : Fin 1024) :
    ref X O W M (ix3 b ⟨256 + n.val, by omega⟩ e) = lat X O W M (ix3 b n e) := by
  unfold ref
  rw [Stream.both_at, dif_neg (by simp)]
  congr 2
  apply Fin.ext
  simp

/-- The kernel's test on a token of latent tile `t`, whether it is one of the context's: none is. -/
theorem not_ctx (t : Fin 8) (r : Fin 256) :
    IntOp.cmpi CmpIPredicate.slt (IntOp.addi (Scalar.muli (Scalar.addi (BitVec.ofNat 32 t.val) 1#32) 256#32) (BitVec.ofNat 32 r.val)) 256#32
      = 0#1 := by
  revert t r
  decide +kernel

/-- What a grid point stores, from its rows. -/
theorem stored (i : grid0.Coords) (v7 : Vec Ideal S1x256x1024 .bf16) (v9 : Vec Ideal S1024x1024 .bf16) (v12 : Vec Ideal S1x256x1024 .f32)
    (v14 v16 : Vec Ideal S1x1x1024 .f32) (z : Fin 1) (r : Fin 256) (e : Fin 1024) :
    k0_pay1 i v7 v9 v12 v14 v16 (ix3 z r e)
      = v12 (ix3 0 r e) + v16 (ix3 0 0 e) * ∑ k : Fin 1024, v7 (ix3 0 r k) * v9 (ix2 k e) := by
  have hs : ∀ x y : EReal, Scalar.select 0#1 x y = y := fun _ _ => rfl
  have hc := not_ctx (i 1) r
  pointwise [k0_pay1, hc, hs]

/-- The windows' blocks at each grid point: batch and tile. -/
theorem idx : ∀ t : Fin cfg0.N,
    win0_0.index t = ![t.val / 8, t.val % 8 + 1, 0] ∧ win0_1.index t = ![t.val / 8, t.val % 8, 0] ∧ win0_2.index t = ![0, 0]
    ∧ win0_3.index t = ![t.val / 8, 0, 0] ∧ win0_4.index t = ![t.val / 8, t.val % 8 + 1, 0] :=
  (by decide +kernel : ∀ t : Fin grid0.N, _)

/-- The batch of point `t` of a grid of 16 batches by 8 tiles. -/
def bat (t : Fin 128) : Fin 16 := ⟨t.val / 8, by omega⟩

/-- The latent token of a row of that point's tile. -/
def tok (t : Fin 128) (r : Fin 256) : Fin 2048 := ⟨t.val % 8 * 256 + r.val, by omega⟩

variable (m : (ℓ : Loc nD τ sig) → Buf (Elt Ideal) ℓ)

/-- The result buffer holds the reference's result. -/
theorem final (c : Dev nD) :
    (dats m 0 c).arrAt 4 (cfgs 0).N
      = ref (m ((c : Thread nD τ).loc main_arg0)) (m ((c : Thread nD τ).loc main_arg1)) (m ((c : Thread nD τ).loc main_arg2))
          (m ((c : Thread nD τ).loc main_arg3)) := by
  have h : (dats m 0 c).arrAt 4 (cfgs 0).N = fun i : S16x2304x1024.Idx => if 256 ≤ (i 1 : ℕ) then
      ref (m ((c : Thread nD τ).loc main_arg0)) (m ((c : Thread nD τ).loc main_arg1)) (m ((c : Thread nD τ).loc main_arg2))
        (m ((c : Thread nD τ).loc main_arg3)) i else V m c main_v1 i := by
    refine (dats m 0 c).arrAt_eq_of_coversWhere 4 _ (fun β => 1 ≤ β 1) (by decide +kernel) (fun t hf y => ?_)
      (fun j => by blk_simp [Pipeline.Window.cell_apply]; omega)
    blk_simp; rw [after0_4]; frame_out
    have ht : t.val < 128 := t.isLt
    idx_vars y
    obtain rfl : y0 = 0 := Subsingleton.elim _ _
    have hy : ((cfg0.win 4).blk t).view.emb (ix3 0 y1 y2) = (ix3 (bat t) ⟨256 + (tok t y1).val, by omega⟩ y2 : S16x2304x1024.Idx) := by
      unfold bat tok; blk_ext [idx t]
    refine Eq.trans ?_ ((congrArg _ hy).trans ((ref_lat _ _ _ _ _ _ _).trans (lat_at _ _ _ _ _ _ _))).symm
    refine (stored _ _ _ _ _ _ _ _ _).trans ?_
    refine congrArg₂ _ ?_ (Ideal.mul_congr ?_ (Finset.sum_congr rfl fun k _ => Ideal.mul_congr ?_ ?_))
    · unfold bat tok; blk_ext [iblk, V, idx t]
    · unfold bat; pointwise; blk_ext [iblk, V, idx t]
    · unfold bat tok; blk_ext [iblk, V, idx t]
    · blk_point [iblk, V, idx t]
  rw [h]
  have hV : V m c main_v1 = m ((c : Thread nD τ).loc main_arg0) := by unfold V; after_results; try rfl
  funext i
  idx_vars i
  show (if 256 ≤ i1.val then _ else _) = _
  split
  · rfl
  · rw [hV]; exact (ref_ctx _ _ _ _ _ _ _ (by omega)).symm

end Cert.Kernel5Ideal.MlaOut
-- ==== Proof.MlaCtxValue.lean ====
/- What the attention of the context tokens computes: 256 queries over the stream's first 256 keys. Every element of its result
   is the reference's. -/
module

public import proofs.«01_k».proof.Proof.Finite
public import proofs.«01_k».proof.Proof.Gen.Pre_finite_context_queries_and_keys
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.Ctx

open Cert.Kernel7Ideal Cert.Kernel7Ideal.Gen Idealize.ShloMosaic Idealize.ShloMosaic.TcCoe Idealize.SL.Sem
open Idealize.ShloMosaic.Pipeline (Dat)

/-- The reference's scores, one per batch, head, query and key. -/
def scores (Q : FVec Ideal S16x256x2048 .bf16) (K : FVec Ideal S16x256x2048 .bf16) :
    FVec Ideal Cert.Reference7Ideal.S16x16x256x256 .f32 :=
  Host.dotGeneral (φ₁ := .f32) (φ₂ := .f32)
    Cert.Reference7Ideal.dot_S16x256x16x128_S16x256x16x128_S16x16x256x256_3_3_1_1_02_02 none
    (shapeCast _ (extf .f32 Q Cert.Reference7Ideal.Gen.bitsLt_bf16_f32)
      Cert.Reference7Ideal.Gen.shapeCasts_S16x256x2048_S16x256x16x128)
    (shapeCast _ (extf .f32 K Cert.Reference7Ideal.Gen.bitsLt_bf16_f32)
      Cert.Reference7Ideal.Gen.shapeCasts_S16x256x2048_S16x256x16x128)

/-- The greatest score of each row. -/
def rowMax (S : FVec Ideal Cert.Reference7Ideal.S16x16x256x256 .f32) : FVec Ideal Cert.Reference7Ideal.S16x16x256 .f32 :=
  Host.reduce FloatOps.maximumf S (constant Cert.Reference7Ideal.S_ .f32 0xFF800000#32)
    Cert.Reference7Ideal.Gen.reducesTo_S16x16x256x256_S16x16x256_d3 Cert.Reference7Ideal.Gen.h_S_

/-- The exponentials of the scores less a number for each row. -/
def expoOf (S : FVec Ideal Cert.Reference7Ideal.S16x16x256x256 .f32)
    (M : FVec Ideal Cert.Reference7Ideal.S16x16x256 .f32) : FVec Ideal Cert.Reference7Ideal.S16x16x256x256 .f32 :=
  Host.exp (subf S (broadcastInDim Cert.Reference7Ideal.S16x16x256x256 ![0, 1, 2, 3]
    Cert.Reference7Ideal.Gen.bcast_S16x16x256x1_S16x16x256x256_0_1_2_3
    (broadcastInDim Cert.Reference7Ideal.S16x16x256x1 ![0, 1, 2]
      Cert.Reference7Ideal.Gen.bcast_S16x16x256_S16x16x256x1_0_1_2
      (maximumf (broadcastInDim Cert.Reference7Ideal.S16x16x256 ![] Cert.Reference7Ideal.Gen.bcast_S_S16x16x256
          (constant Cert.Reference7Ideal.S_ .f32 0xFF800000#32)) M))))

/-- The exponentials of the scores less their row's maximum. -/
def expo (S : FVec Ideal Cert.Reference7Ideal.S16x16x256x256 .f32) :
    FVec Ideal Cert.Reference7Ideal.S16x16x256x256 .f32 := expoOf S (rowMax S)

/-- The exponentials divided by their row's sum: the softmax. -/
def weights (E : FVec Ideal Cert.Reference7Ideal.S16x16x256x256 .f32) :
    FVec Ideal Cert.Reference7Ideal.S16x16x256x256 .f32 :=
  Host.divf E (broadcastInDim Cert.Reference7Ideal.S16x16x256x256 ![0, 1, 2, 3]
    Cert.Reference7Ideal.Gen.bcast_S16x16x256x1_S16x16x256x256_0_1_2_3
    (broadcastInDim Cert.Reference7Ideal.S16x16x256x1 ![0, 1, 2]
      Cert.Reference7Ideal.Gen.bcast_S16x16x256_S16x16x256x1_0_1_2
      (Host.reduceAdd E (constant Cert.Reference7Ideal.S_ .f32 0x00000000#32)
        Cert.Reference7Ideal.Gen.reducesTo_S16x16x256x256_S16x16x256_d3 Cert.Reference7Ideal.Gen.h_S_)))

/-- The reference's attention over the context's keys and values. -/
def attend (Q : FVec Ideal S16x256x2048 .bf16) (K : FVec Ideal S16x256x2048 .bf16)
    (V : FVec Ideal S16x256x1024 .bf16) : FVec Ideal S16x256x1024 .bf16 :=
  truncf .bf16 (shapeCast _ (transpose Cert.Reference7Ideal.S16x256x16x64 [0, 3, 1, 2]
    (Host.dotGeneral (φ₁ := .f32) (φ₂ := .f32)
      Cert.Reference7Ideal.dot_S16x256x16x64_S16x16x256x256_S16x16x64x256_1_3_3_2_02_01 none
      (shapeCast _ (extf .f32 V Cert.Reference7Ideal.Gen.bitsLt_bf16_f32)
        Cert.Reference7Ideal.Gen.shapeCasts_S16x256x1024_S16x256x16x64)
      (weights (expo (scores Q K))))
    Cert.Reference7Ideal.Gen.transposes_S16x16x64x256_S16x256x16x64_0_3_1_2)
    Cert.Reference7Ideal.Gen.shapeCasts_S16x256x16x64_S16x256x1024) Cert.Reference7Ideal.Gen.bitsLt_bf16_f32

/-- The score of query `r` and key `k` of head `h` in batch `b`: the product of their 128 lanes. -/
def score (Q : FVec Ideal S16x256x2048 .bf16) (K : FVec Ideal S16x256x2048 .bf16)
    (b : Fin 16) (h : Fin 16) (r : Fin 256) (k : Fin 256) : EReal :=
  ∑ d : Fin 128, Q (ix3 b r ⟨h.val * 128 + d.val, by omega⟩) * K (ix3 b k ⟨h.val * 128 + d.val, by omega⟩)

/-- Finite queries and keys have finite scores. -/
theorem score_finite (Q : FVec Ideal S16x256x2048 .bf16) (K : FVec Ideal S16x256x2048 .bf16)
    (hQ : Softmax.Finite Q) (hK : Softmax.Finite K) (b : Fin 16) (h : Fin 16) (r : Fin 256) (k : Fin 256) :
    ∃ x : ℝ, score Q K b h r k = x :=
  Softmax.finite_dot _ _ (fun _ => hQ _) (fun _ => hK _)

/-- The reference's scores at an index. -/
theorem scores_at (Q : FVec Ideal S16x256x2048 .bf16) (K : FVec Ideal S16x256x2048 .bf16)
    (b : Fin 16) (h : Fin 16) (r : Fin 256) (k : Fin 256) :
    scores Q K (ix4 b h r k) = score Q K b h r k := by
  pointwise [scores, score]

/-- A row's greatest score at an index. -/
theorem rowMax_at (S : FVec Ideal Cert.Reference7Ideal.S16x16x256x256 .f32) (b : Fin 16) (h : Fin 16) (r : Fin 256) :
    rowMax S (ix3 b h r) = Finset.fold max (Ideal.ofBits .f32 0xFF800000#32)
      (fun j : Fin 256 => S (ix4 b h r j)) Finset.univ := by
  pointwise [rowMax]

/-- The exponentials less a number for each row, at an index. -/
theorem expoOf_at (S : FVec Ideal Cert.Reference7Ideal.S16x16x256x256 .f32)
    (M : FVec Ideal Cert.Reference7Ideal.S16x16x256 .f32) (b : Fin 16) (h : Fin 16) (r : Fin 256) (k : Fin 256) :
    expoOf S M (ix4 b h r k)
      = Ideal.exp (S (ix4 b h r k) - max (Ideal.ofBits .f32 0xFF800000#32) (M (ix3 b h r))) := by
  pointwise [expoOf]

/-- The exponentials at an index. -/
theorem expo_at (S : FVec Ideal Cert.Reference7Ideal.S16x16x256x256 .f32)
    (b : Fin 16) (h : Fin 16) (r : Fin 256) (k : Fin 256) :
    expo S (ix4 b h r k)
      = Ideal.exp (S (ix4 b h r k) - Finset.fold max ⊥ (fun j : Fin 256 => S (ix4 b h r j)) Finset.univ) := by
  rw [expo, expoOf_at, rowMax_at, Softmax.neg_inf, max_bot_left]

/-- The softmax at an index. -/
theorem weights_at (E : FVec Ideal Cert.Reference7Ideal.S16x16x256x256 .f32)
    (b : Fin 16) (h : Fin 16) (r : Fin 256) (k : Fin 256) :
    weights E (ix4 b h r k) = Ideal.div (E (ix4 b h r k)) (∑ j : Fin 256, E (ix4 b h r j)) := by
  pointwise [weights]

/-- That attention at an index: the values of its head weighted by the softmax of the scores. -/
theorem attend_at (Q : FVec Ideal S16x256x2048 .bf16) (K : FVec Ideal S16x256x2048 .bf16)
    (V : FVec Ideal S16x256x1024 .bf16) (b : Fin 16) (r : Fin 256) (e : Fin 1024) :
    attend Q K V (ix3 b r e) = ∑ k : Fin 256, V (ix3 b k e)
      * weights (expo (scores Q K)) (ix4 b ⟨e.val / 64, by omega⟩ r k) := by
  pointwise [attend]

/-- The same with the softmax written out. -/
theorem attend_soft (Q : FVec Ideal S16x256x2048 .bf16) (K : FVec Ideal S16x256x2048 .bf16)
    (V : FVec Ideal S16x256x1024 .bf16) (b : Fin 16) (r : Fin 256) (e : Fin 1024)
    (s : Fin 256 → EReal) (hs : ∀ k, score Q K b ⟨e.val / 64, by omega⟩ r k = s k) :
    attend Q K V (ix3 b r e) = ∑ k : Fin 256, V (ix3 b k e)
      * Ideal.div (Ideal.exp (s k - Finset.fold max ⊥ s Finset.univ))
          (∑ k, Ideal.exp (s k - Finset.fold max ⊥ s Finset.univ)) := by
  rw [attend_at]
  simp only [weights_at, expo_at, scores_at, hs]

/-- One row and lane of what a grid point stores, from the loaded blocks. -/
theorem stored_at (v0 v5 : Vec Ideal S1x256x128 .bf16) (v2 v7 : Vec Ideal S1x256x128 .bf16)
    (v25 v31 : Vec Ideal S1x256x128 .bf16) (r : Fin 256) (l : Fin 128)
    (s : Fin 256 → EReal)
    (h0 : l.val < 64 → ∀ k, ∑ d : Fin 128, v0 (ix3 0 r d) * v2 (ix3 0 k d) = s k)
    (h1 : ¬ l.val < 64 → ∀ k, ∑ d : Fin 128, v5 (ix3 0 r d) * v7 (ix3 0 k d) = s k)
    (hv : v31 = v25) (hs : ∀ k, ∃ x : ℝ, s k = x) :
    k0_pay1 (k0_pay3 v5 v7) (k0_pay4 v0 v2 v25) (k0_pay5 v5 v7) v31 (ix3 0 r l)
      = ∑ k, v25 (ix3 0 k l) * Ideal.div (Ideal.exp (s k - Finset.fold max ⊥ s Finset.univ))
          (∑ k, Ideal.exp (s k - Finset.fold max ⊥ s Finset.univ)) := by
  have hn : 0 < 256 := by omega
  pointwise [k0_pay1, k0_pay2, k0_pay3, k0_pay4, k0_pay5, Softmax.neg_inf]
  by_cases hl : l.val < 64
  · have hc : IntOp.cmpi CmpIPredicate.slt (BitVec.ofNat 32 l.val) 64#32 = 1#1 := by
      clear h0 h1; revert hl; revert l; decide +kernel
    simp only [h0 hl, hc]
    exact Softmax.normalise_last hn s (fun k => v25 (ix3 0 k l)) hs
  · have hc : IntOp.cmpi CmpIPredicate.slt (BitVec.ofNat 32 l.val) 64#32 = 0#1 := by
      clear h0 h1; revert hl; revert l; decide +kernel
    simp only [h1 hl, hc, hv]
    exact Softmax.normalise_last hn s (fun k => v25 (ix3 0 k l)) hs

/-- The context's keys: the first 256 of the stream. -/
def ctxKeys (K : FVec Ideal S16x2304x2048 .bf16) : FVec Ideal S16x256x2048 .bf16 :=
  extractStridedSlice Cert.Reference7Ideal.S16x256x2048 ![0, 0, 0] K Cert.Reference7Ideal.Gen.slices_S16x2304x2048_S16x256x2048_0_0_0

/-- The context's values: the first 256 of the stream. -/
def ctxVals (V : FVec Ideal S16x2304x1024 .bf16) : FVec Ideal S16x256x1024 .bf16 :=
  extractStridedSlice Cert.Reference7Ideal.S16x256x1024 ![0, 0, 0] V Cert.Reference7Ideal.Gen.slices_S16x2304x1024_S16x256x1024_0_0_0

/-- A context's key is the stream's key of that token. -/
theorem ctxKeys_at (K : FVec Ideal S16x2304x2048 .bf16) (b : Fin 16) (k : Fin 256) (d : Fin 2048) :
    ctxKeys K (ix3 b k d) = K (ix3 b ⟨k.val, by omega⟩ d) := by
  pointwise [ctxKeys]

/-- A context's value is the stream's value of that token. -/
theorem ctxVals_at (V : FVec Ideal S16x2304x1024 .bf16) (b : Fin 16) (k : Fin 256) (e : Fin 1024) :
    ctxVals V (ix3 b k e) = V (ix3 b ⟨k.val, by omega⟩ e) := by
  pointwise [ctxVals]

/-- The reference's result. -/
def ref (Q : FVec Ideal S16x256x2048 .bf16) (K : FVec Ideal S16x2304x2048 .bf16) (V : FVec Ideal S16x2304x1024 .bf16) :
    FVec Ideal S16x256x1024 .bf16 := attend Q (ctxKeys K) (ctxVals V)

/-- The windows' blocks at each grid point: batch and head pair. -/
theorem idx : ∀ t : Fin cfg0.N,
    win0_0.index t = ![t.val / 8, 0, t.val % 8] ∧ win0_1.index t = ![t.val / 8, 0, t.val % 8]
    ∧ win0_2.index t = ![t.val / 8, 0, t.val % 8] ∧ win0_3.index t = ![t.val / 8, 0, t.val % 8] :=
  (by decide +kernel : ∀ t : Fin grid0.N, _)

variable (m : (ℓ : Loc nD τ sig) → Buf (Elt Ideal) ℓ)

/-- Each grid point stores the reference's elements, for finite queries and keys of the context. -/
theorem point (c : Dev nD) (t : Fin cfg0.N) (y : S1x256x128.Idx)
    (hQ : Softmax.Finite (s := S16x256x2048) (φ := .bf16) (m ((c : Thread nD τ).loc main_arg0)))
    (hK : Softmax.Finite (s := S16x256x2048) (φ := .bf16) (ctxKeys (m ((c : Thread nD τ).loc main_arg1)))) :
    k0_pay1 (k0_pay3 (View.ld (iblk m c 0 t) r0_1) (View.ld (iblk m c 1 t) r0_1))
      (k0_pay4 (View.ld (iblk m c 0 t) r0_0) (View.ld (iblk m c 1 t) r0_0) (iblk m c 2 t))
      (k0_pay5 (View.ld (iblk m c 0 t) r0_1) (View.ld (iblk m c 1 t) r0_1)) (iblk m c 2 t) y
    = ref (m ((c : Thread nD τ).loc main_arg0)) (m ((c : Thread nD τ).loc main_arg1))
        (m ((c : Thread nD τ).loc main_arg2)) (((cfg0.win 3).blk t).view.emb y) := by
  have ht : t.val < 128 := t.isLt
  idx_vars y
  obtain rfl : y0 = 0 := Subsingleton.elim _ _
  have hy : ((cfg0.win 3).blk t).view.emb (ix3 0 y1 y2)
      = ix3 (⟨t.val / 8, by omega⟩ : Fin 16) (y1 : Fin 256) (⟨t.val % 8 * 128 + y2.val, by omega⟩ : Fin 1024) := by
    blk_ext [idx t]
  rw [hy, ref, attend_soft _ _ _ _ _ _ _ (fun k => rfl)]
  refine (stored_at _ _ _ _ _ _ y1 y2 (fun k => score (m ((c : Thread nD τ).loc main_arg0))
    (ctxKeys (m ((c : Thread nD τ).loc main_arg1))) ⟨t.val / 8, by omega⟩ ⟨(t.val % 8 * 128 + y2.val) / 64, by omega⟩
    y1 k) (fun hl k => ?_) (fun hl k => ?_) rfl
    (fun k => score_finite _ _ hQ hK _ _ _ k)).trans ?_
  · rw [score]
    refine Finset.sum_congr rfl fun d _ => ?_
    rw [ctxKeys_at]
    pointwise
    refine Ideal.mul_congr ?_ ?_ <;> blk_ext [iblk, V, idx t]
  · rw [score]
    refine Finset.sum_congr rfl fun d _ => ?_
    rw [ctxKeys_at]
    pointwise
    refine Ideal.mul_congr ?_ ?_ <;> blk_ext [iblk, V, idx t]
  · refine Finset.sum_congr rfl fun k _ => ?_
    rw [ctxVals_at]
    refine Ideal.mul_congr ?_ rfl
    blk_ext [iblk, V, idx t]

/-- The call's whole result is the reference's, for finite queries and keys of the context. -/
theorem final (c : Dev nD)
    (hQ : Softmax.Finite (s := S16x256x2048) (φ := .bf16) (m ((c : Thread nD τ).loc main_arg0)))
    (hK : Softmax.Finite (s := S16x256x2048) (φ := .bf16) (ctxKeys (m ((c : Thread nD τ).loc main_arg1)))) :
    (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y hQ hK

open Cert.Pre_finite_context_queries_and_keys Cert.Pre_finite_context_queries_and_keys.Facts in
/-- The precondition makes the context's queries and keys real numbers. -/
theorem finite_of_pre [Cert.Pre_finite_context_queries_and_keys.Facts] (Q : FVec Ideal Cert.Kernel7Ideal.S16x256x2048 .bf16)
    (K : FVec Ideal Cert.Kernel7Ideal.S16x2304x2048 .bf16) (V : FVec Ideal Cert.Kernel7Ideal.S16x2304x1024 .bf16)
    (h : Cert.Pre_finite_context_queries_and_keys.fn (F := Ideal) Q K V = fun _ => 1#1) :
    Softmax.Finite Q ∧ Softmax.Finite (ctxKeys K) := by
  haveI : Subsingleton Cert.Pre_finite_context_queries_and_keys.S_.Idx := ⟨fun a b => funext fun i => i.elim0⟩
  have h0 := congrFun h (fun i => i.elim0)
  obtain ⟨hq, hk⟩ := IntOp.andi_eq_one.1 h0
  exact ⟨fun i => Softmax.real_of_abs_lt _ (Host.reduce_andi_all _ _ _ _ _ hq i),
    fun i => Softmax.real_of_abs_lt _ (Host.reduce_andi_all _ _ _ _ _ hk i)⟩

end Cert.Kernel7Ideal.Ctx
-- ==== Proof.MlaCtxOutValue.lean ====
module

public import proofs.«01_k».proof.Proof.Stream
public import proofs.«01_k».proof.Proof.Gen.Kernel8Ideal.Value
public import proofs.«01_k».proof.Proof.Gen.Reference8Ideal.Run

/-!
# The output projection of the context's attention

The attention's result passes one weight and is added, behind the modulation's gate, to the stream's context tokens. The latent
tokens stay as they are: the call's blocks never touch them.
-/

@[expose] public section

set_option maxRecDepth 16384

noncomputable section

namespace Cert.Kernel8Ideal.MlaCtxOut

open Cert.Kernel8Ideal Cert.Kernel8Ideal.Gen Idealize.ShloMosaic Idealize.ShloMosaic.TcCoe Idealize.SL.Sem
open Idealize.ShloMosaic.Pipeline (Dat)

/-- The context tokens with the projected attention added, as the reference computes them. -/
def ctx (X : FVec Ideal S16x2304x1024 .f32) (O : FVec Ideal S16x256x1024 .bf16) (W : FVec Ideal S1024x1024 .f32)
    (M : FVec Ideal S32x8x1024 .f32) : FVec Ideal S16x256x1024 .f32 :=
  open Cert.Reference8Ideal Cert.Reference8Ideal.Gen in
  addf (extractStridedSlice S16x256x1024 ![0, 0, 0] X slices_S16x2304x1024_S16x256x1024_0_0_0) (mulf (broadcastInDim S16x256x1024 ![0, 1, 2] bcast_S16x1x1024_S16x256x1024_0_1_2 (broadcastInDim S16x1x1024 ![0, 2] bcast_S16x1024_S16x1x1024_0_2 (shapeCast _ (extractStridedSlice S16x1x1x1024 ![0, 0, 2, 0] (shapeCast _ M shapeCasts_S32x8x1024_S16x2x8x1024) slices_S16x2x8x1024_S16x1x1x1024_0_0_2_0) shapeCasts_S16x1x1x1024_S16x1024))) (Host.dotGeneral dot_S16x256x1024_S1024x1024_S16x256x1024_2_0_01_1_n_n none (extf .f32 O Cert.Reference8Ideal.Gen.bitsLt_bf16_f32) W))

/-- The reference's whole result. -/
def ref (X : FVec Ideal S16x2304x1024 .f32) (O : FVec Ideal S16x256x1024 .bf16) (W : FVec Ideal S1024x1024 .f32)
    (M : FVec Ideal S32x8x1024 .f32) : FVec Ideal S16x2304x1024 .f32 :=
  open Cert.Reference8Ideal Cert.Reference8Ideal.Gen in
  Stream.both (ctx X O W M) (extractStridedSlice S16x2048x1024 ![0, 256, 0] X slices_S16x2304x1024_S16x2048x1024_0_256_0)

/-- A context token's element in the reference. -/
theorem ctx_at (X : FVec Ideal S16x2304x1024 .f32) (O : FVec Ideal S16x256x1024 .bf16) (W : FVec Ideal S1024x1024 .f32)
    (M : FVec Ideal S32x8x1024 .f32) (b : Fin 16) (n : Fin 256) (e : Fin 1024) :
    ctx X O W M (ix3 b n e)
      = X (ix3 b ⟨n.val, by omega⟩ e) + M (ix3 ⟨b.val * 2, by omega⟩ 2 e) * ∑ k : Fin 1024, O (ix3 b n k) * W (ix2 k e) := by
  pointwise [ctx]

/-- The latent tokens in the reference are the stream's. -/
theorem ref_lat (X : FVec Ideal S16x2304x1024 .f32) (O : FVec Ideal S16x256x1024 .bf16) (W : FVec Ideal S1024x1024 .f32)
    (M : FVec Ideal S32x8x1024 .f32) (b : Fin 16) (n : Fin 2304) (e : Fin 1024) (h : ¬ n.val < 256) :
    ref X O W M (ix3 b n e) = X (ix3 b n e) := by
  unfold ref
  rw [Stream.both_at, dif_neg h]
  have hn : (⟨256 + (n.val - 256), by omega⟩ : Fin 2304) = n := Fin.ext (by simp; omega)
  pointwise
  rw [hn]

/-- The context tokens in the reference are the part computed for them. -/
theorem ref_ctx (X : FVec Ideal S16x2304x1024 .f32) (O : FVec Ideal S16x256x1024 .bf16) (W : FVec Ideal S1024x1024 .f32)
    (M : FVec Ideal S32x8x1024 .f32) (b : Fin 16) (n : Fin 256) (e : Fin 1024) :
    ref X O W M (ix3 b ⟨n.val, by omega⟩ e) = ctx X O W M (ix3 b n e) := by
  unfold ref
  rw [Stream.both_at, dif_pos n.isLt]

/-- The kernel's test on a token of the context's tile, whether it is one of the context's: every one is. -/
theorem is_ctx (r : Fin 256) :
    IntOp.cmpi CmpIPredicate.slt (IntOp.addi (Scalar.muli (Scalar.addi 0#32 0#32) 256#32) (BitVec.ofNat 32 r.val)) 256#32
      = 1#1 := by
  revert r
  decide +kernel

/-- What a grid point stores, from its rows. -/
theorem stored (i : grid0.Coords) (v7 : Vec Ideal S1x256x1024 .bf16) (v9 : Vec Ideal S1024x1024 .bf16) (v12 : Vec Ideal S1x256x1024 .f32)
    (v14 v16 : Vec Ideal S1x1x1024 .f32) (z : Fin 1) (r : Fin 256) (e : Fin 1024) :
    k0_pay1 i v7 v9 v12 v14 v16 (ix3 z r e)
      = v12 (ix3 0 r e) + v14 (ix3 0 0 e) * ∑ k : Fin 1024, v7 (ix3 0 r k) * v9 (ix2 k e) := by
  have hs : ∀ x y : EReal, Scalar.select 1#1 x y = x := fun _ _ => rfl
  have hc := is_ctx r
  pointwise [k0_pay1, hc, hs]

/-- The windows' blocks at each grid point: its batch. -/
theorem idx : ∀ t : Fin cfg0.N,
    win0_0.index t = ![t.val, 0, 0] ∧ win0_1.index t = ![t.val, 0, 0] ∧ win0_2.index t = ![0, 0]
    ∧ win0_3.index t = ![t.val, 0, 0] ∧ win0_4.index t = ![t.val, 0, 0] :=
  (by decide +kernel : ∀ t : Fin grid0.N, _)

variable (m : (ℓ : Loc nD τ sig) → Buf (Elt Ideal) ℓ)

/-- The result buffer holds the reference's result. -/
theorem final (c : Dev nD) :
    (dats m 0 c).arrAt 4 (cfgs 0).N
      = ref (m ((c : Thread nD τ).loc main_arg0)) (m ((c : Thread nD τ).loc main_arg1)) (m ((c : Thread nD τ).loc main_arg2))
          (m ((c : Thread nD τ).loc main_arg3)) := by
  have h : (dats m 0 c).arrAt 4 (cfgs 0).N = fun i : S16x2304x1024.Idx => if (i 1 : ℕ) < 256 then
      ref (m ((c : Thread nD τ).loc main_arg0)) (m ((c : Thread nD τ).loc main_arg1)) (m ((c : Thread nD τ).loc main_arg2))
        (m ((c : Thread nD τ).loc main_arg3)) i else V m c main_v1 i := by
    refine (dats m 0 c).arrAt_eq_of_coversWhere 4 _ (fun β => β 1 < 1) (by decide +kernel) (fun t hf y => ?_)
      (fun j => by blk_simp [Pipeline.Window.cell_apply]; omega)
    blk_simp; rw [after0_4]; frame_out
    have ht : t.val < 16 := t.isLt
    idx_vars y
    obtain rfl : y0 = 0 := Subsingleton.elim _ _
    have hy : ((cfg0.win 4).blk t).view.emb (ix3 0 y1 y2) = (ix3 (⟨t.val, ht⟩ : Fin 16) ⟨y1.val, by omega⟩ y2 : S16x2304x1024.Idx) := by
      blk_ext [idx t]
    refine Eq.trans ?_ ((congrArg _ hy).trans ((ref_ctx _ _ _ _ _ _ _).trans (ctx_at _ _ _ _ _ _ _))).symm
    refine (stored _ _ _ _ _ _ _ _ _).trans ?_
    refine congrArg₂ _ ?_ (Ideal.mul_congr ?_ (Finset.sum_congr rfl fun k _ => Ideal.mul_congr ?_ ?_))
    · blk_ext [iblk, V, idx t]
    · pointwise; blk_ext [iblk, V, idx t]
    · blk_ext [iblk, V, idx t]
    · blk_point [iblk, V, idx t]
  rw [h]
  have hV : V m c main_v1 = m ((c : Thread nD τ).loc main_arg0) := by unfold V; after_results; try rfl
  funext i
  idx_vars i
  show (if i1.val < 256 then _ else _) = _
  split
  · rfl
  · next h' => rw [hV]; exact (ref_lat _ _ _ _ _ _ _ h').symm

end Cert.Kernel8Ideal.MlaCtxOut
-- ==== Proof.FinalValue.lean ====
module

public import proofs.«01_k».proof.Proof.Stream
public import proofs.«01_k».proof.Proof.Gen.Kernel9Ideal.Value
public import proofs.«01_k».proof.Proof.Gen.Reference9Ideal.Run

/-!
# The last norm

The latent tokens, each divided by its root mean square and multiplied by the learnt gain.
-/

@[expose] public section

set_option maxRecDepth 16384

noncomputable section

namespace Cert.Kernel9Ideal.Final

open Cert.Kernel9Ideal Cert.Kernel9Ideal.Gen Idealize.ShloMosaic Idealize.ShloMosaic.TcCoe Idealize.SL.Sem
open Idealize.ShloMosaic.Pipeline (Dat)

/-- The normalised latent tokens as the reference computes them. -/
def ref (X : FVec Ideal S16x2304x1024 .f32) (G : FVec Ideal Cert.Reference9Ideal.S1024 .f32) : FVec Ideal S16x2048x1024 .f32 :=
  open Cert.Reference9Ideal Cert.Reference9Ideal.Gen in
  mulf (mulf (extractStridedSlice S16x2048x1024 ![0, 256, 0] X slices_S16x2304x1024_S16x2048x1024_0_256_0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (extractStridedSlice S16x2048x1024 ![0, 256, 0] X slices_S16x2304x1024_S16x2048x1024_0_256_0) (extractStridedSlice S16x2048x1024 ![0, 256, 0] X slices_S16x2304x1024_S16x2048x1024_0_256_0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))

/-- The reference's result at an element. -/
theorem ref_at (X : FVec Ideal S16x2304x1024 .f32) (G : FVec Ideal Cert.Reference9Ideal.S1024 .f32) (b : Fin 16) (n : Fin 2048) (e : Fin 1024) :
    ref X G (ix3 b n e) = Stream.normed (fun k => X (ix3 b ⟨256 + n.val, by omega⟩ k)) (fun k => G (ix1 k)) e := by
  unfold Stream.normed
  pointwise [ref]

/-- What a grid point stores, from its rows. -/
theorem stored (v0 : Vec Ideal S1x256x1024 .f32) (v2 : Vec Ideal S1x1024 .f32) (z : Fin 1) (r : Fin 256) (e : Fin 1024) :
    k0_pay1 v0 v2 (ix3 z r e) = Stream.normed (fun k => v0 (ix3 0 r k)) (fun k => v2 (ix2 0 k)) e := by
  unfold Stream.normed
  pointwise [k0_pay1]

/-- The windows' blocks at each grid point: batch and tile, the stream's one tile further on. -/
theorem idx : ∀ t : Fin cfg0.N,
    win0_0.index t = ![t.val / 8, t.val % 8 + 1, 0] ∧ win0_1.index t = ![0, 0] ∧ win0_2.index t = ![t.val / 8, t.val % 8, 0] :=
  (by decide +kernel : ∀ t : Fin grid0.N, _)

variable (m : (ℓ : Loc nD τ sig) → Buf (Elt Ideal) ℓ)

/-- The result buffer holds the reference's result. -/
theorem final (c : Dev nD) :
    (dats m 0 c).arrAt 2 (cfgs 0).N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  have ht : t.val < 128 := t.isLt
  idx_vars y
  obtain rfl : y0 = 0 := Subsingleton.elim _ _
  have hy : ((cfg0.win 2).blk t).view.emb (ix3 0 y1 y2)
      = (ix3 (⟨t.val / 8, by omega⟩ : Fin 16) (⟨t.val % 8 * 256 + y1.val, by omega⟩ : Fin 2048) y2 : S16x2048x1024.Idx) := by
    blk_ext [idx t]
  refine Eq.trans ?_ ((congrArg _ hy).trans (ref_at _ _ _ _ _)).symm
  refine (stored _ _ _ _ _).trans ?_
  congr 1
  · funext k; blk_ext [iblk, V, idx t]
  · funext k; blk_point [iblk, V, idx t]

end Cert.Kernel9Ideal.Final
-- ==== Proof.AdaValue.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

/-!
# The table of modulations

Each row of conditions passes a silu and every layer's weight, and the layer's bias is added.
-/

@[expose] public section

set_option maxRecDepth 16384

noncomputable section

namespace Cert.Kernel10Ideal.Ada

open Cert.Kernel10Ideal Cert.Kernel10Ideal.Gen Idealize.ShloMosaic Idealize.ShloMosaic.TcCoe Idealize.SL.Sem
open Idealize.ShloMosaic.Pipeline (Dat)

/-- The table as the reference computes it. -/
def ref (C : FVec Ideal S24x1024 .f32) (W : FVec Ideal S4x1024x6144 .f32) (B : FVec Ideal Cert.Reference10Ideal.S4x6144 .f32) :
    FVec Ideal S4x24x6144 .f32 :=
  open Cert.Reference10Ideal Cert.Reference10Ideal.Gen in
  addf (transpose S4x24x6144 [1, 0, 2] (Host.dotGeneral dot_S24x1024_S4x1024x6144_S24x4x6144_1_1_0_02_n_n none (mulf C (Host.divf (broadcastInDim S24x1024 ![] bcast_S_S24x1024 (constant S_ .f32 0x3F800000#32)) (addf (broadcastInDim S24x1024 ![] bcast_S_S24x1024 (constant S_ .f32 0x3F800000#32)) (Host.exp (Host.negf C))))) W) transposes_S24x4x6144_S4x24x6144_1_0_2) (broadcastInDim S4x24x6144 ![0, 1, 2] bcast_S4x1x6144_S4x24x6144_0_1_2 (broadcastInDim S4x1x6144 ![0, 2] bcast_S4x6144_S4x1x6144_0_2 B))

/-- The silu of one number. -/
def silu (x : EReal) : EReal := x * Ideal.div 1 (1 + Ideal.exp (-x))

/-- The reference's result at an element. -/
theorem ref_at (C : FVec Ideal S24x1024 .f32) (W : FVec Ideal S4x1024x6144 .f32) (B : FVec Ideal Cert.Reference10Ideal.S4x6144 .f32)
    (l : Fin 4) (r : Fin 24) (e : Fin 6144) :
    ref C W B (ix3 l r e) = (∑ k : Fin 1024, silu (C (ix2 r k)) * W (ix3 l k e)) + B (ix2 l e) := by
  unfold silu
  pointwise [ref]

/-- What a grid point stores, from its blocks. -/
theorem stored (v0 : Vec Ideal S24x1024 .f32) (v4 : Vec Ideal S1x1024x1024 .f32) (v8 : Vec Ideal S1x1x1024 .f32)
    (z : Fin 1) (r : Fin 24) (e : Fin 1024) :
    k0_pay1 v0 v4 v8 (ix3 z r e) = (∑ k : Fin 1024, silu (v0 (ix2 r k)) * v4 (ix3 0 k e)) + v8 (ix3 0 0 e) := by
  unfold silu
  pointwise [k0_pay1]
  try rfl

/-- The windows' blocks at each grid point: layer and columns. -/
theorem idx : ∀ t : Fin cfg0.N,
    win0_0.index t = ![0, 0] ∧ win0_1.index t = ![t.val / 6, 0, t.val % 6] ∧ win0_2.index t = ![t.val / 6, 0, t.val % 6]
    ∧ win0_3.index t = ![t.val / 6, 0, t.val % 6] :=
  (by decide +kernel : ∀ t : Fin grid0.N, _)

variable (m : (ℓ : Loc nD τ sig) → Buf (Elt Ideal) ℓ)

/-- The result buffer holds the reference's result. -/
theorem final (c : Dev nD) :
    (dats m 0 c).arrAt 3 (cfgs 0).N
      = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht : t.val < 24 := t.isLt
  idx_vars y
  obtain rfl : y0 = 0 := Subsingleton.elim _ _
  have hy : ((cfg0.win 3).blk t).view.emb (ix3 0 y1 y2)
      = (ix3 (⟨t.val / 6, by omega⟩ : Fin 4) y1 (⟨t.val % 6 * 1024 + y2.val, by omega⟩ : Fin 6144) : S4x24x6144.Idx) := by
    blk_ext [idx t]
  refine Eq.trans ?_ ((congrArg _ hy).trans (ref_at _ _ _ _ _ _)).symm
  refine (stored _ _ _ _ _ _).trans ?_
  refine congrArg₂ _ (Finset.sum_congr rfl fun k _ => Ideal.mul_congr (congrArg silu ?_) ?_) ?_
  · blk_ext [iblk, V, idx t]
  · blk_ext [iblk, V, idx t]
  · blk_point [iblk, V, idx t]

end Cert.Kernel10Ideal.Ada
-- ==== Proof.S5DiscValue.lean ====
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

/-!
# The state space made discrete

Each state's decay and frequency and its group's step size give its transition over one step, a complex number, and the factor
its input weights are multiplied by.
-/

@[expose] public section

set_option maxRecDepth 16384

noncomputable section

namespace Cert.Kernel11Ideal.S5Disc

open Cert.Kernel11Ideal Cert.Kernel11Ideal.Gen Idealize.ShloMosaic Idealize.ShloMosaic.TcCoe Idealize.SL.Sem
open Idealize.ShloMosaic.Pipeline (Dat)

/-- The real part of a transition, from the eigenvalue's two parts and the logarithm of the step. -/
def stepRe (a b s : EReal) : EReal := Ideal.exp (a * Ideal.exp s) * Ideal.cos (b * Ideal.exp s)

/-- The imaginary part of a transition. -/
def stepIm (a b s : EReal) : EReal := Ideal.exp (a * Ideal.exp s) * Ideal.sin (b * Ideal.exp s)

/-- The real part of the input's factor. -/
def facRe (a b s : EReal) : EReal := Ideal.div ((stepRe a b s - 1) * a + stepIm a b s * b) (a * a + b * b)

/-- The imaginary part of the input's factor. -/
def facIm (a b s : EReal) : EReal := Ideal.div (stepIm a b s * a - (stepRe a b s - 1) * b) (a * a + b * b)

/-- The transitions' real parts as the reference computes them. -/
def refAr (A B : FVec Ideal S2x64x64 .f32) (S : FVec Ideal S2x64 .f32) : FVec Ideal S2x64x64 .f32 :=
  open Cert.Reference11Ideal Cert.Reference11Ideal.Gen in
  mulf (Host.exp (mulf A (broadcastInDim S2x64x64 ![0, 1, 2] bcast_S2x64x1_S2x64x64_0_1_2 (broadcastInDim S2x64x1 ![0, 1] bcast_S2x64_S2x64x1_0_1 (Host.exp S))))) (Host.cos (mulf B (broadcastInDim S2x64x64 ![0, 1, 2] bcast_S2x64x1_S2x64x64_0_1_2 (broadcastInDim S2x64x1 ![0, 1] bcast_S2x64_S2x64x1_0_1 (Host.exp S)))))

/-- The transitions' imaginary parts as the reference computes them. -/
def refAi (A B : FVec Ideal S2x64x64 .f32) (S : FVec Ideal S2x64 .f32) : FVec Ideal S2x64x64 .f32 :=
  open Cert.Reference11Ideal Cert.Reference11Ideal.Gen in
  mulf (Host.exp (mulf A (broadcastInDim S2x64x64 ![0, 1, 2] bcast_S2x64x1_S2x64x64_0_1_2 (broadcastInDim S2x64x1 ![0, 1] bcast_S2x64_S2x64x1_0_1 (Host.exp S))))) (Host.sin (mulf B (broadcastInDim S2x64x64 ![0, 1, 2] bcast_S2x64x1_S2x64x64_0_1_2 (broadcastInDim S2x64x1 ![0, 1] bcast_S2x64_S2x64x1_0_1 (Host.exp S)))))

/-- The input weights' real parts as the reference computes them. -/
def refBr (A B : FVec Ideal S2x64x64 .f32) (P Q : FVec Ideal S2x64x64x16 .f32) (S : FVec Ideal S2x64 .f32) : FVec Ideal S2x16x64x64 .f32 :=
  open Cert.Reference11Ideal Cert.Reference11Ideal.Gen in
  transpose S2x16x64x64 [0, 3, 1, 2] (subf (mulf (broadcastInDim S2x64x64x16 ![0, 1, 2, 3] bcast_S2x64x64x1_S2x64x64x16_0_1_2_3 (broadcastInDim S2x64x64x1 ![0, 1, 2] bcast_S2x64x64_S2x64x64x1_0_1_2 (Host.divf (addf (mulf (subf (mulf (Host.exp (mulf A (broadcastInDim S2x64x64 ![0, 1, 2] bcast_S2x64x1_S2x64x64_0_1_2 (broadcastInDim S2x64x1 ![0, 1] bcast_S2x64_S2x64x1_0_1 (Host.exp S))))) (Host.cos (mulf B (broadcastInDim S2x64x64 ![0, 1, 2] bcast_S2x64x1_S2x64x64_0_1_2 (broadcastInDim S2x64x1 ![0, 1] bcast_S2x64_S2x64x1_0_1 (Host.exp S)))))) (broadcastInDim S2x64x64 ![] bcast_S_S2x64x64 (constant S_ .f32 0x3F800000#32))) A) (mulf (mulf (Host.exp (mulf A (broadcastInDim S2x64x64 ![0, 1, 2] bcast_S2x64x1_S2x64x64_0_1_2 (broadcastInDim S2x64x1 ![0, 1] bcast_S2x64_S2x64x1_0_1 (Host.exp S))))) (Host.sin (mulf B (broadcastInDim S2x64x64 ![0, 1, 2] bcast_S2x64x1_S2x64x64_0_1_2 (broadcastInDim S2x64x1 ![0, 1] bcast_S2x64_S2x64x1_0_1 (Host.exp S)))))) B)) (addf (mulf A A) (mulf B B))))) P) (mulf (broadcastInDim S2x64x64x16 ![0, 1, 2, 3] bcast_S2x64x64x1_S2x64x64x16_0_1_2_3 (broadcastInDim S2x64x64x1 ![0, 1, 2] bcast_S2x64x64_S2x64x64x1_0_1_2 (Host.divf (subf (mulf (mulf (Host.exp (mulf A (broadcastInDim S2x64x64 ![0, 1, 2] bcast_S2x64x1_S2x64x64_0_1_2 (broadcastInDim S2x64x1 ![0, 1] bcast_S2x64_S2x64x1_0_1 (Host.exp S))))) (Host.sin (mulf B (broadcastInDim S2x64x64 ![0, 1, 2] bcast_S2x64x1_S2x64x64_0_1_2 (broadcastInDim S2x64x1 ![0, 1] bcast_S2x64_S2x64x1_0_1 (Host.exp S)))))) A) (mulf (subf (mulf (Host.exp (mulf A (broadcastInDim S2x64x64 ![0, 1, 2] bcast_S2x64x1_S2x64x64_0_1_2 (broadcastInDim S2x64x1 ![0, 1] bcast_S2x64_S2x64x1_0_1 (Host.exp S))))) (Host.cos (mulf B (broadcastInDim S2x64x64 ![0, 1, 2] bcast_S2x64x1_S2x64x64_0_1_2 (broadcastInDim S2x64x1 ![0, 1] bcast_S2x64_S2x64x1_0_1 (Host.exp S)))))) (broadcastInDim S2x64x64 ![] bcast_S_S2x64x64 (constant S_ .f32 0x3F800000#32))) B)) (addf (mulf A A) (mulf B B))))) Q)) Cert.Reference11Ideal.Gen.transposes_S2x64x64x16_S2x16x64x64_0_3_1_2

/-- The input weights' imaginary parts as the reference computes them. -/
def refBi (A B : FVec Ideal S2x64x64 .f32) (P Q : FVec Ideal S2x64x64x16 .f32) (S : FVec Ideal S2x64 .f32) : FVec Ideal S2x16x64x64 .f32 :=
  open Cert.Reference11Ideal Cert.Reference11Ideal.Gen in
  transpose S2x16x64x64 [0, 3, 1, 2] (addf (mulf (broadcastInDim S2x64x64x16 ![0, 1, 2, 3] bcast_S2x64x64x1_S2x64x64x16_0_1_2_3 (broadcastInDim S2x64x64x1 ![0, 1, 2] bcast_S2x64x64_S2x64x64x1_0_1_2 (Host.divf (addf (mulf (subf (mulf (Host.exp (mulf A (broadcastInDim S2x64x64 ![0, 1, 2] bcast_S2x64x1_S2x64x64_0_1_2 (broadcastInDim S2x64x1 ![0, 1] bcast_S2x64_S2x64x1_0_1 (Host.exp S))))) (Host.cos (mulf B (broadcastInDim S2x64x64 ![0, 1, 2] bcast_S2x64x1_S2x64x64_0_1_2 (broadcastInDim S2x64x1 ![0, 1] bcast_S2x64_S2x64x1_0_1 (Host.exp S)))))) (broadcastInDim S2x64x64 ![] bcast_S_S2x64x64 (constant S_ .f32 0x3F800000#32))) A) (mulf (mulf (Host.exp (mulf A (broadcastInDim S2x64x64 ![0, 1, 2] bcast_S2x64x1_S2x64x64_0_1_2 (broadcastInDim S2x64x1 ![0, 1] bcast_S2x64_S2x64x1_0_1 (Host.exp S))))) (Host.sin (mulf B (broadcastInDim S2x64x64 ![0, 1, 2] bcast_S2x64x1_S2x64x64_0_1_2 (broadcastInDim S2x64x1 ![0, 1] bcast_S2x64_S2x64x1_0_1 (Host.exp S)))))) B)) (addf (mulf A A) (mulf B B))))) Q) (mulf (broadcastInDim S2x64x64x16 ![0, 1, 2, 3] bcast_S2x64x64x1_S2x64x64x16_0_1_2_3 (broadcastInDim S2x64x64x1 ![0, 1, 2] bcast_S2x64x64_S2x64x64x1_0_1_2 (Host.divf (subf (mulf (mulf (Host.exp (mulf A (broadcastInDim S2x64x64 ![0, 1, 2] bcast_S2x64x1_S2x64x64_0_1_2 (broadcastInDim S2x64x1 ![0, 1] bcast_S2x64_S2x64x1_0_1 (Host.exp S))))) (Host.sin (mulf B (broadcastInDim S2x64x64 ![0, 1, 2] bcast_S2x64x1_S2x64x64_0_1_2 (broadcastInDim S2x64x1 ![0, 1] bcast_S2x64_S2x64x1_0_1 (Host.exp S)))))) A) (mulf (subf (mulf (Host.exp (mulf A (broadcastInDim S2x64x64 ![0, 1, 2] bcast_S2x64x1_S2x64x64_0_1_2 (broadcastInDim S2x64x1 ![0, 1] bcast_S2x64_S2x64x1_0_1 (Host.exp S))))) (Host.cos (mulf B (broadcastInDim S2x64x64 ![0, 1, 2] bcast_S2x64x1_S2x64x64_0_1_2 (broadcastInDim S2x64x1 ![0, 1] bcast_S2x64_S2x64x1_0_1 (Host.exp S)))))) (broadcastInDim S2x64x64 ![] bcast_S_S2x64x64 (constant S_ .f32 0x3F800000#32))) B)) (addf (mulf A A) (mulf B B))))) P)) Cert.Reference11Ideal.Gen.transposes_S2x64x64x16_S2x16x64x64_0_3_1_2

section
variable (A B : FVec Ideal S2x64x64 .f32) (P Q : FVec Ideal S2x64x64x16 .f32) (S : FVec Ideal S2x64 .f32) (d : Fin 2) (c : Fin 16) (g p : Fin 64)

/-- The transition's real part at an element. -/
theorem refAr_at : refAr A B S (ix3 d g p) = stepRe (A (ix3 d g p)) (B (ix3 d g p)) (S (ix2 d g)) := by
  unfold stepRe
  pointwise [refAr]

/-- The transition's imaginary part at an element. -/
theorem refAi_at : refAi A B S (ix3 d g p) = stepIm (A (ix3 d g p)) (B (ix3 d g p)) (S (ix2 d g)) := by
  unfold stepIm
  pointwise [refAi]

/-- The input weight's real part at an element. -/
theorem refBr_at : refBr A B P Q S (ix4 d c g p)
    = facRe (A (ix3 d g p)) (B (ix3 d g p)) (S (ix2 d g)) * P (ix4 d g p c) - facIm (A (ix3 d g p)) (B (ix3 d g p)) (S (ix2 d g)) * Q (ix4 d g p c) := by
  unfold facRe facIm stepRe stepIm
  pointwise [refBr]

/-- The input weight's imaginary part at an element. -/
theorem refBi_at : refBi A B P Q S (ix4 d c g p)
    = facRe (A (ix3 d g p)) (B (ix3 d g p)) (S (ix2 d g)) * Q (ix4 d g p c) + facIm (A (ix3 d g p)) (B (ix3 d g p)) (S (ix2 d g)) * P (ix4 d g p c) := by
  unfold facRe facIm stepRe stepIm
  pointwise [refBi]

end

section
variable (v0 v2 : Vec Ideal S1x64x64 .f32) (v4 : Vec Ideal S1x64x1 .f32) (g p : Fin 64)

/-- The transition's real part as a grid point computes it. -/
theorem ar_at : k0_pay6 v0 v2 v4 (ix2 g p) = stepRe (v0 (ix3 0 g p)) (v2 (ix3 0 g p)) (v4 (ix3 0 g 0)) := by
  unfold stepRe
  pointwise [k0_pay6, k0_pay5, k0_pay4, k0_pay3, k0_pay2]

/-- The transition's imaginary part as a grid point computes it. -/
theorem ai_at : k0_pay7 v0 v2 v4 (ix2 g p) = stepIm (v0 (ix3 0 g p)) (v2 (ix3 0 g p)) (v4 (ix3 0 g 0)) := by
  unfold stepIm
  pointwise [k0_pay7, k0_pay5, k0_pay4, k0_pay3, k0_pay2]

/-- The factor's real part as a grid point computes it. -/
theorem fr_at : k0_pay9 v0 v2 v4 (ix2 g p) = facRe (v0 (ix3 0 g p)) (v2 (ix3 0 g p)) (v4 (ix3 0 g 0)) := by
  unfold facRe
  pointwise [k0_pay9, k0_pay8, ar_at, ai_at, k0_pay3, k0_pay2]

/-- The factor's imaginary part as a grid point computes it. -/
theorem fi_at : k0_pay10 v0 v2 v4 (ix2 g p) = facIm (v0 (ix3 0 g p)) (v2 (ix3 0 g p)) (v4 (ix3 0 g 0)) := by
  unfold facIm
  pointwise [k0_pay10, k0_pay8, ar_at, ai_at, k0_pay3, k0_pay2]

/-- The transition's real part as it is stored. -/
theorem ar_stored (z : Fin 1) : k0_pay11 v0 v2 v4 (ix3 z g p) = stepRe (v0 (ix3 0 g p)) (v2 (ix3 0 g p)) (v4 (ix3 0 g 0)) := by
  pointwise [k0_pay11, ar_at]

/-- The transition's imaginary part as it is stored. -/
theorem ai_stored (z : Fin 1) : k0_pay12 v0 v2 v4 (ix3 z g p) = stepIm (v0 (ix3 0 g p)) (v2 (ix3 0 g p)) (v4 (ix3 0 g 0)) := by
  pointwise [k0_pay12, ai_at]

end

section
variable (fr fi : FVec Ideal S64x64 .f32) (x3 x4 : Vec Ideal S1x16x64x64 .f32)

/-- The block of the input weights' real parts, from the factor and the two parts' blocks. -/
def blockRe : Vec Ideal S1x16x64x64 .f32 := fun y => fr (ix2 (y 2) (y 3)) * x3 y - fi (ix2 (y 2) (y 3)) * x4 y

/-- The block of the input weights' imaginary parts. -/
def blockIm : Vec Ideal S1x16x64x64 .f32 := fun y => fr (ix2 (y 2) (y 3)) * x4 y + fi (ix2 (y 2) (y 3)) * x3 y

variable (n : Nat) (inb : ∀ a, ![0, n, 0, 0] a + S1x1x64x64.size a ≤ S1x16x64x64.size a)

/-- An element of one input lane's piece, placed in the block. -/
theorem lane_emb (z w : Fin 1) (g p : Fin 64) (h : n < 16) :
    (Rect.unit (s := S1x16x64x64) ![0, n, 0, 0] S1x1x64x64.size inb).emb (ix4 z w g p) = (ix4 0 ⟨n, h⟩ g p : S1x16x64x64.Idx) := by
  funext a
  apply Fin.ext
  fin_cases a
  · show 0 + 1 * z.val = 0; omega
  · show n + 1 * w.val = n; omega
  · show 0 + 1 * g.val = g.val; omega
  · show 0 + 1 * p.val = p.val; omega

/-- One input lane's piece of the real parts. -/
theorem piece_re (x : S1x1x64x64.Idx) :
    k0_pay13 fr fi (View.ld x3 (Rect.unit (s := S1x16x64x64) ![0, n, 0, 0] S1x1x64x64.size inb))
        (View.ld x4 (Rect.unit (s := S1x16x64x64) ![0, n, 0, 0] S1x1x64x64.size inb)) x
      = blockRe fr fi x3 x4 ((Rect.unit (s := S1x16x64x64) ![0, n, 0, 0] S1x1x64x64.size inb).emb x) := by
  have h : n < 16 := by have := inb 1; simp at this; omega
  idx_vars x
  rw [lane_emb n inb _ _ _ _ h]
  unfold blockRe
  pointwise [k0_pay13]

/-- One input lane's piece of the imaginary parts. -/
theorem piece_im (x : S1x1x64x64.Idx) :
    k0_pay14 fr fi (View.ld x4 (Rect.unit (s := S1x16x64x64) ![0, n, 0, 0] S1x1x64x64.size inb))
        (View.ld x3 (Rect.unit (s := S1x16x64x64) ![0, n, 0, 0] S1x1x64x64.size inb)) x
      = blockIm fr fi x3 x4 ((Rect.unit (s := S1x16x64x64) ![0, n, 0, 0] S1x1x64x64.size inb).emb x) := by
  have h : n < 16 := by have := inb 1; simp at this; omega
  idx_vars x
  rw [lane_emb n inb _ _ _ _ h]
  unfold blockIm
  pointwise [k0_pay14]

end

/-- What a grid point leaves of the input weights' real parts. -/
theorem out_re (x0 x1 : Vec Ideal S1x64x64 .f32) (x2 : Vec Ideal S1x64x1 .f32) (x3 x4 : Vec Ideal S1x16x64x64 .f32) (y : S1x16x64x64.Idx) :
    out0_7 x0 x1 x2 x3 x4 y = blockRe (k0_pay54 x0 x1 x2 x3 x4) (k0_pay55 x0 x1 x2 x3 x4) x3 x4 y := by
  refine View.canon_apply_of_pieces (Val := Elt Ideal) (blockRe (k0_pay54 x0 x1 x2 x3 x4) (k0_pay55 x0 x1 x2 x3 x4) x3 x4) _ ?_ y
    (cover0_7 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩ <;> exact piece_re _ _ x3 x4 _ _

/-- What a grid point leaves of the input weights' imaginary parts. -/
theorem out_im (x0 x1 : Vec Ideal S1x64x64 .f32) (x2 : Vec Ideal S1x64x1 .f32) (x3 x4 : Vec Ideal S1x16x64x64 .f32) (y : S1x16x64x64.Idx) :
    out0_8 x0 x1 x2 x3 x4 y = blockIm (k0_pay54 x0 x1 x2 x3 x4) (k0_pay55 x0 x1 x2 x3 x4) x3 x4 y := by
  refine View.canon_apply_of_pieces (Val := Elt Ideal) (blockIm (k0_pay54 x0 x1 x2 x3 x4) (k0_pay55 x0 x1 x2 x3 x4) x3 x4) _ ?_ y
    (cover0_8 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩ <;> exact piece_im _ _ x3 x4 _ _

/-- The factor's real part from a grid point's blocks. -/
theorem fac_re (x0 x1 : Vec Ideal S1x64x64 .f32) (x2 : Vec Ideal S1x64x1 .f32) (x3 x4 : Vec Ideal S1x16x64x64 .f32) (g p : Fin 64) :
    k0_pay54 x0 x1 x2 x3 x4 (ix2 g p) = facRe (x0 (ix3 0 g p)) (x1 (ix3 0 g p)) (x2 (ix3 0 g 0)) := by
  pointwise [k0_pay54, fr_at]

/-- The factor's imaginary part from a grid point's blocks. -/
theorem fac_im (x0 x1 : Vec Ideal S1x64x64 .f32) (x2 : Vec Ideal S1x64x1 .f32) (x3 x4 : Vec Ideal S1x16x64x64 .f32) (g p : Fin 64) :
    k0_pay55 x0 x1 x2 x3 x4 (ix2 g p) = facIm (x0 (ix3 0 g p)) (x1 (ix3 0 g p)) (x2 (ix3 0 g 0)) := by
  pointwise [k0_pay55, fi_at]

/-- The windows' blocks at each grid point: its direction. -/
theorem idx : ∀ t : Fin cfg0.N,
    win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![t.val, 0, 0]
    ∧ win0_6.index t = ![t.val, 0, 0] ∧ win0_7.index t = ![t.val, 0, 0, 0] ∧ win0_8.index t = ![t.val, 0, 0, 0] :=
  (by decide +kernel : ∀ t : Fin grid0.N, _)

variable (m : (ℓ : Loc nD τ sig) → Buf (Elt Ideal) ℓ)

/-- The direction of a grid point. -/
def dir (t : Fin cfg0.N) : Fin 2 := ⟨t.val, t.isLt⟩

/-- The eigenvalues' real parts of a direction. -/
theorem a_at (c : Dev nD) (t : Fin cfg0.N) (g p : Fin 64) :
    (iblk m c 0 t : Vec Ideal S1x64x64 .f32) (ix3 0 g p) = m ((c : Thread nD τ).loc main_arg0) (ix3 (dir t) g p) := by
  unfold dir
  blk_ext [iblk, V, idx t]

/-- The eigenvalues' imaginary parts of a direction. -/
theorem b_at (c : Dev nD) (t : Fin cfg0.N) (g p : Fin 64) :
    (iblk m c 1 t : Vec Ideal S1x64x64 .f32) (ix3 0 g p) = m ((c : Thread nD τ).loc main_arg1) (ix3 (dir t) g p) := by
  unfold dir
  blk_ext [iblk, V, idx t]

/-- The steps' logarithms of a direction. -/
theorem s_at (c : Dev nD) (t : Fin cfg0.N) (g : Fin 64) :
    (iblk m c 2 t : Vec Ideal S1x64x1 .f32) (ix3 0 g 0) = m ((c : Thread nD τ).loc main_arg4) (ix2 (dir t) g) := by
  unfold dir
  blk_point [iblk, V, idx t]

/-- The input weights' real parts of a direction. -/
theorem p_at (c : Dev nD) (t : Fin cfg0.N) (k : Fin 16) (g p : Fin 64) :
    (iblk m c 3 t : Vec Ideal S1x16x64x64 .f32) (ix4 0 k g p) = m ((c : Thread nD τ).loc main_arg2) (ix4 (dir t) g p k) := by
  unfold dir
  blk_point [iblk, V, idx t]

/-- The input weights' imaginary parts of a direction. -/
theorem q_at (c : Dev nD) (t : Fin cfg0.N) (k : Fin 16) (g p : Fin 64) :
    (iblk m c 4 t : Vec Ideal S1x16x64x64 .f32) (ix4 0 k g p) = m ((c : Thread nD τ).loc main_arg3) (ix4 (dir t) g p k) := by
  unfold dir
  blk_point [iblk, V, idx t]

/-- The transitions' real parts are the reference's. -/
theorem final5 (c : Dev nD) :
    (dats m 0 c).arrAt 5 (cfgs 0).N
      = refAr (m ((c : Thread nD τ).loc main_arg0)) (m ((c : Thread nD τ).loc main_arg1)) (m ((c : Thread nD τ).loc main_arg4)) := by
  refine (dats m 0 c).arrAt_eq_of_covers 5 _ (by decide +kernel) fun t _ y => ?_
  blk_simp
  rw [after0_5]; frame_out
  idx_vars y
  obtain rfl : y0 = 0 := Subsingleton.elim _ _
  have hy : ((cfg0.win 5).blk t).view.emb (ix3 0 y1 y2) = (ix3 (dir t) y1 y2 : S2x64x64.Idx) := by unfold dir; blk_ext [idx t]
  refine Eq.trans ?_ ((congrArg _ hy).trans (refAr_at _ _ _ _ _ _)).symm
  refine (ar_stored _ _ _ _ _ _).trans ?_
  rw [← a_at m c t, ← b_at m c t, ← s_at m c t]

/-- The transitions' imaginary parts are the reference's. -/
theorem final6 (c : Dev nD) :
    (dats m 0 c).arrAt 6 (cfgs 0).N
      = refAi (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]; frame_out
  idx_vars y
  obtain rfl : y0 = 0 := Subsingleton.elim _ _
  have hy : ((cfg0.win 6).blk t).view.emb (ix3 0 y1 y2) = (ix3 (dir t) y1 y2 : S2x64x64.Idx) := by unfold dir; blk_ext [idx t]
  refine Eq.trans ?_ ((congrArg _ hy).trans (refAi_at _ _ _ _ _ _)).symm
  refine (ai_stored _ _ _ _ _ _).trans ?_
  rw [← a_at m c t, ← b_at m c t, ← s_at m c t]

/-- What a grid point leaves of the input weights' real parts is the reference's. -/
theorem left_re (c : Dev nD) (t : Fin cfg0.N) (k : Fin 16) (g p : Fin 64) :
    out0_7 (iblk m c 0 t) (iblk m c 1 t) (iblk m c 2 t) (iblk m c 3 t) (iblk m c 4 t) (ix4 0 k g p)
      = refBr (m ((c : Thread nD τ).loc main_arg0)) (m ((c : Thread nD τ).loc main_arg1)) (m ((c : Thread nD τ).loc main_arg2))
          (m ((c : Thread nD τ).loc main_arg3)) (m ((c : Thread nD τ).loc main_arg4)) (ix4 (dir t) k g p) := by
  refine (out_re _ _ _ _ _ _).trans ?_
  refine Eq.trans ?_ (refBr_at _ _ _ _ _ _ _ _ _).symm
  rw [← a_at m c t, ← b_at m c t, ← s_at m c t, ← p_at m c t, ← q_at m c t]
  unfold blockRe
  exact congrArg₂ _ (Ideal.mul_congr (fac_re _ _ _ _ _ _ _) rfl) (Ideal.mul_congr (fac_im _ _ _ _ _ _ _) rfl)

/-- The input weights' real parts are the reference's. -/
theorem final7 (c : Dev nD) :
    (dats m 0 c).arrAt 7 (cfgs 0).N
      = refBr (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t _ y => ?_
  blk_simp
  rw [after0_7]
  idx_vars y
  obtain rfl : y0 = 0 := Subsingleton.elim _ _
  have hy : ((cfg0.win 7).blk t).view.emb (ix4 0 y1 y2 y3) = (ix4 (dir t) y1 y2 y3 : S2x16x64x64.Idx) := by unfold dir; blk_ext [idx t]
  exact (left_re m c t y1 y2 y3).trans (congrArg _ hy).symm

/-- What a grid point leaves of the input weights' imaginary parts is the reference's. -/
theorem left_im (c : Dev nD) (t : Fin cfg0.N) (k : Fin 16) (g p : Fin 64) :
    out0_8 (iblk m c 0 t) (iblk m c 1 t) (iblk m c 2 t) (iblk m c 3 t) (iblk m c 4 t) (ix4 0 k g p)
      = refBi (m ((c : Thread nD τ).loc main_arg0)) (m ((c : Thread nD τ).loc main_arg1)) (m ((c : Thread nD τ).loc main_arg2))
          (m ((c : Thread nD τ).loc main_arg3)) (m ((c : Thread nD τ).loc main_arg4)) (ix4 (dir t) k g p) := by
  refine (out_im _ _ _ _ _ _).trans ?_
  refine Eq.trans ?_ (refBi_at _ _ _ _ _ _ _ _ _).symm
  rw [← a_at m c t, ← b_at m c t, ← s_at m c t, ← p_at m c t, ← q_at m c t]
  unfold blockIm
  exact congrArg₂ _ (Ideal.mul_congr (fac_re _ _ _ _ _ _ _) rfl) (Ideal.mul_congr (fac_im _ _ _ _ _ _ _) rfl)

/-- The input weights' imaginary parts are the reference's. -/
theorem final8 (c : Dev nD) :
    (dats m 0 c).arrAt 8 (cfgs 0).N
      = refBi (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 8 _ (by decide +kernel) fun t _ y => ?_
  blk_simp
  rw [after0_8]
  idx_vars y
  obtain rfl : y0 = 0 := Subsingleton.elim _ _
  have hy : ((cfg0.win 8).blk t).view.emb (ix4 0 y1 y2 y3) = (ix4 (dir t) y1 y2 y3 : S2x16x64x64.Idx) := by unfold dir; blk_ext [idx t]
  exact (left_im m c t y1 y2 y3).trans (congrArg _ hy).symm

end Cert.Kernel11Ideal.S5Disc
-- ==== Proof.S5InValue.lean ====
module

public import proofs.«01_k».proof.Proof.Stream
public import proofs.«01_k».proof.Proof.Gen.Kernel12Ideal.Value
public import proofs.«01_k».proof.Proof.Gen.Reference12Ideal.Run

/-!
# The state space's input

The normalised and modulated stream, laid out by time: one row for each token, the batches side by side in its columns.
-/

@[expose] public section

set_option maxRecDepth 16384

noncomputable section

namespace Cert.Kernel12Ideal.S5In

open Cert.Kernel12Ideal Cert.Kernel12Ideal.Gen Idealize.ShloMosaic Idealize.ShloMosaic.TcCoe Idealize.SL.Sem
open Idealize.ShloMosaic.Pipeline (Dat)

/-- The input laid out by time, as the reference computes it. -/
def ref (X : FVec Ideal S16x2304x1024 .f32) (M : FVec Ideal S32x8x1024 .f32) (G : FVec Ideal Cert.Reference12Ideal.S1024 .f32) :
    FVec Ideal S2304x16384 .bf16 :=
  open Cert.Reference12Ideal Cert.Reference12Ideal.Gen in
  truncf .bf16 (shapeCast _ (transpose S2304x16x1024 [1, 0, 2] (Stream.both (Stream.ctxPart X G M) (Stream.latPart X G M))
    transposes_S16x2304x1024_S2304x16x1024_1_0_2) shapeCasts_S2304x16x1024_S2304x16384) Cert.Reference12Ideal.Gen.bitsLt_bf16_f32

/-- The reference's result at an element. -/
theorem ref_at (X : FVec Ideal S16x2304x1024 .f32) (M : FVec Ideal S32x8x1024 .f32) (G : FVec Ideal Cert.Reference12Ideal.S1024 .f32)
    (n : Fin 2304) (j : Fin 16384) :
    ref X M G (ix2 n j) = Stream.modulated X G M ⟨j.val / 1024, by omega⟩ n ⟨j.val % 1024, by omega⟩ := by
  pointwise [ref, Stream.stream_at]

/-- What a grid point stores, from its rows. -/
theorem stored (i : grid0.Coords) (v6 : Vec Ideal S1x256x1024 .f32) (v8 : Vec Ideal S1x1024 .f32) (v22 v24 v36 v38 : Vec Ideal S1x1x1024 .f32)
    (r : Fin 256) (e : Fin 1024) :
    k0_pay1 (F := Ideal) (k0_pay2 i) (k0_pay3 i v6 v8 v22 v24) (k0_pay4 v36) v38 (ix2 r e)
      = Stream.normed (fun k => v6 (ix3 0 r k)) (fun k => v8 (ix2 0 k)) e
          * (1 + if (i 1).val = 0 then v22 (ix3 0 0 e) else v24 (ix3 0 0 e)) + if (i 1).val = 0 then v36 (ix3 0 0 e) else v38 (ix3 0 0 e) := by
  have hc := Stream.is_ctx (i 1) r
  unfold Stream.normed
  pointwise [k0_pay1, k0_pay2, k0_pay3, k0_pay4, hc]
  split <;> rfl

/-- The windows' blocks at each grid point: batch and tile. -/
theorem idx : ∀ t : Fin cfg0.N,
    win0_0.index t = ![t.val / 9, t.val % 9, 0] ∧ win0_1.index t = ![0, 0] ∧ win0_2.index t = ![t.val / 9, 0, 0]
    ∧ win0_3.index t = ![t.val % 9, t.val / 9] ∧ (grid0.coords t 1).val = t.val % 9 :=
  (by decide +kernel : ∀ t : Fin grid0.N, _)

variable (m : (ℓ : Loc nD τ sig) → Buf (Elt Ideal) ℓ)

/-- The tile's rows are the stream's. -/
theorem x_at (c : Dev nD) (t : Fin cfg0.N) (r : Fin 256) (k : Fin 1024) :
    (iblk m c 0 t : Vec Ideal S1x256x1024 .f32) (ix3 0 r k) = m ((c : Thread nD τ).loc main_arg0) (ix3 (Stream.bat t) (Stream.tok t r) k) := by
  have ht : t.val < 144 := t.isLt
  unfold Stream.bat Stream.tok
  blk_ext [iblk, V, idx t]

/-- The gain's block is the gain. -/
theorem g_at (c : Dev nD) (t : Fin cfg0.N) (k : Fin 1024) :
    (iblk m c 1 t : Vec Ideal S1x1024 .f32) (ix2 0 k) = m ((c : Thread nD τ).loc main_arg2) (ix1 k) := by
  blk_point [iblk, V, idx t]

/-- The row of modulations a tile's tokens use, picked between the context's block row and the latent tokens'. -/
theorem mods_at (c : Dev nD) (t : Fin cfg0.N) (j : Fin 8) (r : Fin 256) (e : Fin 1024) (u v : EReal)
    (hu : u = (iblk m c 2 t : Vec Ideal S2x8x1024 .f32) (ix3 0 j e)) (hv : v = (iblk m c 2 t : Vec Ideal S2x8x1024 .f32) (ix3 1 j e)) :
    (if (grid0.coords t 1).val = 0 then u else v)
      = m ((c : Thread nD τ).loc main_arg1) (ix3 (Stream.row (Stream.bat t) (Stream.tok t r)) j e) := by
  have ht : t.val < 144 := t.isLt
  have hi : (grid0.coords t 1).val = t.val % 9 := (idx t).2.2.2.2
  have hr := Stream.row_tok t r
  rw [hu, hv]
  simp only [hi]
  by_cases h9 : t.val % 9 = 0
  · rw [if_pos h9] at hr ⊢
    blk_ext [iblk, V, idx t]
  · rw [if_neg h9] at hr ⊢
    blk_ext [iblk, V, idx t]

/-- The result buffer holds the reference's result. -/
theorem final (c : Dev nD) :
    (dats m 0 c).arrAt 3 (cfgs 0).N
      = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have ht : t.val < 144 := t.isLt
  idx_vars y
  have hy : ((cfg0.win 3).blk t).view.emb (ix2 y0 y1)
      = (ix2 (Stream.tok t y0) (⟨t.val / 9 * 1024 + y1.val, by omega⟩ : Fin 16384) : S2304x16384.Idx) := by
    unfold Stream.tok
    blk_ext [idx t]
  refine Eq.trans ?_ ((congrArg _ hy).trans (ref_at _ _ _ _ _)).symm
  have hb : (⟨(t.val / 9 * 1024 + y1.val) / 1024, by omega⟩ : Fin 16) = Stream.bat t := Fin.ext (by show (t.val / 9 * 1024 + y1.val) / 1024 = t.val / 9; omega)
  have he : (⟨(t.val / 9 * 1024 + y1.val) % 1024, by omega⟩ : Fin 1024) = y1 := Fin.ext (by show (t.val / 9 * 1024 + y1.val) % 1024 = y1.val; omega)
  rw [hb, he]
  refine (stored _ _ _ _ _ _ _ _ _).trans ?_
  unfold Stream.modulated
  simp only [x_at, g_at]
  refine congrArg₂ _ (Ideal.mul_congr rfl (congrArg _ ?_)) ?_
  · exact mods_at m c t 1 y0 y1 _ _ (by pointwise; blk_ext [iblk, V, idx t]) (by pointwise; blk_ext [iblk, V, idx t])
  · exact mods_at m c t 0 y0 y1 _ _ (by pointwise; blk_ext [iblk, V, idx t]) (by pointwise; blk_ext [iblk, V, idx t])

end Cert.Kernel12Ideal.S5In
-- ==== Proof.PeerScoreValue.lean ====
module

public import proofs.«01_k».proof.Proof.Stream
public import proofs.«01_k».proof.Proof.Softmax
public import proofs.«01_k».proof.Proof.Gen.Kernel13Ideal.Value
public import proofs.«01_k».proof.Proof.Gen.Reference13Ideal.Run
public import Idealize.ShloMosaic.Lib.KernelVsHost.SublaneAllReduce

/-!
# The scores of the experts' keys

A grid point takes 768 tokens of one batch, normalises and modulates them, multiplies them by the query weights and scores both
halves of each head's 128 keys against the queries, 16 rows of scores in all. A pass for each head and each 128 tokens then finds
the greatest score of each half through a sorting network and stores the exponentials of the scores less it. This file says
what the normalised tokens and the second half's exponentials are, and that they are the reference's.
-/

@[expose] public section

set_option maxRecDepth 16384

noncomputable section

namespace Cert.Kernel13Ideal.PeerScore

open Cert.Kernel13Ideal Cert.Kernel13Ideal.Gen Cert.Kernel13Ideal.Value Idealize.ShloMosaic Idealize.ShloMosaic.TcCoe Idealize.SL.Sem
open Idealize.ShloMosaic.Pipeline (Dat)

section
open Cert.Reference13Ideal Cert.Reference13Ideal.Gen

/-- The normalised stream under the second pair of modulation rows, at one element. -/
def modulated (X : FVec Ideal S16x2304x1024 .f32) (G : FVec Ideal S1024 .f32) (M : FVec Ideal S32x8x1024 .f32) (b : Fin 16) (n : Fin 2304)
    (e : Fin 1024) : EReal :=
  Stream.normed (fun k => X (ix3 b n k)) (fun k => G (ix1 k)) e * (1 + M (ix3 (Stream.row b n) 4 e)) + M (ix3 (Stream.row b n) 3 e)

/-- The normalised and modulated context tokens as the host prints them. -/
def ctxPart (X : FVec Ideal S16x2304x1024 .f32) (G : FVec Ideal S1024 .f32) (M : FVec Ideal S32x8x1024 .f32) : FVec Ideal S16x256x1024 .f32 :=
  addf (mulf (mulf (mulf (extractStridedSlice S16x256x1024 ![0, 0, 0] X slices_S16x2304x1024_S16x256x1024_0_0_0) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (extractStridedSlice S16x256x1024 ![0, 0, 0] X slices_S16x2304x1024_S16x256x1024_0_0_0) (extractStridedSlice S16x256x1024 ![0, 0, 0] X slices_S16x2304x1024_S16x256x1024_0_0_0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 G))) (broadcastInDim S16x256x1024 ![0, 1, 2] bcast_S16x1x1024_S16x256x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 0, 4, 0] (shapeCast _ M shapeCasts_S32x8x1024_S16x2x8x1024) slices_S16x2x8x1024_S16x1x1x1024_0_0_4_0) shapeCasts_S16x1x1x1024_S16x1024))))) (broadcastInDim S16x256x1024 ![0, 1, 2] bcast_S16x1x1024_S16x256x1024_0_1_2 (broadcastInDim S16x1x1024 ![0, 2] bcast_S16x1024_S16x1x1024_0_2 (shapeCast _ (extractStridedSlice S16x1x1x1024 ![0, 0, 3, 0] (shapeCast _ M shapeCasts_S32x8x1024_S16x2x8x1024) slices_S16x2x8x1024_S16x1x1x1024_0_0_3_0) shapeCasts_S16x1x1x1024_S16x1024)))

/-- The normalised and modulated latent tokens as the host prints them. -/
def latPart (X : FVec Ideal S16x2304x1024 .f32) (G : FVec Ideal S1024 .f32) (M : FVec Ideal S32x8x1024 .f32) : FVec Ideal S16x2048x1024 .f32 :=
  addf (mulf (mulf (mulf (extractStridedSlice S16x2048x1024 ![0, 256, 0] X slices_S16x2304x1024_S16x2048x1024_0_256_0) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (extractStridedSlice S16x2048x1024 ![0, 256, 0] X slices_S16x2304x1024_S16x2048x1024_0_256_0) (extractStridedSlice S16x2048x1024 ![0, 256, 0] X slices_S16x2304x1024_S16x2048x1024_0_256_0)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (shapeCast _ (extractStridedSlice S16x1x1x1024 ![0, 1, 4, 0] (shapeCast _ M shapeCasts_S32x8x1024_S16x2x8x1024) slices_S16x2x8x1024_S16x1x1x1024_0_1_4_0) shapeCasts_S16x1x1x1024_S16x1024))))) (broadcastInDim S16x2048x1024 ![0, 1, 2] bcast_S16x1x1024_S16x2048x1024_0_1_2 (broadcastInDim S16x1x1024 ![0, 2] bcast_S16x1024_S16x1x1024_0_2 (shapeCast _ (extractStridedSlice S16x1x1x1024 ![0, 1, 3, 0] (shapeCast _ M shapeCasts_S32x8x1024_S16x2x8x1024) slices_S16x2x8x1024_S16x1x1x1024_0_1_3_0) shapeCasts_S16x1x1x1024_S16x1024)))

/-- The tokens of all batches, one row each. -/
def hostRows (X : FVec Ideal S16x2304x1024 .f32) (G : FVec Ideal S1024 .f32) (M : FVec Ideal S32x8x1024 .f32) : FVec Ideal S36864x1024 .f32 :=
  shapeCast _ (Stream.both (ctxPart X G M) (latPart X G M)) shapeCasts_S16x2304x1024_S36864x1024

/-- The first result: the rows transposed and rounded. -/
def refRows (H : FVec Ideal S36864x1024 .f32) : FVec Ideal S1024x36864 .bf16 :=
  truncf .bf16 (transpose S1024x36864 [1, 0] H transposes_S36864x1024_S1024x36864_1_0) Cert.Reference13Ideal.Gen.bitsLt_bf16_f32

/-- The queries of each head's second half. -/
def hostQueries (H : FVec Ideal S36864x1024 .f32) (W : FVec Ideal S1024x1024 .f32) : FVec Ideal S36864x8x64 .f32 :=
  shapeCast _ (extractStridedSlice S36864x8x1x64 ![0, 0, 1, 0] (shapeCast _ (Host.dotGeneral dot_S36864x1024_S1024x1024_S36864x1024_1_0_0_1_n_n none H W) shapeCasts_S36864x1024_S36864x8x2x64) slices_S36864x8x2x64_S36864x8x1x64_0_0_1_0) shapeCasts_S36864x8x1x64_S36864x8x64

/-- The second half's keys. -/
def hostKeys (K : FVec Ideal S8x2x128x64 .f32) : FVec Ideal S8x128x64 .f32 :=
  shapeCast _ (extractStridedSlice S8x1x128x64 ![0, 1, 0, 0] K slices_S8x2x128x64_S8x1x128x64_0_1_0_0) shapeCasts_S8x1x128x64_S8x128x64

/-- The scores of the second half's keys. -/
def hostScores (Q : FVec Ideal S36864x8x64 .f32) (K : FVec Ideal S8x128x64 .f32) : FVec Ideal S8x36864x128 .f32 :=
  Host.dotGeneral dot_S36864x8x64_S8x128x64_S8x36864x128_2_2_0_1_1_0 none Q K

/-- The second result: the exponentials of the scores less each token's greatest. -/
def refExps (S : FVec Ideal S8x36864x128 .f32) : FVec Ideal S8x128x36864 .f32 :=
  transpose S8x128x36864 [0, 2, 1] (Host.exp (subf S (broadcastInDim S8x36864x128 ![0, 1, 2] bcast_S8x36864x1_S8x36864x128_0_1_2 (broadcastInDim S8x36864x1 ![0, 1] bcast_S8x36864_S8x36864x1_0_1 (Host.reduce FloatOps.maximumf S (constant S_ .f32 0xFF800000#32) reducesTo_S8x36864x128_S8x36864_d2 h_S_))))) transposes_S8x36864x128_S8x128x36864_0_2_1

variable (X : FVec Ideal S16x2304x1024 .f32) (G : FVec Ideal S1024 .f32) (M : FVec Ideal S32x8x1024 .f32)

/-- The context part at an element is the modulated stream there. -/
theorem ctxPart_at (b : Fin 16) (n : Fin 256) (e : Fin 1024) :
    ctxPart X G M (ix3 b n e) = modulated X G M b ⟨n.val, by have := n.isLt; omega⟩ e := by
  unfold modulated Stream.normed
  rw [Stream.row_ctx]
  pointwise [ctxPart]

/-- The latent part at an element is the modulated stream there. -/
theorem latPart_at (b : Fin 16) (n : Fin 2048) (e : Fin 1024) :
    latPart X G M (ix3 b n e) = modulated X G M b ⟨256 + n.val, by have := n.isLt; omega⟩ e := by
  unfold modulated Stream.normed
  rw [Stream.row_lat]
  pointwise [latPart]

/-- A row of the tokens. -/
theorem hostRows_at (T : Fin 36864) (e : Fin 1024) :
    hostRows X G M (ix2 T e) = modulated X G M ⟨T.val / 2304, by omega⟩ ⟨T.val % 2304, by omega⟩ e := by
  have h := Stream.both_eq (ctxPart X G M) (latPart X G M) _ (ctxPart_at X G M) (latPart_at X G M)
  pointwise [hostRows, h]

/-- The first result at an element. -/
theorem refRows_at (H : FVec Ideal S36864x1024 .f32) (e : Fin 1024) (T : Fin 36864) : refRows H (ix2 e T) = H (ix2 T e) := by
  pointwise [refRows]

/-- A query at an element. -/
theorem hostQueries_at (H : FVec Ideal S36864x1024 .f32) (W : FVec Ideal S1024x1024 .f32) (T : Fin 36864) (h : Fin 8) (k : Fin 64) :
    hostQueries H W (ix3 T h k) = ∑ e : Fin 1024, H (ix2 T e) * W (ix2 e ⟨h.val * 128 + 64 + k.val, by omega⟩) := by
  pointwise [hostQueries]

/-- A key at an element. -/
theorem hostKeys_at (K : FVec Ideal S8x2x128x64 .f32) (h : Fin 8) (j : Fin 128) (k : Fin 64) : hostKeys K (ix3 h j k) = K (ix4 h 1 j k) := by
  pointwise [hostKeys]

/-- A score at an element. -/
theorem hostScores_at (Q : FVec Ideal S36864x8x64 .f32) (K : FVec Ideal S8x128x64 .f32) (h : Fin 8) (T : Fin 36864) (j : Fin 128) :
    hostScores Q K (ix3 h T j) = ∑ k : Fin 64, Q (ix3 T h k) * K (ix3 h j k) := by
  pointwise [hostScores]

/-- The second result at an element. -/
theorem refExps_at (S : FVec Ideal S8x36864x128 .f32) (h : Fin 8) (j : Fin 128) (T : Fin 36864) :
    refExps S (ix3 h j T) = Ideal.exp (S (ix3 h T j) - Finset.fold max ⊥ (fun r : Fin 128 => (S (ix3 h T r) : EReal)) Finset.univ) := by
  pointwise [refExps, Softmax.neg_inf]

end

/-- The tile of eight rows that leads a column of 128 scores after the sorting network: the greatest of the sixteen tiles, element by element. -/
def lead (s : FVec Ideal S128x128 .f32) : FVec Ideal S8x128 .f32 :=
  maximumf (maximumf (maximumf (maximumf (extractStridedSlice S8x128 ![0, 0] s slices_S128x128_o0_0_S8x128) (extractStridedSlice S8x128 ![8, 0] s slices_S128x128_o8_0_S8x128)) (maximumf (extractStridedSlice S8x128 ![16, 0] s slices_S128x128_o16_0_S8x128) (extractStridedSlice S8x128 ![24, 0] s slices_S128x128_o24_0_S8x128))) (maximumf (maximumf (extractStridedSlice S8x128 ![32, 0] s slices_S128x128_o32_0_S8x128) (extractStridedSlice S8x128 ![40, 0] s slices_S128x128_o40_0_S8x128)) (maximumf (extractStridedSlice S8x128 ![48, 0] s slices_S128x128_o48_0_S8x128) (extractStridedSlice S8x128 ![56, 0] s slices_S128x128_o56_0_S8x128)))) (maximumf (maximumf (maximumf (extractStridedSlice S8x128 ![64, 0] s slices_S128x128_o64_0_S8x128) (extractStridedSlice S8x128 ![72, 0] s slices_S128x128_o72_0_S8x128)) (maximumf (extractStridedSlice S8x128 ![80, 0] s slices_S128x128_o80_0_S8x128) (extractStridedSlice S8x128 ![88, 0] s slices_S128x128_o88_0_S8x128))) (maximumf (maximumf (extractStridedSlice S8x128 ![96, 0] s slices_S128x128_o96_0_S8x128) (extractStridedSlice S8x128 ![104, 0] s slices_S128x128_o104_0_S8x128)) (maximumf (extractStridedSlice S8x128 ![112, 0] s slices_S128x128_o112_0_S8x128) (extractStridedSlice S8x128 ![120, 0] s slices_S128x128_o120_0_S8x128))))

/-- A tile's greatest row, in every row: three rotations by four, two and one rows, each followed by a maximum. -/
def spread (x : FVec Ideal S8x128 .f32) : FVec Ideal S8x128 .f32 :=
  maximumf (maximumf (maximumf x (dynamicRotate 0 4#32 none x rotates_S8x128_d0))
        (dynamicRotate 0 2#32 none (maximumf x (dynamicRotate 0 4#32 none x rotates_S8x128_d0)) rotates_S8x128_d0))
      (dynamicRotate 0 1#32 none (maximumf (maximumf x (dynamicRotate 0 4#32 none x rotates_S8x128_d0))
        (dynamicRotate 0 2#32 none (maximumf x (dynamicRotate 0 4#32 none x rotates_S8x128_d0)) rotates_S8x128_d0)) rotates_S8x128_d0)

/-- What a head's pass stores for a lane tile, from its scores: the exponentials of the scores less their column's greatest. -/
def stored (s : FVec Ideal S128x128 .f32) : FVec Ideal S1x128x128 .f32 := k0_pay803 s (spread (lead s))

/-- The leading tile's element is below a bound exactly when the sixteen tiles' elements are. -/
theorem lead_le (s : FVec Ideal S128x128 .f32) (a : Fin 8) (l : Fin 128) (c : EReal) :
    (lead s (ix2 a l) : EReal) ≤ c ↔ ∀ v : Fin 16, s (ix2 ⟨v.val * 8 + a.val, by omega⟩ l) ≤ c := by
  have h : (lead s (ix2 a l) : EReal) = max (max (max (max (s (ix2 ⟨0 * 8 + a.val, by omega⟩ l)) (s (ix2 ⟨1 * 8 + a.val, by omega⟩ l))) (max (s (ix2 ⟨2 * 8 + a.val, by omega⟩ l)) (s (ix2 ⟨3 * 8 + a.val, by omega⟩ l)))) (max (max (s (ix2 ⟨4 * 8 + a.val, by omega⟩ l)) (s (ix2 ⟨5 * 8 + a.val, by omega⟩ l))) (max (s (ix2 ⟨6 * 8 + a.val, by omega⟩ l)) (s (ix2 ⟨7 * 8 + a.val, by omega⟩ l))))) (max (max (max (s (ix2 ⟨8 * 8 + a.val, by omega⟩ l)) (s (ix2 ⟨9 * 8 + a.val, by omega⟩ l))) (max (s (ix2 ⟨10 * 8 + a.val, by omega⟩ l)) (s (ix2 ⟨11 * 8 + a.val, by omega⟩ l)))) (max (max (s (ix2 ⟨12 * 8 + a.val, by omega⟩ l)) (s (ix2 ⟨13 * 8 + a.val, by omega⟩ l))) (max (s (ix2 ⟨14 * 8 + a.val, by omega⟩ l)) (s (ix2 ⟨15 * 8 + a.val, by omega⟩ l))))) := by
    pointwise [lead]
  rw [h]
  simp only [max_le_iff]
  constructor
  · rintro h v
    fin_cases v <;> simp only [] <;> tauto
  · intro h
    exact ⟨⟨⟨⟨h 0, h 1⟩, ⟨h 2, h 3⟩⟩, ⟨⟨h 4, h 5⟩, ⟨h 6, h 7⟩⟩⟩, ⟨⟨⟨h 8, h 9⟩, ⟨h 10, h 11⟩⟩, ⟨⟨h 12, h 13⟩, ⟨h 14, h 15⟩⟩⟩⟩

/-- The spread of the leading tile is the greatest of the column's 128 scores. -/
theorem spread_lead (s : FVec Ideal S128x128 .f32) (a : Fin 8) (l : Fin 128) :
    (spread (lead s) (ix2 a l) : EReal) = Finset.fold max ⊥ (fun r : Fin 128 => (s (ix2 r l) : EReal)) Finset.univ := by
  have h : (spread (lead s) (ix2 a l) : EReal) = Idealize.ShloMosaic.SublaneAllReduce.combine8 max fun k => (lead s (ix2 k l) : EReal) :=
    Idealize.ShloMosaic.SublaneAllReduce.sublaneAllMax_apply rotates_S8x128_d0 (lead s) a l
  have hf : Finset.fold max ⊥ (fun r : Fin 128 => (s (ix2 r l) : EReal)) Finset.univ = Finset.univ.sup fun r : Fin 128 => (s (ix2 r l) : EReal) := rfl
  rw [h, hf]
  refine eq_of_forall_ge_iff fun c => ?_
  unfold Idealize.ShloMosaic.SublaneAllReduce.combine8
  simp only [max_le_iff, lead_le, Finset.sup_le_iff, Finset.mem_univ, true_imp_iff]
  constructor
  · intro H r
    have key : ∀ a : Fin 8, ∀ v : Fin 16, s (ix2 ⟨v.val * 8 + a.val, by omega⟩ l) ≤ c := by
      intro a
      fin_cases a <;> simp only [] <;> tauto
    have := key ⟨r.val % 8, by omega⟩ ⟨r.val / 8, by omega⟩
    have e : (⟨r.val / 8 * 8 + r.val % 8, by omega⟩ : Fin 128) = r := Fin.ext (by show r.val / 8 * 8 + r.val % 8 = r.val; omega)
    rwa [e] at this
  · intro H
    simp [H]

/-- A stored element. -/
theorem stored_at (s : FVec Ideal S128x128 .f32) (r l : Fin 128) :
    stored s (ix3 0 r l) = Ideal.exp (s (ix2 r l) - Finset.fold max ⊥ (fun r : Fin 128 => (s (ix2 r l) : EReal)) Finset.univ) := by
  pointwise [stored, k0_pay803, spread_lead]

/-- The scores of a half of a head's keys against the queries. -/
def scores (x4 : Vec Ideal S16x128x64 .bf16) (Q : FVec Ideal S1024x768 .bf16) : Vec Ideal S16x128x768 .f32 := fun y =>
  ∑ k : Fin 64, x4 (ix3 (y 0) (y 1) k) * Q (ix2 (⟨(y 0).val * 64 + k.val, by have h : (y 0).val < 16 := (y 0).isLt; omega⟩ : Fin 1024) (y 2))

/-- A row of scores, placed in the scratch. -/
theorem row_emb (n : Nat) (inb : ∀ a, ![n, 0, 0] a + S1x128x768.size a ≤ S16x128x768.size a) (z : Fin 1) (r : Fin 128) (l : Fin 768) (h : n < 16) :
    (Rect.unit (s := S16x128x768) ![n, 0, 0] S1x128x768.size inb).emb (ix3 z r l) = (ix3 ⟨n, h⟩ r l : S16x128x768.Idx) := by
  funext a
  apply Fin.ext
  fin_cases a
  · show n + 1 * z.val = n; omega
  · show 0 + 1 * r.val = r.val; omega
  · show 0 + 1 * l.val = l.val; omega

/-- A product of half a head's keys and queries at an element. -/
theorem prod_at (A : FVec Ideal S128x64 .bf16) (B : FVec Ideal S64x768 .bf16) (r : Fin 128) (l : Fin 768) :
    (matmul dot_S128x64_S64x768_S128x768_1_0_0_1_n_n none A B (constant S128x768 .f32 0x00000000#32) : FVec Ideal S128x768 .f32) (ix2 r l)
      = ∑ k : Fin 64, A (ix2 r k) * B (ix2 k l) := by
  pointwise

/-- Rows under a leading axis of one are the rows. -/
theorem under_at (C : FVec Ideal S128x768 .f32) (z : Fin 1) (r : Fin 128) (l : Fin 768) :
    shapeCast S1x128x768 C shapeCasts_S128x768_S1x128x768 (ix3 z r l) = C (ix2 r l) := by
  pointwise

/-- Rows without their leading axis of one are the rows. -/
theorem bare_at (C : FVec Ideal S1x128x64 .bf16) (r : Fin 128) (k : Fin 64) :
    shapeCast S128x64 C shapeCasts_S1x128x64_S128x64 (ix2 r k) = C (ix3 0 r k) := by
  pointwise

/-- A row of the keys' block. -/
theorem keys_at (x4 : Vec Ideal S16x128x64 .bf16) (n : Nat) (h : n < 16) (inb' : ∀ a, ![n, 0, 0] a + S1x128x64.size a ≤ S16x128x64.size a) (r : Fin 128) (k : Fin 64) :
    (shapeCast S128x64 (View.ld x4 (Rect.unit (s := S16x128x64) ![n, 0, 0] S1x128x64.size inb') : FVec Ideal S1x128x64 .bf16) shapeCasts_S1x128x64_S128x64 : FVec Ideal S128x64 .bf16) (ix2 r k)
      = x4 (ix3 ⟨n, h⟩ r k) := by
  refine (bare_at _ _ _).trans ?_
  show x4 ((Rect.unit (s := S16x128x64) ![n, 0, 0] S1x128x64.size inb').idx (ix3 0 r k)) = _
  congr 1
  funext a
  apply Fin.ext
  fin_cases a
  · show n + 1 * 0 = n; omega
  · show 0 + 1 * r.val = r.val; omega
  · show 0 + 1 * k.val = k.val; omega

/-- The sixty-four query rows of half a head. -/
theorem slice_at (n : Nat) (h : n < 16) (hs : S1024x768.Slices ![n * 64, 0] S64x768) (Q : FVec Ideal S1024x768 .bf16) (k : Fin 64) (l : Fin 768) :
    extractStridedSlice S64x768 ![n * 64, 0] Q hs (ix2 k l) = Q (ix2 ⟨n * 64 + k.val, by omega⟩ l) := by
  pointwise

/-- What a head's half stores is its row of the scores. -/
theorem piece (x4 : Vec Ideal S16x128x64 .bf16) (n : Nat) (inb : ∀ a, ![n, 0, 0] a + S1x128x768.size a ≤ S16x128x768.size a)
    (inb' : ∀ a, ![n, 0, 0] a + S1x128x64.size a ≤ S16x128x64.size a) (hs : S1024x768.Slices ![n * 64, 0] S64x768)
    (Q : FVec Ideal S1024x768 .bf16) (x : S1x128x768.Idx) :
    shapeCast S1x128x768 (matmul dot_S128x64_S64x768_S128x768_1_0_0_1_n_n none (shapeCast S128x64 (View.ld x4 (Rect.unit (s := S16x128x64) ![n, 0, 0] S1x128x64.size inb') : FVec Ideal S1x128x64 .bf16) shapeCasts_S1x128x64_S128x64 : FVec Ideal S128x64 .bf16)
      (extractStridedSlice S64x768 ![n * 64, 0] Q hs) (constant S128x768 .f32 0x00000000#32)) shapeCasts_S128x768_S1x128x768 x
      = scores x4 Q ((Rect.unit (s := S16x128x768) ![n, 0, 0] S1x128x768.size inb).emb x) := by
  have h : n < 16 := by have h0 : n + 1 ≤ 16 := inb 0; omega
  idx_vars x
  refine ((under_at _ _ _ _).trans (prod_at _ _ _ _)).trans (Eq.trans ?_ (congrArg (scores x4 Q) (row_emb n inb _ _ _ h)).symm)
  exact Finset.sum_congr rfl fun k _ => congrArg₂ (· * ·) (keys_at x4 n h inb' _ _) (slice_at n h hs Q _ _)

section
variable (c : Dev nD) (i : grid0.Coords) (arg2 : Memref sig .tc .vmem S1x768x1024 .f32) (harg2 : arg2.IsWhole) (arg3 : Memref sig .tc .vmem S1x1024 .f32) (harg3 : arg3.IsWhole) (arg4 : Memref sig .tc .vmem S2x8x1024 .f32) (harg4 : arg4.IsWhole) (arg5 : Memref sig .tc .vmem S1024x1024 .bf16) (harg5 : arg5.IsWhole) (arg6 : Memref sig .tc .vmem S16x128x64 .bf16) (harg6 : arg6.IsWhole) (x0 : Vec Ideal S1x768x1024 .f32) (x1 : Vec Ideal S1x1024 .f32) (x2 : Vec Ideal S2x8x1024 .f32) (x3 : Vec Ideal S1024x1024 .bf16) (x4 : Vec Ideal S16x128x64 .bf16)

/-- The normalised and modulated tile a grid point computes, transposed. -/
def tile (i : grid0.Coords) (x0 : Vec Ideal S1x768x1024 .f32) (x1 : Vec Ideal S1x1024 .f32) (x2 : Vec Ideal S2x8x1024 .f32) : FVec Ideal S1024x768 .bf16 :=
  k0_pay4813 (k0_pay4810 i)
        (k0_pay4811 i x0 x1
          (View.ld x2 (Rect.unit (s := S2x8x1024) ![0, 4, 0] S1x1x1024.size inb_S2x8x1024_S1x1x1024_0_4_0))
          (View.ld x2 (Rect.unit (s := S2x8x1024) ![1, 4, 0] S1x1x1024.size inb_S2x8x1024_S1x1x1024_1_4_0)))
        (k0_pay4812 (View.ld x2 (Rect.unit (s := S2x8x1024) ![0, 3, 0] S1x1x1024.size inb_S2x8x1024_S1x1x1024_0_3_0)))
        (View.ld x2 (Rect.unit (s := S2x8x1024) ![1, 3, 0] S1x1x1024.size inb_S2x8x1024_S1x1x1024_1_3_0))

/-- The queries of the tile, one row for each column of the query weights. -/
def queries (x3 : Vec Ideal S1024x1024 .bf16) (T : FVec Ideal S1024x768 .bf16) : FVec Ideal S1024x768 .bf16 := fun y =>
  ∑ e : Fin 1024, x3 (ix2 (y 0) e) * T (ix2 e (y 1))

/-- The queries as the body computes them are those. -/
theorem queries_eq : kernelRun0_A.sl.r_2 (F := Ideal) c i arg2 harg2 arg3 harg3 arg4 harg4 arg5 harg5 x0 x1 x2 x3 = queries x3 (tile i x0 x1 x2) := by
  have e : kernelRun0_A.sl.r_2 (F := Ideal) c i arg2 harg2 arg3 harg3 arg4 harg4 arg5 harg5 x0 x1 x2 x3 = k0_pay4814 (k0_pay4810 i)
        (k0_pay4811 i x0 x1
          (View.ld x2 (Rect.unit (s := S2x8x1024) ![0, 4, 0] S1x1x1024.size inb_S2x8x1024_S1x1x1024_0_4_0))
          (View.ld x2 (Rect.unit (s := S2x8x1024) ![1, 4, 0] S1x1x1024.size inb_S2x8x1024_S1x1x1024_1_4_0)))
        (k0_pay4812 (View.ld x2 (Rect.unit (s := S2x8x1024) ![0, 3, 0] S1x1x1024.size inb_S2x8x1024_S1x1x1024_0_3_0)))
        (View.ld x2 (Rect.unit (s := S2x8x1024) ![1, 3, 0] S1x1x1024.size inb_S2x8x1024_S1x1x1024_1_3_0)) x3 := by
    unfold kernelRun0_A.sl.r_2 kernelRun0_A.sl.r kernelRun0_A.sl.r_1
    simp (disch := decide) only [View.readAt_eq_ld, Memref.IsWhole.read_unread, View.ld_unit_lit']
  rw [e]
  funext y
  idx_vars y
  unfold queries tile
  pointwise [k0_pay4814]

set_option maxHeartbeats 1000000 in
/-- The scratch after the sixteen stores holds the scores. -/
theorem scratch (v : View sig .tc .vmem S16x128x768 .f32) (f : v.ty.Contents (Elt Ideal)) (y : S16x128x768.Idx) :
    v.read (Elt Ideal) (v.writes (Elt Ideal) f (kernelRun0_A.sl.HS0_16 (F := Ideal) c i arg2 harg2 arg3 harg3 arg4 harg4 arg5 harg5 arg6 harg6 x0 x1 x2 x3 x4)) y
      = scores x4 (queries x3 (tile i x0 x1 x2)) y := by
  refine View.read_writes_apply_of_pieces v f (scores x4 (queries x3 (tile i x0 x1 x2))) _ ?_ y
    (View.cover_of_tiledL (kernelRun0_A.sl.HS0_16 (F := Ideal) c i arg2 harg2 arg3 harg3 arg4 harg4 arg5 harg5 arg6 harg6 x0 x1 x2 x3 x4) S1x128x768.size (by sl_kernel_rfl) y)
  rw [← queries_eq c i arg2 harg2 arg3 harg3 arg4 harg4 arg5 harg5]
  unfold kernelRun0_A.sl.HS0_16 kernelRun0_A.sl.r_2 kernelRun0_A.sl.r_3 kernelRun0_A.sl.r_4 kernelRun0_A.sl.r_5 kernelRun0_A.sl.r_6
  simp (disch := decide) only [List.forall_mem_cons, List.not_mem_nil, false_imp_iff, implies_true, and_true, View.readAt_eq_ld, Memref.IsWhole.read_unread]
  refine ⟨?_, ?_, ?_, ?_, ?_, ?_, ?_, ?_, ?_, ?_, ?_, ?_, ?_, ?_, ?_, ?_⟩
  · exact piece x4 15 inb_S16x128x768_S1x128x768_15_0_0 inb_S16x128x64_S1x128x64_15_0_0 slices_S1024x768_o960_0_S64x768 _
  · exact piece x4 14 inb_S16x128x768_S1x128x768_14_0_0 inb_S16x128x64_S1x128x64_14_0_0 slices_S1024x768_o896_0_S64x768 _
  · exact piece x4 13 inb_S16x128x768_S1x128x768_13_0_0 inb_S16x128x64_S1x128x64_13_0_0 slices_S1024x768_o832_0_S64x768 _
  · exact piece x4 12 inb_S16x128x768_S1x128x768_12_0_0 inb_S16x128x64_S1x128x64_12_0_0 slices_S1024x768_o768_0_S64x768 _
  · exact piece x4 11 inb_S16x128x768_S1x128x768_11_0_0 inb_S16x128x64_S1x128x64_11_0_0 slices_S1024x768_o704_0_S64x768 _
  · exact piece x4 10 inb_S16x128x768_S1x128x768_10_0_0 inb_S16x128x64_S1x128x64_10_0_0 slices_S1024x768_o640_0_S64x768 _
  · exact piece x4 9 inb_S16x128x768_S1x128x768_9_0_0 inb_S16x128x64_S1x128x64_9_0_0 slices_S1024x768_o576_0_S64x768 _
  · exact piece x4 8 inb_S16x128x768_S1x128x768_8_0_0 inb_S16x128x64_S1x128x64_8_0_0 slices_S1024x768_o512_0_S64x768 _
  · exact piece x4 7 inb_S16x128x768_S1x128x768_7_0_0 inb_S16x128x64_S1x128x64_7_0_0 slices_S1024x768_o448_0_S64x768 _
  · exact piece x4 6 inb_S16x128x768_S1x128x768_6_0_0 inb_S16x128x64_S1x128x64_6_0_0 slices_S1024x768_o384_0_S64x768 _
  · exact piece x4 5 inb_S16x128x768_S1x128x768_5_0_0 inb_S16x128x64_S1x128x64_5_0_0 slices_S1024x768_o320_0_S64x768 _
  · exact piece x4 4 inb_S16x128x768_S1x128x768_4_0_0 inb_S16x128x64_S1x128x64_4_0_0 slices_S1024x768_o256_0_S64x768 _
  · exact piece x4 3 inb_S16x128x768_S1x128x768_3_0_0 inb_S16x128x64_S1x128x64_3_0_0 slices_S1024x768_o192_0_S64x768 _
  · exact piece x4 2 inb_S16x128x768_S1x128x768_2_0_0 inb_S16x128x64_S1x128x64_2_0_0 slices_S1024x768_o128_0_S64x768 _
  · exact piece x4 1 inb_S16x128x768_S1x128x768_1_0_0 inb_S16x128x64_S1x128x64_1_0_0 slices_S1024x768_o64_0_S64x768 _
  · exact piece x4 0 inb_S16x128x768_S1x128x768_0_0_0 inb_S16x128x64_S1x128x64_0_0_0 slices_S1024x768_o0_0_S64x768 _
end

/-- What the passes store of the second half's keys, from the scores: the exponentials of each column's scores less its greatest. -/
def exps (S : Vec Ideal S16x128x768 .f32) : Vec Ideal S8x128x768 .f32 := fun y =>
  Ideal.exp (S (ix3 (⟨2 * (y 0).val + 1, by have h : (y 0).val < 8 := (y 0).isLt; omega⟩ : Fin 16) (y 1) (y 2))
    - Finset.fold max ⊥ (fun r : Fin 128 => (S (ix3 (⟨2 * (y 0).val + 1, by have h : (y 0).val < 8 := (y 0).isLt; omega⟩ : Fin 16) r (y 2)) : EReal)) Finset.univ)

/-- A block of scores without its leading axis of one. -/
theorem block_at (C : FVec Ideal S1x128x128 .f32) (r l : Fin 128) :
    shapeCast S128x128 C shapeCasts_S1x128x128_S128x128 (ix2 r l) = C (ix3 0 r l) := by
  pointwise

/-- What one pass stores for 128 tokens is its part of the exponentials. -/
theorem lane (S : Vec Ideal S16x128x768 .f32) (k j : Nat) (hk : k < 8) (hj : j < 6) (o o' : Fin 3 → Nat) (ho : o = ![2 * k + 1, 0, 128 * j]) (ho' : o' = ![k, 0, 128 * j])
    (inb : ∀ a, o a + S1x128x128.size a ≤ S16x128x768.size a) (inb' : ∀ a, o' a + S1x128x128.size a ≤ S8x128x768.size a) (x : S1x128x128.Idx) :
    stored (shapeCast S128x128 (View.ld S (Rect.unit (s := S16x128x768) o S1x128x128.size inb) : FVec Ideal S1x128x128 .f32) shapeCasts_S1x128x128_S128x128) x
      = exps S ((Rect.unit (s := S8x128x768) o' S1x128x128.size inb').emb x) := by
  subst ho ho'
  idx_vars x
  have hz : x0 = 0 := Fin.ext (by omega)
  subst hz
  have he : (Rect.unit (s := S8x128x768) ![k, 0, 128 * j] S1x128x128.size inb').emb (ix3 0 x1 x2) = (ix3 ⟨k, hk⟩ x1 (⟨128 * j + x2.val, by omega⟩ : Fin 768) : S8x128x768.Idx) := by
    funext a
    apply Fin.ext
    fin_cases a
    · show k + 1 * 0 = k; omega
    · show 0 + 1 * x1.val = x1.val; omega
    · show 128 * j + 1 * x2.val = 128 * j + x2.val; omega
  have hl : ∀ r : Fin 128, (shapeCast S128x128 (View.ld S (Rect.unit (s := S16x128x768) ![2 * k + 1, 0, 128 * j] S1x128x128.size inb) : FVec Ideal S1x128x128 .f32) shapeCasts_S1x128x128_S128x128) (ix2 r x2)
      = S (ix3 (⟨2 * k + 1, by omega⟩ : Fin 16) r (⟨128 * j + x2.val, by omega⟩ : Fin 768)) := by
    intro r
    refine (block_at _ _ _).trans ?_
    show S ((Rect.unit (s := S16x128x768) ![2 * k + 1, 0, 128 * j] S1x128x128.size inb).idx (ix3 0 r x2)) = _
    congr 1
    funext a
    apply Fin.ext
    fin_cases a
    · show (2 * k + 1) + 1 * 0 = 2 * k + 1; omega
    · show 0 + 1 * r.val = r.val; omega
    · show 128 * j + 1 * x2.val = 128 * j + x2.val; omega
  refine (stored_at _ _ _).trans (Eq.trans ?_ (congrArg (exps S) he).symm)
  simp only [hl]
  rfl

section
variable (c : Dev nD) (i : grid0.Coords) (arg2 : Memref sig .tc .vmem S1x768x1024 .f32) (harg2 : arg2.IsWhole) (arg3 : Memref sig .tc .vmem S1x1024 .f32) (harg3 : arg3.IsWhole) (arg4 : Memref sig .tc .vmem S2x8x1024 .f32) (harg4 : arg4.IsWhole) (arg5 : Memref sig .tc .vmem S1024x1024 .bf16) (harg5 : arg5.IsWhole) (arg6 : Memref sig .tc .vmem S16x128x64 .bf16) (harg6 : arg6.IsWhole) (arg7 : Memref sig .tc .vmem S1024x768 .bf16) (harg7 : arg7.IsWhole) (arg8 : Memref sig .tc .vmem S8x128x768 .f32) (harg8 : arg8.IsWhole) (arg9 : Memref sig .tc .vmem S8x128x768 .f32) (harg9 : arg9.IsWhole) (arg10 : Memref sig .tc .vmem S8x768 .f32) (harg10 : arg10.IsWhole) (arg11 : Memref sig .tc .vmem S16x128x768 .f32) (harg11 : arg11.IsWhole) (X : BufTy.Contents (Elt Ideal) arg11.view.ty)

set_option maxHeartbeats 2000000 in
/-- One pass's six stores are each part of the exponentials of the scores it finds in the scratch. -/
theorem trip_pieces (k : Fin k0_t1_loop.trips) (acc : FVec Ideal S8x768 .f32) :
    ∀ p ∈ (tripL_k0_t1 (F := Ideal) Variants.none c none i arg2 harg2 arg3 harg3 arg4 harg4 arg5 harg5 arg6 harg6 arg7 harg7 arg8 harg8 arg9 harg9 arg10 harg10 arg11 harg11 X k acc).2,
      ∀ x : p.1.shape.Idx, p.2 x = exps (arg11.view.read (Elt Ideal) X) (p.1.emb x) := by
  have hk : k.val < 8 := Nat.lt_of_lt_of_le k.isLt k0_t1_abs.2.1
  dsimp only [tripL_k0_t1]
  unfold trip_k0_t1
  simp only [List.forall_mem_cons, List.not_mem_nil, false_imp_iff, implies_true, and_true]
  refine ⟨?_, ?_, ?_, ?_, ?_, ?_⟩
  · exact lane (arg11.view.read (Elt Ideal) X) k.val 5 hk (by omega) (k0_off17 k) _ (k0_off17_eq k) (k0_off18_eq k) (k0_off17_inb k) (k0_off18_inb k)
  · exact lane (arg11.view.read (Elt Ideal) X) k.val 4 hk (by omega) (k0_off14 k) _ (k0_off14_eq k) (k0_off15_eq k) (k0_off14_inb k) (k0_off15_inb k)
  · exact lane (arg11.view.read (Elt Ideal) X) k.val 3 hk (by omega) (k0_off11 k) _ (k0_off11_eq k) (k0_off12_eq k) (k0_off11_inb k) (k0_off12_inb k)
  · exact lane (arg11.view.read (Elt Ideal) X) k.val 2 hk (by omega) (k0_off8 k) _ (k0_off8_eq k) (k0_off9_eq k) (k0_off8_inb k) (k0_off9_inb k)
  · exact lane (arg11.view.read (Elt Ideal) X) k.val 1 hk (by omega) (k0_off5 k) _ (k0_off5_eq k) (k0_off6_eq k) (k0_off5_inb k) (k0_off6_inb k)
  · exact lane (arg11.view.read (Elt Ideal) X) k.val 0 hk (by omega) (k0_off2 k) _ (k0_off2_eq k) (k0_off3_eq k) (k0_off2_inb k) (k0_off3_inb k)

/-- The stores of all passes before the n-th are parts of the exponentials. -/
theorem st_pieces (init : FVec Ideal S8x768 .f32) (n : Nat) (hn : n ≤ k0_t1_loop.trips) :
    ∀ p ∈ (st_k0_t1 (F := Ideal) Variants.none c none i arg2 harg2 arg3 harg3 arg4 harg4 arg5 harg5 arg6 harg6 arg7 harg7 arg8 harg8 arg9 harg9 arg10 harg10 arg11 harg11 X init n).2.2,
      ∀ x : p.1.shape.Idx, p.2 x = exps (arg11.view.read (Elt Ideal) X) (p.1.emb x) := by
  induction n with
  | zero => intro p hp; exact absurd hp List.not_mem_nil
  | succ n ih =>
    rw [st_k0_t1_succ Variants.none c none i arg2 harg2 arg3 harg3 arg4 harg4 arg5 harg5 arg6 harg6 arg7 harg7 arg8 harg8 arg9 harg9 arg10 harg10 arg11 harg11 X init ⟨n, hn⟩]
    intro p hp
    rcases List.mem_append.mp hp with hp | hp
    · exact trip_pieces c i arg2 harg2 arg3 harg3 arg4 harg4 arg5 harg5 arg6 harg6 arg7 harg7 arg8 harg8 arg9 harg9 arg10 harg10 arg11 harg11 X ⟨n, hn⟩ _ p hp
    · exact ih (Nat.le_of_succ_le hn) p hp

set_option maxHeartbeats 1000000 in
/-- What a grid point leaves in the rows' block is its tile. -/
theorem out_rows (x0 : Vec Ideal S1x768x1024 .f32) (x1 : Vec Ideal S1x1024 .f32) (x2 : Vec Ideal S2x8x1024 .f32) (x3 : Vec Ideal S1024x1024 .bf16)
    (x4 : Vec Ideal S16x128x64 .bf16) : out0_A_5 (F := Ideal) c i arg2 harg2 arg3 harg3 arg4 harg4 arg5 harg5 arg6 harg6 arg7 harg7 arg8 harg8 arg9 harg9 arg10 harg10 arg11 harg11 x0 x1 x2 x3 x4 = tile i x0 x1 x2 := by
  unfold out0_A_5
  frame_out
  rfl

/-- What a grid point leaves in the exponentials' block. -/
theorem out_e1 (x0 : Vec Ideal S1x768x1024 .f32) (x1 : Vec Ideal S1x1024 .f32) (x2 : Vec Ideal S2x8x1024 .f32) (x3 : Vec Ideal S1024x1024 .bf16)
    (x4 : Vec Ideal S16x128x64 .bf16) (y : S8x128x768.Idx) :
    out0_A_7 (F := Ideal) c i arg2 harg2 arg3 harg3 arg4 harg4 arg5 harg5 arg6 harg6 arg7 harg7 arg8 harg8 arg9 harg9 arg10 harg10 arg11 harg11 x0 x1 x2 x3 x4 y = exps (scores x4 (queries x3 (tile i x0 x1 x2))) y := by
  unfold out0_A_7
  refine View.read_writes_apply_of_pieces VO0_7 VO0_7.junk _ _ ?_ y (cover0_A_7 c i arg2 harg2 arg3 harg3 arg4 harg4 arg5 harg5 arg6 harg6 arg7 harg7 arg8 harg8 arg9 harg9 arg10 harg10 arg11 harg11 x0 x1 x2 x3 x4 y)
  unfold kernelRun0_A
  dsimp only
  have e := funext (scratch c i arg2 harg2 arg3 harg3 arg4 harg4 arg5 harg5 arg6 harg6 x0 x1 x2 x3 x4 arg11.view arg11.view.junk)
  rw [← e]
  exact st_pieces c i arg2 harg2 arg3 harg3 arg4 harg4 arg5 harg5 arg6 harg6 arg7 harg7 arg8 harg8 arg9 harg9 arg10 harg10 arg11 harg11 _ _ _ (le_refl _)

end

/-- The test of a token for the context, as the kernel's words compute it. -/
theorem is_ctx (t : Fin 3) (r : Fin 768) :
    IntOp.cmpi CmpIPredicate.slt (IntOp.addi (Scalar.muli (BitVec.ofNat 32 t.val) 768#32) (BitVec.ofNat 32 r.val)) 256#32
      = if t.val = 0 ∧ r.val < 256 then 1#1 else 0#1 := by
  revert t r
  decide +kernel

/-- The tile at an element. -/
theorem tile_at (i : grid0.Coords) (x0 : Vec Ideal S1x768x1024 .f32) (x1 : Vec Ideal S1x1024 .f32) (x2 : Vec Ideal S2x8x1024 .f32) (e : Fin 1024) (r : Fin 768) :
    tile i x0 x1 x2 (ix2 e r)
      = Stream.normed (fun k => x0 (ix3 0 r k)) (fun k => x1 (ix2 0 k)) e
          * (1 + if (i 1).val = 0 ∧ r.val < 256 then x2 (ix3 0 4 e) else x2 (ix3 1 4 e))
        + if (i 1).val = 0 ∧ r.val < 256 then x2 (ix3 0 3 e) else x2 (ix3 1 3 e) := by
  have hc := is_ctx (i 1) r
  unfold Stream.normed
  pointwise [tile, k0_pay4810, k0_pay4811, k0_pay4812, k0_pay4813, hc]
  split <;> rfl

/-- The windows' blocks at each grid point: batch and tile. -/
theorem idx : ∀ t : Fin cfg0.N,
    win0_0.index t = ![t.val / 3, t.val % 3, 0] ∧ win0_1.index t = ![0, 0] ∧ win0_2.index t = ![t.val / 3, 0, 0]
    ∧ win0_3.index t = ![0, 0] ∧ win0_4.index t = ![0, 0, 0] ∧ win0_5.index t = ![0, t.val] ∧ win0_7.index t = ![0, 0, t.val]
    ∧ (grid0.coords t 1).val = t.val % 3 :=
  (by decide +kernel : ∀ t : Fin grid0.N, _)

/-- The column of a token of a tile among all tokens. -/
def col (t : Fin 48) (r : Fin 768) : Fin 36864 := ⟨t.val * 768 + r.val, by omega⟩

/-- The batch of a tile. -/
def bat (t : Fin 48) : Fin 16 := ⟨t.val / 3, by omega⟩

/-- The place of a token of a tile in its batch. -/
def tok (t : Fin 48) (r : Fin 768) : Fin 2304 := ⟨t.val % 3 * 768 + r.val, by omega⟩

/-- A row of the tokens, by tile. -/
theorem hostRows_col (X : FVec Ideal S16x2304x1024 .f32) (G : FVec Ideal S1024 .f32) (M : FVec Ideal S32x8x1024 .f32) (t : Fin 48) (r : Fin 768) (e : Fin 1024) :
    hostRows X G M (ix2 (col t r) e) = modulated X G M (bat t) (tok t r) e := by
  have hb : (⟨(col t r).val / 2304, by have := (col t r).isLt; omega⟩ : Fin 16) = bat t := Fin.ext (by show (t.val * 768 + r.val) / 2304 = t.val / 3; omega)
  have hn : (⟨(col t r).val % 2304, by omega⟩ : Fin 2304) = tok t r := Fin.ext (by show (t.val * 768 + r.val) % 2304 = t.val % 3 * 768 + r.val; omega)
  rw [hostRows_at, hb, hn]

/-- The row of modulations of a token of a tile. -/
theorem row_tok (t : Fin 48) (r : Fin 768) : (Stream.row (bat t) (tok t r)).val = t.val / 3 * 2 + if t.val % 3 = 0 ∧ r.val < 256 then 0 else 1 := by
  show t.val / 3 * 2 + (if t.val % 3 * 768 + r.val < 256 then 0 else 1) = _
  congr 1
  by_cases h : t.val % 3 = 0 ∧ r.val < 256
  · rw [if_pos h, if_pos (by omega)]
  · rw [if_neg h, if_neg (by omega)]

variable (m : (ℓ : Loc nD τ sig) → Buf (Elt Ideal) ℓ)

/-- The tile's rows are the stream's. -/
theorem x_at (c : Dev nD) (t : Fin cfg0.N) (r : Fin 768) (k : Fin 1024) :
    (iblk m c 0 t : Vec Ideal S1x768x1024 .f32) (ix3 0 r k) = m ((c : Thread nD τ).loc main_arg0) (ix3 (bat t) (tok t r) k) := by
  have ht : t.val < 48 := t.isLt
  unfold bat tok
  blk_ext [iblk, V, idx t]

/-- The gain's block is the gain. -/
theorem g_at (c : Dev nD) (t : Fin cfg0.N) (k : Fin 1024) :
    (iblk m c 1 t : Vec Ideal S1x1024 .f32) (ix2 0 k) = m ((c : Thread nD τ).loc main_arg2) (ix1 k) := by
  blk_point [iblk, V, idx t]

/-- The query weights' block is the query weights transposed. -/
theorem wq_at (c : Dev nD) (t : Fin cfg0.N) (a e : Fin 1024) :
    (iblk m c 3 t : Vec Ideal S1024x1024 .bf16) (ix2 a e) = m ((c : Thread nD τ).loc main_arg3) (ix2 e a) := by
  blk_point [iblk, V, idx t]

/-- The keys' block is the keys, both halves of each head in turn. -/
theorem key_at (c : Dev nD) (t : Fin cfg0.N) (h : Fin 8) (j : Fin 128) (k : Fin 64) :
    (iblk m c 4 t : Vec Ideal S16x128x64 .bf16) (ix3 (⟨2 * h.val + 1, by omega⟩ : Fin 16) j k) = m ((c : Thread nD τ).loc main_arg4) (ix4 h 1 j k) := by
  blk_point [iblk, V, idx t]

/-- The row of modulations a tile's tokens use, picked between the context's block row and the latent tokens'. -/
theorem mods_at (c : Dev nD) (t : Fin cfg0.N) (j : Fin 8) (r : Fin 768) (e : Fin 1024) :
    (if (grid0.coords t 1).val = 0 ∧ r.val < 256 then (iblk m c 2 t : Vec Ideal S2x8x1024 .f32) (ix3 0 j e) else (iblk m c 2 t : Vec Ideal S2x8x1024 .f32) (ix3 1 j e))
      = m ((c : Thread nD τ).loc main_arg1) (ix3 (Stream.row (bat t) (tok t r)) j e) := by
  have ht : t.val < 48 := t.isLt
  have hi : (grid0.coords t 1).val = t.val % 3 := (idx t).2.2.2.2.2.2.2
  have hr := row_tok t r
  simp only [hi]
  by_cases h9 : t.val % 3 = 0 ∧ r.val < 256
  · rw [if_pos h9] at hr ⊢
    blk_ext [iblk, V, idx t]
  · rw [if_neg h9] at hr ⊢
    blk_ext [iblk, V, idx t]

/-- The tile of a grid point is the reference's rows at its tokens. -/
theorem tile_rows (c : Dev nD) (t : Fin cfg0.N) (e : Fin 1024) (r : Fin 768) :
    tile (grid0.coords t) (iblk m c 0 t) (iblk m c 1 t) (iblk m c 2 t) (ix2 e r)
      = hostRows (m ((c : Thread nD τ).loc main_arg0)) (m ((c : Thread nD τ).loc main_arg2)) (m ((c : Thread nD τ).loc main_arg1)) (ix2 (col t r) e) := by
  refine (tile_at _ _ _ _ _ _).trans (Eq.trans ?_ (hostRows_col _ _ _ _ _ _).symm)
  unfold modulated
  simp only [x_at, g_at]
  exact congrArg₂ _ (Ideal.mul_congr rfl (congrArg _ (mods_at m c t 4 r e))) (mods_at m c t 3 r e)

/-- The kernel's scores of the second half's keys are the reference's: the products' factors change places. -/
theorem scores_rows (c : Dev nD) (t : Fin cfg0.N) (h : Fin 8) (j : Fin 128) (r : Fin 768) :
    scores (iblk m c 4 t) (queries (iblk m c 3 t) (tile (grid0.coords t) (iblk m c 0 t) (iblk m c 1 t) (iblk m c 2 t))) (ix3 (⟨2 * h.val + 1, by omega⟩ : Fin 16) j r)
      = hostScores (hostQueries (hostRows (m ((c : Thread nD τ).loc main_arg0)) (m ((c : Thread nD τ).loc main_arg2)) (m ((c : Thread nD τ).loc main_arg1))) (m ((c : Thread nD τ).loc main_arg3)))
          (hostKeys (m ((c : Thread nD τ).loc main_arg4))) (ix3 h (col t r) j) := by
  refine Eq.trans ?_ (hostScores_at _ _ _ _ _).symm
  refine Finset.sum_congr rfl fun k _ => ?_
  rw [hostQueries_at, hostKeys_at]
  refine (Ideal.mul_congr (key_at m c t h j k) ?_).trans (mul_comm (G := EReal) _ _)
  refine Finset.sum_congr rfl fun e _ => ?_
  refine (Ideal.mul_congr ((wq_at m c t _ e).trans (congrArg _ (congrArg (ix2 e) (Fin.ext ?_)))) (tile_rows m c t e r)).trans (mul_comm (G := EReal) _ _)
  show (2 * h.val + 1) * 64 + k.val = h.val * 128 + 64 + k.val
  omega

/-- The first result's buffer holds the reference's rows, transposed. -/
theorem final5 (c : Dev nD) :
    (dats m 0 c).arrAt 5 (cfgs 0).N
      = refRows (hostRows (m ((c : Thread nD τ).loc main_arg0)) (m ((c : Thread nD τ).loc main_arg2)) (m ((c : Thread nD τ).loc main_arg1))) := by
  refine (dats m 0 c).arrAt_eq_of_covers 5 _ (by decide +kernel) fun t _ y => ?_
  blk_simp
  rw [after0_5]; unfold outsAt0; dsimp only
  idx_vars y
  have hy : ((cfg0.win 5).blk t).view.emb (ix2 y0 y1) = (ix2 y0 (col t y1) : S1024x36864.Idx) := by
    unfold col
    blk_ext [idx t]
  refine Eq.trans ?_ ((congrArg _ hy).trans (refRows_at _ _ _)).symm
  refine (congrFun (out_rows _ _ _ _ _ _ _ _ _ _ _ _ _ _ _ _ _ _ _ _ _ _ _ _ _ _ _) _).trans ?_
  exact tile_rows m c t y0 y1

/-- The second result's buffer holds the reference's exponentials. -/
theorem final7 (c : Dev nD) :
    (dats m 0 c).arrAt 7 (cfgs 0).N
      = refExps (hostScores (hostQueries (hostRows (m ((c : Thread nD τ).loc main_arg0)) (m ((c : Thread nD τ).loc main_arg2)) (m ((c : Thread nD τ).loc main_arg1))) (m ((c : Thread nD τ).loc main_arg3)))
          (hostKeys (m ((c : Thread nD τ).loc main_arg4)))) := by
  refine (dats m 0 c).arrAt_eq_of_covers 7 _ (by decide +kernel) fun t _ y => ?_
  blk_simp
  rw [after0_7]; unfold outsAt0; dsimp only
  idx_vars y
  have hy : ((cfg0.win 7).blk t).view.emb (ix3 y0 y1 y2) = (ix3 y0 y1 (col t y2) : S8x128x36864.Idx) := by
    unfold col
    blk_ext [idx t]
  refine Eq.trans ?_ ((congrArg _ hy).trans (refExps_at _ _ _ _)).symm
  refine (out_e1 _ _ _ _ _ _ _ _ _ _ _ _ _ _ _ _ _ _ _ _ _ _ _ _ _ _ _ _).trans ?_
  unfold exps
  exact congrArg Ideal.exp (congrArg₂ (fun a b : EReal => a - b) (scores_rows m c t y0 y1 y2)
    (congrArg (fun f => Finset.fold max (⊥ : EReal) f Finset.univ) (funext fun r => scores_rows m c t y0 r y2)))

end Cert.Kernel13Ideal.PeerScore
-- ==== Proof.MlaInRunStores.lean ====
module

public import proofs.«01_k».proof.Proof.Gen.Kernel6Ideal.Frame
public import proofs.«01_k».proof.Proof.Gen.Kernel6Ideal.Skeleton

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource the body's triples speak of. -/
abbrev Mach (F : FTy → Type) [FloatOps F] := MT nD τ sig Unit (Elt F) ℕ (UR sig nD τ) ℕ

/-- A head's columns of an array of 256 rows. -/
theorem head_slices (h : Fin 16) : S256x2048.Slices ![0, 128 * h.val] S256x128 := by revert h; decide

/-- The modulated normalised rows of a point, as the body computes them. -/
def hbOf (i : grid0.Coords) (x0 : Vec F S1x256x1024 .f32) (x1 : Vec F S1x1024 .f32) (x2 : Vec F S2x8x1024 .f32) : FVec F S256x1024 .bf16 :=
  k0_pay38 (k0_pay35 i) (k0_pay36 i (View.ld x0 (Rect.unit (s := S1x256x1024) ![0, 0, 0] S1x256x1024.size inb_S1x256x1024_S1x256x1024_0_0_0)) (View.ld x1 (Rect.unit (s := S1x1024) ![0, 0] S1x1024.size inb_S1x1024_S1x1024_0_0)) (View.ld x2 (Rect.unit (s := S2x8x1024) ![0, 1, 0] S1x1x1024.size inb_S2x8x1024_S1x1x1024_0_1_0)) (View.ld x2 (Rect.unit (s := S2x8x1024) ![1, 1, 0] S1x1x1024.size inb_S2x8x1024_S1x1x1024_1_1_0))) (k0_pay37 (View.ld x2 (Rect.unit (s := S2x8x1024) ![0, 0, 0] S1x1x1024.size inb_S2x8x1024_S1x1x1024_0_0_0))) (View.ld x2 (Rect.unit (s := S2x8x1024) ![1, 0, 0] S1x1x1024.size inb_S2x8x1024_S1x1x1024_1_0_0))

/-- The compressed queries. -/
def cqOf (i : grid0.Coords) (x0 : Vec F S1x256x1024 .f32) (x1 : Vec F S1x1024 .f32) (x2 : Vec F S2x8x1024 .f32) (x3 : Vec F S1024x384 .bf16) (x6 : Vec F S1x384 .f32) : FVec F S256x384 .bf16 :=
  k0_pay39 (k0_pay35 i) (k0_pay36 i (View.ld x0 (Rect.unit (s := S1x256x1024) ![0, 0, 0] S1x256x1024.size inb_S1x256x1024_S1x256x1024_0_0_0)) (View.ld x1 (Rect.unit (s := S1x1024) ![0, 0] S1x1024.size inb_S1x1024_S1x1024_0_0)) (View.ld x2 (Rect.unit (s := S2x8x1024) ![0, 1, 0] S1x1x1024.size inb_S2x8x1024_S1x1x1024_0_1_0)) (View.ld x2 (Rect.unit (s := S2x8x1024) ![1, 1, 0] S1x1x1024.size inb_S2x8x1024_S1x1x1024_1_1_0))) (k0_pay37 (View.ld x2 (Rect.unit (s := S2x8x1024) ![0, 0, 0] S1x1x1024.size inb_S2x8x1024_S1x1x1024_0_0_0))) (View.ld x2 (Rect.unit (s := S2x8x1024) ![1, 0, 0] S1x1x1024.size inb_S2x8x1024_S1x1x1024_1_0_0)) (View.ld x3 (Rect.unit (s := S1024x384) ![0, 0] S1024x384.size inb_S1024x384_S1024x384_0_0)) (View.ld x6 (Rect.unit (s := S1x384) ![0, 0] S1x384.size inb_S1x384_S1x384_0_0))

/-- The compressed keys and values before their norm. -/
def kvOf (i : grid0.Coords) (x0 : Vec F S1x256x1024 .f32) (x1 : Vec F S1x1024 .f32) (x2 : Vec F S2x8x1024 .f32) (x4 : Vec F S1024x256 .bf16) : FVec F S256x256 .f32 :=
  k0_pay40 (k0_pay35 i) (k0_pay36 i (View.ld x0 (Rect.unit (s := S1x256x1024) ![0, 0, 0] S1x256x1024.size inb_S1x256x1024_S1x256x1024_0_0_0)) (View.ld x1 (Rect.unit (s := S1x1024) ![0, 0] S1x1024.size inb_S1x1024_S1x1024_0_0)) (View.ld x2 (Rect.unit (s := S2x8x1024) ![0, 1, 0] S1x1x1024.size inb_S2x8x1024_S1x1x1024_0_1_0)) (View.ld x2 (Rect.unit (s := S2x8x1024) ![1, 1, 0] S1x1x1024.size inb_S2x8x1024_S1x1x1024_1_1_0))) (k0_pay37 (View.ld x2 (Rect.unit (s := S2x8x1024) ![0, 0, 0] S1x1x1024.size inb_S2x8x1024_S1x1x1024_0_0_0))) (View.ld x2 (Rect.unit (s := S2x8x1024) ![1, 0, 0] S1x1x1024.size inb_S2x8x1024_S1x1x1024_1_0_0)) (View.ld x4 (Rect.unit (s := S1024x256) ![0, 0] S1024x256.size inb_S1024x256_S1024x256_0_0))

/-- What their norm takes the root of. -/
def kvMs (i : grid0.Coords) (x0 : Vec F S1x256x1024 .f32) (x1 : Vec F S1x1024 .f32) (x2 : Vec F S2x8x1024 .f32) (x4 : Vec F S1024x256 .bf16) : FVec F S256x1 .f32 :=
  k0_pay42 (k0_pay35 i) (k0_pay36 i (View.ld x0 (Rect.unit (s := S1x256x1024) ![0, 0, 0] S1x256x1024.size inb_S1x256x1024_S1x256x1024_0_0_0)) (View.ld x1 (Rect.unit (s := S1x1024) ![0, 0] S1x1024.size inb_S1x1024_S1x1024_0_0)) (View.ld x2 (Rect.unit (s := S2x8x1024) ![0, 1, 0] S1x1x1024.size inb_S2x8x1024_S1x1x1024_0_1_0)) (View.ld x2 (Rect.unit (s := S2x8x1024) ![1, 1, 0] S1x1x1024.size inb_S2x8x1024_S1x1x1024_1_1_0))) (k0_pay37 (View.ld x2 (Rect.unit (s := S2x8x1024) ![0, 0, 0] S1x1x1024.size inb_S2x8x1024_S1x1x1024_0_0_0))) (View.ld x2 (Rect.unit (s := S2x8x1024) ![1, 0, 0] S1x1x1024.size inb_S2x8x1024_S1x1x1024_1_0_0)) (View.ld x4 (Rect.unit (s := S1024x256) ![0, 0] S1024x256.size inb_S1024x256_S1024x256_0_0))

/-- One head's queries: its columns of the two products, each times its rotary table. -/
def qHead (h : Fin 16) (v99 v102 : FVec F S256x2048 .f32) (v107 v109 : FVec F S256x128 .f32) : Vec F S1x256x128 .bf16 :=
  shapeCast S1x256x128 (truncf .bf16 (addf
    (mulf (extractStridedSlice S256x128 ![0, 128 * h.val] v99 (head_slices h)) v107)
    (mulf (extractStridedSlice S256x128 ![0, 128 * h.val] v102 (head_slices h)) v109)) bitsLt_bf16_f32) shapeCasts_S256x128_S1x256x128

/-- One head's keys: its columns of the product, plus the shared rotated part. -/
def kHead (h : Fin 16) (v96 : FVec F S256x128 .f32) (v105 : FVec F S256x2048 .f32) : Vec F S1x256x128 .bf16 :=
  shapeCast S1x256x128 (truncf .bf16 (addf
    (extractStridedSlice S256x128 ![0, 128 * h.val] v105 (head_slices h)) v96) bitsLt_bf16_f32) shapeCasts_S256x128_S1x256x128

/-- Sixteen heads' tiles side by side, the last one first. -/
def heads (p : Fin 16 → Vec F S1x256x128 .bf16) : List (View.Piece (Elt F) S1x256x2048 .bf16) :=
  [⟨Rect.unit (s := S1x256x2048) ![0, 0, 1920] S1x256x128.size inb_S1x256x2048_S1x256x128_0_0_1920, p 15⟩, ⟨Rect.unit (s := S1x256x2048) ![0, 0, 1792] S1x256x128.size inb_S1x256x2048_S1x256x128_0_0_1792, p 14⟩, ⟨Rect.unit (s := S1x256x2048) ![0, 0, 1664] S1x256x128.size inb_S1x256x2048_S1x256x128_0_0_1664, p 13⟩, ⟨Rect.unit (s := S1x256x2048) ![0, 0, 1536] S1x256x128.size inb_S1x256x2048_S1x256x128_0_0_1536, p 12⟩, ⟨Rect.unit (s := S1x256x2048) ![0, 0, 1408] S1x256x128.size inb_S1x256x2048_S1x256x128_0_0_1408, p 11⟩, ⟨Rect.unit (s := S1x256x2048) ![0, 0, 1280] S1x256x128.size inb_S1x256x2048_S1x256x128_0_0_1280, p 10⟩, ⟨Rect.unit (s := S1x256x2048) ![0, 0, 1152] S1x256x128.size inb_S1x256x2048_S1x256x128_0_0_1152, p 9⟩, ⟨Rect.unit (s := S1x256x2048) ![0, 0, 1024] S1x256x128.size inb_S1x256x2048_S1x256x128_0_0_1024, p 8⟩, ⟨Rect.unit (s := S1x256x2048) ![0, 0, 896] S1x256x128.size inb_S1x256x2048_S1x256x128_0_0_896, p 7⟩, ⟨Rect.unit (s := S1x256x2048) ![0, 0, 768] S1x256x128.size inb_S1x256x2048_S1x256x128_0_0_768, p 6⟩, ⟨Rect.unit (s := S1x256x2048) ![0, 0, 640] S1x256x128.size inb_S1x256x2048_S1x256x128_0_0_640, p 5⟩, ⟨Rect.unit (s := S1x256x2048) ![0, 0, 512] S1x256x128.size inb_S1x256x2048_S1x256x128_0_0_512, p 4⟩, ⟨Rect.unit (s := S1x256x2048) ![0, 0, 384] S1x256x128.size inb_S1x256x2048_S1x256x128_0_0_384, p 3⟩, ⟨Rect.unit (s := S1x256x2048) ![0, 0, 256] S1x256x128.size inb_S1x256x2048_S1x256x128_0_0_256, p 2⟩, ⟨Rect.unit (s := S1x256x2048) ![0, 0, 128] S1x256x128.size inb_S1x256x2048_S1x256x128_0_0_128, p 1⟩, ⟨Rect.unit (s := S1x256x2048) ![0, 0, 0] S1x256x128.size inb_S1x256x2048_S1x256x128_0_0_0, p 0⟩]

/-- The sixteen tiles fill the block. -/
theorem coverQ (p : Fin 16 → Vec F S1x256x128 .bf16) (y : S1x256x2048.Idx) : ∃ pc ∈ heads p, y ∈ pc.1.set :=
  View.cover_of_tiledL (heads p) S1x256x128.size (by sl_kernel_rfl) y

/-- So a buffer the sixteen tiles were stored into reads as they are. -/
theorem stored_heads (v : View sig .tc .vmem S1x256x2048 .bf16) (f : v.ty.Contents (Elt F)) (L : List (View.Piece (Elt F) S1x256x2048 .bf16))
    (p : Fin 16 → Vec F S1x256x128 .bf16) (out : Vec F S1x256x2048 .bf16) (ho : out = View.canon (heads p)) (hL : L = heads p) :
    v.read (Elt F) (v.writes (Elt F) f L) = out := by
  rw [ho, hL]
  exact View.read_writes_eq_canon _ _ _ (coverQ p)

/-- The one store of the values fills the block. -/
theorem coverV (p : Vec F S1x256x1024 .bf16) (y : S1x256x1024.Idx) :
    ∃ pc ∈ ([⟨Rect.unit (s := S1x256x1024) ![0, 0, 0] S1x256x1024.size inb_S1x256x1024_S1x256x1024_0_0_0, p⟩] : List (View.Piece (Elt F) S1x256x1024 .bf16)), y ∈ pc.1.set :=
  View.cover_of_tiled [⟨Rect.unit (s := S1x256x1024) ![0, 0, 0] S1x256x1024.size inb_S1x256x1024_S1x256x1024_0_0_0, p⟩] S1x256x1024.size (by rfl) y

/-- The queries a point computes. -/
def outQ (i : grid0.Coords) (x0 : Vec F S1x256x1024 .f32) (x1 : Vec F S1x1024 .f32) (x2 : Vec F S2x8x1024 .f32) (x3 : Vec F S1024x384 .bf16) (x6 : Vec F S1x384 .f32) (x8 : Vec F S384x2048 .bf16) (x9 : Vec F S384x2048 .bf16) (x12 : Vec F S256x128 .f32) (x13 : Vec F S256x128 .f32) : Vec F S1x256x2048 .bf16 :=
  View.canon (heads fun h => qHead h (k0_pay45 (cqOf i x0 x1 x2 x3 x6) (View.ld x8 (Rect.unit (s := S384x2048) ![0, 0] S384x2048.size inb_S384x2048_S384x2048_0_0))) (k0_pay46 (cqOf i x0 x1 x2 x3 x6) (View.ld x9 (Rect.unit (s := S384x2048) ![0, 0] S384x2048.size inb_S384x2048_S384x2048_0_0)))
    (k0_pay48 (View.ld x12 (Rect.unit (s := S256x128) ![0, 0] S256x128.size inb_S256x128_S256x128_0_0))) (k0_pay49 (View.ld x13 (Rect.unit (s := S256x128) ![0, 0] S256x128.size inb_S256x128_S256x128_0_0))))

/-- The keys a point computes. -/
def outK (i : grid0.Coords) (x0 : Vec F S1x256x1024 .f32) (x1 : Vec F S1x1024 .f32) (x2 : Vec F S2x8x1024 .f32) (x4 : Vec F S1024x256 .bf16) (x5 : Vec F S1024x256 .bf16) (x7 : Vec F S1x256 .f32) (x10 : Vec F S256x2048 .bf16) (x14 : Vec F S256x128 .f32) (x15 : Vec F S256x128 .f32) : Vec F S1x256x2048 .bf16 :=
  View.canon (heads fun h => kHead h (k0_pay44 (hbOf i x0 x1 x2) (View.ld x5 (Rect.unit (s := S1024x256) ![0, 0] S1024x256.size inb_S1024x256_S1024x256_0_0)) (View.ld x14 (Rect.unit (s := S256x128) ![0, 0] S256x128.size inb_S256x128_S256x128_0_0)) (View.ld x15 (Rect.unit (s := S256x128) ![0, 0] S256x128.size inb_S256x128_S256x128_0_0)))
    (k0_pay47 (kvOf i x0 x1 x2 x4) (k0_pay41 (View.ld x7 (Rect.unit (s := S1x256) ![0, 0] S1x256.size inb_S1x256_S1x256_0_0))) (kvMs i x0 x1 x2 x4) (View.ld x10 (Rect.unit (s := S256x2048) ![0, 0] S256x2048.size inb_S256x2048_S256x2048_0_0))))

/-- The values a point computes. -/
def outV (i : grid0.Coords) (x0 : Vec F S1x256x1024 .f32) (x1 : Vec F S1x1024 .f32) (x2 : Vec F S2x8x1024 .f32) (x4 : Vec F S1024x256 .bf16) (x7 : Vec F S1x256 .f32) (x11 : Vec F S256x1024 .bf16) : Vec F S1x256x1024 .bf16 :=
  View.canon [⟨Rect.unit (s := S1x256x1024) ![0, 0, 0] S1x256x1024.size inb_S1x256x1024_S1x256x1024_0_0_0, k0_pay2 (k0_pay43 (kvOf i x0 x1 x2 x4) (k0_pay41 (View.ld x7 (Rect.unit (s := S1x256) ![0, 0] S1x256.size inb_S1x256_S1x256_0_0))) (kvMs i x0 x1 x2 x4)) (View.ld x11 (Rect.unit (s := S256x1024) ![0, 0] S256x1024.size inb_S256x1024_S256x1024_0_0))⟩]

end Cert.Kernel6Ideal.Gen

end
-- ==== Proof.MlaInRunCtx.lean ====
module

public import proofs.«01_k».proof.Proof.MlaInRunStores

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- One run of the body at a point of the context row block: the queries go to the first result, the second is not touched; the
    keys and the values are stored either way, and what was read is left as it was. -/
theorem body_ctx (c : Dev nD) (E : Set ℕ) (i : grid0.Coords) (hc1 : k0_cond1 i = 1#1) (hc2 : ¬ k0_cond2 i = 1#1)
    (arg2 : Memref sig .tc .vmem S1x256x1024 .f32) (harg2 : arg2.IsWhole) (arg3 : Memref sig .tc .vmem S1x1024 .f32) (harg3 : arg3.IsWhole) (arg4 : Memref sig .tc .vmem S2x8x1024 .f32) (harg4 : arg4.IsWhole) (arg5 : Memref sig .tc .vmem S1024x384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x384 .f32) (harg8 : arg8.IsWhole) (arg9 : Memref sig .tc .vmem S1x256 .f32) (harg9 : arg9.IsWhole) (arg10 : Memref sig .tc .vmem S384x2048 .bf16) (harg10 : arg10.IsWhole) (arg11 : Memref sig .tc .vmem S384x2048 .bf16) (harg11 : arg11.IsWhole) (arg12 : Memref sig .tc .vmem S256x2048 .bf16) (harg12 : arg12.IsWhole) (arg13 : Memref sig .tc .vmem S256x1024 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S1x256x2048 .bf16) (harg18 : arg18.IsWhole) (arg19 : Memref sig .tc .vmem S1x256x2048 .bf16) (harg19 : arg19.IsWhole) (arg20 : Memref sig .tc .vmem S1x256x2048 .bf16) (harg20 : arg20.IsWhole) (arg21 : Memref sig .tc .vmem S1x256x1024 .bf16) (harg21 : arg21.IsWhole)
    (x0 : Vec F S1x256x1024 .f32) (x1 : Vec F S1x1024 .f32) (x2 : Vec F S2x8x1024 .f32) (x3 : Vec F S1024x384 .bf16) (x4 : Vec F S1024x256 .bf16) (x5 : Vec F S1024x256 .bf16) (x6 : Vec F S1x384 .f32) (x7 : Vec F S1x256 .f32) (x8 : Vec F S384x2048 .bf16) (x9 : Vec F S384x2048 .bf16) (x10 : Vec F S256x2048 .bf16) (x11 : Vec F S256x1024 .bf16) (x12 : Vec F S256x128 .f32) (x13 : Vec F S256x128 .f32) (x14 : Vec F S256x128 .f32) (x15 : Vec F S256x128 .f32) (z : Vec F S1x256x2048 .bf16) (K : PUnit → sProp (Mach F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare z ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (outQ i x0 x1 x2 x3 x6 x8 x9 x12 x13) ∗ owns (c : Thread nD τ) arg19 fullShare z ∗ owns (c : Thread nD τ) arg20 fullShare (outK i x0 x1 x2 x4 x5 x7 x10 x14 x15) ∗ owns (c : Thread nD τ) arg21 fullShare (outV i x0 x1 x2 x4 x7 x11)) -∗ K ⟨⟩))
      ⊢ wp frame (wpE (defs₀ (F := F)) Variants.none c none) E (cc0_mla_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mla_in_eq_skeleton]; unfold cc0_mla_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, Hk⟩
  subst hf0 hf1 hf2 hf3 hf4 hf5 hf6 hf7 hf8 hf9 hf10 hf11 hf12 hf13 hf14 hf15 hf17
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact stored_heads _ _ _ _ _ rfl rfl
  isplitl [H17]
  · iexists f17; isplitr; · ipureintro; rfl
    iexact H17
  isplitl [H18]
  · iexists _; isplitr
    swap; · iexact H18
    ipureintro
    exact stored_heads _ _ _ _ _ rfl rfl
  iexists _; isplitr
  swap; · iexact H19
  ipureintro
  exact View.read_writes_eq_canon _ _ _ (coverV _)

end Cert.Kernel6Ideal.Gen

end
-- ==== Proof.MlaInRunLat.lean ====
module

public import proofs.«01_k».proof.Proof.MlaInRunStores

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- One run of the body at a point of a latent row block: the queries go to the second result, the first is not touched; the
    keys and the values are stored either way, and what was read is left as it was. -/
theorem body_lat (c : Dev nD) (E : Set ℕ) (i : grid0.Coords) (hc1 : ¬ k0_cond1 i = 1#1) (hc2 : k0_cond2 i = 1#1)
    (arg2 : Memref sig .tc .vmem S1x256x1024 .f32) (harg2 : arg2.IsWhole) (arg3 : Memref sig .tc .vmem S1x1024 .f32) (harg3 : arg3.IsWhole) (arg4 : Memref sig .tc .vmem S2x8x1024 .f32) (harg4 : arg4.IsWhole) (arg5 : Memref sig .tc .vmem S1024x384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x384 .f32) (harg8 : arg8.IsWhole) (arg9 : Memref sig .tc .vmem S1x256 .f32) (harg9 : arg9.IsWhole) (arg10 : Memref sig .tc .vmem S384x2048 .bf16) (harg10 : arg10.IsWhole) (arg11 : Memref sig .tc .vmem S384x2048 .bf16) (harg11 : arg11.IsWhole) (arg12 : Memref sig .tc .vmem S256x2048 .bf16) (harg12 : arg12.IsWhole) (arg13 : Memref sig .tc .vmem S256x1024 .bf16) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S1x256x2048 .bf16) (harg18 : arg18.IsWhole) (arg19 : Memref sig .tc .vmem S1x256x2048 .bf16) (harg19 : arg19.IsWhole) (arg20 : Memref sig .tc .vmem S1x256x2048 .bf16) (harg20 : arg20.IsWhole) (arg21 : Memref sig .tc .vmem S1x256x1024 .bf16) (harg21 : arg21.IsWhole)
    (x0 : Vec F S1x256x1024 .f32) (x1 : Vec F S1x1024 .f32) (x2 : Vec F S2x8x1024 .f32) (x3 : Vec F S1024x384 .bf16) (x4 : Vec F S1024x256 .bf16) (x5 : Vec F S1024x256 .bf16) (x6 : Vec F S1x384 .f32) (x7 : Vec F S1x256 .f32) (x8 : Vec F S384x2048 .bf16) (x9 : Vec F S384x2048 .bf16) (x10 : Vec F S256x2048 .bf16) (x11 : Vec F S256x1024 .bf16) (x12 : Vec F S256x128 .f32) (x13 : Vec F S256x128 .f32) (x14 : Vec F S256x128 .f32) (x15 : Vec F S256x128 .f32) (z : Vec F S1x256x2048 .bf16) (K : PUnit → sProp (Mach F)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare z ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare z ∗ owns (c : Thread nD τ) arg19 fullShare (outQ i x0 x1 x2 x3 x6 x8 x9 x12 x13) ∗ owns (c : Thread nD τ) arg20 fullShare (outK i x0 x1 x2 x4 x5 x7 x10 x14 x15) ∗ owns (c : Thread nD τ) arg21 fullShare (outV i x0 x1 x2 x4 x7 x11)) -∗ K ⟨⟩))
      ⊢ wp frame (wpE (defs₀ (F := F)) Variants.none c none) E (cc0_mla_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mla_in_eq_skeleton]; unfold cc0_mla_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact stored_heads _ _ _ _ _ rfl rfl
  isplitl [H18]
  · iexists _; isplitr
    swap; · iexact H18
    ipureintro
    exact stored_heads _ _ _ _ _ rfl rfl
  iexists _; isplitr
  swap; · iexact H19
  ipureintro
  exact View.read_writes_eq_canon _ _ _ (coverV _)

end Cert.Kernel6Ideal.Gen

end
-- ==== Proof.MlaInRun.lean ====
module

public import proofs.«01_k».proof.Proof.MlaInRunCtx
public import proofs.«01_k».proof.Proof.MlaInRunLat
public import Idealize.ShloMosaic.Lib.Pipeline.TableIdle
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A point where the queries are the context's: the first of its batch row. -/
theorem is_ctx : ∀ t : Fin cfg0.N, t.val % 9 = 0 → k0_cond1 (grid0.coords t) = 1#1 ∧ ¬ k0_cond2 (grid0.coords t) = 1#1 := by
  decide +kernel

/-- Every other point's are the latents'. -/
theorem is_lat : ∀ t : Fin cfg0.N, t.val % 9 ≠ 0 → ¬ k0_cond1 (grid0.coords t) = 1#1 ∧ k0_cond2 (grid0.coords t) = 1#1 := by
  decide +kernel

/-- The point of a point's batch row that computes the context queries. -/
def head0 (t : Fin cfg0.N) : Fin cfg0.N := ⟨t.val - t.val % 9, Nat.lt_of_le_of_lt (Nat.sub_le _ _) t.isLt⟩

/-- The queries of point `t`, from the blocks it reads. -/
def qAt (c : Dev nD) (t : Fin cfg0.N) : Vec F S1x256x2048 .bf16 := outQ (grid0.coords t) (iblk m c 0 t) (iblk m c 1 t) (iblk m c 2 t) (iblk m c 3 t) (iblk m c 6 t) (iblk m c 8 t) (iblk m c 9 t) (iblk m c 12 t) (iblk m c 13 t)

/-- The keys of point `t`. -/
def kAt (c : Dev nD) (t : Fin cfg0.N) : Vec F S1x256x2048 .bf16 := outK (grid0.coords t) (iblk m c 0 t) (iblk m c 1 t) (iblk m c 2 t) (iblk m c 4 t) (iblk m c 5 t) (iblk m c 7 t) (iblk m c 10 t) (iblk m c 14 t) (iblk m c 15 t)

/-- The values of point `t`. -/
def vAt (c : Dev nD) (t : Fin cfg0.N) : Vec F S1x256x1024 .bf16 := outV (grid0.coords t) (iblk m c 0 t) (iblk m c 1 t) (iblk m c 2 t) (iblk m c 4 t) (iblk m c 7 t) (iblk m c 11 t)

/-- What every buffer holds after a point: the inputs their blocks, the first result the context queries of the point's
    batch row, the others what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => qAt m c (head0 t)
    | ⟨17, _⟩ => qAt m c t
    | ⟨18, _⟩ => kAt m c t
    | ⟨19, _⟩ => vAt m c t
    | ⟨_ + 20, h⟩ => absurd h (Nat.not_lt.2 (Nat.le_add_left _ _))
  Φ _ := Pipeline.ΦA spec0 c
  q _ := fullShare
  owed _ := 0

/-- The arrays the data starts from are those at the call. -/
theorem A_eq (c : Dev nD) (w : Fin cfg0.W) : (dats m 0 c).A w = V m c (Pipeline.arrRef spec0 w) := by
  dsimp only [dats]

/-- Window 0 after a point. -/
theorem after0_0 (c : Dev nD) (t : Fin cfg0.N) : (dats m 0 c).after 0 t = iblk m c 0 t := by dsimp only [dats]

/-- Window 1 after a point. -/
theorem after0_1 (c : Dev nD) (t : Fin cfg0.N) : (dats m 0 c).after 1 t = iblk m c 1 t := by dsimp only [dats]

/-- Window 2 after a point. -/
theorem after0_2 (c : Dev nD) (t : Fin cfg0.N) : (dats m 0 c).after 2 t = iblk m c 2 t := by dsimp only [dats]

/-- Window 3 after a point. -/
theorem after0_3 (c : Dev nD) (t : Fin cfg0.N) : (dats m 0 c).after 3 t = iblk m c 3 t := by dsimp only [dats]

/-- Window 4 after a point. -/
theorem after0_4 (c : Dev nD) (t : Fin cfg0.N) : (dats m 0 c).after 4 t = iblk m c 4 t := by dsimp only [dats]

/-- Window 5 after a point. -/
theorem after0_5 (c : Dev nD) (t : Fin cfg0.N) : (dats m 0 c).after 5 t = iblk m c 5 t := by dsimp only [dats]

/-- Window 6 after a point. -/
theorem after0_6 (c : Dev nD) (t : Fin cfg0.N) : (dats m 0 c).after 6 t = iblk m c 6 t := by dsimp only [dats]

/-- Window 7 after a point. -/
theorem after0_7 (c : Dev nD) (t : Fin cfg0.N) : (dats m 0 c).after 7 t = iblk m c 7 t := by dsimp only [dats]

/-- Window 8 after a point. -/
theorem after0_8 (c : Dev nD) (t : Fin cfg0.N) : (dats m 0 c).after 8 t = iblk m c 8 t := by dsimp only [dats]

/-- Window 9 after a point. -/
theorem after0_9 (c : Dev nD) (t : Fin cfg0.N) : (dats m 0 c).after 9 t = iblk m c 9 t := by dsimp only [dats]

/-- Window 10 after a point. -/
theorem after0_10 (c : Dev nD) (t : Fin cfg0.N) : (dats m 0 c).after 10 t = iblk m c 10 t := by dsimp only [dats]

/-- Window 11 after a point. -/
theorem after0_11 (c : Dev nD) (t : Fin cfg0.N) : (dats m 0 c).after 11 t = iblk m c 11 t := by dsimp only [dats]

/-- Window 12 after a point. -/
theorem after0_12 (c : Dev nD) (t : Fin cfg0.N) : (dats m 0 c).after 12 t = iblk m c 12 t := by dsimp only [dats]

/-- Window 13 after a point. -/
theorem after0_13 (c : Dev nD) (t : Fin cfg0.N) : (dats m 0 c).after 13 t = iblk m c 13 t := by dsimp only [dats]

/-- Window 14 after a point. -/
theorem after0_14 (c : Dev nD) (t : Fin cfg0.N) : (dats m 0 c).after 14 t = iblk m c 14 t := by dsimp only [dats]

/-- Window 15 after a point. -/
theorem after0_15 (c : Dev nD) (t : Fin cfg0.N) : (dats m 0 c).after 15 t = iblk m c 15 t := by dsimp only [dats]

/-- Window 16 after a point. -/
theorem after0_16 (c : Dev nD) (t : Fin cfg0.N) : (dats m 0 c).after 16 t = qAt m c (head0 t) := by dsimp only [dats]

/-- Window 17 after a point. -/
theorem after0_17 (c : Dev nD) (t : Fin cfg0.N) : (dats m 0 c).after 17 t = qAt m c t := by dsimp only [dats]

/-- Window 18 after a point. -/
theorem after0_18 (c : Dev nD) (t : Fin cfg0.N) : (dats m 0 c).after 18 t = kAt m c t := by dsimp only [dats]

/-- Window 19 after a point. -/
theorem after0_19 (c : Dev nD) (t : Fin cfg0.N) : (dats m 0 c).after 19 t = vAt m c t := by dsimp only [dats]

/-- Window 0 before a point holds its block. -/
theorem before0_0 (c : Dev nD) (t : Fin cfg0.N) (d) : (dats m 0 c).before 0 t d = iblk m c 0 t :=
  before0_0_of m (dats m 0 c) (A_eq m c 0) (after0_0 m c) t d

/-- Window 1 before a point holds its block. -/
theorem before0_1 (c : Dev nD) (t : Fin cfg0.N) (d) : (dats m 0 c).before 1 t d = iblk m c 1 t :=
  before0_1_of m (dats m 0 c) (A_eq m c 1) (after0_1 m c) t d

/-- Window 2 before a point holds its block. -/
theorem before0_2 (c : Dev nD) (t : Fin cfg0.N) (d) : (dats m 0 c).before 2 t d = iblk m c 2 t :=
  before0_2_of m (dats m 0 c) (A_eq m c 2) (after0_2 m c) t d

/-- Window 3 before a point holds its block. -/
theorem before0_3 (c : Dev nD) (t : Fin cfg0.N) (d) : (dats m 0 c).before 3 t d = iblk m c 3 t :=
  before0_3_of m (dats m 0 c) (A_eq m c 3) (after0_3 m c) t d

/-- Window 4 before a point holds its block. -/
theorem before0_4 (c : Dev nD) (t : Fin cfg0.N) (d) : (dats m 0 c).before 4 t d = iblk m c 4 t :=
  before0_4_of m (dats m 0 c) (A_eq m c 4) (after0_4 m c) t d

/-- Window 5 before a point holds its block. -/
theorem before0_5 (c : Dev nD) (t : Fin cfg0.N) (d) : (dats m 0 c).before 5 t d = iblk m c 5 t :=
  before0_5_of m (dats m 0 c) (A_eq m c 5) (after0_5 m c) t d

/-- Window 6 before a point holds its block. -/
theorem before0_6 (c : Dev nD) (t : Fin cfg0.N) (d) : (dats m 0 c).before 6 t d = iblk m c 6 t :=
  before0_6_of m (dats m 0 c) (A_eq m c 6) (after0_6 m c) t d

/-- Window 7 before a point holds its block. -/
theorem before0_7 (c : Dev nD) (t : Fin cfg0.N) (d) : (dats m 0 c).before 7 t d = iblk m c 7 t :=
  before0_7_of m (dats m 0 c) (A_eq m c 7) (after0_7 m c) t d

/-- Window 8 before a point holds its block. -/
theorem before0_8 (c : Dev nD) (t : Fin cfg0.N) (d) : (dats m 0 c).before 8 t d = iblk m c 8 t :=
  before0_8_of m (dats m 0 c) (A_eq m c 8) (after0_8 m c) t d

/-- Window 9 before a point holds its block. -/
theorem before0_9 (c : Dev nD) (t : Fin cfg0.N) (d) : (dats m 0 c).before 9 t d = iblk m c 9 t :=
  before0_9_of m (dats m 0 c) (A_eq m c 9) (after0_9 m c) t d

/-- Window 10 before a point holds its block. -/
theorem before0_10 (c : Dev nD) (t : Fin cfg0.N) (d) : (dats m 0 c).before 10 t d = iblk m c 10 t :=
  before0_10_of m (dats m 0 c) (A_eq m c 10) (after0_10 m c) t d

/-- Window 11 before a point holds its block. -/
theorem before0_11 (c : Dev nD) (t : Fin cfg0.N) (d) : (dats m 0 c).before 11 t d = iblk m c 11 t :=
  before0_11_of m (dats m 0 c) (A_eq m c 11) (after0_11 m c) t d

/-- Window 12 before a point holds its block. -/
theorem before0_12 (c : Dev nD) (t : Fin cfg0.N) (d) : (dats m 0 c).before 12 t d = iblk m c 12 t :=
  before0_12_of m (dats m 0 c) (A_eq m c 12) (after0_12 m c) t d

/-- Window 13 before a point holds its block. -/
theorem before0_13 (c : Dev nD) (t : Fin cfg0.N) (d) : (dats m 0 c).before 13 t d = iblk m c 13 t :=
  before0_13_of m (dats m 0 c) (A_eq m c 13) (after0_13 m c) t d

/-- Window 14 before a point holds its block. -/
theorem before0_14 (c : Dev nD) (t : Fin cfg0.N) (d) : (dats m 0 c).before 14 t d = iblk m c 14 t :=
  before0_14_of m (dats m 0 c) (A_eq m c 14) (after0_14 m c) t d

/-- Window 15 before a point holds its block. -/
theorem before0_15 (c : Dev nD) (t : Fin cfg0.N) (d) : (dats m 0 c).before 15 t d = iblk m c 15 t :=
  before0_15_of m (dats m 0 c) (A_eq m c 15) (after0_15 m c) t d

/-- The first result's buffer is new exactly at the first point of a batch row. -/
theorem fresh_16 : ∀ n, n ≤ cfg0.N → cfg0.fresh 16 n = decide (n % 9 = 0) :=
  Cfg.fresh_tab cfg0 16 (fun n => decide (n % 9 = 0)) rfl (by decide +kernel)

/-- At the later points of a batch row the first result's buffer holds its context queries. -/
theorem before0_16 (c : Dev nD) (t : Fin cfg0.N) (ht : t.val % 9 ≠ 0) (d) : (dats m 0 c).before 16 t d = qAt m c (head0 t) := by
  have hc : ∀ s : Fin cfg0.N, s.val % 9 ≠ 0 → ∀ hs, head0 s = head0 ⟨s.val - 1, hs⟩ := by
    intro s h hs; apply Fin.ext; simp only [head0]; omega
  rw [Dat.before_out_traj (dats m 0 c) 16 rfl (fun _ _ => rfl) ?_ t.val t rfl d, fresh_16 _ (Nat.le_of_lt t.isLt),
    decide_eq_false ht, if_neg Bool.false_ne_true, after0_16, ← hc t ht]
  intro s h0 _ hf
  rw [fresh_16 _ (Nat.le_of_lt s.isLt)] at hf
  rw [after0_16, after0_16, ← hc s (of_decide_eq_false hf)]

/-- The first result is left alone, and not written back, in the middle of a batch row. -/
theorem idle_16 : ∀ t : Fin cfg0.N, t.val % 9 ≠ 0 → cfg0.idle 16 (grid0.coords t) = true := by decide +kernel
/-- It is stored at the row's first point. -/
theorem live_16 : ∀ t : Fin cfg0.N, t.val % 9 = 0 → cfg0.idle 16 (grid0.coords t) = false := by decide +kernel
/-- The second result is left alone at the first point, -/
theorem idle_17 : ∀ t : Fin cfg0.N, t.val % 9 = 0 → cfg0.idle 17 (grid0.coords t) = true := by decide +kernel
/-- and not written back there. -/
theorem noflush_17 : ∀ t : Fin cfg0.N, t.val % 9 = 0 → (cfg0.win 17).flush t = false := by decide +kernel
/-- It is stored at the others. -/
theorem live_17 : ∀ t : Fin cfg0.N, t.val % 9 ≠ 0 → cfg0.idle 17 (grid0.coords t) = false := by decide +kernel

/-- What the body is called with at a point, window by window. -/
def bodyPre (c : Dev nD) (t : Fin cfg0.N) : sProp (Mach F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- What it must leave, window by window. -/
def bodyPost (c : Dev nD) (t : Fin cfg0.N) : sProp (Mach F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

/-- Window 0 is used at every point, so it must be left at its contents after. -/
theorem leaves_0 (c : Dev nD) (t : Fin cfg0.N) :
    (dats m 0 c).leavesExact 0 t = owns (c : Thread nD τ) (st0_0 t) fullShare (iblk m c 0 t) := by
  rw [show (dats m 0 c).leavesExact 0 t = owns (c : Thread nD τ) (st0_0 t) fullShare ((dats m 0 c).after 0 t) from by
    unfold Dat.leavesExact; rw [show cfg0.idle 0 (cfg0.grid.coords t) = false from rfl], after0_0]

/-- Window 1 is used at every point, so it must be left at its contents after. -/
theorem leaves_1 (c : Dev nD) (t : Fin cfg0.N) :
    (dats m 0 c).leavesExact 1 t = owns (c : Thread nD τ) (st0_1 t) fullShare (iblk m c 1 t) := by
  rw [show (dats m 0 c).leavesExact 1 t = owns (c : Thread nD τ) (st0_1 t) fullShare ((dats m 0 c).after 1 t) from by
    unfold Dat.leavesExact; rw [show cfg0.idle 1 (cfg0.grid.coords t) = false from rfl], after0_1]

/-- Window 2 is used at every point, so it must be left at its contents after. -/
theorem leaves_2 (c : Dev nD) (t : Fin cfg0.N) :
    (dats m 0 c).leavesExact 2 t = owns (c : Thread nD τ) (st0_2 t) fullShare (iblk m c 2 t) := by
  rw [show (dats m 0 c).leavesExact 2 t = owns (c : Thread nD τ) (st0_2 t) fullShare ((dats m 0 c).after 2 t) from by
    unfold Dat.leavesExact; rw [show cfg0.idle 2 (cfg0.grid.coords t) = false from rfl], after0_2]

/-- Window 3 is used at every point, so it must be left at its contents after. -/
theorem leaves_3 (c : Dev nD) (t : Fin cfg0.N) :
    (dats m 0 c).leavesExact 3 t = owns (c : Thread nD τ) (st0_3 t) fullShare (iblk m c 3 t) := by
  rw [show (dats m 0 c).leavesExact 3 t = owns (c : Thread nD τ) (st0_3 t) fullShare ((dats m 0 c).after 3 t) from by
    unfold Dat.leavesExact; rw [show cfg0.idle 3 (cfg0.grid.coords t) = false from rfl], after0_3]

/-- Window 4 is used at every point, so it must be left at its contents after. -/
theorem leaves_4 (c : Dev nD) (t : Fin cfg0.N) :
    (dats m 0 c).leavesExact 4 t = owns (c : Thread nD τ) (st0_4 t) fullShare (iblk m c 4 t) := by
  rw [show (dats m 0 c).leavesExact 4 t = owns (c : Thread nD τ) (st0_4 t) fullShare ((dats m 0 c).after 4 t) from by
    unfold Dat.leavesExact; rw [show cfg0.idle 4 (cfg0.grid.coords t) = false from rfl], after0_4]

/-- Window 5 is used at every point, so it must be left at its contents after. -/
theorem leaves_5 (c : Dev nD) (t : Fin cfg0.N) :
    (dats m 0 c).leavesExact 5 t = owns (c : Thread nD τ) (st0_5 t) fullShare (iblk m c 5 t) := by
  rw [show (dats m 0 c).leavesExact 5 t = owns (c : Thread nD τ) (st0_5 t) fullShare ((dats m 0 c).after 5 t) from by
    unfold Dat.leavesExact; rw [show cfg0.idle 5 (cfg0.grid.coords t) = false from rfl], after0_5]

/-- Window 6 is used at every point, so it must be left at its contents after. -/
theorem leaves_6 (c : Dev nD) (t : Fin cfg0.N) :
    (dats m 0 c).leavesExact 6 t = owns (c : Thread nD τ) (st0_6 t) fullShare (iblk m c 6 t) := by
  rw [show (dats m 0 c).leavesExact 6 t = owns (c : Thread nD τ) (st0_6 t) fullShare ((dats m 0 c).after 6 t) from by
    unfold Dat.leavesExact; rw [show cfg0.idle 6 (cfg0.grid.coords t) = false from rfl], after0_6]

/-- Window 7 is used at every point, so it must be left at its contents after. -/
theorem leaves_7 (c : Dev nD) (t : Fin cfg0.N) :
    (dats m 0 c).leavesExact 7 t = owns (c : Thread nD τ) (st0_7 t) fullShare (iblk m c 7 t) := by
  rw [show (dats m 0 c).leavesExact 7 t = owns (c : Thread nD τ) (st0_7 t) fullShare ((dats m 0 c).after 7 t) from by
    unfold Dat.leavesExact; rw [show cfg0.idle 7 (cfg0.grid.coords t) = false from rfl], after0_7]

/-- Window 8 is used at every point, so it must be left at its contents after. -/
theorem leaves_8 (c : Dev nD) (t : Fin cfg0.N) :
    (dats m 0 c).leavesExact 8 t = owns (c : Thread nD τ) (st0_8 t) fullShare (iblk m c 8 t) := by
  rw [show (dats m 0 c).leavesExact 8 t = owns (c : Thread nD τ) (st0_8 t) fullShare ((dats m 0 c).after 8 t) from by
    unfold Dat.leavesExact; rw [show cfg0.idle 8 (cfg0.grid.coords t) = false from rfl], after0_8]

/-- Window 9 is used at every point, so it must be left at its contents after. -/
theorem leaves_9 (c : Dev nD) (t : Fin cfg0.N) :
    (dats m 0 c).leavesExact 9 t = owns (c : Thread nD τ) (st0_9 t) fullShare (iblk m c 9 t) := by
  rw [show (dats m 0 c).leavesExact 9 t = owns (c : Thread nD τ) (st0_9 t) fullShare ((dats m 0 c).after 9 t) from by
    unfold Dat.leavesExact; rw [show cfg0.idle 9 (cfg0.grid.coords t) = false from rfl], after0_9]

/-- Window 10 is used at every point, so it must be left at its contents after. -/
theorem leaves_10 (c : Dev nD) (t : Fin cfg0.N) :
    (dats m 0 c).leavesExact 10 t = owns (c : Thread nD τ) (st0_10 t) fullShare (iblk m c 10 t) := by
  rw [show (dats m 0 c).leavesExact 10 t = owns (c : Thread nD τ) (st0_10 t) fullShare ((dats m 0 c).after 10 t) from by
    unfold Dat.leavesExact; rw [show cfg0.idle 10 (cfg0.grid.coords t) = false from rfl], after0_10]

/-- Window 11 is used at every point, so it must be left at its contents after. -/
theorem leaves_11 (c : Dev nD) (t : Fin cfg0.N) :
    (dats m 0 c).leavesExact 11 t = owns (c : Thread nD τ) (st0_11 t) fullShare (iblk m c 11 t) := by
  rw [show (dats m 0 c).leavesExact 11 t = owns (c : Thread nD τ) (st0_11 t) fullShare ((dats m 0 c).after 11 t) from by
    unfold Dat.leavesExact; rw [show cfg0.idle 11 (cfg0.grid.coords t) = false from rfl], after0_11]

/-- Window 12 is used at every point, so it must be left at its contents after. -/
theorem leaves_12 (c : Dev nD) (t : Fin cfg0.N) :
    (dats m 0 c).leavesExact 12 t = owns (c : Thread nD τ) (st0_12 t) fullShare (iblk m c 12 t) := by
  rw [show (dats m 0 c).leavesExact 12 t = owns (c : Thread nD τ) (st0_12 t) fullShare ((dats m 0 c).after 12 t) from by
    unfold Dat.leavesExact; rw [show cfg0.idle 12 (cfg0.grid.coords t) = false from rfl], after0_12]

/-- Window 13 is used at every point, so it must be left at its contents after. -/
theorem leaves_13 (c : Dev nD) (t : Fin cfg0.N) :
    (dats m 0 c).leavesExact 13 t = owns (c : Thread nD τ) (st0_13 t) fullShare (iblk m c 13 t) := by
  rw [show (dats m 0 c).leavesExact 13 t = owns (c : Thread nD τ) (st0_13 t) fullShare ((dats m 0 c).after 13 t) from by
    unfold Dat.leavesExact; rw [show cfg0.idle 13 (cfg0.grid.coords t) = false from rfl], after0_13]

/-- Window 14 is used at every point, so it must be left at its contents after. -/
theorem leaves_14 (c : Dev nD) (t : Fin cfg0.N) :
    (dats m 0 c).leavesExact 14 t = owns (c : Thread nD τ) (st0_14 t) fullShare (iblk m c 14 t) := by
  rw [show (dats m 0 c).leavesExact 14 t = owns (c : Thread nD τ) (st0_14 t) fullShare ((dats m 0 c).after 14 t) from by
    unfold Dat.leavesExact; rw [show cfg0.idle 14 (cfg0.grid.coords t) = false from rfl], after0_14]

/-- Window 15 is used at every point, so it must be left at its contents after. -/
theorem leaves_15 (c : Dev nD) (t : Fin cfg0.N) :
    (dats m 0 c).leavesExact 15 t = owns (c : Thread nD τ) (st0_15 t) fullShare (iblk m c 15 t) := by
  rw [show (dats m 0 c).leavesExact 15 t = owns (c : Thread nD τ) (st0_15 t) fullShare ((dats m 0 c).after 15 t) from by
    unfold Dat.leavesExact; rw [show cfg0.idle 15 (cfg0.grid.coords t) = false from rfl], after0_15]

/-- Window 18 is used at every point, so it must be left at its contents after. -/
theorem leaves_18 (c : Dev nD) (t : Fin cfg0.N) :
    (dats m 0 c).leavesExact 18 t = owns (c : Thread nD τ) (st0_18 t) fullShare (kAt m c t) := by
  rw [show (dats m 0 c).leavesExact 18 t = owns (c : Thread nD τ) (st0_18 t) fullShare ((dats m 0 c).after 18 t) from by
    unfold Dat.leavesExact; rw [show cfg0.idle 18 (cfg0.grid.coords t) = false from rfl], after0_18]

/-- Window 19 is used at every point, so it must be left at its contents after. -/
theorem leaves_19 (c : Dev nD) (t : Fin cfg0.N) :
    (dats m 0 c).leavesExact 19 t = owns (c : Thread nD τ) (st0_19 t) fullShare (vAt m c t) := by
  rw [show (dats m 0 c).leavesExact 19 t = owns (c : Thread nD τ) (st0_19 t) fullShare ((dats m 0 c).after 19 t) from by
    unfold Dat.leavesExact; rw [show cfg0.idle 19 (cfg0.grid.coords t) = false from rfl], after0_19]

/-- The first result at a row's first point must be left at that point's queries. -/
theorem leaves_16_ctx (c : Dev nD) (t : Fin cfg0.N) (ht : t.val % 9 = 0) :
    (dats m 0 c).leavesExact 16 t = owns (c : Thread nD τ) (st0_16 t) fullShare (qAt m c t) := by
  rw [show (dats m 0 c).leavesExact 16 t = owns (c : Thread nD τ) (st0_16 t) fullShare ((dats m 0 c).after 16 t) from by
    unfold Dat.leavesExact; rw [show cfg0.idle 16 (cfg0.grid.coords t) = false from live_16 t ht], after0_16,
    show head0 t = t from Fin.ext (by simp only [head0]; omega)]

/-- The second result at the other points must be left at that point's queries. -/
theorem leaves_17_lat (c : Dev nD) (t : Fin cfg0.N) (ht : t.val % 9 ≠ 0) :
    (dats m 0 c).leavesExact 17 t = owns (c : Thread nD τ) (st0_17 t) fullShare (qAt m c t) := by
  rw [show (dats m 0 c).leavesExact 17 t = owns (c : Thread nD τ) (st0_17 t) fullShare ((dats m 0 c).after 17 t) from by
    unfold Dat.leavesExact; rw [show cfg0.idle 17 (cfg0.grid.coords t) = false from live_17 t ht], after0_17]

/-- The second result at a row's first point is left as it was found. -/
theorem leaves_17_ctx (c : Dev nD) (t : Fin cfg0.N) (ht : t.val % 9 = 0) :
    (dats m 0 c).leavesExact 17 t = iprop(∃ d, owns (c : Thread nD τ) (st0_17 t) fullShare ((dats m 0 c).before 17 t d)) :=
  (dats m 0 c).leavesExact_idle 17 t (idle_17 t ht) (noflush_17 t ht)

/-- The first result at the other points: untouched it is what is asked, whether the block is written back or not. -/
theorem leaves_16_lat (c : Dev nD) (t : Fin cfg0.N) (ht : t.val % 9 ≠ 0) :
    owns (c : Thread nD τ) (st0_16 t) fullShare (qAt m c (head0 t)) ⊢ ((dats m 0 c).leavesExact 16 t : sProp (Mach F)) := by
  have hi : cfg0.idle 16 (cfg0.grid.coords t) = true := idle_16 t ht
  by_cases hf : (cfg0.win 16).flush t = true
  · rw [show (dats m 0 c).leavesExact 16 t = owns (c : Thread nD τ) (st0_16 t) fullShare ((dats m 0 c).after 16 t) from by
      unfold Dat.leavesExact; rw [hi, hf], after0_16]
  · rw [(dats m 0 c).leavesExact_idle 16 t hi (by simpa using hf)]
    iintro H
    iexists (qAt m c (head0 t))
    rw [before0_16 m c t ht]
    iexact H

set_option maxHeartbeats 2000000 in
/-- The body at a context point does what the pipeline asks of it. -/
theorem sound_ctx (c : Dev nD) (t : Fin cfg0.N) (ht : t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_18, leaves_19, leaves_16_ctx m c t ht, leaves_17_ctx m c t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_ctx c Set.univ (grid0.coords t) (is_ctx t ht).1 (is_ctx t ht).2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((dats m 0 c).before 17 t d17) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexact H18
  iexact H19

set_option maxHeartbeats 2000000 in
/-- The body at a latent point does what the pipeline asks of it. -/
theorem sound_lat (c : Dev nD) (t : Fin cfg0.N) (ht : t.val % 9 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16 m c t ht]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_18, leaves_19, leaves_17_lat m c t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (body_lat c Set.univ (grid0.coords t) (is_lat t ht).1 (is_lat t ht).2 _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (qAt m c (head0 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (leaves_16_lat m c t ht); iexact H16
  isplitl [H17]; · iexact H17
  isplitl [H18]; · iexact H18
  iexact H19

/-- The body the pipeline calls at a point is the kernel's on that point's buffers. -/
theorem defs₀_row (t : Fin cfg0.N) :
    defs₀ (F := F) .tc cfg0.body (cfg0.bodyArgs t (cfg0.slots t)) = bodyAt0 t := by
  unfold defs₀; rw [Defs.onTc_tc]

/-- So every point's body does what the pipeline asks. -/
theorem body_obligation (c : Dev nD) : BodyObligation (dats (F := F) m 0 c) (defs₀ (F := F)) Variants.none () Set.univ := fun t => by
  rw [bigSep_W0, bigSep_W0, defs₀_row]
  by_cases ht : t.val % 9 = 0
  · exact triple_restated (sound_ctx m c t ht) rfl .rfl fun _ => .rfl
  · exact triple_restated (sound_lat m c t ht) rfl .rfl fun _ => .rfl

set_option backward.isDefEq.respectTransparency.types false in
set_option maxHeartbeats 800000 in
/-- The whole launch terminates with every array at what the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, the counters left aside. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Kernel6Ideal.Gen

end
-- ==== Proof.MlaInSpec.lean ====
module

public import proofs.«01_k».proof.Proof.Stream
public import proofs.«01_k».proof.Proof.Gen.Reference6Ideal.Run

/-!
# The latent attention's projections, element by element

What the reference computes of queries, keys and values, and what each is at one element: the normalised and modulated stream
projected down, each part normalised again and projected up, the position-dependent lanes rotated for the latent tokens, and
each head's 96 lanes followed by 32 zeros.
-/

@[expose] public section

set_option maxRecDepth 16384

noncomputable section

namespace Cert.MlaIn

open Cert.Reference6Ideal Cert.Reference6Ideal.Gen Idealize.ShloMosaic Idealize.ShloMosaic.TcCoe Idealize.SL.Sem

/-- The stream projected down: compressed queries, compressed keys and values, position lanes. -/
def downT (X : FVec Ideal S16x2304x1024 .f32) (M : FVec Ideal S32x8x1024 .f32) (G : FVec Ideal S1024 .f32) (W : FVec Ideal S1024x672 .f32) :
    FVec Ideal S16x2304x672 .f32 :=
  Host.dotGeneral dot_S16x2304x1024_S1024x672_S16x2304x672_2_0_01_1_n_n none
    (Stream.both (Stream.ctxPart X G M) (Stream.latPart X G M)) W

/-- The first 384 columns. -/
def cqT (D : FVec Ideal S16x2304x672 .f32) : FVec Ideal S16x2304x384 .f32 :=
  extractStridedSlice S16x2304x384 ![0, 0, 0] D slices_S16x2304x672_S16x2304x384_0_0_0

/-- The next 256. -/
def ckvT (D : FVec Ideal S16x2304x672 .f32) : FVec Ideal S16x2304x256 .f32 :=
  extractStridedSlice S16x2304x256 ![0, 0, 384] D slices_S16x2304x672_S16x2304x256_0_0_384

/-- The last 32. -/
def peT (D : FVec Ideal S16x2304x672 .f32) : FVec Ideal S16x2304x32 .f32 :=
  extractStridedSlice S16x2304x32 ![0, 0, 640] D slices_S16x2304x672_S16x2304x32_0_0_640

/-- The queries, head by head, before rotation. -/
def qT (D : FVec Ideal S16x2304x672 .f32) (QN : FVec Ideal S384 .f32) (UQ : FVec Ideal S384x1536 .f32) : FVec Ideal S16x2304x16x96 .f32 :=
  shapeCast _ (Host.dotGeneral dot_S16x2304x384_S384x1536_S16x2304x1536_2_0_01_1_n_n none (mulf (mulf (cqT D) (broadcastInDim S16x2304x384 ![0, 1, 2] bcast_S16x2304x1_S16x2304x384_0_1_2 (Host.rsqrt (addf (Host.divf (broadcastInDim S16x2304x1 ![0, 1] bcast_S16x2304_S16x2304x1_0_1 (Host.reduceAdd (mulf (cqT D) (cqT D)) (constant S_ .f32 0x00000000#32) reducesTo_S16x2304x384_S16x2304_d2 h_S_)) (broadcastInDim S16x2304x1 ![] bcast_S_S16x2304x1 (constant S_ .f32 0x43C00000#32))) (broadcastInDim S16x2304x1 ![] bcast_S_S16x2304x1 (constant S_ .f32 0x358637BD#32)))))) (broadcastInDim S16x2304x384 ![0, 1, 2] bcast_S1x1x384_S16x2304x384_0_1_2 (broadcastInDim S1x1x384 ![2] bcast_S384_S1x1x384_2 QN))) UQ) shapeCasts_S16x2304x1536_S16x2304x16x96

/-- The keys' first lanes and the values, head by head. -/
def kvT (D : FVec Ideal S16x2304x672 .f32) (KN : FVec Ideal S256 .f32) (UKV : FVec Ideal S256x2048 .f32) : FVec Ideal S16x2304x16x128 .f32 :=
  shapeCast _ (Host.dotGeneral dot_S16x2304x256_S256x2048_S16x2304x2048_2_0_01_1_n_n none (mulf (mulf (ckvT D) (broadcastInDim S16x2304x256 ![0, 1, 2] bcast_S16x2304x1_S16x2304x256_0_1_2 (Host.rsqrt (addf (Host.divf (broadcastInDim S16x2304x1 ![0, 1] bcast_S16x2304_S16x2304x1_0_1 (Host.reduceAdd (mulf (ckvT D) (ckvT D)) (constant S_ .f32 0x00000000#32) reducesTo_S16x2304x256_S16x2304_d2 h_S_)) (broadcastInDim S16x2304x1 ![] bcast_S_S16x2304x1 (constant S_ .f32 0x43800000#32))) (broadcastInDim S16x2304x1 ![] bcast_S_S16x2304x1 (constant S_ .f32 0x358637BD#32)))))) (broadcastInDim S16x2304x256 ![0, 1, 2] bcast_S1x1x256_S16x2304x256_0_1_2 (broadcastInDim S1x1x256 ![2] bcast_S256_S1x1x256_2 KN))) UKV) shapeCasts_S16x2304x2048_S16x2304x16x128

/-- Half the position lanes of the queries, rotated. -/
def halfQ (x : FVec Ideal S16x2048x16x16 .f32) (cs sn : FVec Ideal S2048x1x8 .f32) : FVec Ideal S16x2048x16x16 .f32 :=
  concatenate S16x2048x16x16 3 [⟨S16x2048x16x8, (subf
      (mulf (extractStridedSlice S16x2048x16x8 ![0, 0, 0, 0] x slices_S16x2048x16x16_S16x2048x16x8_0_0_0_0) (broadcastInDim S16x2048x16x8 ![0, 1, 2, 3] bcast_S1x2048x1x8_S16x2048x16x8_0_1_2_3 (broadcastInDim S1x2048x1x8 ![1, 2, 3] bcast_S2048x1x8_S1x2048x1x8_1_2_3 cs)))
      (mulf (extractStridedSlice S16x2048x16x8 ![0, 0, 0, 8] x slices_S16x2048x16x16_S16x2048x16x8_0_0_0_8) (broadcastInDim S16x2048x16x8 ![0, 1, 2, 3] bcast_S1x2048x1x8_S16x2048x16x8_0_1_2_3 (broadcastInDim S1x2048x1x8 ![1, 2, 3] bcast_S2048x1x8_S1x2048x1x8_1_2_3 sn))))⟩,
    ⟨S16x2048x16x8, (addf
      (mulf (extractStridedSlice S16x2048x16x8 ![0, 0, 0, 8] x slices_S16x2048x16x16_S16x2048x16x8_0_0_0_8) (broadcastInDim S16x2048x16x8 ![0, 1, 2, 3] bcast_S1x2048x1x8_S16x2048x16x8_0_1_2_3 (broadcastInDim S1x2048x1x8 ![1, 2, 3] bcast_S2048x1x8_S1x2048x1x8_1_2_3 cs)))
      (mulf (extractStridedSlice S16x2048x16x8 ![0, 0, 0, 0] x slices_S16x2048x16x16_S16x2048x16x8_0_0_0_0) (broadcastInDim S16x2048x16x8 ![0, 1, 2, 3] bcast_S1x2048x1x8_S16x2048x16x8_0_1_2_3 (broadcastInDim S1x2048x1x8 ![1, 2, 3] bcast_S2048x1x8_S1x2048x1x8_1_2_3 sn))))⟩] concatenates_S16x2048x16x8_S16x2048x16x8_S16x2048x16x16_d3

/-- The position lanes of the latent queries, rotated. -/
def rotQ (x : FVec Ideal S16x2048x16x32 .f32) (C S : FVec Ideal S2048x16 .f32) : FVec Ideal S16x2048x16x32 .f32 :=
  concatenate S16x2048x16x32 3
    [⟨S16x2048x16x16, halfQ (extractStridedSlice S16x2048x16x16 ![0, 0, 0, 0] x slices_S16x2048x16x32_S16x2048x16x16_0_0_0_0)
        (extractStridedSlice S2048x1x8 ![0, 0, 0] (broadcastInDim S2048x1x16 ![0, 2] bcast_S2048x16_S2048x1x16_0_2 C) slices_S2048x1x16_S2048x1x8_0_0_0)
        (extractStridedSlice S2048x1x8 ![0, 0, 0] (broadcastInDim S2048x1x16 ![0, 2] bcast_S2048x16_S2048x1x16_0_2 S) slices_S2048x1x16_S2048x1x8_0_0_0)⟩,
      ⟨S16x2048x16x16, halfQ (extractStridedSlice S16x2048x16x16 ![0, 0, 0, 16] x slices_S16x2048x16x32_S16x2048x16x16_0_0_0_16)
        (extractStridedSlice S2048x1x8 ![0, 0, 8] (broadcastInDim S2048x1x16 ![0, 2] bcast_S2048x16_S2048x1x16_0_2 C) slices_S2048x1x16_S2048x1x8_0_0_8)
        (extractStridedSlice S2048x1x8 ![0, 0, 8] (broadcastInDim S2048x1x16 ![0, 2] bcast_S2048x16_S2048x1x16_0_2 S) slices_S2048x1x16_S2048x1x8_0_0_8)⟩]
    concatenates_S16x2048x16x16_S16x2048x16x16_S16x2048x16x32_d3

/-- Half the position lanes of the keys, rotated. -/
def halfK (x : FVec Ideal S16x2048x16 .f32) (cs sn : FVec Ideal S2048x8 .f32) : FVec Ideal S16x2048x16 .f32 :=
  concatenate S16x2048x16 2 [⟨S16x2048x8, (subf
      (mulf (extractStridedSlice S16x2048x8 ![0, 0, 0] x slices_S16x2048x16_S16x2048x8_0_0_0) (broadcastInDim S16x2048x8 ![0, 1, 2] bcast_S1x2048x8_S16x2048x8_0_1_2 (broadcastInDim S1x2048x8 ![1, 2] bcast_S2048x8_S1x2048x8_1_2 cs)))
      (mulf (extractStridedSlice S16x2048x8 ![0, 0, 8] x slices_S16x2048x16_S16x2048x8_0_0_8) (broadcastInDim S16x2048x8 ![0, 1, 2] bcast_S1x2048x8_S16x2048x8_0_1_2 (broadcastInDim S1x2048x8 ![1, 2] bcast_S2048x8_S1x2048x8_1_2 sn))))⟩,
    ⟨S16x2048x8, (addf
      (mulf (extractStridedSlice S16x2048x8 ![0, 0, 8] x slices_S16x2048x16_S16x2048x8_0_0_8) (broadcastInDim S16x2048x8 ![0, 1, 2] bcast_S1x2048x8_S16x2048x8_0_1_2 (broadcastInDim S1x2048x8 ![1, 2] bcast_S2048x8_S1x2048x8_1_2 cs)))
      (mulf (extractStridedSlice S16x2048x8 ![0, 0, 0] x slices_S16x2048x16_S16x2048x8_0_0_0) (broadcastInDim S16x2048x8 ![0, 1, 2] bcast_S1x2048x8_S16x2048x8_0_1_2 (broadcastInDim S1x2048x8 ![1, 2] bcast_S2048x8_S1x2048x8_1_2 sn))))⟩] concatenates_S16x2048x8_S16x2048x8_S16x2048x16_d2

/-- The position lanes of the latent keys, rotated. -/
def rotK (x : FVec Ideal S16x2048x32 .f32) (C S : FVec Ideal S2048x16 .f32) : FVec Ideal S16x2048x32 .f32 :=
  concatenate S16x2048x32 2
    [⟨S16x2048x16, halfK (extractStridedSlice S16x2048x16 ![0, 0, 0] x slices_S16x2048x32_S16x2048x16_0_0_0)
        (extractStridedSlice S2048x8 ![0, 0] C slices_S2048x16_S2048x8_0_0) (extractStridedSlice S2048x8 ![0, 0] S slices_S2048x16_S2048x8_0_0)⟩,
      ⟨S16x2048x16, halfK (extractStridedSlice S16x2048x16 ![0, 0, 16] x slices_S16x2048x32_S16x2048x16_0_0_16)
        (extractStridedSlice S2048x8 ![0, 8] C slices_S2048x16_S2048x8_0_8) (extractStridedSlice S2048x8 ![0, 8] S slices_S2048x16_S2048x8_0_8)⟩]
    concatenates_S16x2048x16_S16x2048x16_S16x2048x32_d2

/-- The position lanes of all keys: the context's as they are, the latent ones rotated. -/
def pesT (P : FVec Ideal S16x2304x32 .f32) (C S : FVec Ideal S2048x16 .f32) : FVec Ideal S16x2304x32 .f32 :=
  concatenate S16x2304x32 1 [⟨S16x256x32, (extractStridedSlice S16x256x32 ![0, 0, 0] P slices_S16x2304x32_S16x256x32_0_0_0)⟩,
    ⟨S16x2048x32, rotK (extractStridedSlice S16x2048x32 ![0, 256, 0] P slices_S16x2304x32_S16x2048x32_0_256_0) C S⟩] concatenates_S16x256x32_S16x2048x32_S16x2304x32_d1

/-- The context queries as the reference returns them, from the unrotated queries. -/
def ctxQ (Q : FVec Ideal S16x2304x16x96 .f32) : FVec Ideal S16x256x2048 .bf16 :=
  truncf .bf16 (shapeCast _ (mulf (concatenate S16x256x16x128 3 [⟨S16x256x16x96, (extractStridedSlice S16x256x16x96 ![0, 0, 0, 0] Q slices_S16x2304x16x96_S16x256x16x96_0_0_0_0)⟩,
      ⟨S16x256x16x32, (broadcastInDim S16x256x16x32 ![] bcast_S_S16x256x16x32 (constant S_ .f32 0x00000000#32))⟩] concatenates_S16x256x16x96_S16x256x16x32_S16x256x16x128_d3)
    (broadcastInDim S16x256x16x128 ![] bcast_S_S16x256x16x128 (constant S_ .f32 0x3DD105EC#32))) shapeCasts_S16x256x16x128_S16x256x2048) bitsLt_bf16_f32

/-- The latent queries. -/
def latQ (Q : FVec Ideal S16x2048x16x96 .f32) (C S : FVec Ideal S2048x16 .f32) : FVec Ideal S16x2048x2048 .bf16 :=
  truncf .bf16 (shapeCast _ (mulf (concatenate S16x2048x16x128 3
      [⟨S16x2048x16x64, extractStridedSlice S16x2048x16x64 ![0, 0, 0, 0] Q slices_S16x2048x16x96_S16x2048x16x64_0_0_0_0⟩,
        ⟨S16x2048x16x32, rotQ (extractStridedSlice S16x2048x16x32 ![0, 0, 0, 64] Q slices_S16x2048x16x96_S16x2048x16x32_0_0_0_64) C S⟩,
        ⟨S16x2048x16x32, broadcastInDim S16x2048x16x32 ![] bcast_S_S16x2048x16x32 (constant S_ .f32 0x00000000#32)⟩] concatenates_S16x2048x16x64_S16x2048x16x32_S16x2048x16x32_S16x2048x16x128_d3)
    (broadcastInDim S16x2048x16x128 ![] bcast_S_S16x2048x16x128 (constant S_ .f32 0x3DD105EC#32))) shapeCasts_S16x2048x16x128_S16x2048x2048) bitsLt_bf16_f32

/-- The keys head by head, from the projected ones and the position lanes. -/
def keyT (KV : FVec Ideal S16x2304x16x128 .f32) (P : FVec Ideal S16x2304x32 .f32) : FVec Ideal S16x2304x16x128 .f32 :=
  concatenate S16x2304x16x128 3
      [⟨S16x2304x16x64, extractStridedSlice S16x2304x16x64 ![0, 0, 0, 0] KV slices_S16x2304x16x128_S16x2304x16x64_0_0_0_0⟩,
        ⟨S16x2304x16x32, broadcastInDim S16x2304x16x32 ![0, 1, 2, 3] bcast_S16x2304x1x32_S16x2304x16x32_0_1_2_3 (broadcastInDim S16x2304x1x32 ![0, 1, 3] bcast_S16x2304x32_S16x2304x1x32_0_1_3 P)⟩,
        ⟨S16x2304x16x32, broadcastInDim S16x2304x16x32 ![] bcast_S_S16x2304x16x32 (constant S_ .f32 0x00000000#32)⟩] concatenates_S16x2304x16x64_S16x2304x16x32_S16x2304x16x32_S16x2304x16x128_d3

/-- The keys. -/
def keys (KV : FVec Ideal S16x2304x16x128 .f32) (P : FVec Ideal S16x2304x32 .f32) : FVec Ideal S16x2304x2048 .bf16 :=
  truncf .bf16 (shapeCast _ (keyT KV P) shapeCasts_S16x2304x16x128_S16x2304x2048) bitsLt_bf16_f32

/-- The values. -/
def vals (KV : FVec Ideal S16x2304x16x128 .f32) : FVec Ideal S16x2304x1024 .bf16 :=
  truncf .bf16 (shapeCast _ (extractStridedSlice S16x2304x16x64 ![0, 0, 0, 64] KV slices_S16x2304x16x128_S16x2304x16x64_0_0_0_64)
    shapeCasts_S16x2304x16x64_S16x2304x1024) bitsLt_bf16_f32

/-- A row of 384 divided by its root mean square and multiplied by the learnt gain. -/
def rmsQ (x g : Fin 384 → EReal) (l : Fin 384) : EReal :=
  x l * Ideal.rsqrt (Ideal.div (∑ k, x k * x k) (Ideal.ofBits FTy.f32 0x43C00000#32) + Ideal.ofBits FTy.f32 0x358637BD#32) * g l

/-- A row of 256 likewise. -/
def rmsKV (x g : Fin 256 → EReal) (l : Fin 256) : EReal :=
  x l * Ideal.rsqrt (Ideal.div (∑ k, x k * x k) (Ideal.ofBits FTy.f32 0x43800000#32) + Ideal.ofBits FTy.f32 0x358637BD#32) * g l

/-- The down-projection at an element. -/
def down (X : FVec Ideal S16x2304x1024 .f32) (M : FVec Ideal S32x8x1024 .f32) (G : FVec Ideal S1024 .f32) (W : FVec Ideal S1024x672 .f32) (b : Fin 16) (n : Fin 2304) (l : Fin 672) : EReal :=
  ∑ k : Fin 1024, Stream.modulated X G M b n k * W (ix2 k l)

/-- The reference's is that. -/
theorem downT_at (X : FVec Ideal S16x2304x1024 .f32) (M : FVec Ideal S32x8x1024 .f32) (G : FVec Ideal S1024 .f32) (W : FVec Ideal S1024x672 .f32) (b : Fin 16) (n : Fin 2304) (l : Fin 672) : downT X M G W (ix3 b n l) = down X M G W b n l := by
  unfold down
  pointwise [downT, Stream.stream_at]

/-- A query lane, from the compressed queries of its token. -/
def up (d : Fin 672 → EReal) (QN : FVec Ideal S384 .f32) (UQ : FVec Ideal S384x1536 .f32) (l : Fin 1536) : EReal :=
  ∑ k : Fin 384, rmsQ (fun k => d ⟨k.val, by omega⟩) (fun k => QN (ix1 k)) k * UQ (ix2 k l)

/-- A key or value lane, from the compressed ones. -/
def upkv (d : Fin 672 → EReal) (KN : FVec Ideal S256 .f32) (UKV : FVec Ideal S256x2048 .f32) (l : Fin 2048) : EReal :=
  ∑ k : Fin 256, rmsKV (fun k => d ⟨384 + k.val, by omega⟩) (fun k => KN (ix1 k)) k * UKV (ix2 k l)

/-- The reference's queries at an element. -/
theorem qT_at (D : FVec Ideal S16x2304x672 .f32) (QN : FVec Ideal S384 .f32) (UQ : FVec Ideal S384x1536 .f32) (b : Fin 16) (n : Fin 2304)
    (h : Fin 16) (d : Fin 96) :
    qT D QN UQ (ix4 b n h d) = up (fun l => D (ix3 b n l)) QN UQ ⟨96 * h.val + d.val, by omega⟩ := by
  unfold up rmsQ
  pointwise [qT, cqT]
  blk_point []

/-- The reference's keys and values at an element. -/
theorem kvT_at (D : FVec Ideal S16x2304x672 .f32) (KN : FVec Ideal S256 .f32) (UKV : FVec Ideal S256x2048 .f32) (b : Fin 16) (n : Fin 2304)
    (h : Fin 16) (d : Fin 128) :
    kvT D KN UKV (ix4 b n h d) = upkv (fun l => D (ix3 b n l)) KN UKV ⟨128 * h.val + d.val, by omega⟩ := by
  unfold upkv rmsKV
  pointwise [kvT, ckvT]
  blk_point []

/-- The lane a position lane is rotated with: its partner, eight away within its group of sixteen. -/
def partner (j : Fin 32) : Fin 32 := ⟨if j.val % 16 < 8 then j.val + 8 else j.val - 8, by split <;> omega⟩

/-- The angle a position lane turns by. -/
def freq (j : Fin 32) : Fin 16 := ⟨j.val / 16 * 8 + j.val % 8, by omega⟩

/-- A rotated lane. -/
def rot (x : Fin 32 → EReal) (cs sn : Fin 16 → EReal) (j : Fin 32) : EReal :=
  x j * cs (freq j) + x (partner j) * (if j.val % 16 < 8 then - sn (freq j) else sn (freq j))

/-- Two case distinctions on the same condition agree when their branches do. -/
theorem dite_iff {α : Type} {p q : Prop} [Decidable p] [Decidable q] {a : p → α} {b : ¬p → α} {a' : q → α} {b' : ¬q → α} (h : p ↔ q)
    (ha : ∀ (x : p) (y : q), a x = a' y) (hb : ∀ (x : ¬p) (y : ¬q), b x = b' y) : dite p a b = dite q a' b' := by
  by_cases hp : p
  · rw [dif_pos hp, dif_pos (h.1 hp), ha]
  · rw [dif_neg hp, dif_neg (fun hq => hp (h.2 hq)), hb]

/-- In the first half of its group a rotated lane is a difference. -/
theorem rot_lo (x : Fin 32 → EReal) (cs sn : Fin 16 → EReal) (j q p : Fin 32) (f f' : Fin 16) (h : j.val % 16 < 8) (hq : q.val = j.val)
    (hp : p.val = j.val + 8) (hf : f.val = j.val / 16 * 8 + j.val % 8) (hf' : f' = f) :
    x q * cs f - x p * sn f' = rot x cs sn j := by
  obtain rfl : q = j := Fin.ext hq
  have e1 : partner q = p := Fin.ext (by simp [partner, h, hp])
  have e2 : freq q = f := Fin.ext hf.symm
  subst hf'
  rw [rot, e1, e2, if_pos h, mul_neg, sub_eq_add_neg]

/-- In the second half it is a sum. -/
theorem rot_hi (x : Fin 32 → EReal) (cs sn : Fin 16 → EReal) (j q p : Fin 32) (f f' : Fin 16) (h : ¬ j.val % 16 < 8) (hq : q.val = j.val)
    (hp : p.val = j.val - 8) (hf : f.val = j.val / 16 * 8 + j.val % 8) (hf' : f' = f) :
    x q * cs f + x p * sn f' = rot x cs sn j := by
  obtain rfl : q = j := Fin.ext hq
  have e1 : partner q = p := Fin.ext (by simp [partner, h, hp])
  have e2 : freq q = f := Fin.ext hf.symm
  subst hf'
  rw [rot, e1, e2, if_neg h]

/-- The reference's rotated query lanes are those. -/
theorem rotQ_at (x : FVec Ideal S16x2048x16x32 .f32) (C S : FVec Ideal S2048x16 .f32) (b : Fin 16) (n : Fin 2048) (h : Fin 16) (j : Fin 32) :
    rotQ x C S (ix4 b n h j) = rot (fun j => x (ix4 b n h j)) (fun f => C (ix2 n f)) (fun f => S (ix2 n f)) j := by
  pointwise [rotQ, halfQ]
  split
  · next h1 =>
    split
    · next h2 =>
      have h3 : j.val < 8 := h2
      exact rot_lo (fun j => x (ix4 b n h j)) (fun f => C (ix2 n f)) (fun f => S (ix2 n f)) j _ _ _ _ (by omega) rfl (by dsimp only; omega) (by dsimp only; omega) rfl
    · next h2 =>
      have h3 : ¬ j.val < 8 := h2
      have h4 : j.val < 16 := h1
      exact rot_hi (fun j => x (ix4 b n h j)) (fun f => C (ix2 n f)) (fun f => S (ix2 n f)) j _ _ _ _ (by omega) (by dsimp only; omega) rfl (by dsimp only; omega) rfl
  · next h1 =>
    have h4 : ¬ j.val < 16 := h1
    split
    · next h2 =>
      have h3 : j.val - 16 < 8 := h2
      exact rot_lo (fun j => x (ix4 b n h j)) (fun f => C (ix2 n f)) (fun f => S (ix2 n f)) j _ _ _ _ (by omega) (by dsimp only; omega) (by dsimp only; omega) (by dsimp only; omega) rfl
    · next h2 =>
      have h3 : ¬ j.val - 16 < 8 := h2
      exact rot_hi (fun j => x (ix4 b n h j)) (fun f => C (ix2 n f)) (fun f => S (ix2 n f)) j _ _ _ _ (by omega) (by dsimp only; omega) (by dsimp only; omega) (by dsimp only; omega) rfl

/-- The reference's rotated key lanes are those. -/
theorem rotK_at (x : FVec Ideal S16x2048x32 .f32) (C S : FVec Ideal S2048x16 .f32) (b : Fin 16) (n : Fin 2048) (j : Fin 32) :
    rotK x C S (ix3 b n j) = rot (fun j => x (ix3 b n j)) (fun f => C (ix2 n f)) (fun f => S (ix2 n f)) j := by
  pointwise [rotK, halfK]
  split
  · next h1 =>
    split
    · next h2 =>
      have h3 : j.val < 8 := h2
      exact rot_lo (fun j => x (ix3 b n j)) (fun f => C (ix2 n f)) (fun f => S (ix2 n f)) j _ _ _ _ (by omega) rfl (by dsimp only; omega) (by dsimp only; omega) rfl
    · next h2 =>
      have h3 : ¬ j.val < 8 := h2
      have h4 : j.val < 16 := h1
      exact rot_hi (fun j => x (ix3 b n j)) (fun f => C (ix2 n f)) (fun f => S (ix2 n f)) j _ _ _ _ (by omega) (by dsimp only; omega) rfl (by dsimp only; omega) rfl
  · next h1 =>
    have h4 : ¬ j.val < 16 := h1
    split
    · next h2 =>
      have h3 : j.val - 16 < 8 := h2
      exact rot_lo (fun j => x (ix3 b n j)) (fun f => C (ix2 n f)) (fun f => S (ix2 n f)) j _ _ _ _ (by omega) (by dsimp only; omega) (by dsimp only; omega) (by dsimp only; omega) rfl
    · next h2 =>
      have h3 : ¬ j.val - 16 < 8 := h2
      exact rot_hi (fun j => x (ix3 b n j)) (fun f => C (ix2 n f)) (fun f => S (ix2 n f)) j _ _ _ _ (by omega) (by dsimp only; omega) (by dsimp only; omega) (by dsimp only; omega) rfl

/-- The scale of the scores. -/
def scale : EReal := Ideal.ofBits FTy.f32 0x3DD105EC#32

/-- The context queries at an element: 96 scaled lanes and 32 zeros. -/
theorem ctxQ_at (Q : FVec Ideal S16x2304x16x96 .f32) (b : Fin 16) (n : Fin 256) (h : Fin 16) (d : Fin 128) :
    ctxQ Q (ix3 b n ⟨128 * h.val + d.val, by omega⟩)
      = (if hd : d.val < 96 then Q (ix4 b ⟨n.val, by omega⟩ h ⟨d.val, hd⟩) else 0) * scale := by
  unfold scale
  pointwise [ctxQ]

/-- The latent queries at an element: 64 lanes, 32 rotated lanes and 32 zeros, scaled. -/
theorem latQ_at (Q : FVec Ideal S16x2048x16x96 .f32) (C S : FVec Ideal S2048x16 .f32) (b : Fin 16) (n : Fin 2048) (h : Fin 16) (d : Fin 128) :
    latQ Q C S (ix3 b n ⟨128 * h.val + d.val, by omega⟩)
      = (if hd : d.val < 64 then Q (ix4 b n h ⟨d.val, by omega⟩) else
          if hd' : d.val < 96 then rot (fun j => Q (ix4 b n h ⟨64 + j.val, by omega⟩)) (fun f => C (ix2 n f)) (fun f => S (ix2 n f))
            ⟨d.val - 64, by omega⟩ else 0) * scale := by
  unfold scale
  pointwise [latQ]
  refine congrArg (· * _) (dite_iff Iff.rfl (fun _ _ => rfl) (fun h _ => dite_iff ?_ (fun _ _ => ?_) (fun _ _ => rfl)))
  · have h' : ¬ d.val < 64 := h
    show d.val - 64 < 32 ↔ d.val < 96
    omega
  · refine (rotQ_at _ _ _ _ _ _ _).trans ?_
    refine congrArg (fun f => rot f _ _ _) (funext fun j => ?_)
    pointwise

/-- The position lanes of the keys at an element. -/
theorem pesT_at (P : FVec Ideal S16x2304x32 .f32) (C S : FVec Ideal S2048x16 .f32) (b : Fin 16) (n : Fin 2304) (j : Fin 32) :
    pesT P C S (ix3 b n j) = if hn : n.val < 256 then P (ix3 b n j) else
      rot (fun j => P (ix3 b n j)) (fun f => C (ix2 ⟨n.val - 256, by omega⟩ f)) (fun f => S (ix2 ⟨n.val - 256, by omega⟩ f)) j := by
  pointwise [pesT]
  refine dite_iff Iff.rfl (fun _ _ => rfl) (fun h _ => ?_)
  have h' : ¬ n.val < 256 := h
  refine (rotK_at _ _ _ _ _ _).trans ?_
  refine congrArg (fun f => rot f _ _ _) (funext fun j' => ?_)
  pointwise
  exact congrArg P (congrArg (fun q => ix3 b q j') (Fin.ext (by dsimp only; omega)))

/-- The keys at an element, head by head. -/
theorem keyT_at (KV : FVec Ideal S16x2304x16x128 .f32) (P : FVec Ideal S16x2304x32 .f32) (b : Fin 16) (n : Fin 2304) (h : Fin 16) (d : Fin 128) :
    keyT KV P (ix4 b n h d)
      = (if hd : d.val < 64 then KV (ix4 b n h d) else
          if hd' : d.val < 96 then P (ix3 b n ⟨d.val - 64, by omega⟩) else 0) := by
  pointwise [keyT]
  refine dite_iff Iff.rfl (fun _ _ => rfl) (fun h _ => dite_iff ?_ (fun _ _ => rfl) (fun _ _ => rfl))
  have h' : ¬ d.val < 64 := h
  show d.val - 64 < 32 ↔ d.val < 96
  omega

/-- Sixteen heads of 128 lanes laid side by side, read at a lane. -/
theorem lanes_at (K : FVec Ideal S16x2304x16x128 .f32) (b : Fin 16) (n : Fin 2304) (h : Fin 16) (d : Fin 128) :
    shapeCast S16x2304x2048 K shapeCasts_S16x2304x16x128_S16x2304x2048 (ix3 b n ⟨128 * h.val + d.val, by omega⟩) = K (ix4 b n h d) := by
  pointwise

/-- Narrowing changes no element. -/
theorem narrow_at (K : FVec Ideal S16x2304x2048 .f32) (j : S16x2304x2048.Idx) : truncf .bf16 K bitsLt_bf16_f32 j = K j := rfl

/-- The keys at an element. -/
theorem keys_at (KV : FVec Ideal S16x2304x16x128 .f32) (P : FVec Ideal S16x2304x32 .f32) (b : Fin 16) (n : Fin 2304) (h : Fin 16) (d : Fin 128) :
    keys KV P (ix3 b n ⟨128 * h.val + d.val, by omega⟩)
      = (if hd : d.val < 64 then KV (ix4 b n h d) else
          if hd' : d.val < 96 then P (ix3 b n ⟨d.val - 64, by omega⟩) else 0) := by
  refine Eq.trans ?_ (keyT_at KV P b n h d)
  rw [keys]
  exact (narrow_at _ _).trans (lanes_at (keyT KV P) b n h d)

/-- The values at an element. -/
theorem vals_at (KV : FVec Ideal S16x2304x16x128 .f32) (b : Fin 16) (n : Fin 2304) (h : Fin 16) (d : Fin 64) :
    vals KV (ix3 b n ⟨64 * h.val + d.val, by omega⟩) = KV (ix4 b n h ⟨64 + d.val, by omega⟩) := by
  pointwise [vals]

end Cert.MlaIn
-- ==== Proof.MlaInHost.lean ====
module

public import proofs.«01_k».proof.Proof.MlaInSpec
public import proofs.«01_k».proof.Proof.MlaInRun
public import Idealize.ShloMosaic.Lib.Routing.OpsOne
public import Idealize.ShloMosaic.Lib.StableHlo.RunRead

/-!
# The arrays the host prepares for the latent attention's projections

The weights cut out of the layer's and laid out head by head in 128 lanes, with a second copy whose position lanes are
exchanged pairwise, and the two tables the products are multiplied with; each read at one element.
-/

@[expose] public section

set_option maxRecDepth 16384

noncomputable section

namespace Cert.Kernel6Ideal.MlaIn

open Cert.Kernel6Ideal Cert.Kernel6Ideal.Gen Idealize.ShloMosaic Idealize.ShloMosaic.TcCoe Idealize.SL.Sem
open Cert.MlaIn
open Idealize.ShloMosaic.Pipeline (Dat)

/-- Position lanes of a weight, exchanged pairwise. -/
def swapCols (w : FVec Ideal S1024x32 .f32) : FVec Ideal S1024x32 .f32 :=
  concatenate S1024x32 1 [⟨S1024x8, (extractStridedSlice S1024x8 ![0, 8] w slices_S1024x32_S1024x8_0_8)⟩, ⟨S1024x8, (extractStridedSlice S1024x8 ![0, 0] w slices_S1024x32_S1024x8_0_0)⟩, ⟨S1024x8, (extractStridedSlice S1024x8 ![0, 24] w slices_S1024x32_S1024x8_0_24)⟩, ⟨S1024x8, (extractStridedSlice S1024x8 ![0, 16] w slices_S1024x32_S1024x8_0_16)⟩] concatenates_S1024x8_S1024x8_S1024x8_S1024x8_S1024x32_d1

/-- At an element. -/
theorem swapCols_at (w : FVec Ideal S1024x32 .f32) (k : Fin 1024) (j : Fin 32) : swapCols w (ix2 k j) = w (ix2 k (partner j)) := by
  pointwise [swapCols]
  split
  · next h0 =>
    have h0' : j.val < 8 := h0
    exact congrArg (fun q => w (ix2 k q)) (Fin.ext (by unfold partner; dsimp only; split <;> omega))
  · next h0 =>
    have h0' : ¬ j.val < 8 := h0
    split
    · next h1 =>
      have h1' : j.val - 8 < 8 := h1
      exact congrArg (fun q => w (ix2 k q)) (Fin.ext (by unfold partner; dsimp only; split <;> omega))
    · next h1 =>
      have h1' : ¬ j.val - 8 < 8 := h1
      split
      · next h2 =>
        have h2' : j.val - 8 - 8 < 8 := h2
        exact congrArg (fun q => w (ix2 k q)) (Fin.ext (by unfold partner; dsimp only; split <;> omega))
      · next h2 =>
        have h2' : ¬ j.val - 8 - 8 < 8 := h2
        exact congrArg (fun q => w (ix2 k q)) (Fin.ext (by unfold partner; dsimp only; split <;> omega))

/-- Position lanes of the query weight, exchanged pairwise in each head. -/
def swapHeads (w : FVec Ideal S384x16x32 .f32) : FVec Ideal S384x16x32 .f32 :=
  concatenate S384x16x32 2 [⟨S384x16x8, (extractStridedSlice S384x16x8 ![0, 0, 8] w slices_S384x16x32_S384x16x8_0_0_8)⟩, ⟨S384x16x8, (extractStridedSlice S384x16x8 ![0, 0, 0] w slices_S384x16x32_S384x16x8_0_0_0)⟩, ⟨S384x16x8, (extractStridedSlice S384x16x8 ![0, 0, 24] w slices_S384x16x32_S384x16x8_0_0_24)⟩, ⟨S384x16x8, (extractStridedSlice S384x16x8 ![0, 0, 16] w slices_S384x16x32_S384x16x8_0_0_16)⟩] concatenates_S384x16x8_S384x16x8_S384x16x8_S384x16x8_S384x16x32_d2

/-- At an element. -/
theorem swapHeads_at (w : FVec Ideal S384x16x32 .f32) (k : Fin 384) (h : Fin 16) (j : Fin 32) :
    swapHeads w (ix3 k h j) = w (ix3 k h (partner j)) := by
  pointwise [swapHeads]
  split
  · next h0 =>
    have h0' : j.val < 8 := h0
    exact congrArg (fun q => w (ix3 k h q)) (Fin.ext (by unfold partner; dsimp only; split <;> omega))
  · next h0 =>
    have h0' : ¬ j.val < 8 := h0
    split
    · next h1 =>
      have h1' : j.val - 8 < 8 := h1
      exact congrArg (fun q => w (ix3 k h q)) (Fin.ext (by unfold partner; dsimp only; split <;> omega))
    · next h1 =>
      have h1' : ¬ j.val - 8 < 8 := h1
      split
      · next h2 =>
        have h2' : j.val - 8 - 8 < 8 := h2
        exact congrArg (fun q => w (ix3 k h q)) (Fin.ext (by unfold partner; dsimp only; split <;> omega))
      · next h2 =>
        have h2' : ¬ j.val - 8 - 8 < 8 := h2
        exact congrArg (fun q => w (ix3 k h q)) (Fin.ext (by unfold partner; dsimp only; split <;> omega))

/-- The cosines of the 32 position lanes. -/
def cosRows (C : FVec Ideal S2048x16 .f32) : FVec Ideal S2048x32 .f32 :=
  concatenate S2048x32 1 [⟨S2048x8, (extractStridedSlice S2048x8 ![0, 0] C slices_S2048x16_S2048x8_0_0)⟩, ⟨S2048x8, (extractStridedSlice S2048x8 ![0, 0] C slices_S2048x16_S2048x8_0_0)⟩, ⟨S2048x8, (extractStridedSlice S2048x8 ![0, 8] C slices_S2048x16_S2048x8_0_8)⟩, ⟨S2048x8, (extractStridedSlice S2048x8 ![0, 8] C slices_S2048x16_S2048x8_0_8)⟩] concatenates_S2048x8_S2048x8_S2048x8_S2048x8_S2048x32_d1

/-- At an element. -/
theorem cosRows_at (C : FVec Ideal S2048x16 .f32) (n : Fin 2048) (j : Fin 32) : cosRows C (ix2 n j) = C (ix2 n (freq j)) := by
  pointwise [cosRows]
  split
  · next h0 =>
    have h0' : j.val < 8 := h0
    exact congrArg (fun q => C (ix2 n q)) (Fin.ext (by unfold freq; dsimp only; omega))
  · next h0 =>
    have h0' : ¬ j.val < 8 := h0
    split
    · next h1 =>
      have h1' : j.val - 8 < 8 := h1
      exact congrArg (fun q => C (ix2 n q)) (Fin.ext (by unfold freq; dsimp only; omega))
    · next h1 =>
      have h1' : ¬ j.val - 8 < 8 := h1
      split
      · next h2 =>
        have h2' : j.val - 8 - 8 < 8 := h2
        exact congrArg (fun q => C (ix2 n q)) (Fin.ext (by unfold freq; dsimp only; omega))
      · next h2 =>
        have h2' : ¬ j.val - 8 - 8 < 8 := h2
        exact congrArg (fun q => C (ix2 n q)) (Fin.ext (by unfold freq; dsimp only; omega))

/-- The sines of the 32 position lanes, with the sign of each lane's partner. -/
def sinRows (S : FVec Ideal S2048x16 .f32) : FVec Ideal S2048x32 .f32 :=
  concatenate S2048x32 1 [⟨S2048x8, (Host.negf (extractStridedSlice S2048x8 ![0, 0] S slices_S2048x16_S2048x8_0_0))⟩, ⟨S2048x8, (extractStridedSlice S2048x8 ![0, 0] S slices_S2048x16_S2048x8_0_0)⟩, ⟨S2048x8, (Host.negf (extractStridedSlice S2048x8 ![0, 8] S slices_S2048x16_S2048x8_0_8))⟩, ⟨S2048x8, (extractStridedSlice S2048x8 ![0, 8] S slices_S2048x16_S2048x8_0_8)⟩] concatenates_S2048x8_S2048x8_S2048x8_S2048x8_S2048x32_d1

/-- At an element. -/
theorem sinRows_at (S : FVec Ideal S2048x16 .f32) (n : Fin 2048) (j : Fin 32) :
    sinRows S (ix2 n j) = if j.val % 16 < 8 then - S (ix2 n (freq j)) else S (ix2 n (freq j)) := by
  pointwise [sinRows]
  split
  · next h0 =>
    have h0' : j.val < 8 := h0
    exact (congrArg (fun q => - S (ix2 n q)) (Fin.ext (by unfold freq; dsimp only; omega))).trans (if_pos (by omega)).symm
  · next h0 =>
    have h0' : ¬ j.val < 8 := h0
    split
    · next h1 =>
      have h1' : j.val - 8 < 8 := h1
      exact (congrArg (fun q => S (ix2 n q)) (Fin.ext (by unfold freq; dsimp only; omega))).trans (if_neg (by omega)).symm
    · next h1 =>
      have h1' : ¬ j.val - 8 < 8 := h1
      split
      · next h2 =>
        have h2' : j.val - 8 - 8 < 8 := h2
        exact (congrArg (fun q => - S (ix2 n q)) (Fin.ext (by unfold freq; dsimp only; omega))).trans (if_pos (by omega)).symm
      · next h2 =>
        have h2' : ¬ j.val - 8 - 8 < 8 := h2
        exact (congrArg (fun q => S (ix2 n q)) (Fin.ext (by unfold freq; dsimp only; omega))).trans (if_neg (by omega)).symm

/-- The first table: ones over a head's lanes, the cosines over the position lanes of a latent token. -/
def tabAT (C : FVec Ideal S2048x16 .f32) : FVec Ideal S2304x128 .f32 :=
  concatenate S2304x128 0 [⟨S256x128, (concatenate S256x128 1 [⟨S256x96, (broadcastInDim S256x96 ![] bcast_S_S256x96 (constant (F := Ideal) S_ .f32 0x3F800000#32))⟩, ⟨S256x32, (broadcastInDim S256x32 ![] bcast_S_S256x32 (constant (F := Ideal) S_ .f32 0x00000000#32))⟩] concatenates_S256x96_S256x32_S256x128_d1)⟩,
    ⟨S2048x128, concatenate S2048x128 1 [⟨S2048x64, (broadcastInDim S2048x64 ![] bcast_S_S2048x64 (constant (F := Ideal) S_ .f32 0x3F800000#32))⟩, ⟨S2048x32, cosRows C⟩, ⟨S2048x32, (broadcastInDim S2048x32 ![] bcast_S_S2048x32 (constant (F := Ideal) S_ .f32 0x00000000#32))⟩] concatenates_S2048x64_S2048x32_S2048x32_S2048x128_d1⟩]
    concatenates_S256x128_S2048x128_S2304x128_d0

/-- The first table's element. -/
def tabA (C : FVec Ideal S2048x16 .f32) (n : Fin 2304) (d : Fin 128) : EReal :=
  if hn : n.val < 256 then (if hd : d.val < 96 then 1 else 0) else
    if hd : d.val < 64 then 1 else if hd' : d.val < 96 then C (ix2 ⟨n.val - 256, by omega⟩ (freq ⟨d.val - 64, by omega⟩)) else 0

/-- The first table at an element. -/
theorem tabAT_at (C : FVec Ideal S2048x16 .f32) (n : Fin 2304) (d : Fin 128) : tabAT C (ix2 n d) = tabA C n d := by
  unfold tabA
  pointwise [tabAT]
  refine dite_iff Iff.rfl (fun _ _ => rfl) (fun _ _ => dite_iff Iff.rfl (fun _ _ => rfl) (fun h _ => dite_iff ?_ (fun _ _ => cosRows_at _ _ _) (fun _ _ => rfl)))
  · have h' : ¬ d.val < 64 := h
    show d.val - 64 < 32 ↔ d.val < 96
    omega

/-- The second table: zeros, and the signed sines over the position lanes of a latent token. -/
def tabBT (S : FVec Ideal S2048x16 .f32) : FVec Ideal S2304x128 .f32 :=
  concatenate S2304x128 0 [⟨S256x128, (broadcastInDim S256x128 ![] bcast_S_S256x128 (constant (F := Ideal) S_ .f32 0x00000000#32))⟩,
    ⟨S2048x128, concatenate S2048x128 1 [⟨S2048x64, (broadcastInDim S2048x64 ![] bcast_S_S2048x64 (constant (F := Ideal) S_ .f32 0x00000000#32))⟩, ⟨S2048x32, sinRows S⟩, ⟨S2048x32, (broadcastInDim S2048x32 ![] bcast_S_S2048x32 (constant (F := Ideal) S_ .f32 0x00000000#32))⟩] concatenates_S2048x64_S2048x32_S2048x32_S2048x128_d1⟩]
    concatenates_S256x128_S2048x128_S2304x128_d0

/-- The second table's element. -/
def tabB (S : FVec Ideal S2048x16 .f32) (n : Fin 2304) (d : Fin 128) : EReal :=
  if hn : n.val < 256 then 0 else
    if hd : d.val < 64 then 0 else if hd' : d.val < 96 then
      (if (d.val - 64) % 16 < 8 then - S (ix2 ⟨n.val - 256, by omega⟩ (freq ⟨d.val - 64, by omega⟩)) else S (ix2 ⟨n.val - 256, by omega⟩ (freq ⟨d.val - 64, by omega⟩)))
      else 0

/-- The second table at an element. -/
theorem tabBT_at (S : FVec Ideal S2048x16 .f32) (n : Fin 2304) (d : Fin 128) : tabBT S (ix2 n d) = tabB S n d := by
  unfold tabB
  pointwise [tabBT]
  refine dite_iff Iff.rfl (fun _ _ => rfl) (fun _ _ => dite_iff Iff.rfl (fun _ _ => rfl) (fun h _ => dite_iff ?_ (fun _ _ => sinRows_at _ _ _) (fun _ _ => rfl)))
  · have h' : ¬ d.val < 64 := h
    show d.val - 64 < 32 ↔ d.val < 96
    omega

/-- The query weight, each head's 96 columns followed by 32 of zeros. -/
def wqT (U : FVec Ideal S384x1536 .f32) : FVec Ideal S384x16x128 .f32 :=
  concatenate S384x16x128 2 [⟨S384x16x96, (shapeCast _ U shapeCasts_S384x1536_S384x16x96)⟩, ⟨S384x16x32, (broadcastInDim S384x16x32 ![] bcast_S_S384x16x32 (constant (F := Ideal) S_ .f32 0x00000000#32))⟩] concatenates_S384x16x96_S384x16x32_S384x16x128_d2

/-- Its element. -/
def wq (U : FVec Ideal S384x1536 .f32) (k : Fin 384) (h : Fin 16) (d : Fin 128) : EReal :=
  if hd : d.val < 96 then U (ix2 k ⟨96 * h.val + d.val, by omega⟩) else 0

/-- The query weight at an element. -/
theorem wqT_at (U : FVec Ideal S384x1536 .f32) (k : Fin 384) (h : Fin 16) (d : Fin 128) : wqT U (ix3 k h d) = wq U k h d := by
  unfold wq
  pointwise [wqT]
  exact dite_iff Iff.rfl (fun _ _ => congrArg (fun q => U (ix2 k q)) (Fin.ext (by dsimp only; omega))) (fun _ _ => rfl)

/-- The query weight with its position columns exchanged and the others zero. -/
def wsT (U : FVec Ideal S384x1536 .f32) : FVec Ideal S384x16x128 .f32 :=
  concatenate S384x16x128 2 [⟨S384x16x64, (broadcastInDim S384x16x64 ![] bcast_S_S384x16x64 (constant (F := Ideal) S_ .f32 0x00000000#32))⟩, ⟨S384x16x32, swapHeads (extractStridedSlice S384x16x32 ![0, 0, 64] (shapeCast _ U shapeCasts_S384x1536_S384x16x96) slices_S384x16x96_S384x16x32_0_0_64)⟩,
    ⟨S384x16x32, (broadcastInDim S384x16x32 ![] bcast_S_S384x16x32 (constant (F := Ideal) S_ .f32 0x00000000#32))⟩] concatenates_S384x16x64_S384x16x32_S384x16x32_S384x16x128_d2

/-- Its element. -/
def ws (U : FVec Ideal S384x1536 .f32) (k : Fin 384) (h : Fin 16) (d : Fin 128) : EReal :=
  if hd : d.val < 64 then 0 else
    if hd' : d.val < 96 then U (ix2 k ⟨96 * h.val + (64 + (partner ⟨d.val - 64, by omega⟩).val), by omega⟩) else 0

/-- That weight at an element. -/
theorem wsT_at (U : FVec Ideal S384x1536 .f32) (k : Fin 384) (h : Fin 16) (d : Fin 128) : wsT U (ix3 k h d) = ws U k h d := by
  unfold ws
  pointwise [wsT]
  refine dite_iff Iff.rfl (fun _ _ => rfl) (fun h _ => dite_iff ?_ (fun _ _ => ?_) (fun _ _ => rfl))
  · have h' : ¬ d.val < 64 := h
    show d.val - 64 < 32 ↔ d.val < 96
    omega
  · refine (swapHeads_at _ _ _ _).trans ?_
    pointwise
    exact congrArg (fun q => U (ix2 k q)) (Fin.ext (by dsimp only; omega))

/-- The key weight, each head's 64 key columns followed by 64 of zeros. -/
def wkT (U : FVec Ideal S256x2048 .f32) : FVec Ideal S256x16x128 .f32 :=
  concatenate S256x16x128 2 [⟨S256x16x64, (extractStridedSlice S256x16x64 ![0, 0, 0] (shapeCast _ U shapeCasts_S256x2048_S256x16x128) slices_S256x16x128_S256x16x64_0_0_0)⟩,
    ⟨S256x16x64, (broadcastInDim S256x16x64 ![] bcast_S_S256x16x64 (constant (F := Ideal) S_ .f32 0x00000000#32))⟩] concatenates_S256x16x64_S256x16x64_S256x16x128_d2

/-- Its element. -/
def wk (U : FVec Ideal S256x2048 .f32) (k : Fin 256) (h : Fin 16) (d : Fin 128) : EReal :=
  if hd : d.val < 64 then U (ix2 k ⟨128 * h.val + d.val, by omega⟩) else 0

/-- The key weight at an element. -/
theorem wkT_at (U : FVec Ideal S256x2048 .f32) (k : Fin 256) (h : Fin 16) (d : Fin 128) : wkT U (ix3 k h d) = wk U k h d := by
  unfold wk
  pointwise [wkT]
  exact dite_iff Iff.rfl (fun _ _ => congrArg (fun q => U (ix2 k q)) (Fin.ext (by dsimp only; omega))) (fun _ _ => rfl)

/-- Sixteen heads of 128 columns side by side, read at a column. -/
theorem cols384_at (K : FVec Ideal S384x16x128 .f32) (k : Fin 384) (h : Fin 16) (d : Fin 128) :
    shapeCast S384x2048 K shapeCasts_S384x16x128_S384x2048 (ix2 k ⟨128 * h.val + d.val, by omega⟩) = K (ix3 k h d) := by
  pointwise

/-- The same over 256 rows. -/
theorem cols256_at (K : FVec Ideal S256x16x128 .f32) (k : Fin 256) (h : Fin 16) (d : Fin 128) :
    shapeCast S256x2048 K shapeCasts_S256x16x128_S256x2048 (ix2 k ⟨128 * h.val + d.val, by omega⟩) = K (ix3 k h d) := by
  pointwise

/-- An update of 32 columns from column `c` on lands row by row, its column `u` in column `c + u`. -/
theorem lands (c : Nat) (hc : c < 2 ^ 31) (idx : IVec S1 32) (hidx : ∀ i, idx i = BitVec.ofNat 32 c) (k' k : Fin 1024) (u : Fin 32) (l : Fin 256) :
    scatter_S1024x256_S1_S1024x32_01_n_1_0.resultIdx? (ix2 k' u) idx = some (ix2 k l) ↔ k' = k ∧ l.val = c + u.val := by
  have w0 : scatter_S1024x256_S1_S1024x32_01_n_1_0.window (ix2 k' u) 0 = k'.val := rfl
  have w1 : scatter_S1024x256_S1_S1024x32_01_n_1_0.window (ix2 k' u) 1 = u.val := rfl
  have s0 : scatter_S1024x256_S1_S1024x32_01_n_1_0.start (ix2 k' u) idx 0 = 0 := rfl
  have s1 : scatter_S1024x256_S1_S1024x32_01_n_1_0.start (ix2 k' u) idx 1 = (c : Int) := by
    unfold ScatterDims.start
    rw [dif_pos (show (1 : Fin 2) ∈ scatter_S1024x256_S1_S1024x32_01_n_1_0.scatterDimsToOperandDims from List.mem_singleton.2 rfl), hidx,
      StableHlo.Predicate.toInt_ofNat_small _ hc]
  refine (Routing.resultIdx?_ix2 (R := 1024) (C := 256) scatter_S1024x256_S1_S1024x32_01_n_1_0 (ix2 k' u) idx k l).trans ?_
  rw [Fin.ext_iff, w0, w1, s0, s1]
  omega

/-- An array with 32 columns set, from column `c` on, read at an element. -/
theorem set_cols (c : Nat) (hc : c < 2 ^ 31) (x : FVec Ideal S1024x256 .f32) (idx : IVec S1 32) (hidx : ∀ i, idx i = BitVec.ofNat 32 c)
    (upd : FVec Ideal S1024x32 .f32) (k : Fin 1024) (l : Fin 256) :
    Host.scatter scatter_S1024x256_S1_S1024x32_01_n_1_0 (fun _ b => b) x idx upd (ix2 k l)
      = if h : c ≤ l.val ∧ l.val < c + 32 then upd (ix2 k ⟨l.val - c, by omega⟩) else x (ix2 k l) := by
  split
  · next h =>
    refine Routing.scatter_set_hit _ x idx upd _ _ (fun j hj => ?_) (ix2 k ⟨l.val - c, by omega⟩) ((lands c hc idx hidx _ _ _ _).2 ⟨rfl, ?_⟩)
    · idx_vars j
      obtain ⟨h1, h2⟩ := (lands c hc idx hidx _ _ _ _).1 hj
      subst h1
      congr 2
      apply Fin.ext
      show j1.val = l.val - c
      omega
    · show l.val = c + (l.val - c)
      omega
  · next h =>
    refine Routing.scatter_set_miss _ x idx upd _ fun j hj => ?_
    idx_vars j
    obtain ⟨h1, h2⟩ := (lands c hc idx hidx _ _ _ _).1 hj
    have := j1.isLt
    exact h ⟨by omega, by omega⟩

/-- The position weight: the layer's 32 position columns from column 64 on, the exchanged ones from column 192 on. -/
def wpT (W : FVec Ideal S1024x672 .f32) : FVec Ideal S1024x256 .f32 :=
  Host.scatter scatter_S1024x256_S1_S1024x32_01_n_1_0 (fun _ b => b)
    (Host.scatter scatter_S1024x256_S1_S1024x32_01_n_1_0 (fun _ b => b)
      (broadcastInDim S1024x256 ![] bcast_S_S1024x256 (constant (F := Ideal) S_ .f32 0x00000000#32))
      (broadcastInDim S1 ![] bcast_S_S1 (constantI S_ 32 64#32))
      (extractStridedSlice S1024x32 ![0, 640] W slices_S1024x672_S1024x32_0_640))
    (broadcastInDim S1 ![] bcast_S_S1 (constantI S_ 32 192#32))
    (swapCols (extractStridedSlice S1024x32 ![0, 640] W slices_S1024x672_S1024x32_0_640))

/-- A lane of the position weight's first half. -/
def wp (W : FVec Ideal S1024x672 .f32) (k : Fin 1024) (d : Fin 128) : EReal :=
  if hd : d.val < 64 then 0 else if hd' : d.val < 96 then W (ix2 k ⟨640 + (d.val - 64), by omega⟩) else 0

/-- A lane of its second half. -/
def wps (W : FVec Ideal S1024x672 .f32) (k : Fin 1024) (d : Fin 128) : EReal :=
  if hd : d.val < 64 then 0 else if hd' : d.val < 96 then W (ix2 k ⟨640 + (partner ⟨d.val - 64, by omega⟩).val, by omega⟩) else 0

/-- The position weight's first half at an element. -/
theorem wpT_lo (W : FVec Ideal S1024x672 .f32) (k : Fin 1024) (d : Fin 128) : wpT W (ix2 k ⟨d.val, by omega⟩) = wp W k d := by
  unfold wp wpT
  refine (set_cols 192 (by omega) _ _ (by intro i; rfl) _ k _).trans ?_
  rw [dif_neg (by dsimp only; omega)]
  refine (set_cols 64 (by omega) _ _ (by intro i; rfl) _ k _).trans ?_
  by_cases h : d.val < 64
  · rw [dif_neg (by dsimp only; omega), dif_pos h]
    pointwise
  · rw [dif_neg h]
    by_cases h' : d.val < 96
    · rw [dif_pos (by dsimp only; omega), dif_pos h']
      pointwise
    · rw [dif_neg (by dsimp only; omega), dif_neg h']
      pointwise

/-- Its second half. -/
theorem wpT_hi (W : FVec Ideal S1024x672 .f32) (k : Fin 1024) (d : Fin 128) : wpT W (ix2 k ⟨128 + d.val, by omega⟩) = wps W k d := by
  unfold wps wpT
  refine (set_cols 192 (by omega) _ _ (by intro i; rfl) _ k _).trans ?_
  by_cases h : d.val < 64
  · rw [dif_neg (by dsimp only; omega), dif_pos h]
    refine (set_cols 64 (by omega) _ _ (by intro i; rfl) _ k _).trans ?_
    rw [dif_neg (by dsimp only; omega)]
    pointwise
  · rw [dif_neg h]
    by_cases h' : d.val < 96
    · rw [dif_pos (by dsimp only; omega), dif_pos h']
      refine (swapCols_at _ _ _).trans ?_
      have e : (⟨128 + d.val - 192, by omega⟩ : Fin 32) = ⟨d.val - 64, by omega⟩ := Fin.ext (by dsimp only; omega)
      rw [e]
      pointwise
    · rw [dif_neg (by dsimp only; omega), dif_neg h']
      refine (set_cols 64 (by omega) _ _ (by intro i; rfl) _ k _).trans ?_
      rw [dif_neg (by dsimp only; omega)]
      pointwise

/-- Narrowing changes no element. -/
theorem narrowed {s : Shape} (K : FVec Ideal s .f32) (j : s.Idx) : truncf .bf16 K bitsLt_bf16_f32 j = K j := rfl

/-- Equal pieces make equal joins: two of them. -/
theorem cat2 {s s1 s2 : Shape} {ax : Fin s.rank} {x1 y1 : s1.Idx → EReal} {x2 y2 : s2.Idx → EReal}
    {h : Shape.Concatenates [s1, s2] s ax} (e1 : x1 = y1) (e2 : x2 = y2) :
    concatenate s ax [⟨s1, x1⟩, ⟨s2, x2⟩] h = concatenate s ax [⟨s1, y1⟩, ⟨s2, y2⟩] h := by
  subst e1 e2
  rfl

/-- Three of them. -/
theorem cat3 {s s1 s2 s3 : Shape} {ax : Fin s.rank} {x1 y1 : s1.Idx → EReal} {x2 y2 : s2.Idx → EReal} {x3 y3 : s3.Idx → EReal}
    {h : Shape.Concatenates [s1, s2, s3] s ax} (e1 : x1 = y1) (e2 : x2 = y2) (e3 : x3 = y3) :
    concatenate s ax [⟨s1, x1⟩, ⟨s2, x2⟩, ⟨s3, x3⟩] h = concatenate s ax [⟨s1, y1⟩, ⟨s2, y2⟩, ⟨s3, y3⟩] h := by
  subst e1 e2 e3
  rfl

/-- Four of them. -/
theorem cat4 {s s1 s2 s3 s4 : Shape} {ax : Fin s.rank} {x1 y1 : s1.Idx → EReal} {x2 y2 : s2.Idx → EReal} {x3 y3 : s3.Idx → EReal}
    {x4 y4 : s4.Idx → EReal} {h : Shape.Concatenates [s1, s2, s3, s4] s ax} (e1 : x1 = y1) (e2 : x2 = y2) (e3 : x3 = y3) (e4 : x4 = y4) :
    concatenate s ax [⟨s1, x1⟩, ⟨s2, x2⟩, ⟨s3, x3⟩, ⟨s4, x4⟩] h = concatenate s ax [⟨s1, y1⟩, ⟨s2, y2⟩, ⟨s3, y3⟩, ⟨s4, y4⟩] h := by
  subst e1 e2 e3 e4
  rfl

variable (m : (ℓ : Loc nD τ sig) → Buf (Elt Ideal) ℓ)

set_option maxHeartbeats 2000000 in
/-- The position weight the call is given. -/
theorem v15T (c : Dev nD) : (V m c main_v15 : FVec Ideal S1024x256 .bf16) = truncf .bf16 (wpT (m ((c : Thread nD τ).loc main_arg3))) bitsLt_bf16_f32 := by
  unfold wpT swapCols
  after_reads_simp
  refine congrArg (fun q : FVec Ideal S1024x256 .f32 => truncf .bf16 q _) (congrArg (Host.scatter _ _ _ _) (cat4 ?_ ?_ ?_ ?_))
  · show StableHlo.upto hostOps0 (fun b => m (c, b)) 14 (Proc.devRef .tc main_v8) = _
    after_reads_simp
    try rfl
  · show StableHlo.upto hostOps0 (fun b => m (c, b)) 14 (Proc.devRef .tc main_v9) = _
    after_reads_simp
    try rfl
  · show StableHlo.upto hostOps0 (fun b => m (c, b)) 14 (Proc.devRef .tc main_v10) = _
    after_reads_simp
    try rfl
  · show StableHlo.upto hostOps0 (fun b => m (c, b)) 14 (Proc.devRef .tc main_v11) = _
    after_reads_simp
    try rfl

set_option maxHeartbeats 2000000 in
/-- The query weight with its position columns exchanged the call is given. -/
theorem v30T (c : Dev nD) : (V m c main_v30 : FVec Ideal S384x2048 .bf16)
    = truncf .bf16 (shapeCast S384x2048 (wsT (m ((c : Thread nD τ).loc main_arg5))) shapeCasts_S384x16x128_S384x2048) bitsLt_bf16_f32 := by
  unfold wsT swapHeads
  after_reads_simp
  refine congrArg (fun q : FVec Ideal S384x16x128 .f32 => truncf .bf16 (shapeCast S384x2048 q _) _) (cat3 ?_ ?_ ?_)
  · show StableHlo.upto hostOps0 (fun b => m (c, b)) 33 (Proc.devRef .tc main_v21) = _
    after_reads_simp
    try rfl
  · show StableHlo.upto hostOps0 (fun b => m (c, b)) 33 (Proc.devRef .tc main_v27) = _
    after_reads_simp
    refine cat4 ?_ ?_ ?_ ?_
    · show StableHlo.upto hostOps0 (fun b => m (c, b)) 32 (Proc.devRef .tc main_v23) = _
      after_reads_simp
      try rfl
    · show StableHlo.upto hostOps0 (fun b => m (c, b)) 32 (Proc.devRef .tc main_v24) = _
      after_reads_simp
      try rfl
    · show StableHlo.upto hostOps0 (fun b => m (c, b)) 32 (Proc.devRef .tc main_v25) = _
      after_reads_simp
      try rfl
    · show StableHlo.upto hostOps0 (fun b => m (c, b)) 32 (Proc.devRef .tc main_v26) = _
      after_reads_simp
      try rfl
  · show StableHlo.upto hostOps0 (fun b => m (c, b)) 33 (Proc.devRef .tc main_v17) = _
    after_reads_simp
    try rfl

set_option maxHeartbeats 2000000 in
/-- The first query table the call is given. -/
theorem v65T (c : Dev nD) : (V m c main_v65 : FVec Ideal S2304x128 .f32)
    = mulf (tabAT (m ((c : Thread nD τ).loc main_arg8))) (broadcastInDim S2304x128 ![] bcast_S_S2304x128 (constant (F := Ideal) S_ .f32 0x3DD105EC#32)) := by
  unfold tabAT cosRows
  after_reads_simp
  refine congrArg (fun q : FVec Ideal S2304x128 .f32 => mulf q _) (cat2 ?_ ?_)
  · show StableHlo.upto hostOps0 (fun b => m (c, b)) 68 (Proc.devRef .tc main_v54) = _
    after_reads_simp
    refine cat2 ?_ ?_
    · show StableHlo.upto hostOps0 (fun b => m (c, b)) 62 (Proc.devRef .tc main_v52) = _
      after_reads_simp
      try rfl
    · show StableHlo.upto hostOps0 (fun b => m (c, b)) 62 (Proc.devRef .tc main_v53) = _
      after_reads_simp
      try rfl
  · show StableHlo.upto hostOps0 (fun b => m (c, b)) 68 (Proc.devRef .tc main_v57) = _
    after_reads_simp
    refine cat3 ?_ ?_ ?_
    · show StableHlo.upto hostOps0 (fun b => m (c, b)) 67 (Proc.devRef .tc main_v55) = _
      after_reads_simp
      try rfl
    · show StableHlo.upto hostOps0 (fun b => m (c, b)) 67 (Proc.devRef .tc main_v44) = _
      after_reads_simp
      refine cat4 ?_ ?_ ?_ ?_
      · show StableHlo.upto hostOps0 (fun b => m (c, b)) 50 (Proc.devRef .tc main_v40) = _
        after_reads_simp
        try rfl
      · show StableHlo.upto hostOps0 (fun b => m (c, b)) 50 (Proc.devRef .tc main_v41) = _
        after_reads_simp
        try rfl
      · show StableHlo.upto hostOps0 (fun b => m (c, b)) 50 (Proc.devRef .tc main_v42) = _
        after_reads_simp
        try rfl
      · show StableHlo.upto hostOps0 (fun b => m (c, b)) 50 (Proc.devRef .tc main_v43) = _
        after_reads_simp
        try rfl
    · show StableHlo.upto hostOps0 (fun b => m (c, b)) 67 (Proc.devRef .tc main_v56) = _
      after_reads_simp
      try rfl

set_option maxHeartbeats 2000000 in
/-- The second query table the call is given. -/
theorem v67T (c : Dev nD) : (V m c main_v67 : FVec Ideal S2304x128 .f32)
    = mulf (tabBT (m ((c : Thread nD τ).loc main_arg9))) (broadcastInDim S2304x128 ![] bcast_S_S2304x128 (constant (F := Ideal) S_ .f32 0x3DD105EC#32)) := by
  unfold tabBT sinRows
  after_reads_simp
  refine congrArg (fun q : FVec Ideal S2304x128 .f32 => mulf q _) (cat2 ?_ ?_)
  · show StableHlo.upto hostOps0 (fun b => m (c, b)) 76 (Proc.devRef .tc main_v59) = _
    after_reads_simp
    try rfl
  · show StableHlo.upto hostOps0 (fun b => m (c, b)) 76 (Proc.devRef .tc main_v62) = _
    after_reads_simp
    refine cat3 ?_ ?_ ?_
    · show StableHlo.upto hostOps0 (fun b => m (c, b)) 75 (Proc.devRef .tc main_v60) = _
      after_reads_simp
      try rfl
    · show StableHlo.upto hostOps0 (fun b => m (c, b)) 75 (Proc.devRef .tc main_v51) = _
      after_reads_simp
      refine cat4 ?_ ?_ ?_ ?_
      · show StableHlo.upto hostOps0 (fun b => m (c, b)) 57 (Proc.devRef .tc main_v46) = _
        after_reads_simp
        try rfl
      · show StableHlo.upto hostOps0 (fun b => m (c, b)) 57 (Proc.devRef .tc main_v47) = _
        after_reads_simp
        try rfl
      · show StableHlo.upto hostOps0 (fun b => m (c, b)) 57 (Proc.devRef .tc main_v49) = _
        after_reads_simp
        try rfl
      · show StableHlo.upto hostOps0 (fun b => m (c, b)) 57 (Proc.devRef .tc main_v50) = _
        after_reads_simp
        try rfl
    · show StableHlo.upto hostOps0 (fun b => m (c, b)) 75 (Proc.devRef .tc main_v61) = _
      after_reads_simp
      try rfl

set_option maxHeartbeats 2000000 in
/-- The first key table the call is given. -/
theorem v93T (c : Dev nD) : (V m c main_v93 : FVec Ideal S2304x128 .f32)
    = mulf (tabAT (m ((c : Thread nD τ).loc main_arg8))) (broadcastInDim S2304x128 ![] bcast_S_S2304x128 (constant (F := Ideal) S_ .f32 0x3F800000#32)) := by
  unfold tabAT cosRows
  after_reads_simp
  refine congrArg (fun q : FVec Ideal S2304x128 .f32 => mulf q _) (cat2 ?_ ?_)
  · show StableHlo.upto hostOps0 (fun b => m (c, b)) 105 (Proc.devRef .tc main_v82) = _
    after_reads_simp
    refine cat2 ?_ ?_
    · show StableHlo.upto hostOps0 (fun b => m (c, b)) 99 (Proc.devRef .tc main_v80) = _
      after_reads_simp
      try rfl
    · show StableHlo.upto hostOps0 (fun b => m (c, b)) 99 (Proc.devRef .tc main_v81) = _
      after_reads_simp
      try rfl
  · show StableHlo.upto hostOps0 (fun b => m (c, b)) 105 (Proc.devRef .tc main_v85) = _
    after_reads_simp
    refine cat3 ?_ ?_ ?_
    · show StableHlo.upto hostOps0 (fun b => m (c, b)) 104 (Proc.devRef .tc main_v83) = _
      after_reads_simp
      try rfl
    · show StableHlo.upto hostOps0 (fun b => m (c, b)) 104 (Proc.devRef .tc main_v72) = _
      after_reads_simp
      refine cat4 ?_ ?_ ?_ ?_
      · show StableHlo.upto hostOps0 (fun b => m (c, b)) 87 (Proc.devRef .tc main_v68) = _
        after_reads_simp
        try rfl
      · show StableHlo.upto hostOps0 (fun b => m (c, b)) 87 (Proc.devRef .tc main_v69) = _
        after_reads_simp
        try rfl
      · show StableHlo.upto hostOps0 (fun b => m (c, b)) 87 (Proc.devRef .tc main_v70) = _
        after_reads_simp
        try rfl
      · show StableHlo.upto hostOps0 (fun b => m (c, b)) 87 (Proc.devRef .tc main_v71) = _
        after_reads_simp
        try rfl
    · show StableHlo.upto hostOps0 (fun b => m (c, b)) 104 (Proc.devRef .tc main_v84) = _
      after_reads_simp
      try rfl

set_option maxHeartbeats 2000000 in
/-- The second key table the call is given. -/
theorem v95T (c : Dev nD) : (V m c main_v95 : FVec Ideal S2304x128 .f32)
    = mulf (tabBT (m ((c : Thread nD τ).loc main_arg9))) (broadcastInDim S2304x128 ![] bcast_S_S2304x128 (constant (F := Ideal) S_ .f32 0x3F800000#32)) := by
  unfold tabBT sinRows
  after_reads_simp
  refine congrArg (fun q : FVec Ideal S2304x128 .f32 => mulf q _) (cat2 ?_ ?_)
  · show StableHlo.upto hostOps0 (fun b => m (c, b)) 113 (Proc.devRef .tc main_v87) = _
    after_reads_simp
    try rfl
  · show StableHlo.upto hostOps0 (fun b => m (c, b)) 113 (Proc.devRef .tc main_v90) = _
    after_reads_simp
    refine cat3 ?_ ?_ ?_
    · show StableHlo.upto hostOps0 (fun b => m (c, b)) 112 (Proc.devRef .tc main_v88) = _
      after_reads_simp
      try rfl
    · show StableHlo.upto hostOps0 (fun b => m (c, b)) 112 (Proc.devRef .tc main_v79) = _
      after_reads_simp
      refine cat4 ?_ ?_ ?_ ?_
      · show StableHlo.upto hostOps0 (fun b => m (c, b)) 94 (Proc.devRef .tc main_v74) = _
        after_reads_simp
        try rfl
      · show StableHlo.upto hostOps0 (fun b => m (c, b)) 94 (Proc.devRef .tc main_v75) = _
        after_reads_simp
        try rfl
      · show StableHlo.upto hostOps0 (fun b => m (c, b)) 94 (Proc.devRef .tc main_v77) = _
        after_reads_simp
        try rfl
      · show StableHlo.upto hostOps0 (fun b => m (c, b)) 94 (Proc.devRef .tc main_v78) = _
        after_reads_simp
        try rfl
    · show StableHlo.upto hostOps0 (fun b => m (c, b)) 112 (Proc.devRef .tc main_v89) = _
      after_reads_simp
      try rfl

set_option maxHeartbeats 2000000 in
/-- The query weight the call is given. -/
theorem v20_at (c : Dev nD) (k : Fin 384) (h : Fin 16) (d : Fin 128) :
    (V m c main_v20 : FVec Ideal S384x2048 .bf16) (ix2 k ⟨128 * h.val + d.val, by omega⟩) = wq (m ((c : Thread nD τ).loc main_arg5)) k h d := by
  refine Eq.trans ?_ ((cols384_at (wqT (m ((c : Thread nD τ).loc main_arg5))) k h d).trans (wqT_at _ _ _ _))
  entry_read
  rfl

set_option maxHeartbeats 2000000 in
/-- The query weight with its position columns exchanged the call is given. -/
theorem v30_at (c : Dev nD) (k : Fin 384) (h : Fin 16) (d : Fin 128) :
    (V m c main_v30 : FVec Ideal S384x2048 .bf16) (ix2 k ⟨128 * h.val + d.val, by omega⟩) = ws (m ((c : Thread nD τ).loc main_arg5)) k h d :=
  (congrFun (v30T m c) _).trans ((cols384_at (wsT (m ((c : Thread nD τ).loc main_arg5))) k h d).trans (wsT_at _ _ _ _))

set_option maxHeartbeats 2000000 in
/-- The key weight the call is given. -/
theorem v36_at (c : Dev nD) (k : Fin 256) (h : Fin 16) (d : Fin 128) :
    (V m c main_v36 : FVec Ideal S256x2048 .bf16) (ix2 k ⟨128 * h.val + d.val, by omega⟩) = wk (m ((c : Thread nD τ).loc main_arg7)) k h d := by
  refine Eq.trans ?_ ((cols256_at (wkT (m ((c : Thread nD τ).loc main_arg7))) k h d).trans (wkT_at _ _ _ _))
  entry_read
  rfl

set_option maxHeartbeats 2000000 in
/-- The first half of the position weight the call is given. -/
theorem v15lo_at (c : Dev nD) (k : Fin 1024) (d : Fin 128) :
    (V m c main_v15 : FVec Ideal S1024x256 .bf16) (ix2 k ⟨d.val, by omega⟩) = wp (m ((c : Thread nD τ).loc main_arg3)) k d :=
  (congrFun (v15T m c) _).trans ((narrowed _ _).trans (wpT_lo _ k d))

set_option maxHeartbeats 2000000 in
/-- The second half of the position weight the call is given. -/
theorem v15hi_at (c : Dev nD) (k : Fin 1024) (d : Fin 128) :
    (V m c main_v15 : FVec Ideal S1024x256 .bf16) (ix2 k ⟨128 + d.val, by omega⟩) = wps (m ((c : Thread nD τ).loc main_arg3)) k d :=
  (congrFun (v15T m c) _).trans ((narrowed _ _).trans (wpT_hi _ k d))

set_option maxHeartbeats 2000000 in
/-- The first query table the call is given. -/
theorem v65_at (c : Dev nD) (n : Fin 2304) (d : Fin 128) :
    (V m c main_v65 : FVec Ideal S2304x128 .f32) (ix2 n d) = tabA (m ((c : Thread nD τ).loc main_arg8)) n d * scale :=
  (congrFun (v65T m c) _).trans (congrArg (· * _) (tabAT_at _ n d))

set_option maxHeartbeats 2000000 in
/-- The second query table the call is given. -/
theorem v67_at (c : Dev nD) (n : Fin 2304) (d : Fin 128) :
    (V m c main_v67 : FVec Ideal S2304x128 .f32) (ix2 n d) = tabB (m ((c : Thread nD τ).loc main_arg9)) n d * scale :=
  (congrFun (v67T m c) _).trans (congrArg (· * _) (tabBT_at _ n d))

set_option maxHeartbeats 2000000 in
/-- The first key table the call is given. -/
theorem v93_at (c : Dev nD) (n : Fin 2304) (d : Fin 128) :
    (V m c main_v93 : FVec Ideal S2304x128 .f32) (ix2 n d) = tabA (m ((c : Thread nD τ).loc main_arg8)) n d * Ideal.ofBits FTy.f32 0x3F800000#32 :=
  (congrFun (v93T m c) _).trans (congrArg (· * _) (tabAT_at _ n d))

set_option maxHeartbeats 2000000 in
/-- The second key table the call is given. -/
theorem v95_at (c : Dev nD) (n : Fin 2304) (d : Fin 128) :
    (V m c main_v95 : FVec Ideal S2304x128 .f32) (ix2 n d) = tabB (m ((c : Thread nD τ).loc main_arg9)) n d * Ideal.ofBits FTy.f32 0x3F800000#32 :=
  (congrFun (v95T m c) _).trans (congrArg (· * _) (tabBT_at _ n d))

end Cert.Kernel6Ideal.MlaIn
-- ==== Proof.MlaInRows.lean ====
module

public import proofs.«01_k».proof.Proof.MlaInSpec
public import proofs.«01_k».proof.Proof.MlaInRun

/-!
# The latent attention's projections: what one grid point stores

Each array a grid point of the kernel computes, at one element, from the blocks it loads.
-/

@[expose] public section

set_option maxRecDepth 16384

noncomputable section

namespace Cert.Kernel6Ideal.MlaIn

open Cert.Kernel6Ideal Cert.Kernel6Ideal.Gen Idealize.ShloMosaic Idealize.ShloMosaic.TcCoe Idealize.SL.Sem
open Cert.MlaIn

/-- A row of a tile, normalised and modulated, from the loaded blocks. -/
theorem hb_at (i : grid0.Coords) (v6 : Vec Ideal S1x256x1024 .f32) (v8 : Vec Ideal S1x1024 .f32) (v22 v24 v36 v38 : Vec Ideal S1x1x1024 .f32)
    (r : Fin 256) (e : Fin 1024) :
    k0_pay38 (F := Ideal) (k0_pay35 i) (k0_pay36 i v6 v8 v22 v24) (k0_pay37 v36) v38 (ix2 r e)
      = Stream.normed (fun k => v6 (ix3 0 r k)) (fun k => v8 (ix2 0 k)) e
          * (1 + if (i 1).val = 0 then v22 (ix3 0 0 e) else v24 (ix3 0 0 e)) + if (i 1).val = 0 then v36 (ix3 0 0 e) else v38 (ix3 0 0 e) := by
  have hc := Stream.is_ctx (i 1) r
  unfold Stream.normed
  pointwise [k0_pay38, k0_pay35, k0_pay36, k0_pay37, hc]
  split <;> rfl

/-- The compressed queries of a tile, from its rows. -/
theorem cq_at (v5 : IVec S256x1 1) (v35 : FVec Ideal S256x1024 .f32) (v37 : FVec Ideal S1x1024 .f32) (v38 : Vec Ideal S1x1x1024 .f32)
    (v49 : Vec Ideal S1024x384 .bf16) (v52 : Vec Ideal S1x384 .f32) (r : Fin 256) (l : Fin 384) :
    k0_pay39 v5 v35 v37 v38 v49 v52 (ix2 r l)
      = rmsQ (fun l => ∑ k : Fin 1024, k0_pay38 v5 v35 v37 v38 (ix2 r k) * v49 (ix2 k l)) (fun l => v52 (ix2 0 l)) l := by
  unfold rmsQ
  pointwise [k0_pay39]

/-- The compressed keys and values of a tile before their norm. -/
theorem kvraw_at (v5 : IVec S256x1 1) (v35 : FVec Ideal S256x1024 .f32) (v37 : FVec Ideal S1x1024 .f32) (v38 : Vec Ideal S1x1x1024 .f32)
    (v67 : Vec Ideal S1024x256 .bf16) (r : Fin 256) (l : Fin 256) :
    k0_pay40 v5 v35 v37 v38 v67 (ix2 r l) = ∑ k : Fin 1024, k0_pay38 v5 v35 v37 v38 (ix2 r k) * v67 (ix2 k l) := by
  pointwise [k0_pay40]

/-- After it. -/
theorem kv_at (v5 : IVec S256x1 1) (v35 : FVec Ideal S256x1024 .f32) (v37 : FVec Ideal S1x1024 .f32) (v38 : Vec Ideal S1x1x1024 .f32)
    (v67 : Vec Ideal S1024x256 .bf16) (v70 : Vec Ideal S1x256 .f32) (r : Fin 256) (l : Fin 256) :
    k0_pay43 (k0_pay40 v5 v35 v37 v38 v67) (k0_pay41 v70) (k0_pay42 v5 v35 v37 v38 v67) (ix2 r l)
      = rmsKV (fun l => ∑ k : Fin 1024, k0_pay38 v5 v35 v37 v38 (ix2 r k) * v67 (ix2 k l)) (fun l => v70 (ix2 0 l)) l := by
  unfold rmsKV
  pointwise [k0_pay41, k0_pay42, k0_pay43, kvraw_at]

/-- The rotated position lanes all heads share. -/
theorem pe_at (v48 : FVec Ideal S256x1024 .bf16) (v85 : Vec Ideal S1024x256 .bf16) (v89 v93 : Vec Ideal S256x128 .f32) (r : Fin 256) (d : Fin 128) :
    k0_pay44 v48 v85 v89 v93 (ix2 r d)
      = (∑ k : Fin 1024, v48 (ix2 r k) * v85 (ix2 k ⟨d.val, by omega⟩)) * v89 (ix2 r d)
        + (∑ k : Fin 1024, v48 (ix2 r k) * v85 (ix2 k ⟨128 + d.val, by omega⟩)) * v93 (ix2 r d) := by
  pointwise [k0_pay44]

/-- The queries' first product. -/
theorem q1_at (v66 : FVec Ideal S256x384 .bf16) (v97 : Vec Ideal S384x2048 .bf16) (r : Fin 256) (l : Fin 2048) :
    k0_pay45 v66 v97 (ix2 r l) = ∑ k : Fin 384, v66 (ix2 r k) * v97 (ix2 k l) := by
  pointwise [k0_pay45]

/-- Their second. -/
theorem q2_at (v66 : FVec Ideal S256x384 .bf16) (v100 : Vec Ideal S384x2048 .bf16) (r : Fin 256) (l : Fin 2048) :
    k0_pay46 v66 v100 (ix2 r l) = ∑ k : Fin 384, v66 (ix2 r k) * v100 (ix2 k l) := by
  pointwise [k0_pay46]

/-- The keys' product. -/
theorem k1_at (v69 : FVec Ideal S256x256 .f32) (v71 : FVec Ideal S1x256 .f32) (v78 : FVec Ideal S256x1 .f32) (v103 : Vec Ideal S256x2048 .bf16)
    (r : Fin 256) (l : Fin 2048) :
    k0_pay47 v69 v71 v78 v103 (ix2 r l) = ∑ k : Fin 256, k0_pay43 v69 v71 v78 (ix2 r k) * v103 (ix2 k l) := by
  pointwise [k0_pay47]

/-- The values. -/
theorem v_at (v84 : FVec Ideal S256x256 .bf16) (v302 : Vec Ideal S256x1024 .bf16) (z : Fin 1) (r : Fin 256) (l : Fin 1024) :
    k0_pay2 v84 v302 (ix3 z r l) = ∑ k : Fin 256, v84 (ix2 r k) * v302 (ix2 k l) := by
  pointwise [k0_pay2]

/-- One head's queries. -/
theorem qHead_at (h : Fin 16) (v99 v102 : FVec Ideal S256x2048 .f32) (v107 v109 : FVec Ideal S256x128 .f32) (z : Fin 1) (r : Fin 256) (d : Fin 128) :
    qHead h v99 v102 v107 v109 (ix3 z r d)
      = v99 (ix2 r ⟨128 * h.val + d.val, by omega⟩) * v107 (ix2 r d) + v102 (ix2 r ⟨128 * h.val + d.val, by omega⟩) * v109 (ix2 r d) := by
  pointwise [qHead]

/-- One head's keys. -/
theorem kHead_at (h : Fin 16) (v96 : FVec Ideal S256x128 .f32) (v105 : FVec Ideal S256x2048 .f32) (z : Fin 1) (r : Fin 256) (d : Fin 128) :
    kHead h v96 v105 (ix3 z r d) = v105 (ix2 r ⟨128 * h.val + d.val, by omega⟩) + v96 (ix2 r d) := by
  pointwise [kHead]

/-- The rotary tables are loaded as they are. -/
theorem tab_at (v : Vec Ideal S256x128 .f32) (r : Fin 256) (d : Fin 128) :
    k0_pay48 v (ix2 r d) = v (ix2 r d) ∧ k0_pay49 v (ix2 r d) = v (ix2 r d) := by
  constructor
  · pointwise [k0_pay48]
  · pointwise [k0_pay49]

/-- An element of one head's tile is the element its place in the row names. -/
theorem head_piece (p : Fin 16 → Vec Ideal S1x256x128 .bf16) (y1 : Fin 256) (y2 : Fin 2048) (k : Fin 16) (x : S1x256x128.Idx)
    (h1 : y1.val = (x 1).val) (h2 : y2.val = 128 * k.val + (x 2).val) :
    p k x = p ⟨y2.val / 128, Nat.div_lt_of_lt_mul y2.isLt⟩ (ix3 0 y1 ⟨y2.val % 128, Nat.mod_lt _ (by omega)⟩) := by
  idx_vars x
  obtain rfl : x0 = 0 := Subsingleton.elim _ _
  have h1' : y1.val = x1.val := h1
  have h2' : y2.val = 128 * k.val + x2.val := h2
  have hx2 : x2.val < 128 := x2.isLt
  have e : (⟨y2.val / 128, Nat.div_lt_of_lt_mul y2.isLt⟩ : Fin 16) = k := Fin.ext (by show y2.val / 128 = k.val; rw [h2']; omega)
  have e1 : y1 = x1 := Fin.ext h1'
  have e2 : (⟨y2.val % 128, Nat.mod_lt _ (by omega)⟩ : Fin 128) = x2 := Fin.ext (by show y2.val % 128 = x2.val; rw [h2']; omega)
  rw [e, e1, e2]

/-- Sixteen heads side by side, at an element of the row. -/
theorem row_at (p : Fin 16 → Vec Ideal S1x256x128 .bf16) (y : S1x256x2048.Idx) :
    View.canon (heads p) y
      = p ⟨(y 2).val / 128, Nat.div_lt_of_lt_mul (y 2).isLt⟩ (ix3 0 (y 1) ⟨(y 2).val % 128, Nat.mod_lt _ (by omega)⟩) := by
  unfold heads
  canon_tiles x hx
  · exact head_piece p _ _ 15 x hx1 hx2
  · exact head_piece p _ _ 14 x hx1 hx2
  · exact head_piece p _ _ 13 x hx1 hx2
  · exact head_piece p _ _ 12 x hx1 hx2
  · exact head_piece p _ _ 11 x hx1 hx2
  · exact head_piece p _ _ 10 x hx1 hx2
  · exact head_piece p _ _ 9 x hx1 hx2
  · exact head_piece p _ _ 8 x hx1 hx2
  · exact head_piece p _ _ 7 x hx1 hx2
  · exact head_piece p _ _ 6 x hx1 hx2
  · exact head_piece p _ _ 5 x hx1 hx2
  · exact head_piece p _ _ 4 x hx1 hx2
  · exact head_piece p _ _ 3 x hx1 hx2
  · exact head_piece p _ _ 2 x hx1 hx2
  · exact head_piece p _ _ 1 x hx1 hx2
  · exact head_piece p _ _ 0 x hx1 (hx2.trans (Nat.zero_add _).symm)

/-- At a lane of one of them. -/
theorem heads_at (p : Fin 16 → Vec Ideal S1x256x128 .bf16) (r : Fin 256) (h : Fin 16) (d : Fin 128) :
    View.canon (heads p) (ix3 0 r ⟨128 * h.val + d.val, by omega⟩) = p h (ix3 0 r d) :=
  (row_at p _).trans (head_piece p r ⟨128 * h.val + d.val, by omega⟩ h (ix3 0 r d) rfl rfl).symm

end Cert.Kernel6Ideal.MlaIn
-- ==== Proof.MlaInBlocks.lean ====
module

public import proofs.«01_k».proof.Proof.MlaInHost
public import proofs.«01_k».proof.Proof.MlaInRows
public import Idealize.ShloMosaic.Lib.StableHlo.ReadAt

/-!
# The latent attention's projections: the blocks a grid point loads

Each block at one element, as an element of the arguments or of the tables and weights the host builds from them.
-/

@[expose] public section

set_option maxRecDepth 16384

noncomputable section

namespace Cert.Kernel6Ideal.MlaIn

open Cert.Kernel6Ideal Cert.Kernel6Ideal.Gen Idealize.ShloMosaic Idealize.ShloMosaic.TcCoe Idealize.SL.Sem
open Cert.MlaIn

/-- The windows' blocks at each grid point: batch and tile. -/
theorem idx : ∀ t : Fin cfg0.N,
    win0_0.index t = ![t.val / 9, t.val % 9, 0] ∧ win0_2.index t = ![t.val / 9, 0, 0]
    ∧ win0_12.index t = ![t.val % 9, 0] ∧ win0_13.index t = ![t.val % 9, 0] ∧ win0_14.index t = ![t.val % 9, 0] ∧ win0_15.index t = ![t.val % 9, 0]
    ∧ win0_16.index t = ![t.val / 9, 0, 0] ∧ win0_17.index t = ![t.val / 9, t.val % 9 - 1, 0]
    ∧ win0_18.index t = ![t.val / 9, t.val % 9, 0] ∧ win0_19.index t = ![t.val / 9, t.val % 9, 0] ∧ (grid0.coords t 1).val = t.val % 9 :=
  (by decide +kernel : ∀ t : Fin grid0.N, _)

/-- The blocks that are the same at every grid point. -/
theorem idx0 : ∀ t : Fin cfg0.N,
    win0_1.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

variable (m : (ℓ : Loc nD τ sig) → Buf (Elt Ideal) ℓ)

/-- The query columns of the down-projection's weight. -/
theorem v1_at (c : Dev nD) (k : Fin 1024) (l : Fin 384) :
    (V m c main_v1 : FVec Ideal S1024x384 .bf16) (ix2 k l) = (m ((c : Thread nD τ).loc main_arg3) : FVec Ideal S1024x672 .f32) (ix2 k ⟨l.val, by omega⟩) := by
  after_reads_at

/-- Its key and value columns. -/
theorem v3_at (c : Dev nD) (k : Fin 1024) (l : Fin 256) :
    (V m c main_v3 : FVec Ideal S1024x256 .bf16) (ix2 k l) = (m ((c : Thread nD τ).loc main_arg3) : FVec Ideal S1024x672 .f32) (ix2 k ⟨384 + l.val, by omega⟩) := by
  after_reads_at

/-- The value columns of the keys' and values' weight. -/
theorem v39_at (c : Dev nD) (k : Fin 256) (h : Fin 16) (d : Fin 64) :
    (V m c main_v39 : FVec Ideal S256x1024 .bf16) (ix2 k ⟨64 * h.val + d.val, by omega⟩)
      = (m ((c : Thread nD τ).loc main_arg7) : FVec Ideal S256x2048 .f32) (ix2 k ⟨128 * h.val + (64 + d.val), by omega⟩) := by
  after_reads_at
  exact congrArg (fun q => (m ((c : Thread nD τ).loc main_arg7) : FVec Ideal S256x2048 .f32) (ix2 k q)) (Fin.ext (by dsimp only; omega))

/-- The stream's gain. -/
theorem v96_at (c : Dev nD) (k : Fin 1024) :
    (V m c main_v96 : FVec Ideal S1x1024 .f32) (ix2 0 k) = (m ((c : Thread nD τ).loc main_arg2) : FVec Ideal S1024 .f32) (ix1 k) := by
  after_reads_at

/-- The compressed queries' gain. -/
theorem v97_at (c : Dev nD) (k : Fin 384) :
    (V m c main_v97 : FVec Ideal S1x384 .f32) (ix2 0 k) = (m ((c : Thread nD τ).loc main_arg4) : FVec Ideal S384 .f32) (ix1 k) := by
  after_reads_at

/-- The compressed keys' and values' gain. -/
theorem v98_at (c : Dev nD) (k : Fin 256) :
    (V m c main_v98 : FVec Ideal S1x256 .f32) (ix2 0 k) = (m ((c : Thread nD τ).loc main_arg6) : FVec Ideal S256 .f32) (ix1 k) := by
  after_reads_at

/-- The tile's rows are the stream's. -/
theorem x_at (c : Dev nD) (t : Fin cfg0.N) (r : Fin 256) (k : Fin 1024) :
    (iblk m c 0 t : Vec Ideal S1x256x1024 .f32) (ix3 0 r k)
      = (m ((c : Thread nD τ).loc main_arg0) : FVec Ideal S16x2304x1024 .f32) (ix3 (Stream.bat t) (Stream.tok t r) k) := by
  have ht : t.val < 144 := t.isLt
  unfold Stream.bat Stream.tok
  blk_ext [iblk, V, idx t]

/-- A block that is the whole array reads the array: the gain's. -/
theorem g_at (c : Dev nD) (t : Fin cfg0.N) (k : Fin 1024) :
    (iblk m c 1 t : Vec Ideal S1x1024 .f32) (ix2 0 k) = (m ((c : Thread nD τ).loc main_arg2) : FVec Ideal S1024 .f32) (ix1 k) := by
  have he : ((cfg0.win 1).blk t).view.emb (ix2 0 k) = (ix2 0 k : S1x1024.Idx) := by blk_ext [idx0 t]
  exact (congrArg (V m c main_v96 : FVec Ideal S1x1024 .f32) he).trans (v96_at m c k)

/-- The down-projection's query columns. -/
theorem wdq_at (c : Dev nD) (t : Fin cfg0.N) (k : Fin 1024) (l : Fin 384) :
    (iblk m c 3 t : Vec Ideal S1024x384 .bf16) (ix2 k l) = (m ((c : Thread nD τ).loc main_arg3) : FVec Ideal S1024x672 .f32) (ix2 k ⟨l.val, by omega⟩) := by
  have he : ((cfg0.win 3).blk t).view.emb (ix2 k l) = (ix2 k l : S1024x384.Idx) := by blk_ext [idx0 t]
  exact (congrArg (V m c main_v1 : FVec Ideal S1024x384 .bf16) he).trans (v1_at m c k l)

/-- Its key and value columns. -/
theorem wdkv_at (c : Dev nD) (t : Fin cfg0.N) (k : Fin 1024) (l : Fin 256) :
    (iblk m c 4 t : Vec Ideal S1024x256 .bf16) (ix2 k l) = (m ((c : Thread nD τ).loc main_arg3) : FVec Ideal S1024x672 .f32) (ix2 k ⟨384 + l.val, by omega⟩) := by
  have he : ((cfg0.win 4).blk t).view.emb (ix2 k l) = (ix2 k l : S1024x256.Idx) := by blk_ext [idx0 t]
  exact (congrArg (V m c main_v3 : FVec Ideal S1024x256 .bf16) he).trans (v3_at m c k l)

/-- Its position columns. -/
theorem wplo_at (c : Dev nD) (t : Fin cfg0.N) (k : Fin 1024) (d : Fin 128) :
    (iblk m c 5 t : Vec Ideal S1024x256 .bf16) (ix2 k ⟨d.val, by omega⟩) = wp (m ((c : Thread nD τ).loc main_arg3)) k d := by
  have he : ((cfg0.win 5).blk t).view.emb (ix2 k ⟨d.val, by omega⟩) = (ix2 k ⟨d.val, by omega⟩ : S1024x256.Idx) := by blk_ext [idx0 t]
  exact (congrArg (V m c main_v15 : FVec Ideal S1024x256 .bf16) he).trans (v15lo_at m c k d)

/-- The same exchanged. -/
theorem wphi_at (c : Dev nD) (t : Fin cfg0.N) (k : Fin 1024) (d : Fin 128) :
    (iblk m c 5 t : Vec Ideal S1024x256 .bf16) (ix2 k ⟨128 + d.val, by omega⟩) = wps (m ((c : Thread nD τ).loc main_arg3)) k d := by
  have he : ((cfg0.win 5).blk t).view.emb (ix2 k ⟨128 + d.val, by omega⟩) = (ix2 k ⟨128 + d.val, by omega⟩ : S1024x256.Idx) := by blk_ext [idx0 t]
  exact (congrArg (V m c main_v15 : FVec Ideal S1024x256 .bf16) he).trans (v15hi_at m c k d)

/-- The compressed queries' gain's block. -/
theorem qn_at (c : Dev nD) (t : Fin cfg0.N) (l : Fin 384) :
    (iblk m c 6 t : Vec Ideal S1x384 .f32) (ix2 0 l) = (m ((c : Thread nD τ).loc main_arg4) : FVec Ideal S384 .f32) (ix1 l) := by
  have he : ((cfg0.win 6).blk t).view.emb (ix2 0 l) = (ix2 0 l : S1x384.Idx) := by blk_ext [idx0 t]
  exact (congrArg (V m c main_v97 : FVec Ideal S1x384 .f32) he).trans (v97_at m c l)

/-- The compressed keys' and values' gain's block. -/
theorem kn_at (c : Dev nD) (t : Fin cfg0.N) (l : Fin 256) :
    (iblk m c 7 t : Vec Ideal S1x256 .f32) (ix2 0 l) = (m ((c : Thread nD τ).loc main_arg6) : FVec Ideal S256 .f32) (ix1 l) := by
  have he : ((cfg0.win 7).blk t).view.emb (ix2 0 l) = (ix2 0 l : S1x256.Idx) := by blk_ext [idx0 t]
  exact (congrArg (V m c main_v98 : FVec Ideal S1x256 .f32) he).trans (v98_at m c l)

/-- The query weight's block. -/
theorem wuq_at (c : Dev nD) (t : Fin cfg0.N) (k : Fin 384) (h : Fin 16) (d : Fin 128) :
    (iblk m c 8 t : Vec Ideal S384x2048 .bf16) (ix2 k ⟨128 * h.val + d.val, by omega⟩) = wq (m ((c : Thread nD τ).loc main_arg5)) k h d := by
  have he : ((cfg0.win 8).blk t).view.emb (ix2 k ⟨128 * h.val + d.val, by omega⟩) = (ix2 k ⟨128 * h.val + d.val, by omega⟩ : S384x2048.Idx) := by blk_ext [idx0 t]
  exact (congrArg (V m c main_v20 : FVec Ideal S384x2048 .bf16) he).trans (v20_at m c k h d)

/-- The exchanged query weight's block. -/
theorem wus_at (c : Dev nD) (t : Fin cfg0.N) (k : Fin 384) (h : Fin 16) (d : Fin 128) :
    (iblk m c 9 t : Vec Ideal S384x2048 .bf16) (ix2 k ⟨128 * h.val + d.val, by omega⟩) = ws (m ((c : Thread nD τ).loc main_arg5)) k h d := by
  have he : ((cfg0.win 9).blk t).view.emb (ix2 k ⟨128 * h.val + d.val, by omega⟩) = (ix2 k ⟨128 * h.val + d.val, by omega⟩ : S384x2048.Idx) := by blk_ext [idx0 t]
  exact (congrArg (V m c main_v30 : FVec Ideal S384x2048 .bf16) he).trans (v30_at m c k h d)

/-- The key weight's block. -/
theorem wuk_at (c : Dev nD) (t : Fin cfg0.N) (k : Fin 256) (h : Fin 16) (d : Fin 128) :
    (iblk m c 10 t : Vec Ideal S256x2048 .bf16) (ix2 k ⟨128 * h.val + d.val, by omega⟩) = wk (m ((c : Thread nD τ).loc main_arg7)) k h d := by
  have he : ((cfg0.win 10).blk t).view.emb (ix2 k ⟨128 * h.val + d.val, by omega⟩) = (ix2 k ⟨128 * h.val + d.val, by omega⟩ : S256x2048.Idx) := by blk_ext [idx0 t]
  exact (congrArg (V m c main_v36 : FVec Ideal S256x2048 .bf16) he).trans (v36_at m c k h d)

/-- The value weight's block. -/
theorem wuv_at (c : Dev nD) (t : Fin cfg0.N) (k : Fin 256) (h : Fin 16) (d : Fin 64) :
    (iblk m c 11 t : Vec Ideal S256x1024 .bf16) (ix2 k ⟨64 * h.val + d.val, by omega⟩) = (m ((c : Thread nD τ).loc main_arg7) : FVec Ideal S256x2048 .f32) (ix2 k ⟨128 * h.val + (64 + d.val), by omega⟩) := by
  have he : ((cfg0.win 11).blk t).view.emb (ix2 k ⟨64 * h.val + d.val, by omega⟩) = (ix2 k ⟨64 * h.val + d.val, by omega⟩ : S256x1024.Idx) := by blk_ext [idx0 t]
  exact (congrArg (V m c main_v39 : FVec Ideal S256x1024 .bf16) he).trans (v39_at m c k h d)

/-- The first query table's block is its tile. -/
theorem tq1_at (c : Dev nD) (t : Fin cfg0.N) (r : Fin 256) (d : Fin 128) :
    (iblk m c 12 t : Vec Ideal S256x128 .f32) (ix2 r d) = tabA (m ((c : Thread nD τ).loc main_arg8)) (Stream.tok t r) d * scale := by
  have ht : t.val < 144 := t.isLt
  have he : ((cfg0.win 12).blk t).view.emb (ix2 r d) = (ix2 (Stream.tok t r) d : S2304x128.Idx) := by
    unfold Stream.tok
    blk_ext [idx t]
  exact (congrArg (V m c main_v65 : FVec Ideal S2304x128 .f32) he).trans (v65_at m c _ d)

/-- The second's. -/
theorem tq2_at (c : Dev nD) (t : Fin cfg0.N) (r : Fin 256) (d : Fin 128) :
    (iblk m c 13 t : Vec Ideal S256x128 .f32) (ix2 r d) = tabB (m ((c : Thread nD τ).loc main_arg9)) (Stream.tok t r) d * scale := by
  have ht : t.val < 144 := t.isLt
  have he : ((cfg0.win 13).blk t).view.emb (ix2 r d) = (ix2 (Stream.tok t r) d : S2304x128.Idx) := by
    unfold Stream.tok
    blk_ext [idx t]
  exact (congrArg (V m c main_v67 : FVec Ideal S2304x128 .f32) he).trans (v67_at m c _ d)

/-- The first key table's. -/
theorem tk1_at (c : Dev nD) (t : Fin cfg0.N) (r : Fin 256) (d : Fin 128) :
    (iblk m c 14 t : Vec Ideal S256x128 .f32) (ix2 r d) = tabA (m ((c : Thread nD τ).loc main_arg8)) (Stream.tok t r) d * Ideal.ofBits FTy.f32 0x3F800000#32 := by
  have ht : t.val < 144 := t.isLt
  have he : ((cfg0.win 14).blk t).view.emb (ix2 r d) = (ix2 (Stream.tok t r) d : S2304x128.Idx) := by
    unfold Stream.tok
    blk_ext [idx t]
  exact (congrArg (V m c main_v93 : FVec Ideal S2304x128 .f32) he).trans (v93_at m c _ d)

/-- The second's. -/
theorem tk2_at (c : Dev nD) (t : Fin cfg0.N) (r : Fin 256) (d : Fin 128) :
    (iblk m c 15 t : Vec Ideal S256x128 .f32) (ix2 r d) = tabB (m ((c : Thread nD τ).loc main_arg9)) (Stream.tok t r) d * Ideal.ofBits FTy.f32 0x3F800000#32 := by
  have ht : t.val < 144 := t.isLt
  have he : ((cfg0.win 15).blk t).view.emb (ix2 r d) = (ix2 (Stream.tok t r) d : S2304x128.Idx) := by
    unfold Stream.tok
    blk_ext [idx t]
  exact (congrArg (V m c main_v95 : FVec Ideal S2304x128 .f32) he).trans (v95_at m c _ d)

/-- The modulation's block is its batch's two rows. -/
theorem mod_at (c : Dev nD) (t : Fin cfg0.N) (p : Fin 2) (q : Fin 8) (e : Fin 1024) (n : Fin 32) (hn : n.val = t.val / 9 * 2 + p.val) :
    (iblk m c 2 t : Vec Ideal S2x8x1024 .f32) (ix3 p q e) = (m ((c : Thread nD τ).loc main_arg1) : FVec Ideal S32x8x1024 .f32) (ix3 n q e) := by
  have ht : t.val < 144 := t.isLt
  blk_ext [iblk, V, idx t]

/-- One row of a modulation block loaded. -/
theorem ld01 (x : Vec Ideal S2x8x1024 .f32) (e : Fin 1024) : View.ld x (Rect.unit (s := S2x8x1024) ![0, 1, 0] S1x1x1024.size inb_S2x8x1024_S1x1x1024_0_1_0) (ix3 0 0 e) = x (ix3 0 1 e) := by
  pointwise

/-- One row of a modulation block loaded. -/
theorem ld11 (x : Vec Ideal S2x8x1024 .f32) (e : Fin 1024) : View.ld x (Rect.unit (s := S2x8x1024) ![1, 1, 0] S1x1x1024.size inb_S2x8x1024_S1x1x1024_1_1_0) (ix3 0 0 e) = x (ix3 1 1 e) := by
  pointwise

/-- One row of a modulation block loaded. -/
theorem ld00 (x : Vec Ideal S2x8x1024 .f32) (e : Fin 1024) : View.ld x (Rect.unit (s := S2x8x1024) ![0, 0, 0] S1x1x1024.size inb_S2x8x1024_S1x1x1024_0_0_0) (ix3 0 0 e) = x (ix3 0 0 e) := by
  pointwise

/-- One row of a modulation block loaded. -/
theorem ld10 (x : Vec Ideal S2x8x1024 .f32) (e : Fin 1024) : View.ld x (Rect.unit (s := S2x8x1024) ![1, 0, 0] S1x1x1024.size inb_S2x8x1024_S1x1x1024_1_0_0) (ix3 0 0 e) = x (ix3 1 0 e) := by
  pointwise

/-- A load of a whole block is the block. -/
theorem ld_all {S : Shape} {e : EltTy} {off : Fin S.rank → Nat} (h : ∀ a, off a = 0) (inb : ∀ a, off a + S.size a ≤ S.size a) (x : Vec Ideal S e) (j : S.Idx) :
    View.ld x (Rect.unit (s := S) off S.size inb) j = x j :=
  congrFun (View.ld_unit_lit inb x h) j

/-- A tile's rows from the blocks the body is given. -/
theorem tile_of (i : grid0.Coords) (x0 : Vec Ideal S1x256x1024 .f32) (x1 : Vec Ideal S1x1024 .f32) (x2 : Vec Ideal S2x8x1024 .f32) (r : Fin 256) (e : Fin 1024) :
    hbOf (F := Ideal) i x0 x1 x2 (ix2 r e)
    = Stream.normed (fun k => x0 (ix3 0 r k)) (fun k => x1 (ix2 0 k)) e
        * (1 + if (i 1).val = 0 then x2 (ix3 0 1 e) else x2 (ix3 1 1 e)) + if (i 1).val = 0 then x2 (ix3 0 0 e) else x2 (ix3 1 0 e) := by
  refine (hb_at _ _ _ _ _ _ _ _ _).trans ?_
  have hx : ∀ k : Fin 1024, View.ld x0 (Rect.unit (s := S1x256x1024) ![0, 0, 0] S1x256x1024.size inb_S1x256x1024_S1x256x1024_0_0_0) (ix3 0 r k) = x0 (ix3 0 r k) :=
    fun k => ld_all (by decide) _ x0 _
  have hg : ∀ k : Fin 1024, View.ld x1 (Rect.unit (s := S1x1024) ![0, 0] S1x1024.size inb_S1x1024_S1x1024_0_0) (ix2 0 k) = x1 (ix2 0 k) :=
    fun k => ld_all (by decide) _ x1 _
  rw [funext hx, funext hg, ld01, ld11, ld00, ld10]

/-- The modulation row of a token, chosen between the two rows of its block. -/
theorem mod_row (c : Dev nD) (t : Fin cfg0.N) (r : Fin 256) (q : Fin 8) (e : Fin 1024) :
    (if t.val % 9 = 0 then (iblk m c 2 t : Vec Ideal S2x8x1024 .f32) (ix3 0 q e) else (iblk m c 2 t : Vec Ideal S2x8x1024 .f32) (ix3 1 q e))
    = (m ((c : Thread nD τ).loc main_arg1) : FVec Ideal S32x8x1024 .f32) (ix3 (Stream.row (Stream.bat t) (Stream.tok t r)) q e) := by
  have hr := Stream.row_tok t r
  by_cases h9 : t.val % 9 = 0
  · rw [if_pos h9] at hr
    rw [if_pos h9]
    exact mod_at m c t 0 q e _ hr
  · rw [if_neg h9] at hr
    rw [if_neg h9]
    exact mod_at m c t 1 q e _ hr

/-- A tile's rows, normalised and modulated, are the reference's. -/
theorem tile_at (c : Dev nD) (t : Fin cfg0.N) (r : Fin 256) (e : Fin 1024) :
    hbOf (F := Ideal) (grid0.coords t) (iblk m c 0 t) (iblk m c 1 t) (iblk m c 2 t) (ix2 r e)
    = Stream.modulated (m ((c : Thread nD τ).loc main_arg0)) (m ((c : Thread nD τ).loc main_arg2)) (m ((c : Thread nD τ).loc main_arg1))
        (Stream.bat t) (Stream.tok t r) e := by
  have hi : (grid0.coords t 1).val = t.val % 9 := (idx t).2.2.2.2.2.2.2.2.2.2
  refine (tile_of (grid0.coords t) (iblk m c 0 t) (iblk m c 1 t) (iblk m c 2 t) r e).trans ?_
  rw [hi]
  refine congrArg₂ (· + ·) (congrArg₂ (· * ·) ?_ (congrArg (1 + ·) (mod_row m c t r 1 e))) (mod_row m c t r 0 e)
  exact congrArg₂ (fun x g => Stream.normed x g e) (funext fun k => x_at m c t r k) (funext fun k => g_at m c t k)

end Cert.Kernel6Ideal.MlaIn
-- ==== Proof.MlaInPoint.lean ====
module

public import proofs.«01_k».proof.Proof.MlaInBlocks

/-!
# The latent attention's projections: what a grid point stores, from its blocks

The queries, keys and values of a point at one element, in terms of the blocks its body loads.
-/

@[expose] public section

set_option maxRecDepth 16384

noncomputable section

namespace Cert.Kernel6Ideal.MlaIn

open Cert.Kernel6Ideal Cert.Kernel6Ideal.Gen Idealize.ShloMosaic Idealize.ShloMosaic.TcCoe Idealize.SL.Sem
open Cert.MlaIn

/-- The compressed queries of a point, normalised. -/
theorem cq_of (i : grid0.Coords) (x0 : Vec Ideal S1x256x1024 .f32) (x1 : Vec Ideal S1x1024 .f32) (x2 : Vec Ideal S2x8x1024 .f32)
    (x3 : Vec Ideal S1024x384 .bf16) (x6 : Vec Ideal S1x384 .f32) (r : Fin 256) (l : Fin 384) :
    cqOf (F := Ideal) i x0 x1 x2 x3 x6 (ix2 r l)
      = rmsQ (fun l => ∑ k : Fin 1024, hbOf (F := Ideal) i x0 x1 x2 (ix2 r k) * x3 (ix2 k l)) (fun l => x6 (ix2 0 l)) l := by
  refine (cq_at _ _ _ _ _ _ r l).trans ?_
  refine congrArg₂ (fun f g => rmsQ f g l) (funext fun l => Finset.sum_congr rfl fun k _ => congrArg (_ * ·) ?_) (funext fun l => ?_)
  · exact ld_all (by decide) _ x3 _
  · exact ld_all (by decide) _ x6 _

/-- The compressed keys and values of a point, normalised. -/
theorem ckv_of (i : grid0.Coords) (x0 : Vec Ideal S1x256x1024 .f32) (x1 : Vec Ideal S1x1024 .f32) (x2 : Vec Ideal S2x8x1024 .f32)
    (x4 : Vec Ideal S1024x256 .bf16) (x7 : Vec Ideal S1x256 .f32) (r : Fin 256) (l : Fin 256) :
    k0_pay43 (F := Ideal) (kvOf i x0 x1 x2 x4) (k0_pay41 (View.ld x7 (Rect.unit (s := S1x256) ![0, 0] S1x256.size inb_S1x256_S1x256_0_0))) (kvMs i x0 x1 x2 x4) (ix2 r l)
      = rmsKV (fun l => ∑ k : Fin 1024, hbOf (F := Ideal) i x0 x1 x2 (ix2 r k) * x4 (ix2 k l)) (fun l => x7 (ix2 0 l)) l := by
  refine (kv_at _ _ _ _ _ _ r l).trans ?_
  refine congrArg₂ (fun f g => rmsKV f g l) (funext fun l => Finset.sum_congr rfl fun k _ => congrArg (_ * ·) ?_) (funext fun l => ?_)
  · exact ld_all (by decide) _ x4 _
  · exact ld_all (by decide) _ x7 _

/-- The queries of a point. -/
theorem outQ_of (i : grid0.Coords) (x0 : Vec Ideal S1x256x1024 .f32) (x1 : Vec Ideal S1x1024 .f32) (x2 : Vec Ideal S2x8x1024 .f32)
    (x3 : Vec Ideal S1024x384 .bf16) (x6 : Vec Ideal S1x384 .f32) (x8 x9 : Vec Ideal S384x2048 .bf16) (x12 x13 : Vec Ideal S256x128 .f32)
    (r : Fin 256) (h : Fin 16) (d : Fin 128) :
    outQ (F := Ideal) i x0 x1 x2 x3 x6 x8 x9 x12 x13 (ix3 0 r ⟨128 * h.val + d.val, by omega⟩)
      = (∑ k : Fin 384, rmsQ (fun l => ∑ k : Fin 1024, hbOf (F := Ideal) i x0 x1 x2 (ix2 r k) * x3 (ix2 k l)) (fun l => x6 (ix2 0 l)) k
            * x8 (ix2 k ⟨128 * h.val + d.val, by omega⟩)) * x12 (ix2 r d)
        + (∑ k : Fin 384, rmsQ (fun l => ∑ k : Fin 1024, hbOf (F := Ideal) i x0 x1 x2 (ix2 r k) * x3 (ix2 k l)) (fun l => x6 (ix2 0 l)) k
            * x9 (ix2 k ⟨128 * h.val + d.val, by omega⟩)) * x13 (ix2 r d) := by
  refine (heads_at _ r h d).trans ?_
  refine (qHead_at h _ _ _ _ 0 r d).trans ?_
  refine congrArg₂ (· + ·) (congrArg₂ (· * ·) ?_ ?_) (congrArg₂ (· * ·) ?_ ?_)
  · refine (q1_at _ _ _ _).trans (Finset.sum_congr rfl fun k _ => congrArg₂ (· * ·) (cq_of i x0 x1 x2 x3 x6 r k) (ld_all (by decide) _ x8 _))
  · exact (tab_at _ r d).1.trans (ld_all (by decide) _ x12 _)
  · refine (q2_at _ _ _ _).trans (Finset.sum_congr rfl fun k _ => congrArg₂ (· * ·) (cq_of i x0 x1 x2 x3 x6 r k) (ld_all (by decide) _ x9 _))
  · exact (tab_at _ r d).2.trans (ld_all (by decide) _ x13 _)

/-- The keys of a point. -/
theorem outK_of (i : grid0.Coords) (x0 : Vec Ideal S1x256x1024 .f32) (x1 : Vec Ideal S1x1024 .f32) (x2 : Vec Ideal S2x8x1024 .f32)
    (x4 x5 : Vec Ideal S1024x256 .bf16) (x7 : Vec Ideal S1x256 .f32) (x10 : Vec Ideal S256x2048 .bf16) (x14 x15 : Vec Ideal S256x128 .f32)
    (r : Fin 256) (h : Fin 16) (d : Fin 128) :
    outK (F := Ideal) i x0 x1 x2 x4 x5 x7 x10 x14 x15 (ix3 0 r ⟨128 * h.val + d.val, by omega⟩)
      = (∑ k : Fin 256, rmsKV (fun l => ∑ k : Fin 1024, hbOf (F := Ideal) i x0 x1 x2 (ix2 r k) * x4 (ix2 k l)) (fun l => x7 (ix2 0 l)) k
            * x10 (ix2 k ⟨128 * h.val + d.val, by omega⟩))
        + ((∑ k : Fin 1024, hbOf (F := Ideal) i x0 x1 x2 (ix2 r k) * x5 (ix2 k ⟨d.val, by omega⟩)) * x14 (ix2 r d)
          + (∑ k : Fin 1024, hbOf (F := Ideal) i x0 x1 x2 (ix2 r k) * x5 (ix2 k ⟨128 + d.val, by omega⟩)) * x15 (ix2 r d)) := by
  refine (heads_at _ r h d).trans ?_
  refine (kHead_at h _ _ 0 r d).trans ?_
  refine congrArg₂ (· + ·) ?_ ?_
  · exact (k1_at _ _ _ _ _ _).trans (Finset.sum_congr rfl fun k _ => congrArg₂ (· * ·) (ckv_of i x0 x1 x2 x4 x7 r k) (ld_all (by decide) _ x10 _))
  · refine (pe_at _ _ _ _ r d).trans ?_
    refine congrArg₂ (· + ·) (congrArg₂ (· * ·) (Finset.sum_congr rfl fun k _ => congrArg (_ * ·) ?_) ?_)
      (congrArg₂ (· * ·) (Finset.sum_congr rfl fun k _ => congrArg (_ * ·) ?_) ?_)
    · exact ld_all (by decide) _ x5 _
    · exact ld_all (by decide) _ x14 _
    · exact ld_all (by decide) _ x5 _
    · exact ld_all (by decide) _ x15 _

/-- The values of a point. -/
theorem outV_of (i : grid0.Coords) (x0 : Vec Ideal S1x256x1024 .f32) (x1 : Vec Ideal S1x1024 .f32) (x2 : Vec Ideal S2x8x1024 .f32)
    (x4 : Vec Ideal S1024x256 .bf16) (x7 : Vec Ideal S1x256 .f32) (x11 : Vec Ideal S256x1024 .bf16) (r : Fin 256) (l : Fin 1024) :
    outV (F := Ideal) i x0 x1 x2 x4 x7 x11 (ix3 0 r l)
      = ∑ k : Fin 256, rmsKV (fun l => ∑ k : Fin 1024, hbOf (F := Ideal) i x0 x1 x2 (ix2 r k) * x4 (ix2 k l)) (fun l => x7 (ix2 0 l)) k
          * x11 (ix2 k l) := by
  unfold outV
  refine (congrFun (View.canon_cons_unit_lit inb_S1x256x1024_S1x256x1024_0_0_0 _ [] (by decide)) _).trans ?_
  exact (v_at _ _ 0 r l).trans (Finset.sum_congr rfl fun k _ => congrArg₂ (· * ·) (ckv_of i x0 x1 x2 x4 x7 r k) (ld_all (by decide) _ x11 _))

end Cert.Kernel6Ideal.MlaIn
-- ==== Proof.MlaInAlg.lean ====
module

public import proofs.«01_k».proof.Proof.MlaInHost

/-!
# The latent attention's projections: the algebra

A product with a weight whose columns are partly zero is the product over the kept columns and zero elsewhere; the two
products a head's lanes are made of, each times its table, add up to the rotated lanes, and the scale inside the tables is the
scale of the sum.
-/

@[expose] public section

set_option maxRecDepth 16384

noncomputable section

namespace Cert.Kernel6Ideal.MlaIn

open Cert.Kernel6Ideal Cert.Kernel6Ideal.Gen Idealize.ShloMosaic Idealize.ShloMosaic.TcCoe Idealize.SL.Sem
open Cert.MlaIn

/-- A sum of products with a factor that is zero unless a condition holds. -/
theorem sum_dite {ι : Type} [Fintype ι] {p : Prop} [Decidable p] (f : ι → EReal) (g : ι → p → EReal) :
    (∑ k, f k * (if h : p then g k h else 0)) = if h : p then ∑ k, f k * g k h else 0 := by
  by_cases h : p
  · rw [dif_pos h]
    exact Finset.sum_congr rfl fun k _ => by rw [dif_pos h]
  · rw [dif_neg h]
    exact Finset.sum_eq_zero fun k _ => by rw [dif_neg h, mul_zero]

/-- The same with two conditions, the first making it zero. -/
theorem sum_dite_mid {ι : Type} [Fintype ι] {p q : Prop} [Decidable p] [Decidable q] (f : ι → EReal) (g : ι → ¬ p → q → EReal) :
    (∑ k, f k * (if h : p then 0 else if h' : q then g k h h' else 0))
      = if h : p then 0 else if h' : q then ∑ k, f k * g k h h' else 0 := by
  by_cases h : p
  · rw [dif_pos h]
    exact Finset.sum_eq_zero fun k _ => by rw [dif_pos h, mul_zero]
  · rw [dif_neg h]
    by_cases h' : q
    · rw [dif_pos h']
      exact Finset.sum_congr rfl fun k _ => by rw [dif_neg h, dif_pos h']
    · rw [dif_neg h']
      exact Finset.sum_eq_zero fun k _ => by rw [dif_neg h, dif_neg h', mul_zero]

/-- The scale is a nonnegative real number. -/
theorem scale_real : ∃ s : ℝ, 0 ≤ s ∧ scale = (s : EReal) := by
  unfold scale
  simp [Ideal.ofBits, Ideal.ieee]
  rw [← EReal.coe_mul]
  exact ⟨_, by positivity, rfl⟩

/-- The scale goes out of a sum of two. -/
theorem scale_add (a b : EReal) : a * scale + b * scale = (a + b) * scale := by
  obtain ⟨s, hs, e⟩ := scale_real
  rw [e]
  exact (EReal.right_distrib_of_nonneg_of_ne_top (by exact_mod_cast hs) (EReal.coe_ne_top s) _ _).symm

/-- The two products of a context token's query lane, each times its table. -/
theorem q_ctx (u : Fin 1536 → EReal) (C S : FVec Ideal S2048x16 .f32) (n : Fin 2304) (hn : n.val < 256) (h : Fin 16) (d : Fin 128) :
    (if hd : d.val < 96 then u ⟨96 * h.val + d.val, by omega⟩ else 0) * (tabA C n d * scale)
      + (if hd : d.val < 64 then 0 else if hd' : d.val < 96 then u ⟨96 * h.val + (64 + (partner ⟨d.val - 64, by omega⟩).val), by omega⟩ else 0)
          * (tabB S n d * scale)
    = (if hd : d.val < 96 then u ⟨96 * h.val + d.val, by omega⟩ else 0) * scale := by
  unfold tabA tabB
  rw [dif_pos hn, dif_pos hn, zero_mul, mul_zero, add_zero]
  by_cases hd : d.val < 96
  · rw [dif_pos hd, dif_pos hd, one_mul]
  · rw [dif_neg hd, zero_mul, zero_mul]

/-- Of a latent token's. -/
theorem q_lat (u : Fin 1536 → EReal) (C S : FVec Ideal S2048x16 .f32) (n : Fin 2304) (hn : ¬ n.val < 256) (h : Fin 16) (d : Fin 128) :
    (if hd : d.val < 96 then u ⟨96 * h.val + d.val, by omega⟩ else 0) * (tabA C n d * scale)
      + (if hd : d.val < 64 then 0 else if hd' : d.val < 96 then u ⟨96 * h.val + (64 + (partner ⟨d.val - 64, by omega⟩).val), by omega⟩ else 0)
          * (tabB S n d * scale)
    = (if hd : d.val < 64 then u ⟨96 * h.val + d.val, by omega⟩ else
        if hd' : d.val < 96 then rot (fun j => u ⟨96 * h.val + (64 + j.val), by omega⟩) (fun f => C (ix2 ⟨n.val - 256, by omega⟩ f))
          (fun f => S (ix2 ⟨n.val - 256, by omega⟩ f)) ⟨d.val - 64, by omega⟩ else 0) * scale := by
  unfold tabA tabB rot
  rw [dif_neg hn, dif_neg hn]
  by_cases hd : d.val < 64
  · have hd' : d.val < 96 := by omega
    simp only [dif_pos hd', dif_pos hd, one_mul, zero_mul, add_zero]
  · by_cases hd' : d.val < 96
    · simp only [dif_pos hd', dif_neg hd]
      rw [← mul_assoc, ← mul_assoc, scale_add]
      refine congrArg (· * scale) (congrArg₂ (· + ·) (congrArg (· * _) (congrArg u (Fin.ext ?_))) rfl)
      show 96 * h.val + d.val = 96 * h.val + (64 + (d.val - 64))
      omega
    · simp only [dif_neg hd, dif_neg hd', zero_mul, add_zero]

/-- A key lane: the product over a head's own lanes, plus the shared position lanes, each of their two products times its table. -/
theorem k_all (u : Fin 2048 → EReal) (p : Fin 672 → EReal) (C S : FVec Ideal S2048x16 .f32) (n : Fin 2304) (h : Fin 16) (d : Fin 128) :
    (if hd : d.val < 64 then u ⟨128 * h.val + d.val, by omega⟩ else 0)
      + ((if hd : d.val < 64 then 0 else if hd' : d.val < 96 then p ⟨640 + (d.val - 64), by omega⟩ else 0)
            * (tabA C n d * Ideal.ofBits FTy.f32 0x3F800000#32)
          + (if hd : d.val < 64 then 0 else if hd' : d.val < 96 then p ⟨640 + (partner ⟨d.val - 64, by omega⟩).val, by omega⟩ else 0)
            * (tabB S n d * Ideal.ofBits FTy.f32 0x3F800000#32))
    = if hd : d.val < 64 then u ⟨128 * h.val + d.val, by omega⟩ else
        if hd' : d.val < 96 then
          (if hn : n.val < 256 then p ⟨640 + (d.val - 64), by omega⟩ else
            rot (fun j => p ⟨640 + j.val, by omega⟩) (fun f => C (ix2 ⟨n.val - 256, by omega⟩ f)) (fun f => S (ix2 ⟨n.val - 256, by omega⟩ f))
              ⟨d.val - 64, by omega⟩) else 0 := by
  unfold tabA tabB rot
  rw [Ideal.ofBits_one_f32, mul_one, mul_one]
  by_cases hd : d.val < 64
  · simp only [dif_pos hd, zero_mul, add_zero]
  · by_cases hd' : d.val < 96
    · by_cases hn : n.val < 256
      · simp only [dif_neg hd, dif_pos hd', dif_pos hn, zero_add, mul_one, mul_zero, add_zero]
      · simp only [dif_neg hd, dif_pos hd', dif_neg hn, zero_add]
    · simp only [dif_neg hd, dif_neg hd', zero_mul, add_zero]

end Cert.Kernel6Ideal.MlaIn
-- ==== Proof.MlaInValue.lean ====
module

public import proofs.«01_k».proof.Proof.MlaInPoint
public import proofs.«01_k».proof.Proof.MlaInAlg

/-!
# The latent attention's projections: the four results

The context queries, latent queries, keys and values the kernel leaves are the reference's.
-/

@[expose] public section

set_option maxRecDepth 16384

noncomputable section

namespace Cert.MlaIn

open Cert.Reference6Ideal Cert.Reference6Ideal.Gen Idealize.ShloMosaic Idealize.ShloMosaic.TcCoe Idealize.SL.Sem

variable (X : FVec Ideal S16x2304x1024 .f32) (M : FVec Ideal S32x8x1024 .f32) (G : FVec Ideal S1024 .f32) (W : FVec Ideal S1024x672 .f32)
  (QN : FVec Ideal S384 .f32) (UQ : FVec Ideal S384x1536 .f32) (KN : FVec Ideal S256 .f32) (UKV : FVec Ideal S256x2048 .f32)
  (C S : FVec Ideal S2048x16 .f32)

/-- The rows after the context's. -/
def latRows (Q : FVec Ideal S16x2304x16x96 .f32) : FVec Ideal S16x2048x16x96 .f32 :=
  extractStridedSlice S16x2048x16x96 ![0, 256, 0, 0] Q slices_S16x2304x16x96_S16x2048x16x96_0_256_0_0

/-- One of their elements. -/
theorem latRows_at (Q : FVec Ideal S16x2304x16x96 .f32) (b : Fin 16) (n : Fin 2048) (h : Fin 16) (d : Fin 96) :
    latRows Q (ix4 b n h d) = Q (ix4 b ⟨256 + n.val, by omega⟩ h d) := by
  pointwise [latRows]

/-- The reference's projected queries from the stream. -/
theorem q_ref (b : Fin 16) (n : Fin 2304) (h : Fin 16) (d : Fin 96) :
    qT (downT X M G W) QN UQ (ix4 b n h d) = up (fun l => down X M G W b n l) QN UQ ⟨96 * h.val + d.val, by omega⟩ :=
  (qT_at _ _ _ _ _ _ _).trans (congrArg (fun D => up D QN UQ _) (funext fun l => downT_at X M G W b n l))

/-- Its projected keys and values. -/
theorem kv_ref (b : Fin 16) (n : Fin 2304) (h : Fin 16) (d : Fin 128) :
    kvT (downT X M G W) KN UKV (ix4 b n h d) = upkv (fun l => down X M G W b n l) KN UKV ⟨128 * h.val + d.val, by omega⟩ :=
  (kvT_at _ _ _ _ _ _ _).trans (congrArg (fun D => upkv D KN UKV _) (funext fun l => downT_at X M G W b n l))

/-- One of the position lanes before rotation. -/
theorem pe_cols (D : FVec Ideal S16x2304x672 .f32) (b : Fin 16) (n : Fin 2304) (j : Fin 32) :
    peT D (ix3 b n j) = D (ix3 b n ⟨640 + j.val, by omega⟩) := by
  pointwise [peT]

/-- Its position lanes. -/
theorem pe_ref (b : Fin 16) (n : Fin 2304) (j : Fin 32) :
    peT (downT X M G W) (ix3 b n j) = down X M G W b n ⟨640 + j.val, by omega⟩ :=
  (pe_cols _ b n j).trans (downT_at X M G W b n _)

/-- The reference's context queries at an element. -/
theorem ctx_ref (b : Fin 16) (n : Fin 256) (h : Fin 16) (d : Fin 128) :
    ctxQ (qT (downT X M G W) QN UQ) (ix3 b n ⟨128 * h.val + d.val, by omega⟩)
      = (if hd : d.val < 96 then up (fun l => down X M G W b ⟨n.val, by omega⟩ l) QN UQ ⟨96 * h.val + d.val, by omega⟩ else 0) * scale :=
  (ctxQ_at _ b n h d).trans (congrArg (· * scale) (dite_iff Iff.rfl (fun hd _ => q_ref X M G W QN UQ b _ h ⟨d.val, hd⟩) (fun _ _ => rfl)))

/-- Its latent queries. -/
theorem lat_ref (b : Fin 16) (n : Fin 2048) (h : Fin 16) (d : Fin 128) :
    latQ (latRows (qT (downT X M G W) QN UQ)) C S (ix3 b n ⟨128 * h.val + d.val, by omega⟩)
      = (if hd : d.val < 64 then up (fun l => down X M G W b ⟨256 + n.val, by omega⟩ l) QN UQ ⟨96 * h.val + d.val, by omega⟩ else
          if hd' : d.val < 96 then
            rot (fun j => up (fun l => down X M G W b ⟨256 + n.val, by omega⟩ l) QN UQ ⟨96 * h.val + (64 + j.val), by omega⟩)
              (fun f => C (ix2 n f)) (fun f => S (ix2 n f)) ⟨d.val - 64, by omega⟩ else 0) * scale := by
  refine (latQ_at _ C S b n h d).trans (congrArg (· * scale) (dite_iff Iff.rfl (fun hd _ => ?_) (fun _ _ => dite_iff Iff.rfl (fun _ _ => ?_) (fun _ _ => rfl))))
  · exact (latRows_at _ b n h _).trans (q_ref X M G W QN UQ b _ h _)
  · exact congrArg (fun q => rot q _ _ _) (funext fun j => (latRows_at _ b n h _).trans (q_ref X M G W QN UQ b _ h _))

/-- Its keys. -/
theorem key_ref (b : Fin 16) (n : Fin 2304) (h : Fin 16) (d : Fin 128) :
    keys (kvT (downT X M G W) KN UKV) (pesT (peT (downT X M G W)) C S) (ix3 b n ⟨128 * h.val + d.val, by omega⟩)
      = if hd : d.val < 64 then upkv (fun l => down X M G W b n l) KN UKV ⟨128 * h.val + d.val, by omega⟩ else
        if hd' : d.val < 96 then
          (if hn : n.val < 256 then down X M G W b n ⟨640 + (d.val - 64), by omega⟩ else
            rot (fun j => down X M G W b n ⟨640 + j.val, by omega⟩) (fun f => C (ix2 ⟨n.val - 256, by omega⟩ f))
              (fun f => S (ix2 ⟨n.val - 256, by omega⟩ f)) ⟨d.val - 64, by omega⟩) else 0 := by
  refine (keys_at _ _ b n h d).trans (dite_iff Iff.rfl (fun _ _ => kv_ref X M G W KN UKV b n h d) (fun _ _ => dite_iff Iff.rfl (fun _ _ => ?_) (fun _ _ => rfl)))
  refine (pesT_at _ C S b n _).trans (dite_iff Iff.rfl (fun _ _ => pe_ref X M G W b n _) (fun _ _ => ?_))
  exact congrArg (fun q => rot q _ _ _) (funext fun j => pe_ref X M G W b n j)

/-- Its values. -/
theorem val_ref (b : Fin 16) (n : Fin 2304) (h : Fin 16) (d : Fin 64) :
    vals (kvT (downT X M G W) KN UKV) (ix3 b n ⟨64 * h.val + d.val, by omega⟩)
      = upkv (fun l => down X M G W b n l) KN UKV ⟨128 * h.val + (64 + d.val), by omega⟩ :=
  (vals_at _ b n h d).trans (kv_ref X M G W KN UKV b n h _)

end Cert.MlaIn

namespace Cert.Kernel6Ideal.MlaIn

open Cert.Kernel6Ideal Cert.Kernel6Ideal.Gen Idealize.ShloMosaic Idealize.ShloMosaic.TcCoe Idealize.SL.Sem
open Cert.MlaIn

variable (m : (ℓ : Loc nD τ sig) → Buf (Elt Ideal) ℓ)

/-- The down-projection of a point's token. -/
abbrev downAt (c : Dev nD) (b : Fin 16) (n : Fin 2304) (l : Fin 672) : EReal :=
  down (m ((c : Thread nD τ).loc main_arg0)) (m ((c : Thread nD τ).loc main_arg1)) (m ((c : Thread nD τ).loc main_arg2))
    (m ((c : Thread nD τ).loc main_arg3)) b n l

/-- The compressed queries of a point's token before their norm. -/
theorem cq_down (c : Dev nD) (t : Fin cfg0.N) (r : Fin 256) (l : Fin 384) :
    ∑ k : Fin 1024, hbOf (F := Ideal) (grid0.coords t) (iblk m c 0 t) (iblk m c 1 t) (iblk m c 2 t) (ix2 r k)
        * (iblk m c 3 t : Vec Ideal S1024x384 .bf16) (ix2 k l)
      = downAt m c (Stream.bat t) (Stream.tok t r) ⟨l.val, by omega⟩ :=
  Finset.sum_congr rfl fun k _ => Ideal.mul_congr (tile_at m c t r k) (wdq_at m c t k l)

/-- The compressed keys and values of a point's token before theirs. -/
theorem ckv_down (c : Dev nD) (t : Fin cfg0.N) (r : Fin 256) (l : Fin 256) :
    ∑ k : Fin 1024, hbOf (F := Ideal) (grid0.coords t) (iblk m c 0 t) (iblk m c 1 t) (iblk m c 2 t) (ix2 r k)
        * (iblk m c 4 t : Vec Ideal S1024x256 .bf16) (ix2 k l)
      = downAt m c (Stream.bat t) (Stream.tok t r) ⟨384 + l.val, by omega⟩ :=
  Finset.sum_congr rfl fun k _ => Ideal.mul_congr (tile_at m c t r k) (wdkv_at m c t k l)

/-- A point's queries, from the queries of its token. -/
theorem q_at (c : Dev nD) (t : Fin cfg0.N) (r : Fin 256) (h : Fin 16) (d : Fin 128) :
    qAt m c t (ix3 0 r ⟨128 * h.val + d.val, by omega⟩)
      = (if hd : d.val < 96 then up (fun l => downAt m c (Stream.bat t) (Stream.tok t r) l) (m ((c : Thread nD τ).loc main_arg4))
            (m ((c : Thread nD τ).loc main_arg5)) ⟨96 * h.val + d.val, by omega⟩ else 0)
          * (tabA (m ((c : Thread nD τ).loc main_arg8)) (Stream.tok t r) d * scale)
        + (if hd : d.val < 64 then 0 else if hd' : d.val < 96 then
            up (fun l => downAt m c (Stream.bat t) (Stream.tok t r) l) (m ((c : Thread nD τ).loc main_arg4))
              (m ((c : Thread nD τ).loc main_arg5)) ⟨96 * h.val + (64 + (partner ⟨d.val - 64, by omega⟩).val), by omega⟩ else 0)
          * (tabB (m ((c : Thread nD τ).loc main_arg9)) (Stream.tok t r) d * scale) := by
  refine (outQ_of (grid0.coords t) (iblk m c 0 t) (iblk m c 1 t) (iblk m c 2 t) (iblk m c 3 t) (iblk m c 6 t) (iblk m c 8 t) (iblk m c 9 t)
    (iblk m c 12 t) (iblk m c 13 t) r h d).trans ?_
  refine congrArg₂ (· + ·) (congrArg₂ (· * ·) ?_ (tq1_at m c t r d)) (congrArg₂ (· * ·) ?_ (tq2_at m c t r d))
  · exact (Finset.sum_congr rfl fun k _ => Ideal.mul_congr (congrArg₂ (fun f g => rmsQ f g k) (funext fun l => cq_down m c t r l)
      (funext fun l => qn_at m c t l)) (wuq_at m c t k h d)).trans (sum_dite _ _)
  · exact (Finset.sum_congr rfl fun k _ => Ideal.mul_congr (congrArg₂ (fun f g => rmsQ f g k) (funext fun l => cq_down m c t r l)
      (funext fun l => qn_at m c t l)) (wus_at m c t k h d)).trans (sum_dite_mid _ _)

/-- A point's keys, from the keys of its token. -/
theorem k_at (c : Dev nD) (t : Fin cfg0.N) (r : Fin 256) (h : Fin 16) (d : Fin 128) :
    kAt m c t (ix3 0 r ⟨128 * h.val + d.val, by omega⟩)
      = (if hd : d.val < 64 then upkv (fun l => downAt m c (Stream.bat t) (Stream.tok t r) l) (m ((c : Thread nD τ).loc main_arg6))
            (m ((c : Thread nD τ).loc main_arg7)) ⟨128 * h.val + d.val, by omega⟩ else 0)
        + ((if hd : d.val < 64 then 0 else if hd' : d.val < 96 then
              downAt m c (Stream.bat t) (Stream.tok t r) ⟨640 + (d.val - 64), by omega⟩ else 0)
            * (tabA (m ((c : Thread nD τ).loc main_arg8)) (Stream.tok t r) d * Ideal.ofBits FTy.f32 0x3F800000#32)
          + (if hd : d.val < 64 then 0 else if hd' : d.val < 96 then
              downAt m c (Stream.bat t) (Stream.tok t r) ⟨640 + (partner ⟨d.val - 64, by omega⟩).val, by omega⟩ else 0)
            * (tabB (m ((c : Thread nD τ).loc main_arg9)) (Stream.tok t r) d * Ideal.ofBits FTy.f32 0x3F800000#32)) := by
  refine (outK_of (grid0.coords t) (iblk m c 0 t) (iblk m c 1 t) (iblk m c 2 t) (iblk m c 4 t) (iblk m c 5 t) (iblk m c 7 t) (iblk m c 10 t)
    (iblk m c 14 t) (iblk m c 15 t) r h d).trans ?_
  refine congrArg₂ (· + ·) ?_ (congrArg₂ (· + ·) (congrArg₂ (· * ·) ?_ (tk1_at m c t r d)) (congrArg₂ (· * ·) ?_ (tk2_at m c t r d)))
  · exact (Finset.sum_congr rfl fun k _ => Ideal.mul_congr (congrArg₂ (fun f g => rmsKV f g k) (funext fun l => ckv_down m c t r l)
      (funext fun l => kn_at m c t l)) (wuk_at m c t k h d)).trans (sum_dite _ _)
  · exact (Finset.sum_congr rfl fun k _ => Ideal.mul_congr (tile_at m c t r k) (wplo_at m c t k d)).trans (sum_dite_mid _ _)
  · exact (Finset.sum_congr rfl fun k _ => Ideal.mul_congr (tile_at m c t r k) (wphi_at m c t k d)).trans (sum_dite_mid _ _)

/-- A point's values are those of its token. -/
theorem val_at (c : Dev nD) (t : Fin cfg0.N) (r : Fin 256) (h : Fin 16) (d : Fin 64) :
    vAt m c t (ix3 0 r ⟨64 * h.val + d.val, by omega⟩)
      = upkv (fun l => downAt m c (Stream.bat t) (Stream.tok t r) l) (m ((c : Thread nD τ).loc main_arg6))
          (m ((c : Thread nD τ).loc main_arg7)) ⟨128 * h.val + (64 + d.val), by omega⟩ := by
  refine (outV_of (grid0.coords t) (iblk m c 0 t) (iblk m c 1 t) (iblk m c 2 t) (iblk m c 4 t) (iblk m c 7 t) (iblk m c 11 t) r _).trans ?_
  exact Finset.sum_congr rfl fun k _ => Ideal.mul_congr (congrArg₂ (fun f g => rmsKV f g k) (funext fun l => ckv_down m c t r l)
    (funext fun l => kn_at m c t l)) (wuv_at m c t k h d)

/-- A column is a lane of one of sixteen heads of 128. -/
theorem lane128 (y : Fin 2048) : ∃ (h : Fin 16) (d : Fin 128), y = ⟨128 * h.val + d.val, by omega⟩ :=
  ⟨⟨y.val / 128, by omega⟩, ⟨y.val % 128, by omega⟩, Fin.ext (by dsimp only; omega)⟩

/-- Or of sixteen heads of 64. -/
theorem lane64 (y : Fin 1024) : ∃ (h : Fin 16) (d : Fin 64), y = ⟨64 * h.val + d.val, by omega⟩ :=
  ⟨⟨y.val / 64, by omega⟩, ⟨y.val % 64, by omega⟩, Fin.ext (by dsimp only; omega)⟩

/-- The context queries are the reference's. -/
theorem final16 (c : Dev nD) :
    (dats m 0 c).arrAt 16 cfg0.N
    = ctxQ (qT (downT (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5))) := by
  refine (dats m 0 c).arrAt_eq_of_covers 16 _ (by decide +kernel) fun t _ y => ?_
  blk_simp
  rw [after0_16]
  have ht : t.val < 144 := t.isLt
  idx_vars y
  obtain rfl : y0 = 0 := Subsingleton.elim _ _
  have hy : ((cfg0.win 16).blk t).view.emb (ix3 0 y1 y2) = (ix3 (Stream.bat t) y1 y2 : S16x256x2048.Idx) := by
    unfold Stream.bat
    blk_ext [idx t]
  refine Eq.trans ?_ (congrArg _ hy).symm
  obtain ⟨h, d, rfl⟩ := lane128 y2
  refine Eq.trans ?_ (ctx_ref _ _ _ _ _ _ (Stream.bat t) y1 h d).symm
  have hb : Stream.bat (head0 t) = Stream.bat t := Fin.ext (by unfold Stream.bat head0; dsimp only; omega)
  have hn : Stream.tok (head0 t) y1 = ⟨y1.val, by omega⟩ := Fin.ext (by unfold Stream.tok head0; dsimp only; omega)
  refine (q_at m c (head0 t) y1 h d).trans ?_
  rw [hb, hn]
  exact q_ctx _ _ _ _ (show y1.val < 256 from y1.isLt) h d

/-- The latent queries are only written back at the points of latent tokens. -/
theorem lat_flush : ∀ t : Fin cfg0.N, (cfg0.win 17).flush t = true → t.val % 9 ≠ 0 := by decide +kernel

/-- The latent queries are the reference's. -/
theorem final17 (c : Dev nD) :
    (dats m 0 c).arrAt 17 cfg0.N
    = latQ (latRows (qT (downT (m ((c : Thread nD τ).loc main_arg0)) (m ((c : Thread nD τ).loc main_arg1)) (m ((c : Thread nD τ).loc main_arg2))
        (m ((c : Thread nD τ).loc main_arg3))) (m ((c : Thread nD τ).loc main_arg4)) (m ((c : Thread nD τ).loc main_arg5))))
        (m ((c : Thread nD τ).loc main_arg8)) (m ((c : Thread nD τ).loc main_arg9)) := by
  refine (dats m 0 c).arrAt_eq_of_covers 17 _ (by decide +kernel) fun t hf y => ?_
  have h9 := lat_flush t hf
  blk_simp
  rw [after0_17]
  have ht : t.val < 144 := t.isLt
  idx_vars y
  obtain rfl : y0 = 0 := Subsingleton.elim _ _
  have hlt : (t.val % 9 - 1) * 256 + y1.val < 2048 := by
    have := y1.isLt
    omega
  have hy : ((cfg0.win 17).blk t).view.emb (ix3 0 y1 y2) = (ix3 (Stream.bat t) ⟨(t.val % 9 - 1) * 256 + y1.val, hlt⟩ y2 : S16x2048x2048.Idx) := by
    unfold Stream.bat
    blk_ext [idx t]
  refine Eq.trans ?_ (congrArg _ hy).symm
  obtain ⟨h, d, rfl⟩ := lane128 y2
  refine Eq.trans ?_ (lat_ref _ _ _ _ _ _ _ _ (Stream.bat t) _ h d).symm
  refine (q_at m c t y1 h d).trans ?_
  have hn : ¬ (Stream.tok t y1).val < 256 := by
    show ¬ t.val % 9 * 256 + y1.val < 256
    omega
  refine (q_lat _ _ _ _ hn h d).trans ?_
  have e1 : (⟨256 + ((t.val % 9 - 1) * 256 + y1.val), by omega⟩ : Fin 2304) = Stream.tok t y1 := Fin.ext (by unfold Stream.tok; dsimp only; omega)
  have e2 : (⟨(Stream.tok t y1).val - 256, by omega⟩ : Fin 2048) = ⟨(t.val % 9 - 1) * 256 + y1.val, hlt⟩ :=
    Fin.ext (by unfold Stream.tok; dsimp only; omega)
  rw [e1, e2]

/-- The keys are the reference's. -/
theorem final18 (c : Dev nD) :
    (dats m 0 c).arrAt 18 cfg0.N
    = keys (kvT (downT (m ((c : Thread nD τ).loc main_arg0)) (m ((c : Thread nD τ).loc main_arg1)) (m ((c : Thread nD τ).loc main_arg2))
        (m ((c : Thread nD τ).loc main_arg3))) (m ((c : Thread nD τ).loc main_arg6)) (m ((c : Thread nD τ).loc main_arg7)))
        (pesT (peT (downT (m ((c : Thread nD τ).loc main_arg0)) (m ((c : Thread nD τ).loc main_arg1)) (m ((c : Thread nD τ).loc main_arg2))
        (m ((c : Thread nD τ).loc main_arg3)))) (m ((c : Thread nD τ).loc main_arg8)) (m ((c : Thread nD τ).loc main_arg9))) := by
  refine (dats m 0 c).arrAt_eq_of_covers 18 _ (by decide +kernel) fun t _ y => ?_
  blk_simp
  rw [after0_18]
  have ht : t.val < 144 := t.isLt
  idx_vars y
  obtain rfl : y0 = 0 := Subsingleton.elim _ _
  have hy : ((cfg0.win 18).blk t).view.emb (ix3 0 y1 y2) = (ix3 (Stream.bat t) (Stream.tok t y1) y2 : S16x2304x2048.Idx) := by
    unfold Stream.bat Stream.tok
    blk_ext [idx t]
  refine Eq.trans ?_ (congrArg _ hy).symm
  obtain ⟨h, d, rfl⟩ := lane128 y2
  refine Eq.trans ?_ (key_ref _ _ _ _ _ _ _ _ (Stream.bat t) (Stream.tok t y1) h d).symm
  exact (k_at m c t y1 h d).trans (k_all _ _ _ _ _ h d)

/-- The values are the reference's. -/
theorem final19 (c : Dev nD) :
    (dats m 0 c).arrAt 19 cfg0.N
    = vals (kvT (downT (m ((c : Thread nD τ).loc main_arg0)) (m ((c : Thread nD τ).loc main_arg1)) (m ((c : Thread nD τ).loc main_arg2))
        (m ((c : Thread nD τ).loc main_arg3))) (m ((c : Thread nD τ).loc main_arg6)) (m ((c : Thread nD τ).loc main_arg7))) := by
  refine (dats m 0 c).arrAt_eq_of_covers 19 _ (by decide +kernel) fun t _ y => ?_
  blk_simp
  rw [after0_19]
  have ht : t.val < 144 := t.isLt
  idx_vars y
  obtain rfl : y0 = 0 := Subsingleton.elim _ _
  have hy : ((cfg0.win 19).blk t).view.emb (ix3 0 y1 y2) = (ix3 (Stream.bat t) (Stream.tok t y1) y2 : S16x2304x1024.Idx) := by
    unfold Stream.bat Stream.tok
    blk_ext [idx t]
  refine Eq.trans ?_ (congrArg _ hy).symm
  obtain ⟨h, d, rfl⟩ := lane64 y2
  refine Eq.trans ?_ (val_ref _ _ _ _ _ _ (Stream.bat t) (Stream.tok t y1) h d).symm
  exact val_at m c t y1 h d

end Cert.Kernel6Ideal.MlaIn
-- ==== Proof.MlaInRef.lean ====
module

public import proofs.«01_k».proof.Proof.MlaInValue

/-!
# The latent attention's projections: the reference's run

The reference ends with its four results at the named functions of its arguments.
-/

@[expose] public section

set_option maxRecDepth 16384

noncomputable section

namespace Cert.MlaIn

open Cert.Reference6Ideal Cert.Reference6Ideal.Gen Cert.Reference6Ideal.Value Idealize.ShloMosaic Idealize.ShloMosaic.TcCoe Idealize.SL.Sem

variable (m : (ℓ : Loc nD τ sig) → Buf (Elt Ideal) ℓ) (ρ : Dev nD → PrngReg)

/-- The reference projects the stream down. -/
theorem down_run (c : Dev nD) : res_main_v54 (F := Ideal) (StableHlo.launchContents m c) = downT (m ((c.tc : Thread nD τ).loc main_arg0)) (m ((c.tc : Thread nD τ).loc main_arg1)) (m ((c.tc : Thread nD τ).loc main_arg2)) (m ((c.tc : Thread nD τ).loc main_arg3)) := by
  unfold res_main_v54 res_main_v27 res_main_v1 res_main_v0
  rfl

/-- It projects the queries up. -/
theorem q_run (c : Dev nD) : res_main_v72 (F := Ideal) (StableHlo.launchContents m c) = qT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  rw [← down_run]
  unfold res_main_v72 res_main_v55
  rfl

/-- It projects the keys and values up. -/
theorem kv_run (c : Dev nD) : res_main_v87 (F := Ideal) (StableHlo.launchContents m c) = kvT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7)) := by
  rw [← down_run]
  unfold res_main_v87 res_main_v56
  rfl

/-- It keeps the position lanes. -/
theorem pe_run (c : Dev nD) : res_main_v57 (F := Ideal) (StableHlo.launchContents m c) = peT (downT (m ((c.tc : Thread nD τ).loc main_arg0)) (m ((c.tc : Thread nD τ).loc main_arg1)) (m ((c.tc : Thread nD τ).loc main_arg2)) (m ((c.tc : Thread nD τ).loc main_arg3))) := by
  rw [← down_run]
  unfold res_main_v57
  rfl

/-- The reference's run, its results named. -/
theorem ref_run : θ_run defs (onTc (τ := τ) (main (F := Ideal))) ⟨m, fun _ => 0, ρ⟩ fun r => ∀ c : Dev nD,
      r.2.mem ((c.tc : Thread nD τ).loc main_v193) = ctxQ (qT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)))
      ∧ r.2.mem ((c.tc : Thread nD τ).loc main_v195) = latQ (latRows (qT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)))) (m ((c.tc : Thread nD τ).loc main_arg8)) (m ((c.tc : Thread nD τ).loc main_arg9))
      ∧ r.2.mem ((c.tc : Thread nD τ).loc main_v197) = keys (kvT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) (pesT (peT (downT (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg8)) (m ((c.tc : Thread nD τ).loc main_arg9)))
      ∧ r.2.mem ((c.tc : Thread nD τ).loc main_v200) = vals (kvT (downT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.Reference6Ideal.Value.run m ρ)
  obtain ⟨h0, h1, h2, h3, ha⟩ := h c
  refine ⟨h0.trans ?_, h1.trans ?_, h2.trans ?_, h3.trans ?_, ha⟩
  · rw [← q_run]
    rfl
  · rw [← q_run]
    rfl
  · rw [← kv_run, ← pe_run]
    rfl
  · rw [← kv_run]
    rfl

end Cert.MlaIn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_queries_and_keys
public import proofs.«01_k».proof.Proof.Gen.KernelIdeal.Value
public import proofs.«01_k».proof.Proof.Gen.ReferenceIdeal.Run
public import proofs.«01_k».proof.Proof.AttnValue
public import proofs.«01_k».proof.Proof.Finite
public import proofs.«01_k».proof.Proof.GlaInValue
public import proofs.«01_k».proof.Proof.GlaOutValue
public import proofs.«01_k».proof.Proof.S5Value
public import proofs.«01_k».proof.Proof.MlaOutValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.MlaCtxValue
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.MlaCtxOutValue
public import proofs.«01_k».proof.Proof.Gen.Pre_finite_context_queries_and_keys
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.FinalValue
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.AdaValue
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.S5DiscValue
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.S5InValue
public import proofs.«01_k».proof.Proof.PeerScoreValue
public import proofs.«01_k».proof.Proof.MlaInBits
public import proofs.«01_k».proof.Proof.MlaInRun
public import proofs.«01_k».proof.Proof.MlaInRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to its result from any memory. -/
theorem reference_frame : quiescent_ReferenceIdeal (hReferenceIdeal := Cert.ReferenceIdeal.Gen.facts) :=
  fun m g _ => (θ_run _ _ _).mono (fun _ h => ⟨fun c => (h c).2, sem_eq_zero_of_no_sems (by decide) _⟩)
    (Cert.ReferenceIdeal.Value.run m g)

/-- The attention's call computes what the reference computes, for finite queries and keys. -/
theorem algebraic_attention : algebraic_KernelIdeal_ReferenceIdeal_pre_finite_queries_and_keys
    (hKernelIdeal := Cert.KernelIdeal.Gen.facts) (hReferenceIdeal := Cert.ReferenceIdeal.Gen.facts)
    (hPre_finite_queries_and_keys := Cert.Pre_finite_queries_and_keys.Gen.facts) := by
  pair_intro
  · run_from Cert.KernelIdeal.Gen.run_main m g
  · run_from Cert.ReferenceIdeal.Value.run m' g'
    have hpre : Pre_KernelIdeal_finite_queries_and_keys
      (hPre_finite_queries_and_keys := Cert.Pre_finite_queries_and_keys.Gen.facts) m := by assumption
    haveI := Cert.Pre_finite_queries_and_keys.Gen.facts
    obtain ⟨hq, hk⟩ := Cert.Softmax.finite_of_pre _ _ _ (hpre c)
    exact (Cert.KernelIdeal.Attn.final m c hq hk).symm

/-- The reference of the down-projection of gated linear attention runs to its result from any memory. -/
theorem reference2_frame : quiescent_Reference2Ideal (hReference2Ideal := Cert.Reference2Ideal.Gen.facts) :=
  fun m g _ => (θ_run _ _ _).mono (fun _ h => ⟨fun c => (h c).2.2, sem_eq_zero_of_no_sems (by decide) _⟩)
    (Cert.Reference2Ideal.Value.run m g)

/-- The call of the down-projection of gated linear attention computes what the reference computes. -/
theorem algebraic_gla_in : algebraic_Kernel2Ideal_Reference2Ideal
    (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    · exact (Cert.Kernel2Ideal.GlaIn.final5 m c).symm
    · obtain ⟨h0, h1, h2, h3, h4⟩ := hagree c
      have e : Cert.Reference2Ideal.Value.res_main_v63 m' c = Cert.Kernel2Ideal.GlaIn.lows (m' ((c.tc : Thread _ _).loc Cert.Reference2Ideal.main_arg0)) (m' ((c.tc : Thread _ _).loc Cert.Reference2Ideal.main_arg1)) (m' ((c.tc : Thread _ _).loc Cert.Reference2Ideal.main_arg2)) (m' ((c.tc : Thread _ _).loc Cert.Reference2Ideal.main_arg4)) := by
        unfold Cert.Reference2Ideal.Value.res_main_v63
        rfl
      rw [e, h0, h1, h2, h4]
      exact (Cert.Kernel2Ideal.GlaIn.final6 m c).symm

/-- The reference of the output projection of gated linear attention runs to its result from any memory. -/
theorem reference3_frame : quiescent_Reference3Ideal (hReference3Ideal := Cert.Reference3Ideal.Gen.facts) :=
  fun m g _ => (θ_run _ _ _).mono (fun _ h => ⟨fun c => (h c).2, sem_eq_zero_of_no_sems (by decide) _⟩)
    (Cert.Reference3Ideal.Value.run m g)

/-- The call of the output projection of gated linear attention computes what the reference computes. -/
theorem algebraic_gla_out : algebraic_Kernel3Ideal_Reference3Ideal
    (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    obtain ⟨h0, h1, h2, h3, h4, h5, h6⟩ := hagree c
    have e : Cert.Reference3Ideal.Value.res_main_v39 m' c = Cert.Kernel3Ideal.GlaOut.ref (m' ((c.tc : Thread _ _).loc Cert.Reference3Ideal.main_arg0)) (m' ((c.tc : Thread _ _).loc Cert.Reference3Ideal.main_arg1)) (m' ((c.tc : Thread _ _).loc Cert.Reference3Ideal.main_arg2)) (m' ((c.tc : Thread _ _).loc Cert.Reference3Ideal.main_arg3)) (m' ((c.tc : Thread _ _).loc Cert.Reference3Ideal.main_arg4)) (m' ((c.tc : Thread _ _).loc Cert.Reference3Ideal.main_arg5)) (m' ((c.tc : Thread _ _).loc Cert.Reference3Ideal.main_arg6)) := by
      unfold Cert.Reference3Ideal.Value.res_main_v39
      rfl
    rw [e, h0, h1, h2, h3, h4, h5, h6]
    exact (Cert.Kernel3Ideal.GlaOut.final m c).symm

/-- The reference of the gated linear unit runs to its result from any memory. -/
theorem reference4_frame : quiescent_Reference4Ideal (hReference4Ideal := Cert.Reference4Ideal.Gen.facts) :=
  fun m g _ => (θ_run _ _ _).mono (fun _ h => ⟨fun c => (h c).2, sem_eq_zero_of_no_sems (by decide) _⟩)
    (Cert.Reference4Ideal.Value.run m g)

/-- The call of the gated linear unit computes what the reference computes. -/
theorem algebraic_s5_glu : algebraic_Kernel4Ideal_Reference4Ideal
    (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    obtain ⟨h0, h1, h2, h3, h4, h5⟩ := hagree c
    have e : Cert.Reference4Ideal.Value.res_main_v105 m' c = Cert.Kernel4Ideal.S5.ref (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) (m' ((c.tc : Thread _ _).loc Cert.Reference4Ideal.main_arg4)) (m' ((c.tc : Thread _ _).loc Cert.Reference4Ideal.main_arg5)) := by
      unfold Cert.Reference4Ideal.Value.res_main_v105
      rfl
    rw [e, h0, h1, h2, h3, h4, h5]
    exact (Cert.Kernel4Ideal.S5.final m c).symm

/-- The reference of the latent attention's output projection runs to its result from any memory. -/
theorem reference5_frame : quiescent_Reference5Ideal (hReference5Ideal := Cert.Reference5Ideal.Gen.facts) :=
  fun m g _ => (θ_run _ _ _).mono (fun _ h => ⟨fun c => (h c).2, sem_eq_zero_of_no_sems (by decide) _⟩)
    (Cert.Reference5Ideal.Value.run m g)

/-- The call of the latent attention's output projection computes what the reference computes. -/
theorem algebraic_mla_out : algebraic_Kernel5Ideal_Reference5Ideal
    (hKernel5Ideal := Cert.Kernel5Ideal.Gen.facts) (hReference5Ideal := Cert.Reference5Ideal.Gen.facts) := by
  pair_intro
  · run_from Cert.Kernel5Ideal.Gen.run_main m g
  · run_from Cert.Reference5Ideal.Value.run m' g'
    rw [(hagree c).2.2.2]
    exact (Cert.Kernel5Ideal.MlaOut.final m c).symm

/-- The reference of the latent attention's projections runs to its results from any memory. -/
theorem reference6_frame : quiescent_Reference6Ideal (hReference6Ideal := Cert.Reference6Ideal.Gen.facts) :=
  fun m g _ => (θ_run _ _ _).mono (fun _ h => ⟨fun c => (h c).2.2.2.2, sem_eq_zero_of_no_sems (by decide) _⟩)
    (Cert.Reference6Ideal.Value.run m g)

/-- The call of the latent attention's projections computes what the reference computes. -/
theorem algebraic_mla_in : algebraic_Kernel6Ideal_Reference6Ideal
    (hKernel6Ideal := Cert.Kernel6Ideal.Gen.facts) (hReference6Ideal := Cert.Reference6Ideal.Gen.facts) := by
  intro m g m' g' _ hagree
  refine ⟨fun c => (Cert.Kernel6Ideal.Gen.dats m 0 c).arrAt 16 Cert.Kernel6Ideal.cfg0.N, fun c => (Cert.Kernel6Ideal.Gen.dats m 0 c).arrAt 17 Cert.Kernel6Ideal.cfg0.N,
    fun c => (Cert.Kernel6Ideal.Gen.dats m 0 c).arrAt 18 Cert.Kernel6Ideal.cfg0.N, fun c => (Cert.Kernel6Ideal.Gen.dats m 0 c).arrAt 19 Cert.Kernel6Ideal.cfg0.N, ?_, ?_⟩
  · refine (θ_run _ _ _).mono (fun r h c => ?_) (θ_run_and (Cert.Kernel6Ideal.Gen.run_main m g) (Cert.Kernel6Ideal.Gen.frame m g))
    exact ⟨(h.1 c).1 16, (h.1 c).1 17, (h.1 c).1 18, (h.1 c).1 19, h.2.1 c⟩
  · refine (θ_run _ _ _).mono (fun r h c => ?_) (Cert.MlaIn.ref_run m' g')
    obtain ⟨r0, r1, r2, r3, ha⟩ := h c
    obtain ⟨h0, h1, h2, h3, h4, h5, h6, h7, h8, h9⟩ := hagree c
    rw [h0, h1, h2, h3, h4, h5] at r0
    rw [h0, h1, h2, h3, h4, h5, h8, h9] at r1
    rw [h0, h1, h2, h3, h6, h7, h8, h9] at r2
    rw [h0, h1, h2, h3, h6, h7] at r3
    exact ⟨r0.trans (Cert.Kernel6Ideal.MlaIn.final16 m c).symm, r1.trans (Cert.Kernel6Ideal.MlaIn.final17 m c).symm,
      r2.trans (Cert.Kernel6Ideal.MlaIn.final18 m c).symm, r3.trans (Cert.Kernel6Ideal.MlaIn.final19 m c).symm, ha⟩

/-- The reference of the context's attention runs to its result from any memory. -/
theorem reference7_frame : quiescent_Reference7Ideal (hReference7Ideal := Cert.Reference7Ideal.Gen.facts) :=
  fun m g _ => (θ_run _ _ _).mono (fun _ h => ⟨fun c => (h c).2, sem_eq_zero_of_no_sems (by decide) _⟩)
    (Cert.Reference7Ideal.Value.run m g)

/-- The context's attention computes what the reference computes, for finite queries and keys of the context. -/
theorem algebraic_mla_ctx : algebraic_Kernel7Ideal_Reference7Ideal_pre_finite_context_queries_and_keys
    (hKernel7Ideal := Cert.Kernel7Ideal.Gen.facts) (hReference7Ideal := Cert.Reference7Ideal.Gen.facts)
    (hPre_finite_context_queries_and_keys := Cert.Pre_finite_context_queries_and_keys.Gen.facts) := by
  pair_intro
  · run_from Cert.Kernel7Ideal.Gen.run_main m g
  · run_from Cert.Reference7Ideal.Value.run m' g'
    have hpre : Pre_Kernel7Ideal_finite_context_queries_and_keys
      (hPre_finite_context_queries_and_keys := Cert.Pre_finite_context_queries_and_keys.Gen.facts) m := by assumption
    haveI := Cert.Pre_finite_context_queries_and_keys.Gen.facts
    obtain ⟨hq, hk⟩ := Cert.Kernel7Ideal.Ctx.finite_of_pre _ _ _ (hpre c)
    exact (Cert.Kernel7Ideal.Ctx.final m c hq hk).symm

/-- The reference of the output projection of the context's attention runs to its result from any memory. -/
theorem reference8_frame : quiescent_Reference8Ideal (hReference8Ideal := Cert.Reference8Ideal.Gen.facts) :=
  fun m g _ => (θ_run _ _ _).mono (fun _ h => ⟨fun c => (h c).2, sem_eq_zero_of_no_sems (by decide) _⟩)
    (Cert.Reference8Ideal.Value.run m g)

/-- The call of the output projection of the context's attention computes what the reference computes. -/
theorem algebraic_mla_ctx_out : algebraic_Kernel8Ideal_Reference8Ideal
    (hKernel8Ideal := Cert.Kernel8Ideal.Gen.facts) (hReference8Ideal := Cert.Reference8Ideal.Gen.facts) := by
  pair_intro
  · run_from Cert.Kernel8Ideal.Gen.run_main m g
  · run_from Cert.Reference8Ideal.Value.run m' g'
    rw [(hagree c).2.2.2]
    exact (Cert.Kernel8Ideal.MlaCtxOut.final m c).symm

/-- The reference of the last norm runs to its result from any memory. -/
theorem reference9_frame : quiescent_Reference9Ideal (hReference9Ideal := Cert.Reference9Ideal.Gen.facts) :=
  fun m g _ => (θ_run _ _ _).mono (fun _ h => ⟨fun c => (h c).2, sem_eq_zero_of_no_sems (by decide) _⟩)
    (Cert.Reference9Ideal.Value.run m g)

/-- The call of the last norm computes what the reference computes. -/
theorem algebraic_final_norm : algebraic_Kernel9Ideal_Reference9Ideal
    (hKernel9Ideal := Cert.Kernel9Ideal.Gen.facts) (hReference9Ideal := Cert.Reference9Ideal.Gen.facts) := by
  pair_intro
  · run_from Cert.Kernel9Ideal.Gen.run_main m g
  · run_from Cert.Reference9Ideal.Value.run m' g'
    exact (Cert.Kernel9Ideal.Final.final m c).symm

/-- The reference of the table of modulations runs to its result from any memory. -/
theorem reference10_frame : quiescent_Reference10Ideal (hReference10Ideal := Cert.Reference10Ideal.Gen.facts) :=
  fun m g _ => (θ_run _ _ _).mono (fun _ h => ⟨fun c => (h c).2, sem_eq_zero_of_no_sems (by decide) _⟩)
    (Cert.Reference10Ideal.Value.run m g)

/-- The call of the table of modulations computes what the reference computes. -/
theorem algebraic_ada : algebraic_Kernel10Ideal_Reference10Ideal
    (hKernel10Ideal := Cert.Kernel10Ideal.Gen.facts) (hReference10Ideal := Cert.Reference10Ideal.Gen.facts) := by
  pair_intro
  · run_from Cert.Kernel10Ideal.Gen.run_main m g
  · run_from Cert.Reference10Ideal.Value.run m' g'
    exact (Cert.Kernel10Ideal.Ada.final m c).symm

/-- The reference of the state space made discrete runs to its results from any memory. -/
theorem reference11_frame : quiescent_Reference11Ideal (hReference11Ideal := Cert.Reference11Ideal.Gen.facts) :=
  fun m g _ => (θ_run _ _ _).mono (fun _ h => ⟨fun c => (h c).2.2.2.2, sem_eq_zero_of_no_sems (by decide) _⟩)
    (Cert.Reference11Ideal.Value.run m g)

/-- The call of the state space made discrete computes what the reference computes. -/
theorem algebraic_s5_disc : algebraic_Kernel11Ideal_Reference11Ideal
    (hKernel11Ideal := Cert.Kernel11Ideal.Gen.facts) (hReference11Ideal := Cert.Reference11Ideal.Gen.facts) := by
  pair_intro
  · run_from Cert.Kernel11Ideal.Gen.run_main m g
  · run_from Cert.Reference11Ideal.Value.run m' g'
    · exact (Cert.Kernel11Ideal.S5Disc.final5 m c).symm
    · exact (Cert.Kernel11Ideal.S5Disc.final6 m c).symm
    · exact (Cert.Kernel11Ideal.S5Disc.final7 m c).symm
    · exact (Cert.Kernel11Ideal.S5Disc.final8 m c).symm

/-- The reference of the state space's input runs to its result from any memory. -/
theorem reference12_frame : quiescent_Reference12Ideal (hReference12Ideal := Cert.Reference12Ideal.Gen.facts) :=
  fun m g _ => (θ_run _ _ _).mono (fun _ h => ⟨fun c => (h c).2, sem_eq_zero_of_no_sems (by decide) _⟩)
    (Cert.Reference12Ideal.Value.run m g)

/-- The call of the state space's input computes what the reference computes. -/
theorem algebraic_s5_in : algebraic_Kernel12Ideal_Reference12Ideal
    (hKernel12Ideal := Cert.Kernel12Ideal.Gen.facts) (hReference12Ideal := Cert.Reference12Ideal.Gen.facts) := by
  pair_intro
  · run_from Cert.Kernel12Ideal.Gen.run_main m g
  · run_from Cert.Reference12Ideal.Value.run m' g'
    obtain ⟨h0, h1, h2⟩ := hagree c
    have e : Cert.Reference12Ideal.Value.res_main_v56 m' c = Cert.Kernel12Ideal.S5In.ref (m' ((c.tc : Thread _ _).loc Cert.Reference12Ideal.main_arg0)) (m' ((c.tc : Thread _ _).loc Cert.Reference12Ideal.main_arg1)) (m' ((c.tc : Thread _ _).loc Cert.Reference12Ideal.main_arg2)) := by
      unfold Cert.Reference12Ideal.Value.res_main_v56
      rfl
    rw [e, h0, h1, h2]
    exact (Cert.Kernel12Ideal.S5In.final m c).symm

/-- The reference of the scores of the experts' keys runs to its results from any memory. -/
theorem reference13_frame : quiescent_Reference13Ideal (hReference13Ideal := Cert.Reference13Ideal.Gen.facts) :=
  fun m g _ => (θ_run _ _ _).mono (fun _ h => ⟨fun c => (h c).2.2, sem_eq_zero_of_no_sems (by decide) _⟩)
    (Cert.Reference13Ideal.Value.run m g)

/-- The call that scores the experts' keys computes what the reference computes. -/
theorem algebraic_peer_score : algebraic_Kernel13Ideal_Reference13Ideal
    (hKernel13Ideal := Cert.Kernel13Ideal.Gen.facts) (hReference13Ideal := Cert.Reference13Ideal.Gen.facts) := by
  pair_intro
  · run_from Cert.Kernel13Ideal.Gen.run_main m g
  · run_from Cert.Reference13Ideal.Value.run m' g'
    · exact (Cert.Kernel13Ideal.PeerScore.final5 m c).symm
    · obtain ⟨h0, h1, h2, h3, h4⟩ := hagree c
      have e : Cert.Reference13Ideal.Value.res_main_v69 m' c = Cert.Kernel13Ideal.PeerScore.refExps (Cert.Kernel13Ideal.PeerScore.hostScores (Cert.Kernel13Ideal.PeerScore.hostQueries (Cert.Kernel13Ideal.PeerScore.hostRows (m' ((c.tc : Thread _ _).loc Cert.Reference13Ideal.main_arg0)) (m' ((c.tc : Thread _ _).loc Cert.Reference13Ideal.main_arg2)) (m' ((c.tc : Thread _ _).loc Cert.Reference13Ideal.main_arg1))) (m' ((c.tc : Thread _ _).loc Cert.Reference13Ideal.main_arg3))) (Cert.Kernel13Ideal.PeerScore.hostKeys (m' ((c.tc : Thread _ _).loc Cert.Reference13Ideal.main_arg4)))) := by
        unfold Cert.Reference13Ideal.Value.res_main_v69
        rfl
      rw [e, h0, h1, h2, h3, h4]
      exact (Cert.Kernel13Ideal.PeerScore.final7 m c).symm

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_finite_queries_and_keys.Gen.facts, Cert.Pre_finite_context_queries_and_keys.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  fun m ρ _ => Cert.Kernel7Ideal.Gen.frame m ρ,
  reference7_frame,
  fun m ρ _ => reference7_frame m ρ trivial,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  trivial, algebraic_attention,
  trivial, algebraic_gla_in,
  trivial, algebraic_gla_out,
  trivial, algebraic_s5_glu,
  trivial, algebraic_mla_out,
  trivial, algebraic_mla_in,
  trivial, algebraic_mla_ctx,
  trivial, algebraic_mla_ctx_out,
  trivial, algebraic_final_norm,
  trivial, algebraic_ada,
  trivial, algebraic_s5_disc,
  trivial, algebraic_s5_in,
  trivial, algebraic_peer_score⟩

end Cert.Proof

end
